-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)) (v9 : (c : Dev Cert.Kernel2Ideal.nD) → Buf (Elt Ideal) ((c.tc : Thread Cert.Kernel2Ideal.nD Cert.Kernel2Ideal.τ).loc Cert.Kernel2Ideal.main_v0_9)) (v10 : (c : Dev Cert.Kernel2Ideal.nD) → Buf (Elt Ideal) ((c.tc : Thread Cert.Kernel2Ideal.nD Cert.Kernel2Ideal.τ).loc Cert.Kernel2Ideal.main_v0_10)) (v11 : (c : Dev Cert.Kernel2Ideal.nD) → Buf (Elt Ideal) ((c.tc : Thread Cert.Kernel2Ideal.nD Cert.Kernel2Ideal.τ).loc Cert.Kernel2Ideal.main_v0_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_v0_8) = v8 c
          ∧ r.2.mem ((c.tc : Thread Cert.Kernel2Ideal.nD Cert.Kernel2Ideal.τ).loc Cert.Kernel2Ideal.main_v0_9) = v9 c
          ∧ r.2.mem ((c.tc : Thread Cert.Kernel2Ideal.nD Cert.Kernel2Ideal.τ).loc Cert.Kernel2Ideal.main_v0_10) = v10 c
          ∧ r.2.mem ((c.tc : Thread Cert.Kernel2Ideal.nD Cert.Kernel2Ideal.τ).loc Cert.Kernel2Ideal.main_v0_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_v46) = v3 c
          ∧ r.2.mem ((c.tc : Thread Cert.Reference2Ideal.nD Cert.Reference2Ideal.τ).loc Cert.Reference2Ideal.main_v50) = v4 c
          ∧ r.2.mem ((c.tc : Thread Cert.Reference2Ideal.nD Cert.Reference2Ideal.τ).loc Cert.Reference2Ideal.main_v54) = v5 c
          ∧ r.2.mem ((c.tc : Thread Cert.Reference2Ideal.nD Cert.Reference2Ideal.τ).loc Cert.Reference2Ideal.main_v58) = v6 c
          ∧ r.2.mem ((c.tc : Thread Cert.Reference2Ideal.nD Cert.Reference2Ideal.τ).loc Cert.Reference2Ideal.main_v62) = v7 c
          ∧ r.2.mem ((c.tc : Thread Cert.Reference2Ideal.nD Cert.Reference2Ideal.τ).loc Cert.Reference2Ideal.main_v66) = v8 c
          ∧ r.2.mem ((c.tc : Thread Cert.Reference2Ideal.nD Cert.Reference2Ideal.τ).loc Cert.Reference2Ideal.main_v70) = v9 c
          ∧ r.2.mem ((c.tc : Thread Cert.Reference2Ideal.nD Cert.Reference2Ideal.τ).loc Cert.Reference2Ideal.main_v74) = v10 c
          ∧ r.2.mem ((c.tc : Thread Cert.Reference2Ideal.nD Cert.Reference2Ideal.τ).loc Cert.Reference2Ideal.main_v78) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_qk.lean ====
abbrev S16x1x2048x512 : Shape := ⟨4, ![16, 1, 2048, 512]⟩
abbrev S16x4x512x512 : Shape := ⟨4, ![16, 4, 512, 512]⟩
abbrev S16x16x128x512 : Shape := ⟨4, ![16, 16, 128, 512]⟩
abbrev S_ : Shape := ⟨0, ![]⟩

class Facts : Prop where
  bitsLt_bf16_f32 : FTy.bits .bf16 < FTy.bits .f32
  bcast_S_S16x1x2048x512 : S_.BroadcastsInDim S16x1x2048x512 (![] : Fin 0 → Fin S16x1x2048x512.rank)
  bcast_S_S16x4x512x512 : S_.BroadcastsInDim S16x4x512x512 (![] : Fin 0 → Fin S16x4x512x512.rank)
  bcast_S_S16x16x128x512 : S_.BroadcastsInDim S16x16x128x512 (![] : Fin 0 → Fin S16x16x128x512.rank)

variable [Facts]

def fn_part1 {F : FTy → Type} [FloatOps F] (main_arg5 : FVec F S16x16x128x512 .bf16) (main_v3 : IVec S16x1x2048x512 1) (main_v7 : IVec S16x4x512x512 1) (main_v11 : IVec S16x16x128x512 1) (main_v15 : IVec S16x1x2048x512 1) (main_v17 : FVec F S16x4x512x512 .f32) (main_v18 : FVec F S16x4x512x512 .f32) : IVec S16x1x2048x512 1 × IVec S16x4x512x512 1 × IVec S16x16x128x512 1 × IVec S16x1x2048x512 1 × IVec S16x4x512x512 1 × IVec S16x16x128x512 1 :=
  let main_v19 : IVec S16x4x512x512 1 := cmpf .olt main_v17 main_v18
  let main_v20 : FVec F S16x16x128x512 .f32 := (extf .f32 · bitsLt_bf16_f32) main_arg5
  let main_v21 : FVec F S16x16x128x512 .f32 := Host.absf main_v20
  let main_cst_4 : FVec F S_ .f32 := constant S_ .f32 0x7F800000#32
  let main_v22 : FVec F S16x16x128x512 .f32 := broadcastInDim S16x16x128x512 ![] bcast_S_S16x16x128x512 main_cst_4
  let main_v23 : IVec S16x16x128x512 1 := cmpf .olt main_v21 main_v22
  (main_v3, main_v7, main_v11, main_v15, main_v19, main_v23)

def fn {F : FTy → Type} [FloatOps F] (main_arg0 : FVec F S16x1x2048x512 .bf16) (main_arg1 : FVec F S16x4x512x512 .bf16) (main_arg2 : FVec F S16x16x128x512 .bf16) (main_arg3 : FVec F S16x1x2048x512 .bf16) (main_arg4 : FVec F S16x4x512x512 .bf16) (main_arg5 : FVec F S16x16x128x512 .bf16) (main_arg6 : FVec F S16x1x2048x512 .bf16) (main_arg7 : FVec F S16x4x512x512 .bf16) (main_arg8 : FVec F S16x16x128x512 .bf16) : IVec S16x1x2048x512 1 × IVec S16x4x512x512 1 × IVec S16x16x128x512 1 × IVec S16x1x2048x512 1 × IVec S16x4x512x512 1 × IVec S16x16x128x512 1 :=
  let main_v0 : FVec F S16x1x2048x512 .f32 := (extf .f32 · bitsLt_bf16_f32) main_arg0
  let main_v1 : FVec F S16x1x2048x512 .f32 := Host.absf main_v0
  let main_cst : FVec F S_ .f32 := constant S_ .f32 0x7F800000#32
  let main_v2 : FVec F S16x1x2048x512 .f32 := broadcastInDim S16x1x2048x512 ![] bcast_S_S16x1x2048x512 main_cst
  let main_v3 : IVec S16x1x2048x512 1 := cmpf .olt main_v1 main_v2
  let main_v4 : FVec F S16x4x512x512 .f32 := (extf .f32 · bitsLt_bf16_f32) main_arg1
  let main_v5 : FVec F S16x4x512x512 .f32 := Host.absf main_v4
  let main_cst_0 : FVec F S_ .f32 := constant S_ .f32 0x7F800000#32
  let main_v6 : FVec F S16x4x512x512 .f32 := broadcastInDim S16x4x512x512 ![] bcast_S_S16x4x512x512 main_cst_0
  let main_v7 : IVec S16x4x512x512 1 := cmpf .olt main_v5 main_v6
  let main_v8 : FVec F S16x16x128x512 .f32 := (extf .f32 · bitsLt_bf16_f32) main_arg2
  let main_v9 : FVec F S16x16x128x512 .f32 := Host.absf main_v8
  let main_cst_1 : FVec F S_ .f32 := constant S_ .f32 0x7F800000#32
  let main_v10 : FVec F S16x16x128x512 .f32 := broadcastInDim S16x16x128x512 ![] bcast_S_S16x16x128x512 main_cst_1
  let main_v11 : IVec S16x16x128x512 1 := cmpf .olt main_v9 main_v10
  let main_v12 : FVec F S16x1x2048x512 .f32 := (extf .f32 · bitsLt_bf16_f32) main_arg3
  let main_v13 : FVec F S16x1x2048x512 .f32 := Host.absf main_v12
  let main_cst_2 : FVec F S_ .f32 := constant S_ .f32 0x7F800000#32
  let main_v14 : FVec F S16x1x2048x512 .f32 := broadcastInDim S16x1x2048x512 ![] bcast_S_S16x1x2048x512 main_cst_2
  let main_v15 : IVec S16x1x2048x512 1 := cmpf .olt main_v13 main_v14
  let main_v16 : FVec F S16x4x512x512 .f32 := (extf .f32 · bitsLt_bf16_f32) main_arg4
  let main_v17 : FVec F S16x4x512x512 .f32 := Host.absf main_v16
  let main_cst_3 : FVec F S_ .f32 := constant S_ .f32 0x7F800000#32
  let main_v18 : FVec F S16x4x512x512 .f32 := broadcastInDim S16x4x512x512 ![] bcast_S_S16x4x512x512 main_cst_3
  fn_part1 (F := F) main_arg5 main_v3 main_v7 main_v11 main_v15 main_v17 main_v18
-- ==== Kernel.lean ====
abbrev S16x1x2048x512 : Shape := ⟨4, ![16, 1, 2048, 512]⟩
abbrev S16x4x512x512 : Shape := ⟨4, ![16, 4, 512, 512]⟩
abbrev S16x16x128x512 : Shape := ⟨4, ![16, 16, 128, 512]⟩
abbrev S16x2048x512 : Shape := ⟨3, ![16, 2048, 512]⟩
abbrev S1x1x2048x256 : Shape := ⟨4, ![1, 1, 2048, 256]⟩
abbrev S1x4x512x256 : Shape := ⟨4, ![1, 4, 512, 256]⟩
abbrev S1x16x128x256 : Shape := ⟨4, ![1, 16, 128, 256]⟩
abbrev S1x2048x256 : Shape := ⟨3, ![1, 2048, 256]⟩
abbrev S2x2048x128 : Shape := ⟨3, ![2, 2048, 128]⟩
abbrev S128x256 : Shape := ⟨2, ![128, 256]⟩
abbrev S128x128 : Shape := ⟨2, ![128, 128]⟩
abbrev S1x1x128x256 : Shape := ⟨4, ![1, 1, 128, 256]⟩
abbrev S128x64 : Shape := ⟨2, ![128, 64]⟩
abbrev S128 : Shape := ⟨1, ![128]⟩
abbrev S128x1 : Shape := ⟨2, ![128, 1]⟩
abbrev S1x128x128 : Shape := ⟨3, ![1, 128, 128]⟩
abbrev S1x1x256x256 : Shape := ⟨4, ![1, 1, 256, 256]⟩
abbrev S256x256 : Shape := ⟨2, ![256, 256]⟩
abbrev S256x64 : Shape := ⟨2, ![256, 64]⟩
abbrev S1x512x128 : Shape := ⟨3, ![1, 512, 128]⟩
abbrev S512x128 : Shape := ⟨2, ![512, 128]⟩
abbrev S1x2048x128 : Shape := ⟨3, ![1, 2048, 128]⟩
abbrev S2048x128 : Shape := ⟨2, ![2048, 128]⟩

abbrev nBuf : Space → Nat
  | .hbm => 10
  | .vmem => 25
  | .smem => 0
  | _ => 0

abbrev bufTy : (tb : Table) → Fin (tcTables nBuf tb) → BufTy
  | .hbm, ⟨0, _⟩ => ⟨S16x1x2048x512, .bf16⟩
  | .hbm, ⟨1, _⟩ => ⟨S16x4x512x512, .bf16⟩
  | .hbm, ⟨2, _⟩ => ⟨S16x16x128x512, .bf16⟩
  | .hbm, ⟨3, _⟩ => ⟨S16x1x2048x512, .bf16⟩
  | .hbm, ⟨4, _⟩ => ⟨S16x4x512x512, .bf16⟩
  | .hbm, ⟨5, _⟩ => ⟨S16x16x128x512, .bf16⟩
  | .hbm, ⟨6, _⟩ => ⟨S16x1x2048x512, .bf16⟩
  | .hbm, ⟨7, _⟩ => ⟨S16x4x512x512, .bf16⟩
  | .hbm, ⟨8, _⟩ => ⟨S16x16x128x512, .bf16⟩
  | .hbm, ⟨9, _⟩ => ⟨S16x2048x512, .bf16⟩
  | .local _ .vmem, ⟨0, _⟩ => ⟨S1x1x2048x256, .bf16⟩
  | .local _ .vmem, ⟨1, _⟩ => ⟨S1x1x2048x256, .bf16⟩
  | .local _ .vmem, ⟨2, _⟩ => ⟨S1x4x512x256, .bf16⟩
  | .local _ .vmem, ⟨3, _⟩ => ⟨S1x4x512x256, .bf16⟩
  | .local _ .vmem, ⟨4, _⟩ => ⟨S1x16x128x256, .bf16⟩
  | .local _ .vmem, ⟨5, _⟩ => ⟨S1x16x128x256, .bf16⟩
  | .local _ .vmem, ⟨6, _⟩ => ⟨S1x1x2048x256, .bf16⟩
  | .local _ .vmem, ⟨7, _⟩ => ⟨S1x1x2048x256, .bf16⟩
  | .local _ .vmem, ⟨8, _⟩ => ⟨S1x4x512x256, .bf16⟩
  | .local _ .vmem, ⟨9, _⟩ => ⟨S1x4x512x256, .bf16⟩
  | .local _ .vmem, ⟨10, _⟩ => ⟨S1x16x128x256, .bf16⟩
  | .local _ .vmem, ⟨11, _⟩ => ⟨S1x16x128x256, .bf16⟩
  | .local _ .vmem, ⟨12, _⟩ => ⟨S1x1x2048x256, .bf16⟩
  | .local _ .vmem, ⟨13, _⟩ => ⟨S1x1x2048x256, .bf16⟩
  | .local _ .vmem, ⟨14, _⟩ => ⟨S1x4x512x256, .bf16⟩
  | .local _ .vmem, ⟨15, _⟩ => ⟨S1x4x512x256, .bf16⟩
  | .local _ .vmem, ⟨16, _⟩ => ⟨S1x16x128x256, .bf16⟩
  | .local _ .vmem, ⟨17, _⟩ => ⟨S1x16x128x256, .bf16⟩
  | .local _ .vmem, ⟨18, _⟩ => ⟨S1x2048x256, .bf16⟩
  | .local _ .vmem, ⟨19, _⟩ => ⟨S1x2048x256, .bf16⟩
  | .local _ .vmem, ⟨20, _⟩ => ⟨S2x2048x128, .f32⟩
  | .local _ .vmem, ⟨21, _⟩ => ⟨S2x2048x128, .f32⟩
  | .local _ .vmem, ⟨22, _⟩ => ⟨S2x2048x128, .f32⟩
  | .local _ .vmem, ⟨23, _⟩ => ⟨S2x2048x128, .f32⟩
  | .local _ .vmem, ⟨24, _⟩ => ⟨S2x2048x128, .f32⟩
  | _, _ => ⟨S16x1x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32_171 : BitVec 32 := 0#32
  let c3_i32 : BitVec 32 := 3#32
  let v445 : BitVec 32 := Scalar.addi c0_i32_171 c3_i32
  let c1_i32 : BitVec 32 := 1#32
  ⟨c0_i32_171, v445, c1_i32⟩
def k0_mult1 (k0_t1 : Fin k0_t1_loop.trips) : BitVec 32 :=
  let c0_i32_171 : BitVec 32 := 0#32
  let c1_i32 : BitVec 32 := 1#32
  let arg17 : BitVec 32 := Scf.iv c0_i32_171 c1_i32 k0_t1
  let c1_i32_1148 : BitVec 32 := 1#32
  let v1638 : BitVec 32 := Scalar.addi arg17 c1_i32_1148
  let c4_i32_1149 : BitVec 32 := 4#32
  let v1639 : BitVec 32 := Scalar.muli v1638 c4_i32_1149
  let c0_i32_1150 : BitVec 32 := 0#32
  let v1640 : BitVec 32 := Scalar.addi v1639 c0_i32_1150
  let c128_i32_1151 : BitVec 32 := 128#32
  let v1641 : BitVec 32 := Scalar.muli v1640 c128_i32_1151
  v1641
def k0_mult2 (k0_t1 : Fin k0_t1_loop.trips) : BitVec 32 :=
  let c0_i32_171 : BitVec 32 := 0#32
  let c1_i32 : BitVec 32 := 1#32
  let arg17 : BitVec 32 := Scf.iv c0_i32_171 c1_i32 k0_t1
  let c1_i32_1148 : BitVec 32 := 1#32
  let v1638 : BitVec 32 := Scalar.addi arg17 c1_i32_1148
  let c4_i32_1149 : BitVec 32 := 4#32
  let v1639 : BitVec 32 := Scalar.muli v1638 c4_i32_1149
  let c0_i32_1150 : BitVec 32 := 0#32
  let v1640 : BitVec 32 := Scalar.addi v1639 c0_i32_1150
  let c1_i32_1152 : BitVec 32 := 1#32
  let v1642 : BitVec 32 := Scalar.subi v1640 c1_i32_1152
  let c128_i32_1153 : BitVec 32 := 128#32
  let v1643 : BitVec 32 := Scalar.muli v1642 c128_i32_1153
  v1643
def k0_off1 (k0_t1 : Fin k0_t1_loop.trips) (c0_i32_1150 : BitVec 32) : Fin 4 → Nat :=
  let c0_1154 : Index := 0#32
  let c0_1155 : Index := 0#32
  let c0_i32_171 : BitVec 32 := 0#32
  let c1_i32 : BitVec 32 := 1#32
  let arg17 : BitVec 32 := Scf.iv c0_i32_171 c1_i32 k0_t1
  let c1_i32_1148 : BitVec 32 := 1#32
  let v1638 : BitVec 32 := Scalar.addi arg17 c1_i32_1148
  let c4_i32_1149 : BitVec 32 := 4#32
  let v1639 : BitVec 32 := Scalar.muli v1638 c4_i32_1149
  let v1640 : BitVec 32 := Scalar.addi v1639 c0_i32_1150
  let c128_i32_1151 : BitVec 32 := 128#32
  let v1641 : BitVec 32 := Scalar.muli v1640 c128_i32_1151
  let v1644 : BitVec 32 := v1641
  let v1646 : Index := Scalar.indexCast v1644
  let c0_1156 : Index := 0#32
  ![0, 0, v1646.toNat, 0]
def k0_off2 (k0_t1 : Fin k0_t1_loop.trips) (c0_i32_1150 : BitVec 32) : Fin 4 → Nat :=
  let c0_1157 : Index := 0#32
  let c0_1158 : Index := 0#32
  let c0_i32_171 : BitVec 32 := 0#32
  let c1_i32 : BitVec 32 := 1#32
  let arg17 : BitVec 32 := Scf.iv c0_i32_171 c1_i32 k0_t1
  let c1_i32_1148 : BitVec 32 := 1#32
  let v1638 : BitVec 32 := Scalar.addi arg17 c1_i32_1148
  let c4_i32_1149 : BitVec 32 := 4#32
  let v1639 : BitVec 32 := Scalar.muli v1638 c4_i32_1149
  let v1640 : BitVec 32 := Scalar.addi v1639 c0_i32_1150
  let c1_i32_1152 : BitVec 32 := 1#32
  let v1642 : BitVec 32 := Scalar.subi v1640 c1_i32_1152
  let c128_i32_1153 : BitVec 32 := 128#32
  let v1643 : BitVec 32 := Scalar.muli v1642 c128_i32_1153
  let v1645 : BitVec 32 := v1643
  let v1649 : Index := Scalar.indexCast v1645
  let c0_1159 : Index := 0#32
  ![0, 0, v1649.toNat, 0]
def k0_mult3 (k0_t1 : Fin k0_t1_loop.trips) : BitVec 32 :=
  let c0_i32_1183 : BitVec 32 := 0#32
  let c0_i32_171 : BitVec 32 := 0#32
  let c1_i32 : BitVec 32 := 1#32
  let arg17 : BitVec 32 := Scf.iv c0_i32_171 c1_i32 k0_t1
  let c1_i32_1148 : BitVec 32 := 1#32
  let v1638 : BitVec 32 := Scalar.addi arg17 c1_i32_1148
  let c4_i32_1149 : BitVec 32 := 4#32
  let v1639 : BitVec 32 := Scalar.muli v1638 c4_i32_1149
  let c0_i32_1150 : BitVec 32 := 0#32
  let v1640 : BitVec 32 := Scalar.addi v1639 c0_i32_1150
  let c128_i32_1151 : BitVec 32 := 128#32
  let v1641 : BitVec 32 := Scalar.muli v1640 c128_i32_1151
  let v1644 : BitVec 32 := v1641
  let v1741 : BitVec 32 := Scalar.addi c0_i32_1183 v1644
  v1741
def k0_off3 (k0_t1 : Fin k0_t1_loop.trips) (c0_i32_1150 : BitVec 32) : Fin 3 → Nat :=
  let c0_1184 : Index := 0#32
  let c0_i32_1183 : BitVec 32 := 0#32
  let c0_i32_171 : BitVec 32 := 0#32
  let c1_i32 : BitVec 32 := 1#32
  let arg17 : BitVec 32 := Scf.iv c0_i32_171 c1_i32 k0_t1
  let c1_i32_1148 : BitVec 32 := 1#32
  let v1638 : BitVec 32 := Scalar.addi arg17 c1_i32_1148
  let c4_i32_1149 : BitVec 32 := 4#32
  let v1639 : BitVec 32 := Scalar.muli v1638 c4_i32_1149
  let v1640 : BitVec 32 := Scalar.addi v1639 c0_i32_1150
  let c128_i32_1151 : BitVec 32 := 128#32
  let v1641 : BitVec 32 := Scalar.muli v1640 c128_i32_1151
  let v1644 : BitVec 32 := v1641
  let v1741 : BitVec 32 := Scalar.addi c0_i32_1183 v1644
  let v1742 : BitVec 32 := v1741
  let v1744 : Index := Scalar.indexCast v1742
  let c0_1185 : Index := 0#32
  ![0, v1744.toNat, 0]
def k0_off4 (k0_t1 : Fin k0_t1_loop.trips) (c0_i32_1150 : BitVec 32) : Fin 3 → Nat :=
  let c1_1186 : Index := 1#32
  let c0_i32_1183 : BitVec 32 := 0#32
  let c0_i32_171 : BitVec 32 := 0#32
  let c1_i32 : BitVec 32 := 1#32
  let arg17 : BitVec 32 := Scf.iv c0_i32_171 c1_i32 k0_t1
  let c1_i32_1148 : BitVec 32 := 1#32
  let v1638 : BitVec 32 := Scalar.addi arg17 c1_i32_1148
  let c4_i32_1149 : BitVec 32 := 4#32
  let v1639 : BitVec 32 := Scalar.muli v1638 c4_i32_1149
  let v1640 : BitVec 32 := Scalar.addi v1639 c0_i32_1150
  let c128_i32_1151 : BitVec 32 := 128#32
  let v1641 : BitVec 32 := Scalar.muli v1640 c128_i32_1151
  let v1644 : BitVec 32 := v1641
  let v1741 : BitVec 32 := Scalar.addi c0_i32_1183 v1644
  let v1742 : BitVec 32 := v1741
  let v1749 : Index := Scalar.indexCast v1742
  let c0_1187 : Index := 0#32
  ![1, v1749.toNat, 0]
def k0_mult4 (k0_t1 : Fin k0_t1_loop.trips) : BitVec 32 :=
  let c0_i32_171 : BitVec 32 := 0#32
  let c1_i32 : BitVec 32 := 1#32
  let arg17 : BitVec 32 := Scf.iv c0_i32_171 c1_i32 k0_t1
  let c1_i32_1192 : BitVec 32 := 1#32
  let v1763 : BitVec 32 := Scalar.addi arg17 c1_i32_1192
  let c4_i32_1193 : BitVec 32 := 4#32
  let v1764 : BitVec 32 := Scalar.muli v1763 c4_i32_1193
  let c1_i32_1194 : BitVec 32 := 1#32
  let v1765 : BitVec 32 := Scalar.addi v1764 c1_i32_1194
  let c128_i32_1195 : BitVec 32 := 128#32
  let v1766 : BitVec 32 := Scalar.muli v1765 c128_i32_1195
  v1766
def k0_mult5 (k0_t1 : Fin k0_t1_loop.trips) : BitVec 32 :=
  let c0_i32_171 : BitVec 32 := 0#32
  let c1_i32 : BitVec 32 := 1#32
  let arg17 : BitVec 32 := Scf.iv c0_i32_171 c1_i32 k0_t1
  let c1_i32_1192 : BitVec 32 := 1#32
  let v1763 : BitVec 32 := Scalar.addi arg17 c1_i32_1192
  let c4_i32_1193 : BitVec 32 := 4#32
  let v1764 : BitVec 32 := Scalar.muli v1763 c4_i32_1193
  let c1_i32_1194 : BitVec 32 := 1#32
  let v1765 : BitVec 32 := Scalar.addi v1764 c1_i32_1194
  let c1_i32_1196 : BitVec 32 := 1#32
  let v1767 : BitVec 32 := Scalar.subi v1765 c1_i32_1196
  let c128_i32_1197 : BitVec 32 := 128#32
  let v1768 : BitVec 32 := Scalar.muli v1767 c128_i32_1197
  v1768
def k0_mult6 (k0_t1 : Fin k0_t1_loop.trips) : BitVec 32 :=
  let c0_i32_1227 : BitVec 32 := 0#32
  let c0_i32_171 : BitVec 32 := 0#32
  let c1_i32 : BitVec 32 := 1#32
  let arg17 : BitVec 32 := Scf.iv c0_i32_171 c1_i32 k0_t1
  let c1_i32_1192 : BitVec 32 := 1#32
  let v1763 : BitVec 32 := Scalar.addi arg17 c1_i32_1192
  let c4_i32_1193 : BitVec 32 := 4#32
  let v1764 : BitVec 32 := Scalar.muli v1763 c4_i32_1193
  let c1_i32_1194 : BitVec 32 := 1#32
  let v1765 : BitVec 32 := Scalar.addi v1764 c1_i32_1194
  let c128_i32_1195 : BitVec 32 := 128#32
  let v1766 : BitVec 32 := Scalar.muli v1765 c128_i32_1195
  let v1769 : BitVec 32 := v1766
  let v1866 : BitVec 32 := Scalar.addi c0_i32_1227 v1769
  v1866
def k0_mult7 (k0_t1 : Fin k0_t1_loop.trips) : BitVec 32 :=
  let c0_i32_171 : BitVec 32 := 0#32
  let c1_i32 : BitVec 32 := 1#32
  let arg17 : BitVec 32 := Scf.iv c0_i32_171 c1_i32 k0_t1
  let c1_i32_1236 : BitVec 32 := 1#32
  let v1888 : BitVec 32 := Scalar.addi arg17 c1_i32_1236
  let c4_i32_1237 : BitVec 32 := 4#32
  let v1889 : BitVec 32 := Scalar.muli v1888 c4_i32_1237
  let c2_i32 : BitVec 32 := 2#32
  let v1890 : BitVec 32 := Scalar.addi v1889 c2_i32
  let c128_i32_1238 : BitVec 32 := 128#32
  let v1891 : BitVec 32 := Scalar.muli v1890 c128_i32_1238
  v1891
def k0_mult8 (k0_t1 : Fin k0_t1_loop.trips) : BitVec 32 :=
  let c0_i32_171 : BitVec 32 := 0#32
  let c1_i32 : BitVec 32 := 1#32
  let arg17 : BitVec 32 := Scf.iv c0_i32_171 c1_i32 k0_t1
  let c1_i32_1236 : BitVec 32 := 1#32
  let v1888 : BitVec 32 := Scalar.addi arg17 c1_i32_1236
  let c4_i32_1237 : BitVec 32 := 4#32
  let v1889 : BitVec 32 := Scalar.muli v1888 c4_i32_1237
  let c2_i32 : BitVec 32 := 2#32
  let v1890 : BitVec 32 := Scalar.addi v1889 c2_i32
  let c1_i32_1239 : BitVec 32 := 1#32
  let v1892 : BitVec 32 := Scalar.subi v1890 c1_i32_1239
  let c128_i32_1240 : BitVec 32 := 128#32
  let v1893 : BitVec 32 := Scalar.muli v1892 c128_i32_1240
  v1893
def k0_mult9 (k0_t1 : Fin k0_t1_loop.trips) : BitVec 32 :=
  let c0_i32_1270 : BitVec 32 := 0#32
  let c0_i32_171 : BitVec 32 := 0#32
  let c1_i32 : BitVec 32 := 1#32
  let arg17 : BitVec 32 := Scf.iv c0_i32_171 c1_i32 k0_t1
  let c1_i32_1236 : BitVec 32 := 1#32
  let v1888 : BitVec 32 := Scalar.addi arg17 c1_i32_1236
  let c4_i32_1237 : BitVec 32 := 4#32
  let v1889 : BitVec 32 := Scalar.muli v1888 c4_i32_1237
  let c2_i32 : BitVec 32 := 2#32
  let v1890 : BitVec 32 := Scalar.addi v1889 c2_i32
  let c128_i32_1238 : BitVec 32 := 128#32
  let v1891 : BitVec 32 := Scalar.muli v1890 c128_i32_1238
  let v1894 : BitVec 32 := v1891
  let v1991 : BitVec 32 := Scalar.addi c0_i32_1270 v1894
  v1991
def k0_mult10 (k0_t1 : Fin k0_t1_loop.trips) : BitVec 32 :=
  let c0_i32_171 : BitVec 32 := 0#32
  let c1_i32 : BitVec 32 := 1#32
  let arg17 : BitVec 32 := Scf.iv c0_i32_171 c1_i32 k0_t1
  let c1_i32_1279 : BitVec 32 := 1#32
  let v2013 : BitVec 32 := Scalar.addi arg17 c1_i32_1279
  let c4_i32_1280 : BitVec 32 := 4#32
  let v2014 : BitVec 32 := Scalar.muli v2013 c4_i32_1280
  let c3_i32_1281 : BitVec 32 := 3#32
  let v2015 : BitVec 32 := Scalar.addi v2014 c3_i32_1281
  let c128_i32_1282 : BitVec 32 := 128#32
  let v2016 : BitVec 32 := Scalar.muli v2015 c128_i32_1282
  v2016
def k0_mult11 (k0_t1 : Fin k0_t1_loop.trips) : BitVec 32 :=
  let c0_i32_171 : BitVec 32 := 0#32
  let c1_i32 : BitVec 32 := 1#32
  let arg17 : BitVec 32 := Scf.iv c0_i32_171 c1_i32 k0_t1
  let c1_i32_1279 : BitVec 32 := 1#32
  let v2013 : BitVec 32 := Scalar.addi arg17 c1_i32_1279
  let c4_i32_1280 : BitVec 32 := 4#32
  let v2014 : BitVec 32 := Scalar.muli v2013 c4_i32_1280
  let c3_i32_1281 : BitVec 32 := 3#32
  let v2015 : BitVec 32 := Scalar.addi v2014 c3_i32_1281
  let c1_i32_1283 : BitVec 32 := 1#32
  let v2017 : BitVec 32 := Scalar.subi v2015 c1_i32_1283
  let c128_i32_1284 : BitVec 32 := 128#32
  let v2018 : BitVec 32 := Scalar.muli v2017 c128_i32_1284
  v2018
def k0_mult12 (k0_t1 : Fin k0_t1_loop.trips) : BitVec 32 :=
  let c0_i32_1314 : BitVec 32 := 0#32
  let c0_i32_171 : BitVec 32 := 0#32
  let c1_i32 : BitVec 32 := 1#32
  let arg17 : BitVec 32 := Scf.iv c0_i32_171 c1_i32 k0_t1
  let c1_i32_1279 : BitVec 32 := 1#32
  let v2013 : BitVec 32 := Scalar.addi arg17 c1_i32_1279
  let c4_i32_1280 : BitVec 32 := 4#32
  let v2014 : BitVec 32 := Scalar.muli v2013 c4_i32_1280
  let c3_i32_1281 : BitVec 32 := 3#32
  let v2015 : BitVec 32 := Scalar.addi v2014 c3_i32_1281
  let c128_i32_1282 : BitVec 32 := 128#32
  let v2016 : BitVec 32 := Scalar.muli v2015 c128_i32_1282
  let v2019 : BitVec 32 := v2016
  let v2116 : BitVec 32 := Scalar.addi c0_i32_1314 v2019
  v2116
@[reducible] def k0_t2_loop : Scf.Loop 32 :=
  let c0_i32_189 : BitVec 32 := 0#32
  let c4_i32 : BitVec 32 := 4#32
  let v458 : BitVec 32 := Scalar.addi c0_i32_189 c4_i32
  let c1_i32_190 : BitVec 32 := 1#32
  ⟨c0_i32_189, v458, c1_i32_190⟩
def k0_off5 (k0_t2 : Fin k0_t2_loop.trips) : Fin 4 → Nat :=
  let c0_1148 : Index := 0#32
  let c0_i32_189 : BitVec 32 := 0#32
  let c1_i32_190 : BitVec 32 := 1#32
  let arg17 : BitVec 32 := Scf.iv c0_i32_189 c1_i32_190 k0_t2
  let v1638 : Index := Scalar.indexCast arg17
  let c0_1149 : Index := 0#32
  let c0_1150 : Index := 0#32
  ![0, v1638.toNat, 0, 0]
def k0_mult13 (k0_t2 : Fin k0_t2_loop.trips) : BitVec 32 :=
  let c0_i32_189 : BitVec 32 := 0#32
  let c1_i32_190 : BitVec 32 := 1#32
  let arg17 : BitVec 32 := Scf.iv c0_i32_189 c1_i32_190 k0_t2
  let c512_i32 : BitVec 32 := 512#32
  let v1733 : BitVec 32 := Scalar.muli arg17 c512_i32
  let c0_i32_1177 : BitVec 32 := 0#32
  let v1734 : BitVec 32 := Scalar.addi v1733 c0_i32_1177
  v1734
def k0_off6 (k0_t2 : Fin k0_t2_loop.trips) (c0_i32_1177 : BitVec 32) : Fin 3 → Nat :=
  let c0_1178 : Index := 0#32
  let c0_i32_189 : BitVec 32 := 0#32
  let c1_i32_190 : BitVec 32 := 1#32
  let arg17 : BitVec 32 := Scf.iv c0_i32_189 c1_i32_190 k0_t2
  let c512_i32 : BitVec 32 := 512#32
  let v1733 : BitVec 32 := Scalar.muli arg17 c512_i32
  let v1734 : BitVec 32 := Scalar.addi v1733 c0_i32_1177
  let v1735 : BitVec 32 := v1734
  let v1737 : Index := Scalar.indexCast v1735
  let c0_1179 : Index := 0#32
  ![0, v1737.toNat, 0]
def k0_off7 (k0_t2 : Fin k0_t2_loop.trips) (c0_i32_1177 : BitVec 32) : Fin 3 → Nat :=
  let c1_1180 : Index := 1#32
  let c0_i32_189 : BitVec 32 := 0#32
  let c1_i32_190 : BitVec 32 := 1#32
  let arg17 : BitVec 32 := Scf.iv c0_i32_189 c1_i32_190 k0_t2
  let c512_i32 : BitVec 32 := 512#32
  let v1733 : BitVec 32 := Scalar.muli arg17 c512_i32
  let v1734 : BitVec 32 := Scalar.addi v1733 c0_i32_1177
  let v1735 : BitVec 32 := v1734
  let v1742 : Index := Scalar.indexCast v1735
  let c0_1181 : Index := 0#32
  ![1, v1742.toNat, 0]
def k0_off8 (k0_t2 : Fin k0_t2_loop.trips) : Fin 4 → Nat :=
  let c0_1186 : Index := 0#32
  let c0_i32_189 : BitVec 32 := 0#32
  let c1_i32_190 : BitVec 32 := 1#32
  let arg17 : BitVec 32 := Scf.iv c0_i32_189 c1_i32_190 k0_t2
  let v1756 : Index := Scalar.indexCast arg17
  let c128_1187 : Index := 128#32
  let c0_1188 : Index := 0#32
  ![0, v1756.toNat, 128, 0]
def k0_off9 (k0_t2 : Fin k0_t2_loop.trips) : Fin 4 → Nat :=
  let c0_1189 : Index := 0#32
  let c0_i32_189 : BitVec 32 := 0#32
  let c1_i32_190 : BitVec 32 := 1#32
  let arg17 : BitVec 32 := Scf.iv c0_i32_189 c1_i32_190 k0_t2
  let v1759 : Index := Scalar.indexCast arg17
  let c0_1190 : Index := 0#32
  let c0_1191 : Index := 0#32
  ![0, v1759.toNat, 0, 0]
def k0_mult14 (k0_t2 : Fin k0_t2_loop.trips) : BitVec 32 :=
  let c0_i32_189 : BitVec 32 := 0#32
  let c1_i32_190 : BitVec 32 := 1#32
  let arg17 : BitVec 32 := Scf.iv c0_i32_189 c1_i32_190 k0_t2
  let c512_i32_1215 : BitVec 32 := 512#32
  let v1851 : BitVec 32 := Scalar.muli arg17 c512_i32_1215
  let c128_i32_1216 : BitVec 32 := 128#32
  let v1852 : BitVec 32 := Scalar.addi v1851 c128_i32_1216
  v1852
def k0_off10 (k0_t2 : Fin k0_t2_loop.trips) : Fin 4 → Nat :=
  let c0_1225 : Index := 0#32
  let c0_i32_189 : BitVec 32 := 0#32
  let c1_i32_190 : BitVec 32 := 1#32
  let arg17 : BitVec 32 := Scf.iv c0_i32_189 c1_i32_190 k0_t2
  let v1874 : Index := Scalar.indexCast arg17
  let c256_1226 : Index := 256#32
  let c0_1227 : Index := 0#32
  ![0, v1874.toNat, 256, 0]
def k0_off11 (k0_t2 : Fin k0_t2_loop.trips) : Fin 4 → Nat :=
  let c0_1228 : Index := 0#32
  let c0_i32_189 : BitVec 32 := 0#32
  let c1_i32_190 : BitVec 32 := 1#32
  let arg17 : BitVec 32 := Scf.iv c0_i32_189 c1_i32_190 k0_t2
  let v1877 : Index := Scalar.indexCast arg17
  let c128_1229 : Index := 128#32
  let c0_1230 : Index := 0#32
  ![0, v1877.toNat, 128, 0]
def k0_mult15 (k0_t2 : Fin k0_t2_loop.trips) : BitVec 32 :=
  let c0_i32_189 : BitVec 32 := 0#32
  let c1_i32_190 : BitVec 32 := 1#32
  let arg17 : BitVec 32 := Scf.iv c0_i32_189 c1_i32_190 k0_t2
  let c512_i32_1254 : BitVec 32 := 512#32
  let v1969 : BitVec 32 := Scalar.muli arg17 c512_i32_1254
  let c256_i32 : BitVec 32 := 256#32
  let v1970 : BitVec 32 := Scalar.addi v1969 c256_i32
  v1970
def k0_off12 (k0_t2 : Fin k0_t2_loop.trips) : Fin 4 → Nat :=
  let c0_1263 : Index := 0#32
  let c0_i32_189 : BitVec 32 := 0#32
  let c1_i32_190 : BitVec 32 := 1#32
  let arg17 : BitVec 32 := Scf.iv c0_i32_189 c1_i32_190 k0_t2
  let v1992 : Index := Scalar.indexCast arg17
  let c384_1264 : Index := 384#32
  let c0_1265 : Index := 0#32
  ![0, v1992.toNat, 384, 0]
def k0_off13 (k0_t2 : Fin k0_t2_loop.trips) : Fin 4 → Nat :=
  let c0_1266 : Index := 0#32
  let c0_i32_189 : BitVec 32 := 0#32
  let c1_i32_190 : BitVec 32 := 1#32
  let arg17 : BitVec 32 := Scf.iv c0_i32_189 c1_i32_190 k0_t2
  let v1995 : Index := Scalar.indexCast arg17
  let c256_1267 : Index := 256#32
  let c0_1268 : Index := 0#32
  ![0, v1995.toNat, 256, 0]
def k0_mult16 (k0_t2 : Fin k0_t2_loop.trips) : BitVec 32 :=
  let c0_i32_189 : BitVec 32 := 0#32
  let c1_i32_190 : BitVec 32 := 1#32
  let arg17 : BitVec 32 := Scf.iv c0_i32_189 c1_i32_190 k0_t2
  let c512_i32_1292 : BitVec 32 := 512#32
  let v2087 : BitVec 32 := Scalar.muli arg17 c512_i32_1292
  let c384_i32 : BitVec 32 := 384#32
  let v2088 : BitVec 32 := Scalar.addi v2087 c384_i32
  v2088
@[reducible] def k0_t3_loop : Scf.Loop 32 :=
  let c0_i32_379 : BitVec 32 := 0#32
  let c4_i32_380 : BitVec 32 := 4#32
  let v691 : BitVec 32 := Scalar.addi c0_i32_379 c4_i32_380
  let c1_i32_381 : BitVec 32 := 1#32
  ⟨c0_i32_379, v691, c1_i32_381⟩
def k0_off14 (k0_t3 : Fin k0_t3_loop.trips) (c0_i32_1149 : BitVec 32) : Fin 4 → Nat :=
  let c0_1150 : Index := 0#32
  let c0_i32_379 : BitVec 32 := 0#32
  let c1_i32_381 : BitVec 32 := 1#32
  let arg17 : BitVec 32 := Scf.iv c0_i32_379 c1_i32_381 k0_t3
  let c4_i32_1148 : BitVec 32 := 4#32
  let v1638 : BitVec 32 := Scalar.muli arg17 c4_i32_1148
  let v1639 : BitVec 32 := Scalar.addi v1638 c0_i32_1149
  let v1640 : Index := Scalar.indexCast v1639
  let c0_1151 : Index := 0#32
  let c0_1152 : Index := 0#32
  ![0, v1640.toNat, 0, 0]
def k0_mult17 (k0_t3 : Fin k0_t3_loop.trips) : BitVec 32 :=
  let c0_i32_379 : BitVec 32 := 0#32
  let c1_i32_381 : BitVec 32 := 1#32
  let arg17 : BitVec 32 := Scf.iv c0_i32_379 c1_i32_381 k0_t3
  let c4_i32_1148 : BitVec 32 := 4#32
  let v1638 : BitVec 32 := Scalar.muli arg17 c4_i32_1148
  let c0_i32_1149 : BitVec 32 := 0#32
  let v1639 : BitVec 32 := Scalar.addi v1638 c0_i32_1149
  let c128_i32_1179 : BitVec 32 := 128#32
  let v1735 : BitVec 32 := Scalar.muli v1639 c128_i32_1179
  let c0_i32_1180 : BitVec 32 := 0#32
  let v1736 : BitVec 32 := Scalar.addi v1735 c0_i32_1180
  v1736
def k0_off15 (k0_t3 : Fin k0_t3_loop.trips) (c0_i32_1149 : BitVec 32) : Fin 3 → Nat :=
  let c0_1181 : Index := 0#32
  let c0_i32_379 : BitVec 32 := 0#32
  let c1_i32_381 : BitVec 32 := 1#32
  let arg17 : BitVec 32 := Scf.iv c0_i32_379 c1_i32_381 k0_t3
  let c4_i32_1148 : BitVec 32 := 4#32
  let v1638 : BitVec 32 := Scalar.muli arg17 c4_i32_1148
  let v1639 : BitVec 32 := Scalar.addi v1638 c0_i32_1149
  let c128_i32_1179 : BitVec 32 := 128#32
  let v1735 : BitVec 32 := Scalar.muli v1639 c128_i32_1179
  let c0_i32_1180 : BitVec 32 := 0#32
  let v1736 : BitVec 32 := Scalar.addi v1735 c0_i32_1180
  let v1737 : BitVec 32 := v1736
  let v1739 : Index := Scalar.indexCast v1737
  let c0_1182 : Index := 0#32
  ![0, v1739.toNat, 0]
def k0_off16 (k0_t3 : Fin k0_t3_loop.trips) (c0_i32_1149 : BitVec 32) : Fin 3 → Nat :=
  let c1_1183 : Index := 1#32
  let c0_i32_379 : BitVec 32 := 0#32
  let c1_i32_381 : BitVec 32 := 1#32
  let arg17 : BitVec 32 := Scf.iv c0_i32_379 c1_i32_381 k0_t3
  let c4_i32_1148 : BitVec 32 := 4#32
  let v1638 : BitVec 32 := Scalar.muli arg17 c4_i32_1148
  let v1639 : BitVec 32 := Scalar.addi v1638 c0_i32_1149
  let c128_i32_1179 : BitVec 32 := 128#32
  let v1735 : BitVec 32 := Scalar.muli v1639 c128_i32_1179
  let c0_i32_1180 : BitVec 32 := 0#32
  let v1736 : BitVec 32 := Scalar.addi v1735 c0_i32_1180
  let v1737 : BitVec 32 := v1736
  let v1744 : Index := Scalar.indexCast v1737
  let c0_1184 : Index := 0#32
  ![1, v1744.toNat, 0]
def k0_mult18 (k0_t3 : Fin k0_t3_loop.trips) : BitVec 32 :=
  let c0_i32_379 : BitVec 32 := 0#32
  let c1_i32_381 : BitVec 32 := 1#32
  let arg17 : BitVec 32 := Scf.iv c0_i32_379 c1_i32_381 k0_t3
  let c4_i32_1189 : BitVec 32 := 4#32
  let v1758 : BitVec 32 := Scalar.muli arg17 c4_i32_1189
  let c1_i32_1190 : BitVec 32 := 1#32
  let v1759 : BitVec 32 := Scalar.addi v1758 c1_i32_1190
  let c128_i32_1220 : BitVec 32 := 128#32
  let v1855 : BitVec 32 := Scalar.muli v1759 c128_i32_1220
  let c0_i32_1221 : BitVec 32 := 0#32
  let v1856 : BitVec 32 := Scalar.addi v1855 c0_i32_1221
  v1856
def k0_mult19 (k0_t3 : Fin k0_t3_loop.trips) : BitVec 32 :=
  let c0_i32_379 : BitVec 32 := 0#32
  let c1_i32_381 : BitVec 32 := 1#32
  let arg17 : BitVec 32 := Scf.iv c0_i32_379 c1_i32_381 k0_t3
  let c4_i32_1230 : BitVec 32 := 4#32
  let v1878 : BitVec 32 := Scalar.muli arg17 c4_i32_1230
  let c2_i32 : BitVec 32 := 2#32
  let v1879 : BitVec 32 := Scalar.addi v1878 c2_i32
  let c128_i32_1260 : BitVec 32 := 128#32
  let v1975 : BitVec 32 := Scalar.muli v1879 c128_i32_1260
  let c0_i32_1261 : BitVec 32 := 0#32
  let v1976 : BitVec 32 := Scalar.addi v1975 c0_i32_1261
  v1976
def k0_mult20 (k0_t3 : Fin k0_t3_loop.trips) : BitVec 32 :=
  let c0_i32_379 : BitVec 32 := 0#32
  let c1_i32_381 : BitVec 32 := 1#32
  let arg17 : BitVec 32 := Scf.iv c0_i32_379 c1_i32_381 k0_t3
  let c4_i32_1270 : BitVec 32 := 4#32
  let v1998 : BitVec 32 := Scalar.muli arg17 c4_i32_1270
  let c3_i32_1271 : BitVec 32 := 3#32
  let v1999 : BitVec 32 := Scalar.addi v1998 c3_i32_1271
  let c128_i32_1301 : BitVec 32 := 128#32
  let v2095 : BitVec 32 := Scalar.muli v1999 c128_i32_1301
  let c0_i32_1302 : BitVec 32 := 0#32
  let v2096 : BitVec 32 := Scalar.addi v2095 c0_i32_1302
  v2096
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x1x2048x512 : Shape := ⟨4, ![16, 1, 2048, 512]⟩
abbrev S16x4x512x512 : Shape := ⟨4, ![16, 4, 512, 512]⟩
abbrev S16x16x128x512 : Shape := ⟨4, ![16, 16, 128, 512]⟩
abbrev S16x2048x1x512 : Shape := ⟨4, ![16, 2048, 1, 512]⟩
abbrev S16x2048x8x64 : Shape := ⟨4, ![16, 2048, 8, 64]⟩
abbrev S16x8x2048x2048 : Shape := ⟨4, ![16, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩
abbrev S16x2048x8 : Shape := ⟨3, ![16, 2048, 8]⟩
abbrev S16x512x4x512 : Shape := ⟨4, ![16, 512, 4, 512]⟩
abbrev S16x128x16x512 : Shape := ⟨4, ![16, 128, 16, 512]⟩
abbrev S16x2048x8x1 : Shape := ⟨4, ![16, 2048, 8, 1]⟩
abbrev S16x2048x512 : Shape := ⟨3, ![16, 2048, 512]⟩

abbrev nBuf : Space → Nat
  | .hbm => 203
  | .vmem => 0
  | .smem => 0
  | _ => 0

abbrev hbmTy0_0 (i : Nat) : BufTy := match i % 128 with
  | 0 => ⟨S16x1x2048x512, .bf16⟩
  | 1 => ⟨S16x4x512x512, .bf16⟩
  | 2 => ⟨S16x16x128x512, .bf16⟩
  | 3 => ⟨S16x1x2048x512, .bf16⟩
  | 4 => ⟨S16x4x512x512, .bf16⟩
  | 5 => ⟨S16x16x128x512, .bf16⟩
  | 6 => ⟨S16x1x2048x512, .bf16⟩
  | 7 => ⟨S16x4x512x512, .bf16⟩
  | 8 => ⟨S16x16x128x512, .bf16⟩
  | 9 => ⟨S16x1x2048x512, .f32⟩
  | 10 => ⟨S16x2048x1x512, .f32⟩
  | 11 => ⟨S16x2048x8x64, .f32⟩
  | 12 => ⟨S16x1x2048x512, .f32⟩
  | 13 => ⟨S16x2048x1x512, .f32⟩
  | 14 => ⟨S16x2048x8x64, .f32⟩
  | 15 => ⟨S16x1x2048x512, .f32⟩
  | 16 => ⟨S16x2048x1x512, .f32⟩
  | 17 => ⟨S16x2048x8x64, .f32⟩
  | 18 => ⟨S16x8x2048x2048, .f32⟩
  | 19 => ⟨S2048, .i32⟩
  | 20 => ⟨S2048x1, .i32⟩
  | 21 => ⟨S2048, .i32⟩
  | 22 => ⟨S1x2048, .i32⟩
  | 23 => ⟨S2048x2048, .i32⟩
  | 24 => ⟨S2048x2048, .i32⟩
  | 25 => ⟨S2048x2048, .i32⟩
  | 26 => ⟨S_, .i32⟩
  | 27 => ⟨S2048x2048, .i32⟩
  | 28 => ⟨S2048x2048, .i1⟩
  | 29 => ⟨S_, .i32⟩
  | 30 => ⟨S2048x2048, .i32⟩
  | 31 => ⟨S2048x2048, .i1⟩
  | 32 => ⟨S2048x2048, .i1⟩
  | 33 => ⟨S_, .i32⟩
  | 34 => ⟨S2048x2048, .i32⟩
  | 35 => ⟨S2048x2048, .i32⟩
  | 36 => ⟨S_, .i32⟩
  | 37 => ⟨S2048x2048, .i32⟩
  | 38 => ⟨S2048x2048, .i1⟩
  | 39 => ⟨S2048x2048, .i1⟩
  | 40 => ⟨S1x1x2048x2048, .i1⟩
  | 41 => ⟨S_, .f32⟩
  | 42 => ⟨S_, .f32⟩
  | 43 => ⟨S16x8x2048x2048, .i1⟩
  | 44 => ⟨S16x8x2048x2048, .f32⟩
  | 45 => ⟨S16x8x2048x2048, .f32⟩
  | 46 => ⟨S_, .f32⟩
  | 47 => ⟨S16x8x2048, .f32⟩
  | 48 => ⟨S16x8x2048x1, .f32⟩
  | 49 => ⟨S16x8x2048x2048, .f32⟩
  | 50 => ⟨S16x8x2048x2048, .f32⟩
  | 51 => ⟨S16x8x2048x2048, .f32⟩
  | 52 => ⟨S_, .f32⟩
  | 53 => ⟨S16x8x2048, .f32⟩
  | 54 => ⟨S16x8x2048x1, .f32⟩
  | 55 => ⟨S16x8x2048x2048, .f32⟩
  | 56 => ⟨S16x8x2048x2048, .f32⟩
  | 57 => ⟨S16x8x2048x2048, .bf16⟩
  | 58 => ⟨S16x8x2048x2048, .f32⟩
  | 59 => ⟨S16x8x64x2048, .f32⟩
  | 60 => ⟨S16x2048x8x64, .f32⟩
  | 61 => ⟨S16x8x2048x1, .f32⟩
  | 62 => ⟨S16x8x2048x1, .f32⟩
  | 63 => ⟨S16x8x2048, .f32⟩
  | 64 => ⟨S16x2048x8, .f32⟩
  | 65 => ⟨S16x4x512x512, .f32⟩
  | 66 => ⟨S16x512x4x512, .f32⟩
  | 67 => ⟨S16x2048x8x64, .f32⟩
  | 68 => ⟨S16x4x512x512, .f32⟩
  | 69 => ⟨S16x512x4x512, .f32⟩
  | 70 => ⟨S16x2048x8x64, .f32⟩
  | 71 => ⟨S16x4x512x512, .f32⟩
  | 72 => ⟨S16x512x4x512, .f32⟩
  | 73 => ⟨S16x2048x8x64, .f32⟩
  | 74 => ⟨S16x8x2048x2048, .f32⟩
  | 75 => ⟨S2048, .i32⟩
  | 76 => ⟨S2048x1, .i32⟩
  | 77 => ⟨S2048, .i32⟩
  | 78 => ⟨S1x2048, .i32⟩
  | 79 => ⟨S2048x2048, .i32⟩
  | 80 => ⟨S2048x2048, .i32⟩
  | 81 => ⟨S2048x2048, .i32⟩
  | 82 => ⟨S_, .i32⟩
  | 83 => ⟨S2048x2048, .i32⟩
  | 84 => ⟨S2048x2048, .i1⟩
  | 85 => ⟨S_, .i32⟩
  | 86 => ⟨S2048x2048, .i32⟩
  | 87 => ⟨S2048x2048, .i1⟩
  | 88 => ⟨S2048x2048, .i1⟩
  | 89 => ⟨S_, .i32⟩
  | 90 => ⟨S2048x2048, .i32⟩
  | 91 => ⟨S2048x2048, .i32⟩
  | 92 => ⟨S_, .i32⟩
  | 93 => ⟨S2048x2048, .i32⟩
  | 94 => ⟨S2048x2048, .i1⟩
  | 95 => ⟨S2048x2048, .i1⟩
  | 96 => ⟨S1x1x2048x2048, .i1⟩
  | 97 => ⟨S_, .f32⟩
  | 98 => ⟨S_, .f32⟩
  | 99 => ⟨S16x8x2048x2048, .i1⟩
  | 100 => ⟨S16x8x2048x2048, .f32⟩
  | 101 => ⟨S16x8x2048x2048, .f32⟩
  | 102 => ⟨S_, .f32⟩
  | 103 => ⟨S16x8x2048, .f32⟩
  | 104 => ⟨S16x8x2048x1, .f32⟩
  | 105 => ⟨S16x8x2048x2048, .f32⟩
  | 106 => ⟨S16x8x2048x2048, .f32⟩
  | 107 => ⟨S16x8x2048x2048, .f32⟩
  | 108 => ⟨S_, .f32⟩
  | 109 => ⟨S16x8x2048, .f32⟩
  | 110 => ⟨S16x8x2048x1, .f32⟩
  | 111 => ⟨S16x8x2048x2048, .f32⟩
  | 112 => ⟨S16x8x2048x2048, .f32⟩
  | 113 => ⟨S16x8x2048x2048, .bf16⟩
  | 114 => ⟨S16x8x2048x2048, .f32⟩
  | 115 => ⟨S16x8x64x2048, .f32⟩
  | 116 => ⟨S16x2048x8x64, .f32⟩
  | 117 => ⟨S16x8x2048x1, .f32⟩
  | 118 => ⟨S16x8x2048x1, .f32⟩
  | 119 => ⟨S16x8x2048, .f32⟩
  | 120 => ⟨S16x2048x8, .f32⟩
  | 121 => ⟨S16x16x128x512, .f32⟩
  | 122 => ⟨S16x128x16x512, .f32⟩
  | 123 => ⟨S16x2048x8x64, .f32⟩
  | 124 => ⟨S16x16x128x512, .f32⟩
  | 125 => ⟨S16x128x16x512, .f32⟩
  | 126 => ⟨S16x2048x8x64, .f32⟩
  | 127 => ⟨S16x16x128x512, .f32⟩
  | _ => ⟨S16x1x2048x512, .bf16⟩

abbrev hbmTy0_1 (i : Nat) : BufTy := match i % 128 with
  | 0 => ⟨S16x128x16x512, .f32⟩
  | 1 => ⟨S16x2048x8x64, .f32⟩
  | 2 => ⟨S16x8x2048x2048, .f32⟩
  | 3 => ⟨S2048, .i32⟩
  | 4 => ⟨S2048x1, .i32⟩
  | 5 => ⟨S2048, .i32⟩
  | 6 => ⟨S1x2048, .i32⟩
  | 7 => ⟨S2048x2048, .i32⟩
  | 8 => ⟨S2048x2048, .i32⟩
  | 9 => ⟨S2048x2048, .i32⟩
  | 10 => ⟨S_, .i32⟩
  | 11 => ⟨S2048x2048, .i32⟩
  | 12 => ⟨S2048x2048, .i1⟩
  | 13 => ⟨S_, .i32⟩
  | 14 => ⟨S2048x2048, .i32⟩
  | 15 => ⟨S2048x2048, .i1⟩
  | 16 => ⟨S2048x2048, .i1⟩
  | 17 => ⟨S_, .i32⟩
  | 18 => ⟨S2048x2048, .i32⟩
  | 19 => ⟨S2048x2048, .i32⟩
  | 20 => ⟨S_, .i32⟩
  | 21 => ⟨S2048x2048, .i32⟩
  | 22 => ⟨S2048x2048, .i1⟩
  | 23 => ⟨S2048x2048, .i1⟩
  | 24 => ⟨S1x1x2048x2048, .i1⟩
  | 25 => ⟨S_, .f32⟩
  | 26 => ⟨S_, .f32⟩
  | 27 => ⟨S16x8x2048x2048, .i1⟩
  | 28 => ⟨S16x8x2048x2048, .f32⟩
  | 29 => ⟨S16x8x2048x2048, .f32⟩
  | 30 => ⟨S_, .f32⟩
  | 31 => ⟨S16x8x2048, .f32⟩
  | 32 => ⟨S16x8x2048x1, .f32⟩
  | 33 => ⟨S16x8x2048x2048, .f32⟩
  | 34 => ⟨S16x8x2048x2048, .f32⟩
  | 35 => ⟨S16x8x2048x2048, .f32⟩
  | 36 => ⟨S_, .f32⟩
  | 37 => ⟨S16x8x2048, .f32⟩
  | 38 => ⟨S16x8x2048x1, .f32⟩
  | 39 => ⟨S16x8x2048x2048, .f32⟩
  | 40 => ⟨S16x8x2048x2048, .f32⟩
  | 41 => ⟨S16x8x2048x2048, .bf16⟩
  | 42 => ⟨S16x8x2048x2048, .f32⟩
  | 43 => ⟨S16x8x64x2048, .f32⟩
  | 44 => ⟨S16x2048x8x64, .f32⟩
  | 45 => ⟨S16x8x2048x1, .f32⟩
  | 46 => ⟨S16x8x2048x1, .f32⟩
  | 47 => ⟨S16x8x2048, .f32⟩
  | 48 => ⟨S16x2048x8, .f32⟩
  | 49 => ⟨S16x2048x8, .f32⟩
  | 50 => ⟨S16x2048x8, .f32⟩
  | 51 => ⟨S16x2048x8, .f32⟩
  | 52 => ⟨S16x2048x8, .f32⟩
  | 53 => ⟨S16x2048x8, .f32⟩
  | 54 => ⟨S16x2048x8, .f32⟩
  | 55 => ⟨S16x2048x8, .f32⟩
  | 56 => ⟨S16x2048x8, .f32⟩
  | 57 => ⟨S16x2048x8, .f32⟩
  | 58 => ⟨S16x2048x8, .f32⟩
  | 59 => ⟨S16x2048x8, .f32⟩
  | 60 => ⟨S16x2048x8x1, .f32⟩
  | 61 => ⟨S16x2048x8x64, .f32⟩
  | 62 => ⟨S16x2048x8x64, .f32⟩
  | 63 => ⟨S16x2048x8, .f32⟩
  | 64 => ⟨S16x2048x8x1, .f32⟩
  | 65 => ⟨S16x2048x8x64, .f32⟩
  | 66 => ⟨S16x2048x8x64, .f32⟩
  | 67 => ⟨S16x2048x8x64, .f32⟩
  | 68 => ⟨S16x2048x8, .f32⟩
  | 69 => ⟨S16x2048x8x1, .f32⟩
  | 70 => ⟨S16x2048x8x64, .f32⟩
  | 71 => ⟨S16x2048x8x64, .f32⟩
  | 72 => ⟨S16x2048x8x64, .f32⟩
  | 73 => ⟨S16x2048x8x64, .bf16⟩
  | 74 => ⟨S16x2048x512, .bf16⟩
  | _ => ⟨S16x1x2048x512, .bf16⟩

abbrev hbmTy (i : Nat) : BufTy := match i / 128 with
  | 0 => hbmTy0_0 i
  | 1 => hbmTy0_1 i
  | _ => ⟨S16x1x2048x512, .bf16⟩

abbrev bufTy : (tb : Table) → Fin (tcTables nBuf tb) → BufTy
  | .hbm, ⟨i, _⟩ => hbmTy i
  | _, _ => ⟨S16x1x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_5 : Ref sig .tc := ⟨.hbm, 82, rfl⟩
abbrev main_v63 : Ref sig .tc := ⟨.hbm, 83, rfl⟩
abbrev main_v64 : Ref sig .tc := ⟨.hbm, 84, rfl⟩
abbrev main_c_6 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_7 : Ref sig .tc := ⟨.hbm, 89, rfl⟩
abbrev main_v68 : Ref sig .tc := ⟨.hbm, 90, rfl⟩
abbrev main_v69 : Ref sig .tc := ⟨.hbm, 91, rfl⟩
abbrev main_c_8 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_9 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v74 : Ref sig .tc := ⟨.hbm, 101, rfl⟩
abbrev main_cst_10 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_11 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_c_12 : Ref sig .tc := ⟨.hbm, 138, rfl⟩
abbrev main_v109 : Ref sig .tc := ⟨.hbm, 139, rfl⟩
abbrev main_v110 : Ref sig .tc := ⟨.hbm, 140, rfl⟩
abbrev main_c_13 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_c_14 : Ref sig .tc := ⟨.hbm, 145, rfl⟩
abbrev main_v114 : Ref sig .tc := ⟨.hbm, 146, rfl⟩
abbrev main_v115 : Ref sig .tc := ⟨.hbm, 147, rfl⟩
abbrev main_c_15 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_16 : Ref sig .tc := ⟨.hbm, 153, rfl⟩
abbrev main_call2_v0 : Ref sig .tc := ⟨.hbm, 154, rfl⟩
abbrev main_call2_v1 : Ref sig .tc := ⟨.hbm, 155, rfl⟩
abbrev main_call2_v2 : Ref sig .tc := ⟨.hbm, 156, rfl⟩
abbrev main_v120 : Ref sig .tc := ⟨.hbm, 157, rfl⟩
abbrev main_cst_17 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_18 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S1024x7680 : Shape := ⟨2, ![1024, 7680]⟩
abbrev S2x16x2x512x128 : Shape := ⟨5, ![2, 16, 2, 512, 128]⟩
abbrev S2x16x2x512x512 : Shape := ⟨5, ![2, 16, 2, 512, 512]⟩
abbrev S2x16x2x512x2048 : Shape := ⟨5, ![2, 16, 2, 512, 2048]⟩
abbrev S32768x512 : Shape := ⟨2, ![32768, 512]⟩
abbrev S16x1x2048x512 : Shape := ⟨4, ![16, 1, 2048, 512]⟩
abbrev S16x4x512x512 : Shape := ⟨4, ![16, 4, 512, 512]⟩
abbrev S16x16x128x512 : Shape := ⟨4, ![16, 16, 128, 512]⟩
abbrev S512x1024 : Shape := ⟨2, ![512, 1024]⟩
abbrev S512x512 : Shape := ⟨2, ![512, 512]⟩
abbrev S1x1x512x512 : Shape := ⟨4, ![1, 1, 512, 512]⟩
abbrev S1x4x128x512 : Shape := ⟨4, ![1, 4, 128, 512]⟩
abbrev S1x16x32x512 : Shape := ⟨4, ![1, 16, 32, 512]⟩
abbrev S1x1x2x512x128 : Shape := ⟨5, ![1, 1, 2, 512, 128]⟩
abbrev S1x1x2x512x512 : Shape := ⟨5, ![1, 1, 2, 512, 512]⟩
abbrev S4x512x128 : Shape := ⟨3, ![4, 512, 128]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S128x512 : Shape := ⟨2, ![128, 512]⟩
abbrev S1x1x128x512 : Shape := ⟨4, ![1, 1, 128, 512]⟩
abbrev S1x32x128 : Shape := ⟨3, ![1, 32, 128]⟩
abbrev S32x128 : Shape := ⟨2, ![32, 128]⟩
abbrev S32x512 : Shape := ⟨2, ![32, 512]⟩
abbrev S1x1x32x512 : Shape := ⟨4, ![1, 1, 32, 512]⟩
abbrev S1x1x1x512x128 : Shape := ⟨5, ![1, 1, 1, 512, 128]⟩
abbrev S1x1x1x512x512 : Shape := ⟨5, ![1, 1, 1, 512, 512]⟩

abbrev nBuf : Space → Nat
  | .hbm => 21
  | .vmem => 35
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x7680, .bf16⟩
  | .hbm, ⟨3, _⟩ => ⟨S2x16x2x512x128, .f32⟩
  | .hbm, ⟨4, _⟩ => ⟨S2x16x2x512x512, .f32⟩
  | .hbm, ⟨5, _⟩ => ⟨S2x16x2x512x2048, .f32⟩
  | .hbm, ⟨6, _⟩ => ⟨S32768x512, .f32⟩
  | .hbm, ⟨7, _⟩ => ⟨S32768x1024, .f32⟩
  | .hbm, ⟨8, _⟩ => ⟨S32768x1024, .f32⟩
  | .hbm, ⟨9, _⟩ => ⟨S16x1x2048x512, .bf16⟩
  | .hbm, ⟨10, _⟩ => ⟨S16x4x512x512, .bf16⟩
  | .hbm, ⟨11, _⟩ => ⟨S16x16x128x512, .bf16⟩
  | .hbm, ⟨12, _⟩ => ⟨S16x1x2048x512, .bf16⟩
  | .hbm, ⟨13, _⟩ => ⟨S16x4x512x512, .bf16⟩
  | .hbm, ⟨14, _⟩ => ⟨S16x16x128x512, .bf16⟩
  | .hbm, ⟨15, _⟩ => ⟨S16x1x2048x512, .bf16⟩
  | .hbm, ⟨16, _⟩ => ⟨S16x4x512x512, .bf16⟩
  | .hbm, ⟨17, _⟩ => ⟨S16x16x128x512, .bf16⟩
  | .hbm, ⟨18, _⟩ => ⟨S2x16x2x512x128, .f32⟩
  | .hbm, ⟨19, _⟩ => ⟨S2x16x2x512x512, .f32⟩
  | .hbm, ⟨20, _⟩ => ⟨S2x16x2x512x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7680, .bf16⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1x512x512, .bf16⟩
  | .local _ .vmem, ⟨11, _⟩ => ⟨S1x1x512x512, .bf16⟩
  | .local _ .vmem, ⟨12, _⟩ => ⟨S1x4x128x512, .bf16⟩
  | .local _ .vmem, ⟨13, _⟩ => ⟨S1x4x128x512, .bf16⟩
  | .local _ .vmem, ⟨14, _⟩ => ⟨S1x16x32x512, .bf16⟩
  | .local _ .vmem, ⟨15, _⟩ => ⟨S1x16x32x512, .bf16⟩
  | .local _ .vmem, ⟨16, _⟩ => ⟨S1x1x512x512, .bf16⟩
  | .local _ .vmem, ⟨17, _⟩ => ⟨S1x1x512x512, .bf16⟩
  | .local _ .vmem, ⟨18, _⟩ => ⟨S1x4x128x512, .bf16⟩
  | .local _ .vmem, ⟨19, _⟩ => ⟨S1x4x128x512, .bf16⟩
  | .local _ .vmem, ⟨20, _⟩ => ⟨S1x16x32x512, .bf16⟩
  | .local _ .vmem, ⟨21, _⟩ => ⟨S1x16x32x512, .bf16⟩
  | .local _ .vmem, ⟨22, _⟩ => ⟨S1x1x512x512, .bf16⟩
  | .local _ .vmem, ⟨23, _⟩ => ⟨S1x1x512x512, .bf16⟩
  | .local _ .vmem, ⟨24, _⟩ => ⟨S1x4x128x512, .bf16⟩
  | .local _ .vmem, ⟨25, _⟩ => ⟨S1x4x128x512, .bf16⟩
  | .local _ .vmem, ⟨26, _⟩ => ⟨S1x16x32x512, .bf16⟩
  | .local _ .vmem, ⟨27, _⟩ => ⟨S1x16x32x512, .bf16⟩
  | .local _ .vmem, ⟨28, _⟩ => ⟨S1x1x2x512x128, .f32⟩
  | .local _ .vmem, ⟨29, _⟩ => ⟨S1x1x2x512x128, .f32⟩
  | .local _ .vmem, ⟨30, _⟩ => ⟨S1x1x2x512x512, .f32⟩
  | .local _ .vmem, ⟨31, _⟩ => ⟨S1x1x2x512x512, .f32⟩
  | .local _ .vmem, ⟨32, _⟩ => ⟨S1x1x2x512x512, .f32⟩
  | .local _ .vmem, ⟨33, _⟩ => ⟨S1x1x2x512x512, .f32⟩
  | .local _ .vmem, ⟨34, _⟩ => ⟨S4x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev main_v0_9 : Ref sig .tc := ⟨.hbm, 15, rfl⟩
abbrev main_v0_10 : Ref sig .tc := ⟨.hbm, 16, rfl⟩
abbrev main_v0_11 : Ref sig .tc := ⟨.hbm, 17, rfl⟩
abbrev main_v0_12 : Ref sig .tc := ⟨.hbm, 18, rfl⟩
abbrev main_v0_13 : Ref sig .tc := ⟨.hbm, 19, rfl⟩
abbrev main_v0_14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let v10 : BitVec 1 := Scalar.cmpi .eq v9 c3_i32
  let v336 : BitVec 32 := Scalar.extui v10
  let c0_i32_353 : BitVec 32 := 0#32
  let v337 : BitVec 1 := Scalar.cmpi .ne v336 c0_i32_353
  v337

def k0_cond3 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let v10 : BitVec 1 := Scalar.cmpi .eq v9 c3_i32
  let v646 : BitVec 32 := Scalar.extui v10
  let c0_i32_714 : BitVec 32 := 0#32
  let v647 : BitVec 1 := Scalar.cmpi .ne v646 c0_i32_714
  v647

def k0_cond2 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let v10 : BitVec 1 := Scalar.cmpi .eq v9 c3_i32
  let v344 : BitVec 32 := Scalar.extui v10
  let c0_i32_360 : BitVec 32 := 0#32
  let v345 : BitVec 1 := Scalar.cmpi .ne v344 c0_i32_360
  v345

def k0_cond4 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let v10 : BitVec 1 := Scalar.cmpi .eq v9 c3_i32
  let v654 : BitVec 32 := Scalar.extui v10
  let c0_i32_721 : BitVec 32 := 0#32
  let v655 : BitVec 1 := Scalar.cmpi .ne v654 c0_i32_721
  v655

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_16 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_17 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_18 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v16.toNat, c0_i32_5.toNat, c0_i32_6.toNat, c0_i32_7.toNat]

def cc0_transform_19 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v16.toNat, c0_i32_5.toNat, c0_i32_6.toNat, c0_i32_7.toNat]

def cc0_transform_20 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x32x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16x32x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x2x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x2x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x2x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S32768x1024 : Shape := ⟨2, ![32768, 1024]⟩
abbrev S1x1024 : Shape := ⟨2, ![1, 1024]⟩
abbrev S1024x7680 : Shape := ⟨2, ![1024, 7680]⟩
abbrev S2x16x2x512x128 : Shape := ⟨5, ![2, 16, 2, 512, 128]⟩
abbrev S2x16x2x512x512 : Shape := ⟨5, ![2, 16, 2, 512, 512]⟩
abbrev S2x16x2x512x2048 : Shape := ⟨5, ![2, 16, 2, 512, 2048]⟩
abbrev S_ : Shape := ⟨0, ![]⟩
abbrev S32768 : Shape := ⟨1, ![32768]⟩
abbrev S32768x1 : Shape := ⟨2, ![32768, 1]⟩
abbrev S32768x7680 : Shape := ⟨2, ![32768, 7680]⟩
abbrev S32768x1536 : Shape := ⟨2, ![32768, 1536]⟩
abbrev S32768x512 : Shape := ⟨2, ![32768, 512]⟩
abbrev S16x2048x1x512 : Shape := ⟨4, ![16, 2048, 1, 512]⟩
abbrev S16x1x2048x512 : Shape := ⟨4, ![16, 1, 2048, 512]⟩
abbrev S16x512x4x512 : Shape := ⟨4, ![16, 512, 4, 512]⟩
abbrev S16x4x512x512 : Shape := ⟨4, ![16, 4, 512, 512]⟩
abbrev S16x128x16x512 : Shape := ⟨4, ![16, 128, 16, 512]⟩
abbrev S16x16x128x512 : Shape := ⟨4, ![16, 16, 128, 512]⟩

abbrev nBuf : Space → Nat
  | .hbm => 95
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x7680, .bf16⟩
  | .hbm, ⟨3, _⟩ => ⟨S2x16x2x512x128, .f32⟩
  | .hbm, ⟨4, _⟩ => ⟨S2x16x2x512x512, .f32⟩
  | .hbm, ⟨5, _⟩ => ⟨S2x16x2x512x2048, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S1024x7680, .f32⟩
  | .hbm, ⟨22, _⟩ => ⟨S32768x7680, .f32⟩
  | .hbm, ⟨23, _⟩ => ⟨S32768x1536, .f32⟩
  | .hbm, ⟨24, _⟩ => ⟨S32768x1536, .f32⟩
  | .hbm, ⟨25, _⟩ => ⟨S32768x1536, .f32⟩
  | .hbm, ⟨26, _⟩ => ⟨S32768x1024, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S_, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768x1536, .f32⟩
  | .hbm, ⟨58, _⟩ => ⟨S32768x1536, .f32⟩
  | .hbm, ⟨59, _⟩ => ⟨S32768x512, .f32⟩
  | .hbm, ⟨60, _⟩ => ⟨S16x2048x1x512, .f32⟩
  | .hbm, ⟨61, _⟩ => ⟨S16x1x2048x512, .f32⟩
  | .hbm, ⟨62, _⟩ => ⟨S16x1x2048x512, .bf16⟩
  | .hbm, ⟨63, _⟩ => ⟨S32768x512, .f32⟩
  | .hbm, ⟨64, _⟩ => ⟨S16x512x4x512, .f32⟩
  | .hbm, ⟨65, _⟩ => ⟨S16x4x512x512, .f32⟩
  | .hbm, ⟨66, _⟩ => ⟨S16x4x512x512, .bf16⟩
  | .hbm, ⟨67, _⟩ => ⟨S32768x512, .f32⟩
  | .hbm, ⟨68, _⟩ => ⟨S16x128x16x512, .f32⟩
  | .hbm, ⟨69, _⟩ => ⟨S16x16x128x512, .f32⟩
  | .hbm, ⟨70, _⟩ => ⟨S16x16x128x512, .bf16⟩
  | .hbm, ⟨71, _⟩ => ⟨S32768x512, .f32⟩
  | .hbm, ⟨72, _⟩ => ⟨S16x2048x1x512, .f32⟩
  | .hbm, ⟨73, _⟩ => ⟨S16x1x2048x512, .f32⟩
  | .hbm, ⟨74, _⟩ => ⟨S16x1x2048x512, .bf16⟩
  | .hbm, ⟨75, _⟩ => ⟨S32768x512, .f32⟩
  | .hbm, ⟨76, _⟩ => ⟨S16x512x4x512, .f32⟩
  | .hbm, ⟨77, _⟩ => ⟨S16x4x512x512, .f32⟩
  | .hbm, ⟨78, _⟩ => ⟨S16x4x512x512, .bf16⟩
  | .hbm, ⟨79, _⟩ => ⟨S32768x512, .f32⟩
  | .hbm, ⟨80, _⟩ => ⟨S16x128x16x512, .f32⟩
  | .hbm, ⟨81, _⟩ => ⟨S16x16x128x512, .f32⟩
  | .hbm, ⟨82, _⟩ => ⟨S16x16x128x512, .bf16⟩
  | .hbm, ⟨83, _⟩ => ⟨S32768x512, .f32⟩
  | .hbm, ⟨84, _⟩ => ⟨S16x2048x1x512, .f32⟩
  | .hbm, ⟨85, _⟩ => ⟨S16x1x2048x512, .f32⟩
  | .hbm, ⟨86, _⟩ => ⟨S16x1x2048x512, .bf16⟩
  | .hbm, ⟨87, _⟩ => ⟨S32768x512, .f32⟩
  | .hbm, ⟨88, _⟩ => ⟨S16x512x4x512, .f32⟩
  | .hbm, ⟨89, _⟩ => ⟨S16x4x512x512, .f32⟩
  | .hbm, ⟨90, _⟩ => ⟨S16x4x512x512, .bf16⟩
  | .hbm, ⟨91, _⟩ => ⟨S32768x512, .f32⟩
  | .hbm, ⟨92, _⟩ => ⟨S16x128x16x512, .f32⟩
  | .hbm, ⟨93, _⟩ => ⟨S16x16x128x512, .f32⟩
  | .hbm, ⟨94, _⟩ => ⟨S16x16x128x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S512x1024 : Shape := ⟨2, ![512, 1024]⟩
abbrev S1x1024 : Shape := ⟨2, ![1, 1024]⟩
abbrev S1024x1024 : Shape := ⟨2, ![1024, 1024]⟩
abbrev S512x512 : Shape := ⟨2, ![512, 512]⟩

abbrev nBuf : Space → Nat
  | .hbm => 10
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .f32⟩
  | .hbm, ⟨3, _⟩ => ⟨S32768x1024, .f32⟩
  | .hbm, ⟨4, _⟩ => ⟨S32768x1024, .f32⟩
  | .hbm, ⟨5, _⟩ => ⟨S512x1024, .bf16⟩
  | .hbm, ⟨6, _⟩ => ⟨S512x1024, .bf16⟩
  | .hbm, ⟨7, _⟩ => ⟨S1x1024, .f32⟩
  | .hbm, ⟨8, _⟩ => ⟨S1024x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S32768x512 : Shape := ⟨2, ![32768, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .f32⟩
  | .hbm, ⟨3, _⟩ => ⟨S32768x1024, .f32⟩
  | .hbm, ⟨4, _⟩ => ⟨S32768x1024, .f32⟩
  | .hbm, ⟨5, _⟩ => ⟨S512x1024, .bf16⟩
  | .hbm, ⟨6, _⟩ => ⟨S512x1024, .bf16⟩
  | .hbm, ⟨7, _⟩ => ⟨S1x1024, .f32⟩
  | .hbm, ⟨8, _⟩ => ⟨S1024x1024, .bf16⟩
  | .hbm, ⟨9, _⟩ => ⟨S32768x512, .f32⟩
  | .hbm, ⟨10, _⟩ => ⟨S512x1024, .f32⟩
  | .hbm, ⟨11, _⟩ => ⟨S32768x1024, .f32⟩
  | .hbm, ⟨12, _⟩ => ⟨S512x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S1024x1024, .f32⟩
  | .hbm, ⟨20, _⟩ => ⟨S32768x1024, .f32⟩
  | .hbm, ⟨21, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Proof.Attn.Math.lean ====
module

public import Idealize.ShloMosaic.PureOps.Ideal

/-! Masked softmax attention of one query over a finite set of keys, in extended reals: a masked key's score is `⊥`. Keys that are
    masked may be left out; the division by the sum may be taken inside; and three attentions joined one after another by their
    log-sum-exps are the three joined at once. -/

@[expose] public section

noncomputable section

namespace Cert.Attn

open Idealize.ShloMosaic

variable {ι κ : Type} [Fintype ι] [Fintype κ]

/-- The largest score, -/
def mx (s : ι → EReal) : EReal := Finset.univ.sup s
/-- a key's weight before the division, -/
def wt (s : ι → EReal) (j : ι) : EReal := Ideal.exp (s j - mx s)
/-- the sum of the weights, -/
def dn (s : ι → EReal) : EReal := ∑ j, wt s j
/-- the attention's result for one lane `v` of the values, -/
def out (s v : ι → EReal) : EReal := Ideal.div (∑ j, wt s j * v j) (dn s)
/-- and the log-sum-exp of the scores. -/
def lse (s : ι → EReal) : EReal := mx s + Ideal.log (dn s)

theorem fold_max (f : ι → EReal) : Finset.univ.fold max ⊥ f = mx f := rfl

/-! ## Leaving masked keys out -/

section Embed
variable (e : ι ↪ κ) {s : ι → EReal} {s' : κ → EReal} (h : ∀ j, s' (e j) = s j) (h0 : ∀ k, k ∉ Set.range e → s' k = ⊥)
include h h0

/-- The largest score is that of the keys kept; -/
theorem mx_embed : mx s' = mx s := by
  apply le_antisymm
  · refine Finset.sup_le fun k _ => ?_
    by_cases hk : k ∈ Set.range e
    · obtain ⟨j, rfl⟩ := hk
      rw [h]; exact Finset.le_sup (Finset.mem_univ j)
    · rw [h0 k hk]; exact bot_le
  · refine Finset.sup_le fun j _ => ?_
    rw [← h]; exact Finset.le_sup (f := s') (Finset.mem_univ (e j))

/-- a key kept keeps its weight; -/
theorem wt_embed (j : ι) : wt s' (e j) = wt s j := by rw [wt, wt, h, mx_embed e h h0]

/-- a key left out weighs nothing; -/
theorem wt_masked (k : κ) (hk : k ∉ Set.range e) : wt s' k = 0 := by rw [wt, h0 k hk, EReal.bot_sub, Ideal.exp_bot]

/-- so the weights' sum, -/
theorem dn_embed : dn s' = dn s :=
  (Fintype.sum_of_injective e e.injective _ _ (wt_masked e h h0) fun j => (wt_embed e h h0 j).symm).symm

/-- the result -/
theorem out_embed {v : ι → EReal} {v' : κ → EReal} (hv : ∀ j, v' (e j) = v j) : out s' v' = out s v := by
  unfold out
  rw [dn_embed e h h0]
  congr 1
  refine (Fintype.sum_of_injective e e.injective _ _ (fun k hk => ?_) fun j => ?_).symm
  · rw [wt_masked e h h0 k hk, zero_mul]
  · rw [wt_embed e h h0, hv]

/-- and the log-sum-exp are those of the keys kept. -/
theorem lse_embed : lse s' = lse s := by rw [lse, lse, mx_embed e h h0, dn_embed e h h0]

end Embed

/-! ## Scores that are real or masked, one of them real -/

/-- A factor that is a nonnegative real goes into a sum. -/
theorem sum_mul_coe (f : ι → EReal) {c : ℝ} (hc : 0 ≤ c) : (∑ j, f j) * (c : EReal) = ∑ j, f j * (c : EReal) := by
  classical
  induction (Finset.univ : Finset ι) using Finset.induction_on with
  | empty => simp
  | insert a S ha ih =>
    rw [Finset.sum_insert ha, Finset.sum_insert ha,
      EReal.right_distrib_of_nonneg_of_ne_top (by exact_mod_cast hc) (EReal.coe_ne_top c), ih]

/-- A sum of reals is real. -/
theorem coe_sum (f : ι → ℝ) : ((∑ j, f j : ℝ) : EReal) = ∑ j, (f j : EReal) := by
  classical
  induction (Finset.univ : Finset ι) using Finset.induction_on with
  | empty => simp
  | insert a S ha ih => rw [Finset.sum_insert ha, Finset.sum_insert ha, EReal.coe_add, ih]

/-- Every score is real or masked, and one is real. -/
def Good (s : ι → EReal) : Prop := (∀ j, s j = ⊥ ∨ ∃ r : ℝ, s j = r) ∧ ∃ j, ∃ r : ℝ, s j = r

variable {s : ι → EReal} (hs : Good s)
include hs

/-- The largest score is then real, -/
theorem mx_real : ∃ r : ℝ, mx s = r := by
  obtain ⟨hs, j, r, hj⟩ := hs
  have hle : (r : EReal) ≤ mx s := hj ▸ Finset.le_sup (f := s) (Finset.mem_univ j)
  obtain ⟨k, -, hk⟩ := Finset.exists_mem_eq_sup Finset.univ ⟨j, Finset.mem_univ j⟩ s
  change mx s = s k at hk
  rcases hs k with h | ⟨r', h⟩
  · rw [hk, h] at hle; exact absurd hle (by simp)
  · exact ⟨r', hk.trans h⟩

/-- the weights are nonnegative reals with a positive sum, -/
theorem wt_real : ∃ w : ι → ℝ, (∀ j, wt s j = w j) ∧ (∀ j, 0 ≤ w j) ∧ 0 < ∑ j, w j := by
  obtain ⟨m, hm⟩ := mx_real hs
  have h1 : ∀ j, ∃ w : ℝ, wt s j = w ∧ 0 ≤ w ∧ ((∃ r : ℝ, s j = r) → 0 < w) := fun j => by
    rcases hs.1 j with h | ⟨r, h⟩
    · exact ⟨0, by rw [wt, h, EReal.bot_sub, Ideal.exp_bot]; rfl, le_rfl, fun ⟨r, hr⟩ => by rw [h] at hr; exact absurd hr (by simp)⟩
    · refine ⟨Real.exp (r - m), ?_, (Real.exp_pos _).le, fun _ => Real.exp_pos _⟩
      rw [wt, h, hm, ← EReal.coe_sub, Ideal.exp_coe]
  choose w hw h0 hpos using h1
  obtain ⟨j, hj⟩ := hs.2
  exact ⟨w, hw, h0, Finset.sum_pos' (fun j _ => h0 j) ⟨j, Finset.mem_univ j, hpos j hj⟩⟩

/-- which is the weights' sum, -/
theorem dn_real : ∃ d : ℝ, dn s = d ∧ 0 < d := by
  obtain ⟨w, hw, -, hpos⟩ := wt_real hs
  refine ⟨_, ?_, hpos⟩
  rw [dn, coe_sum]
  exact Finset.sum_congr rfl fun j _ => hw j

/-- and the log-sum-exp is real. -/
theorem lse_real : ∃ l : ℝ, lse s = l := by
  obtain ⟨m, hm⟩ := mx_real hs
  obtain ⟨d, hd, hpos⟩ := dn_real hs
  exact ⟨m + Real.log d, by rw [lse, hm, hd, Ideal.log_coe, if_neg (not_le.mpr hpos), ← EReal.coe_add]⟩

/-- The division by the weights' sum may be taken inside the sum, whatever the values are. -/
theorem out_eq_sum (v : ι → EReal) : out s v = ∑ j, Ideal.div (wt s j) (dn s) * v j := by
  obtain ⟨d, hd, hpos⟩ := dn_real hs
  rw [out, hd, Ideal.div_coe hpos.ne', sum_mul_coe _ (by positivity)]
  refine Finset.sum_congr rfl fun j _ => ?_
  rw [Ideal.div_coe hpos.ne', mul_right_comm]

omit hs

/-! ## Joining three attentions -/

/-- Joining one after another, the sums rescaled whenever the largest log-sum-exp grows, is joining the three at once, their
    log-sum-exps real and their results anything. -/
theorem join3 (l0 l1 l2 : ℝ) (o0 o1 o2 : EReal) :
    Ideal.div ((o0 * Ideal.exp ((l0 : EReal) - max l0 l1) + o1 * Ideal.exp ((l1 : EReal) - max l0 l1))
          * Ideal.exp (max (l0 : EReal) l1 - max (max l0 l1) l2) + o2 * Ideal.exp ((l2 : EReal) - max (max l0 l1) l2))
        ((1 * Ideal.exp ((l0 : EReal) - max l0 l1) + Ideal.exp ((l1 : EReal) - max l0 l1))
          * Ideal.exp (max (l0 : EReal) l1 - max (max l0 l1) l2) + Ideal.exp ((l2 : EReal) - max (max l0 l1) l2))
      = Ideal.div (Ideal.exp ((l0 : EReal) - max (max l0 l1) l2))
            (Ideal.exp ((l0 : EReal) - max (max l0 l1) l2) + Ideal.exp ((l1 : EReal) - max (max l0 l1) l2)
              + Ideal.exp ((l2 : EReal) - max (max l0 l1) l2)) * o0
        + Ideal.div (Ideal.exp ((l1 : EReal) - max (max l0 l1) l2))
            (Ideal.exp ((l0 : EReal) - max (max l0 l1) l2) + Ideal.exp ((l1 : EReal) - max (max l0 l1) l2)
              + Ideal.exp ((l2 : EReal) - max (max l0 l1) l2)) * o1
        + Ideal.div (Ideal.exp ((l2 : EReal) - max (max l0 l1) l2))
            (Ideal.exp ((l0 : EReal) - max (max l0 l1) l2) + Ideal.exp ((l1 : EReal) - max (max l0 l1) l2)
              + Ideal.exp ((l2 : EReal) - max (max l0 l1) l2)) * o2 := by
  have hmax : ∀ x y : ℝ, max (x : EReal) y = ((max x y : ℝ) : EReal) := fun x y => (EReal.coe_strictMono.monotone.map_max).symm
  simp only [hmax, ← EReal.coe_sub, Ideal.exp_coe]
  set m1 := max l0 l1
  set m2 := max m1 l2
  rw [EReal.right_distrib_of_nonneg_of_ne_top (by exact_mod_cast (Real.exp_pos _).le) (EReal.coe_ne_top _), one_mul,
    mul_assoc, mul_assoc]
  simp only [← EReal.coe_mul, ← EReal.coe_add, ← Real.exp_add, add_mul]
  rw [show l0 - m1 + (m1 - m2) = l0 - m2 by ring, show l1 - m1 + (m1 - m2) = l1 - m2 by ring]
  have hpos : 0 < Real.exp (l0 - m2) + Real.exp (l1 - m2) + Real.exp (l2 - m2) := by positivity
  rw [Ideal.div_coe hpos.ne', Ideal.div_coe hpos.ne', Ideal.div_coe hpos.ne', Ideal.div_coe hpos.ne']
  have hc : (0 : EReal) ≤ ((1 / (Real.exp (l0 - m2) + Real.exp (l1 - m2) + Real.exp (l2 - m2)) : ℝ) : EReal) := by
    exact_mod_cast (by positivity : 0 ≤ 1 / (Real.exp (l0 - m2) + Real.exp (l1 - m2) + Real.exp (l2 - m2)))
  rw [EReal.right_distrib_of_nonneg_of_ne_top hc (EReal.coe_ne_top _), EReal.right_distrib_of_nonneg_of_ne_top hc (EReal.coe_ne_top _)]
  simp only [mul_comm, mul_left_comm, mul_assoc]

end Cert.Attn

end
-- ==== Proof.Attn.Block.lean ====
module

public import proofs.«01_k».proof.Proof.Gen.KernelIdeal.Skeleton
public import Idealize.ShloMosaic.Lib.Pointwise
public import proofs.«01_k».proof.Proof.Attn.Math

/-! One block of 128 queries of the attention kernel, as a tower of the kernel's own vector operations: over a band of 256 keys and
    over 128 keys, and what each is at one place. -/

@[expose] public section

set_option maxRecDepth 16384

noncomputable section

namespace Cert.KernelIdeal.Attn

open Cert.KernelIdeal.Gen
open Idealize.ShloMosaic Idealize.ShloMosaic.TcCoe Idealize.ShloMosaic.Pointwise

variable {F : FTy → Type} [FloatOps F] [Named F]

/-! ## The operations -/

/-- One head's scores against 256 keys, those outside the mask at the mask's value. -/
def sc256 (mk : IVec S128x256 1) (q : FVec F S128x64 .bf16) (k : FVec F S256x64 .bf16) : FVec F S128x256 .f32 :=
  select mk (matmul dot_S128x64_S256x64_S128x256_1_1_0_0_n_n none q k (constant S128x256 .f32 0x00000000#32))
    (broadcast S128x256 (Named.named κ "mask" 0xF149F2CA#32))

/-- The largest score of each query, -/
def mx256 (s : FVec F S128x256 .f32) : FVec F S128x1 .f32 :=
  shapeCast S128x1 (multiReduction .maximumf [1] S128 s 0xFF800000#32 reduces_S128x256_S128 (.inl rfl) rfl) shapeCasts_S128_S128x1

/-- the exponentials of the scores less it, -/
def ex256 (s : FVec F S128x256 .f32) : FVec F S128x256 .f32 :=
  exp (subf s (broadcastTo S128x256 (mx256 s) broadcasts_S128x1_S128x256))

/-- and their sum. -/
def dn256 (s : FVec F S128x256 .f32) : FVec F S128x1 .f32 :=
  shapeCast S128x1 (multiReduction .add [1] S128 (ex256 s) 0x00000000#32 reduces_S128x256_S128 (.inl rfl) rfl) shapeCasts_S128_S128x1

/-- One head's result -/
def ho256 (s : FVec F S128x256 .f32) (v : FVec F S256x64 .bf16) : FVec F S128x64 .f32 :=
  divf (matmul dot_S128x256_S256x64_S128x64_1_0_0_1_n_n none (truncf .bf16 (ex256 s) bitsLt_bf16_f32) v (constant S128x64 .f32 0x00000000#32))
    (broadcastTo S128x64 (dn256 s) broadcasts_S128x1_S128x64)

/-- and its log-sum-exp, repeated over the head's lanes. -/
def hl256 (s : FVec F S128x256 .f32) : FVec F S128x64 .f32 :=
  broadcastTo S128x64 (shapeCast S128x1 (addf (mx256 s) (log (dn256 s))) shapeCasts_S128x1_S128x1) broadcasts_S128x1_S128x64

/-- The same over 128 keys. -/
def sc128 (mk : IVec S128x128 1) (q : FVec F S128x64 .bf16) (k : FVec F S128x64 .bf16) : FVec F S128x128 .f32 :=
  select mk (matmul dot_S128x64_S128x64_S128x128_1_1_0_0_n_n none q k (constant S128x128 .f32 0x00000000#32))
    (broadcast S128x128 (Named.named κ "mask" 0xF149F2CA#32))

/-- The largest score of each query, -/
def mx128 (s : FVec F S128x128 .f32) : FVec F S128x1 .f32 :=
  shapeCast S128x1 (multiReduction .maximumf [1] S128 s 0xFF800000#32 reduces_S128x128_S128 (.inl rfl) rfl) shapeCasts_S128_S128x1

/-- the exponentials of the scores less it, -/
def ex128 (s : FVec F S128x128 .f32) : FVec F S128x128 .f32 :=
  exp (subf s (broadcastTo S128x128 (mx128 s) broadcasts_S128x1_S128x128))

/-- and their sum. -/
def dn128 (s : FVec F S128x128 .f32) : FVec F S128x1 .f32 :=
  shapeCast S128x1 (multiReduction .add [1] S128 (ex128 s) 0x00000000#32 reduces_S128x128_S128 (.inl rfl) rfl) shapeCasts_S128_S128x1

/-- One head's result -/
def ho128 (s : FVec F S128x128 .f32) (v : FVec F S128x64 .bf16) : FVec F S128x64 .f32 :=
  divf (matmul dot_S128x128_S128x64_S128x64_1_0_0_1_n_n none (truncf .bf16 (ex128 s) bitsLt_bf16_f32) v (constant S128x64 .f32 0x00000000#32))
    (broadcastTo S128x64 (dn128 s) broadcasts_S128x1_S128x64)

/-- and its log-sum-exp, repeated over the head's lanes. -/
def hl128 (s : FVec F S128x128 .f32) : FVec F S128x64 .f32 :=
  broadcastTo S128x64 (shapeCast S128x1 (addf (mx128 s) (log (dn128 s))) shapeCasts_S128x1_S128x1) broadcasts_S128x1_S128x64

/-- Four heads side by side. -/
def cat4 (a b c d : FVec F S128x64 .f32) : FVec F S128x256 .f32 :=
  concatenate S128x256 1 [⟨S128x64, a⟩, ⟨S128x64, b⟩, ⟨S128x64, c⟩, ⟨S128x64, d⟩] concatenates_S128x64_S128x64_S128x64_S128x64_S128x256_d1

/-- The first half of the lanes, as the kernel stores it, -/
def lo (v : FVec F S128x256 .f32) : FVec F S1x128x128 .f32 :=
  shapeCast S1x128x128 (extractStridedSlice S128x128 ![0, 0] v slices_S128x256_o0_0_S128x128) shapeCasts_S128x128_S1x128x128

/-- and the second. -/
def hi (v : FVec F S128x256 .f32) : FVec F S1x128x128 .f32 :=
  shapeCast S1x128x128 (extractStridedSlice S128x128 ![0, 128] v slices_S128x256_o0_128_S128x128) shapeCasts_S128x128_S1x128x128

/-- A loaded block of queries, or of 128 keys or values, -/
def w128 (q : Vec F S1x1x128x256 .bf16) : FVec F S128x256 .bf16 := shapeCast S128x256 q shapeCasts_S1x1x128x256_S128x256
/-- and of 256 keys or values, -/
def w256 (k : Vec F S1x1x256x256 .bf16) : FVec F S256x256 .bf16 := shapeCast S256x256 k shapeCasts_S1x1x256x256_S256x256

/-- and its four heads. -/
def h128_0 (q : FVec F S128x256 .bf16) : FVec F S128x64 .bf16 := extractStridedSlice S128x64 ![0, 0] q slices_S128x256_o0_0_S128x64
@[inherit_doc h128_0] def h128_1 (q : FVec F S128x256 .bf16) : FVec F S128x64 .bf16 := extractStridedSlice S128x64 ![0, 64] q slices_S128x256_o0_64_S128x64
@[inherit_doc h128_0] def h128_2 (q : FVec F S128x256 .bf16) : FVec F S128x64 .bf16 := extractStridedSlice S128x64 ![0, 128] q slices_S128x256_o0_128_S128x64
@[inherit_doc h128_0] def h128_3 (q : FVec F S128x256 .bf16) : FVec F S128x64 .bf16 := extractStridedSlice S128x64 ![0, 192] q slices_S128x256_o0_192_S128x64
@[inherit_doc h128_0] def h256_0 (q : FVec F S256x256 .bf16) : FVec F S256x64 .bf16 := extractStridedSlice S256x64 ![0, 0] q slices_S256x256_o0_0_S256x64
@[inherit_doc h128_0] def h256_1 (q : FVec F S256x256 .bf16) : FVec F S256x64 .bf16 := extractStridedSlice S256x64 ![0, 64] q slices_S256x256_o0_64_S256x64
@[inherit_doc h128_0] def h256_2 (q : FVec F S256x256 .bf16) : FVec F S256x64 .bf16 := extractStridedSlice S256x64 ![0, 128] q slices_S256x256_o0_128_S256x64
@[inherit_doc h128_0] def h256_3 (q : FVec F S256x256 .bf16) : FVec F S256x64 .bf16 := extractStridedSlice S256x64 ![0, 192] q slices_S256x256_o0_192_S256x64

/-- A block's result over 256 keys -/
def o256 (mk : IVec S128x256 1) (q : Vec F S1x1x128x256 .bf16) (k v : Vec F S1x1x256x256 .bf16) : FVec F S128x256 .f32 :=
  cat4 (ho256 (sc256 mk (h128_0 (w128 q)) (h256_0 (w256 k))) (h256_0 (w256 v)))
    (ho256 (sc256 mk (h128_1 (w128 q)) (h256_1 (w256 k))) (h256_1 (w256 v)))
    (ho256 (sc256 mk (h128_2 (w128 q)) (h256_2 (w256 k))) (h256_2 (w256 v)))
    (ho256 (sc256 mk (h128_3 (w128 q)) (h256_3 (w256 k))) (h256_3 (w256 v)))

/-- and its log-sum-exps, -/
def l256 (mk : IVec S128x256 1) (q : Vec F S1x1x128x256 .bf16) (k : Vec F S1x1x256x256 .bf16) : FVec F S128x256 .f32 :=
  cat4 (hl256 (sc256 mk (h128_0 (w128 q)) (h256_0 (w256 k)))) (hl256 (sc256 mk (h128_1 (w128 q)) (h256_1 (w256 k))))
    (hl256 (sc256 mk (h128_2 (w128 q)) (h256_2 (w256 k)))) (hl256 (sc256 mk (h128_3 (w128 q)) (h256_3 (w256 k))))

/-- and over 128 keys. -/
def o128 (mk : IVec S128x128 1) (q : Vec F S1x1x128x256 .bf16) (k v : Vec F S1x1x128x256 .bf16) : FVec F S128x256 .f32 :=
  cat4 (ho128 (sc128 mk (h128_0 (w128 q)) (h128_0 (w128 k))) (h128_0 (w128 v)))
    (ho128 (sc128 mk (h128_1 (w128 q)) (h128_1 (w128 k))) (h128_1 (w128 v)))
    (ho128 (sc128 mk (h128_2 (w128 q)) (h128_2 (w128 k))) (h128_2 (w128 v)))
    (ho128 (sc128 mk (h128_3 (w128 q)) (h128_3 (w128 k))) (h128_3 (w128 v)))

@[inherit_doc l256]
def l128 (mk : IVec S128x128 1) (q : Vec F S1x1x128x256 .bf16) (k : Vec F S1x1x128x256 .bf16) : FVec F S128x256 .f32 :=
  cat4 (hl128 (sc128 mk (h128_0 (w128 q)) (h128_0 (w128 k)))) (hl128 (sc128 mk (h128_1 (w128 q)) (h128_1 (w128 k))))
    (hl128 (sc128 mk (h128_2 (w128 q)) (h128_2 (w128 k)))) (hl128 (sc128 mk (h128_3 (w128 q)) (h128_3 (w128 k))))

/-! ## What they are at one place -/

/-- The name the kernel's mask value stands for is `⊥`. -/
theorem mask_eq : (Named.named κ "mask" 0xF149F2CA#32 : Ideal .f32) = (⊥ : EReal) := by
  simp [Named.named, κ]

theorem neg_inf : Ideal.ofBits .f32 4286578688#32 = (⊥ : EReal) := by
  simp [Ideal.ofBits, Ideal.ieee]

/-- `b` chooses between a score and the mask. -/
def msk (b : BitVec 1) (x : EReal) : EReal := Scalar.select b x ⊥

theorem sc256_apply (mk : IVec S128x256 1) (q : FVec Ideal S128x64 .bf16) (k : FVec Ideal S256x64 .bf16) (a : Fin 128) (j : Fin 256) :
    sc256 mk q k (ix2 a j) = msk (mk (ix2 a j)) (∑ x, q (ix2 a x) * k (ix2 j x)) := by
  pointwise [sc256]
  rw [mask_eq]; rfl

theorem sc128_apply (mk : IVec S128x128 1) (q : FVec Ideal S128x64 .bf16) (k : FVec Ideal S128x64 .bf16) (a : Fin 128) (j : Fin 128) :
    sc128 mk q k (ix2 a j) = msk (mk (ix2 a j)) (∑ x, q (ix2 a x) * k (ix2 j x)) := by
  pointwise [sc128]
  rw [mask_eq]; rfl

section Rows
open Cert.Attn

theorem mx256_apply (s : FVec Ideal S128x256 .f32) (a : Fin 128) : mx256 s (ix2 a 0) = mx fun j => s (ix2 a j) := by
  pointwise [mx256]
  rw [neg_inf]; rfl

theorem ex256_apply (s : FVec Ideal S128x256 .f32) (a : Fin 128) (j : Fin 256) :
    ex256 s (ix2 a j) = wt (fun j => s (ix2 a j)) j := by
  pointwise [ex256]
  rw [mx256_apply]; rfl

theorem dn256_apply (s : FVec Ideal S128x256 .f32) (a : Fin 128) : dn256 s (ix2 a 0) = dn fun j => s (ix2 a j) := by
  pointwise [dn256]
  exact Finset.sum_congr rfl fun j _ => ex256_apply s a j

theorem ho256_apply (s : FVec Ideal S128x256 .f32) (v : FVec Ideal S256x64 .bf16) (a : Fin 128) (c : Fin 64) :
    ho256 s v (ix2 a c) = out (fun j => s (ix2 a j)) fun j => v (ix2 j c) := by
  pointwise [ho256]
  rw [dn256_apply]; simp only [ex256_apply]; rfl

theorem hl256_apply (s : FVec Ideal S128x256 .f32) (a : Fin 128) (c : Fin 64) : hl256 s (ix2 a c) = lse fun j => s (ix2 a j) := by
  pointwise [hl256]
  rw [mx256_apply, dn256_apply]; rfl

theorem mx128_apply (s : FVec Ideal S128x128 .f32) (a : Fin 128) : mx128 s (ix2 a 0) = mx fun j => s (ix2 a j) := by
  pointwise [mx128]
  rw [neg_inf]; rfl

theorem ex128_apply (s : FVec Ideal S128x128 .f32) (a : Fin 128) (j : Fin 128) :
    ex128 s (ix2 a j) = wt (fun j => s (ix2 a j)) j := by
  pointwise [ex128]
  rw [mx128_apply]; rfl

theorem dn128_apply (s : FVec Ideal S128x128 .f32) (a : Fin 128) : dn128 s (ix2 a 0) = dn fun j => s (ix2 a j) := by
  pointwise [dn128]
  exact Finset.sum_congr rfl fun j _ => ex128_apply s a j

theorem ho128_apply (s : FVec Ideal S128x128 .f32) (v : FVec Ideal S128x64 .bf16) (a : Fin 128) (c : Fin 64) :
    ho128 s v (ix2 a c) = out (fun j => s (ix2 a j)) fun j => v (ix2 j c) := by
  pointwise [ho128]
  rw [dn128_apply]; simp only [ex128_apply]; rfl

theorem hl128_apply (s : FVec Ideal S128x128 .f32) (a : Fin 128) (c : Fin 64) : hl128 s (ix2 a c) = lse fun j => s (ix2 a j) := by
  pointwise [hl128]
  rw [mx128_apply, dn128_apply]; rfl

end Rows

theorem cat4_apply (u v w z : FVec Ideal S128x64 .f32) (a : Fin 128) (G : Fin 256 → EReal)
    (h0 : ∀ c : Fin 64, u (ix2 a c) = G ⟨c.val, by omega⟩) (h1 : ∀ c : Fin 64, v (ix2 a c) = G ⟨64 + c.val, by omega⟩)
    (h2 : ∀ c : Fin 64, w (ix2 a c) = G ⟨128 + c.val, by omega⟩) (h3 : ∀ c : Fin 64, z (ix2 a c) = G ⟨192 + c.val, by omega⟩)
    (l : Fin 256) : cat4 u v w z (ix2 a l) = G l := by
  pointwise [cat4]
  by_cases c0 : l.val < 64
  · rw [dif_pos c0, h0]
  by_cases c1 : l.val - 64 < 64
  · rw [dif_neg c0, dif_pos c1, h1]; congr 1; apply Fin.ext; show 64 + (l.val - 64) = l.val; omega
  by_cases c2 : l.val - 64 - 64 < 64
  · rw [dif_neg c0, dif_neg c1, dif_pos c2, h2]; congr 1; apply Fin.ext; show 128 + (l.val - 64 - 64) = l.val; omega
  · rw [dif_neg c0, dif_neg c1, dif_neg c2]
    rw [h3]; congr 1; apply Fin.ext; show 192 + (l.val - 64 - 64 - 64) = l.val; omega

theorem lo_apply (v : FVec Ideal S128x256 .f32) (a b : Fin 128) : lo v (ix3 0 a b) = v (ix2 a ⟨b.val, by omega⟩) := by
  pointwise [lo]

theorem hi_apply (v : FVec Ideal S128x256 .f32) (a b : Fin 128) : hi v (ix3 0 a b) = v (ix2 a ⟨128 + b.val, by omega⟩) := by
  pointwise [hi]

theorem h128_0_apply (q : Vec Ideal S1x1x128x256 .bf16) (a : Fin 128) (x : Fin 64) :
    (h128_0 (w128 q) (ix2 a x) : EReal) = q (ix4 0 0 a ⟨x.val, by omega⟩) := by
  pointwise [h128_0, w128]

theorem h128_1_apply (q : Vec Ideal S1x1x128x256 .bf16) (a : Fin 128) (x : Fin 64) :
    (h128_1 (w128 q) (ix2 a x) : EReal) = q (ix4 0 0 a ⟨64 + x.val, by omega⟩) := by
  pointwise [h128_1, w128]

theorem h128_2_apply (q : Vec Ideal S1x1x128x256 .bf16) (a : Fin 128) (x : Fin 64) :
    (h128_2 (w128 q) (ix2 a x) : EReal) = q (ix4 0 0 a ⟨128 + x.val, by omega⟩) := by
  pointwise [h128_2, w128]

theorem h128_3_apply (q : Vec Ideal S1x1x128x256 .bf16) (a : Fin 128) (x : Fin 64) :
    (h128_3 (w128 q) (ix2 a x) : EReal) = q (ix4 0 0 a ⟨192 + x.val, by omega⟩) := by
  pointwise [h128_3, w128]

theorem h256_0_apply (q : Vec Ideal S1x1x256x256 .bf16) (a : Fin 256) (x : Fin 64) :
    (h256_0 (w256 q) (ix2 a x) : EReal) = q (ix4 0 0 a ⟨x.val, by omega⟩) := by
  pointwise [h256_0, w256]

theorem h256_1_apply (q : Vec Ideal S1x1x256x256 .bf16) (a : Fin 256) (x : Fin 64) :
    (h256_1 (w256 q) (ix2 a x) : EReal) = q (ix4 0 0 a ⟨64 + x.val, by omega⟩) := by
  pointwise [h256_1, w256]

theorem h256_2_apply (q : Vec Ideal S1x1x256x256 .bf16) (a : Fin 256) (x : Fin 64) :
    (h256_2 (w256 q) (ix2 a x) : EReal) = q (ix4 0 0 a ⟨128 + x.val, by omega⟩) := by
  pointwise [h256_2, w256]

theorem h256_3_apply (q : Vec Ideal S1x1x256x256 .bf16) (a : Fin 256) (x : Fin 64) :
    (h256_3 (w256 q) (ix2 a x) : EReal) = q (ix4 0 0 a ⟨192 + x.val, by omega⟩) := by
  pointwise [h256_3, w256]

/-- The score of a query `a` and a key `j` in the head of lane `l`. -/
def dotq {n : Nat} (q : Fin 256 → EReal) (k : Fin n → Fin 256 → EReal) (l : Fin 256) (j : Fin n) : EReal :=
  ∑ x : Fin 64, q ⟨64 * (l.val / 64) + x.val, by omega⟩ * k j ⟨64 * (l.val / 64) + x.val, by omega⟩

theorem dotq_head {n : Nat} (q : Fin 256 → EReal) (k : Fin n → Fin 256 → EReal) (j : Fin n) (h : Nat) (hh : h < 4) (c : Fin 64)
    (hl : 64 * h + c.val < 256) :
    dotq q k ⟨64 * h + c.val, hl⟩ j = ∑ x : Fin 64, q ⟨64 * h + x.val, by omega⟩ * k j ⟨64 * h + x.val, by omega⟩ := by
  refine Finset.sum_congr rfl fun x _ => ?_
  have : 64 * ((64 * h + c.val) / 64) + x.val = 64 * h + x.val := by omega
  simp only [this]

open Cert.Attn

/-- A block's result at a query and a lane, over 256 keys, -/
theorem o256_apply (mk : IVec S128x256 1) (q : Vec Ideal S1x1x128x256 .bf16) (k v : Vec Ideal S1x1x256x256 .bf16) (a : Fin 128)
    (l : Fin 256) :
    o256 mk q k v (ix2 a l)
      = out (fun j => msk (mk (ix2 a j)) (dotq (fun y => q (ix4 0 0 a y)) (fun j y => k (ix4 0 0 j y)) l j)) fun j => v (ix4 0 0 j l) := by
  refine cat4_apply _ _ _ _ a (fun l => out (fun j => msk (mk (ix2 a j)) (dotq (fun y => q (ix4 0 0 a y)) (fun j y => k (ix4 0 0 j y)) l j))
    fun j => v (ix4 0 0 j l)) ?_ ?_ ?_ ?_ l <;> intro c <;> rw [ho256_apply] <;> refine congrArg₂ out (funext fun j => ?_) (funext fun j => ?_)
  · rw [sc256_apply]; refine congrArg (msk _) ?_
    refine Eq.trans ?_ ((dotq_head (fun y => q (ix4 0 0 a y)) (fun j y => k (ix4 0 0 j y)) j 0 (by omega) c (by omega)).symm.trans
      (congrArg (fun l => dotq _ _ l j) (Fin.ext (by simp))))
    refine Finset.sum_congr rfl fun x _ => ?_
    rw [h128_0_apply, h256_0_apply]; simp only [Nat.mul_zero, Nat.zero_add]
  · exact h256_0_apply v j c
  · rw [sc256_apply]; refine congrArg (msk _) ?_
    refine Eq.trans ?_ (dotq_head (fun y => q (ix4 0 0 a y)) (fun j y => k (ix4 0 0 j y)) j 1 (by omega) c (by omega)).symm
    refine Finset.sum_congr rfl fun x _ => ?_
    rw [h128_1_apply, h256_1_apply]
  · exact h256_1_apply v j c
  · rw [sc256_apply]; refine congrArg (msk _) ?_
    refine Eq.trans ?_ (dotq_head (fun y => q (ix4 0 0 a y)) (fun j y => k (ix4 0 0 j y)) j 2 (by omega) c (by omega)).symm
    refine Finset.sum_congr rfl fun x _ => ?_
    rw [h128_2_apply, h256_2_apply]
  · exact h256_2_apply v j c
  · rw [sc256_apply]; refine congrArg (msk _) ?_
    refine Eq.trans ?_ (dotq_head (fun y => q (ix4 0 0 a y)) (fun j y => k (ix4 0 0 j y)) j 3 (by omega) c (by omega)).symm
    refine Finset.sum_congr rfl fun x _ => ?_
    rw [h128_3_apply, h256_3_apply]
  · exact h256_3_apply v j c

/-- and its log-sum-exp. -/
theorem l256_apply (mk : IVec S128x256 1) (q : Vec Ideal S1x1x128x256 .bf16) (k : Vec Ideal S1x1x256x256 .bf16) (a : Fin 128)
    (l : Fin 256) :
    l256 mk q k (ix2 a l)
      = lse fun j => msk (mk (ix2 a j)) (dotq (fun y => q (ix4 0 0 a y)) (fun j y => k (ix4 0 0 j y)) l j) := by
  refine cat4_apply _ _ _ _ a (fun l => lse fun j => msk (mk (ix2 a j)) (dotq (fun y => q (ix4 0 0 a y)) (fun j y => k (ix4 0 0 j y)) l j))
    ?_ ?_ ?_ ?_ l <;> intro c <;> rw [hl256_apply] <;> refine congrArg lse (funext fun j => ?_)
  · rw [sc256_apply]; refine congrArg (msk _) ?_
    refine Eq.trans ?_ ((dotq_head (fun y => q (ix4 0 0 a y)) (fun j y => k (ix4 0 0 j y)) j 0 (by omega) c (by omega)).symm.trans
      (congrArg (fun l => dotq _ _ l j) (Fin.ext (by simp))))
    refine Finset.sum_congr rfl fun x _ => ?_
    rw [h128_0_apply, h256_0_apply]; simp only [Nat.mul_zero, Nat.zero_add]
  · rw [sc256_apply]; refine congrArg (msk _) ?_
    refine Eq.trans ?_ (dotq_head (fun y => q (ix4 0 0 a y)) (fun j y => k (ix4 0 0 j y)) j 1 (by omega) c (by omega)).symm
    refine Finset.sum_congr rfl fun x _ => ?_
    rw [h128_1_apply, h256_1_apply]
  · rw [sc256_apply]; refine congrArg (msk _) ?_
    refine Eq.trans ?_ (dotq_head (fun y => q (ix4 0 0 a y)) (fun j y => k (ix4 0 0 j y)) j 2 (by omega) c (by omega)).symm
    refine Finset.sum_congr rfl fun x _ => ?_
    rw [h128_2_apply, h256_2_apply]
  · rw [sc256_apply]; refine congrArg (msk _) ?_
    refine Eq.trans ?_ (dotq_head (fun y => q (ix4 0 0 a y)) (fun j y => k (ix4 0 0 j y)) j 3 (by omega) c (by omega)).symm
    refine Finset.sum_congr rfl fun x _ => ?_
    rw [h128_3_apply, h256_3_apply]

/-- A block's result at a query and a lane, over 128 keys, -/
theorem o128_apply (mk : IVec S128x128 1) (q : Vec Ideal S1x1x128x256 .bf16) (k v : Vec Ideal S1x1x128x256 .bf16) (a : Fin 128)
    (l : Fin 256) :
    o128 mk q k v (ix2 a l)
      = out (fun j => msk (mk (ix2 a j)) (dotq (fun y => q (ix4 0 0 a y)) (fun j y => k (ix4 0 0 j y)) l j)) fun j => v (ix4 0 0 j l) := by
  refine cat4_apply _ _ _ _ a (fun l => out (fun j => msk (mk (ix2 a j)) (dotq (fun y => q (ix4 0 0 a y)) (fun j y => k (ix4 0 0 j y)) l j))
    fun j => v (ix4 0 0 j l)) ?_ ?_ ?_ ?_ l <;> intro c <;> rw [ho128_apply] <;> refine congrArg₂ out (funext fun j => ?_) (funext fun j => ?_)
  · rw [sc128_apply]; refine congrArg (msk _) ?_
    refine Eq.trans ?_ ((dotq_head (fun y => q (ix4 0 0 a y)) (fun j y => k (ix4 0 0 j y)) j 0 (by omega) c (by omega)).symm.trans
      (congrArg (fun l => dotq _ _ l j) (Fin.ext (by simp))))
    refine Finset.sum_congr rfl fun x _ => ?_
    rw [h128_0_apply, h128_0_apply]; simp only [Nat.mul_zero, Nat.zero_add]
  · exact h128_0_apply v j c
  · rw [sc128_apply]; refine congrArg (msk _) ?_
    refine Eq.trans ?_ (dotq_head (fun y => q (ix4 0 0 a y)) (fun j y => k (ix4 0 0 j y)) j 1 (by omega) c (by omega)).symm
    refine Finset.sum_congr rfl fun x _ => ?_
    rw [h128_1_apply, h128_1_apply]
  · exact h128_1_apply v j c
  · rw [sc128_apply]; refine congrArg (msk _) ?_
    refine Eq.trans ?_ (dotq_head (fun y => q (ix4 0 0 a y)) (fun j y => k (ix4 0 0 j y)) j 2 (by omega) c (by omega)).symm
    refine Finset.sum_congr rfl fun x _ => ?_
    rw [h128_2_apply, h128_2_apply]
  · exact h128_2_apply v j c
  · rw [sc128_apply]; refine congrArg (msk _) ?_
    refine Eq.trans ?_ (dotq_head (fun y => q (ix4 0 0 a y)) (fun j y => k (ix4 0 0 j y)) j 3 (by omega) c (by omega)).symm
    refine Finset.sum_congr rfl fun x _ => ?_
    rw [h128_3_apply, h128_3_apply]
  · exact h128_3_apply v j c

/-- and its log-sum-exp. -/
theorem l128_apply (mk : IVec S128x128 1) (q : Vec Ideal S1x1x128x256 .bf16) (k : Vec Ideal S1x1x128x256 .bf16) (a : Fin 128)
    (l : Fin 256) :
    l128 mk q k (ix2 a l)
      = lse fun j => msk (mk (ix2 a j)) (dotq (fun y => q (ix4 0 0 a y)) (fun j y => k (ix4 0 0 j y)) l j) := by
  refine cat4_apply _ _ _ _ a (fun l => lse fun j => msk (mk (ix2 a j)) (dotq (fun y => q (ix4 0 0 a y)) (fun j y => k (ix4 0 0 j y)) l j))
    ?_ ?_ ?_ ?_ l <;> intro c <;> rw [hl128_apply] <;> refine congrArg lse (funext fun j => ?_)
  · rw [sc128_apply]; refine congrArg (msk _) ?_
    refine Eq.trans ?_ ((dotq_head (fun y => q (ix4 0 0 a y)) (fun j y => k (ix4 0 0 j y)) j 0 (by omega) c (by omega)).symm.trans
      (congrArg (fun l => dotq _ _ l j) (Fin.ext (by simp))))
    refine Finset.sum_congr rfl fun x _ => ?_
    rw [h128_0_apply, h128_0_apply]; simp only [Nat.mul_zero, Nat.zero_add]
  · rw [sc128_apply]; refine congrArg (msk _) ?_
    refine Eq.trans ?_ (dotq_head (fun y => q (ix4 0 0 a y)) (fun j y => k (ix4 0 0 j y)) j 1 (by omega) c (by omega)).symm
    refine Finset.sum_congr rfl fun x _ => ?_
    rw [h128_1_apply, h128_1_apply]
  · rw [sc128_apply]; refine congrArg (msk _) ?_
    refine Eq.trans ?_ (dotq_head (fun y => q (ix4 0 0 a y)) (fun j y => k (ix4 0 0 j y)) j 2 (by omega) c (by omega)).symm
    refine Finset.sum_congr rfl fun x _ => ?_
    rw [h128_2_apply, h128_2_apply]
  · rw [sc128_apply]; refine congrArg (msk _) ?_
    refine Eq.trans ?_ (dotq_head (fun y => q (ix4 0 0 a y)) (fun j y => k (ix4 0 0 j y)) j 3 (by omega) c (by omega)).symm
    refine Finset.sum_congr rfl fun x _ => ?_
    rw [h128_3_apply, h128_3_apply]

end Cert.KernelIdeal.Attn

end
-- ==== Proof.Attn.Pieces.lean ====
module

public import proofs.«01_k».proof.Proof.Attn.Block
public import Idealize.ShloMosaic.Lib.WholeRead
public import Idealize.ShloMosaic.Lib.Writes

/-! What the attention kernel's two buffers of partial results hold, in class-major order: row `class * sd + i` is query `i` of the
    class, which attends to the rows of its class that are at most 128 before it. A block of 128 rows stored by the kernel agrees
    with this. -/

@[expose] public section

set_option maxRecDepth 16384

noncomputable section

namespace Cert.KernelIdeal.Attn

open Cert.KernelIdeal.Gen Cert.Attn
open Idealize.ShloMosaic Idealize.ShloMosaic.TcCoe Idealize.ShloMosaic.Pointwise

/-! ## The masks -/

theorem cmp_sge (x y : BitVec 32) : IntOp.cmpi .sge x y = if y.toInt ≤ x.toInt then 1#1 else 0#1 := by
  by_cases h : y.toInt ≤ x.toInt <;> simp [IntOp.cmpi, BitVec.sle, h]

theorem cmp_sle (x y : BitVec 32) : IntOp.cmpi .sle x y = if x.toInt ≤ y.toInt then 1#1 else 0#1 := by
  by_cases h : x.toInt ≤ y.toInt <;> simp [IntOp.cmpi, BitVec.sle, h]

theorem toInt_small (n : Nat) (h : n < 2147483648) : (BitVec.ofNat 32 n).toInt = n := by
  rw [BitVec.toInt_eq_toNat_of_lt] <;> rw [BitVec.toNat_ofNat, Nat.mod_eq_of_lt (by omega)]; omega

theorem toInt_gap (a j : Nat) (ha : a < 128) (hj : j < 256) :
    (IntOp.subi (IntOp.addi (BitVec.ofNat 32 a) 128#32) (BitVec.ofNat 32 j)).toInt = (a : Int) + 128 - j := by
  have h : (128#32 : BitVec 32).toInt = 128 := by decide
  simp only [IntOp.subi, IntOp.addi, BitVec.toInt_sub, BitVec.toInt_add, toInt_small a (by omega), toInt_small j (by omega), h]
  rw [show ((a : Int) + 128).bmod (2 ^ 32) = a + 128 from Int.bmod_eq_of_le (by omega) (by omega),
    Int.bmod_eq_of_le (by omega) (by omega)]

/-- Key `j` of the 256 starting 128 before the block is in the band of query `a`. -/
theorem band_apply (a : Fin 128) (j : Fin 256) (x : EReal) :
    msk (k0_pay376 (ix2 a j)) x = if j.val ≤ a.val + 128 ∧ a.val ≤ j.val then x else ⊥ := by
  pointwise [k0_pay376]
  rw [cmp_sge, cmp_sle, toInt_gap a j a.isLt j.isLt, show (0#32 : BitVec 32).toInt = 0 by decide,
    show (128#32 : BitVec 32).toInt = 128 by decide]
  by_cases h1 : (0 : Int) ≤ (a : Int) + 128 - (j : Int) <;> by_cases h2 : (a : Int) + 128 - (j : Int) ≤ 128
  · rw [if_pos h1, if_pos h2, if_pos (by omega)]; rfl
  · rw [if_pos h1, if_neg h2, if_neg (by omega)]; rfl
  · rw [if_neg h1, if_pos h2, if_neg (by omega)]; rfl
  · rw [if_neg h1, if_neg h2, if_neg (by omega)]; rfl

/-- Key `j` of the block's own 128 is not after query `a`. -/
theorem causal_apply (a j : Fin 128) (x : EReal) :
    msk (k0_pay377 (ix2 a j)) x = if j.val ≤ a.val then x else ⊥ := by
  pointwise [k0_pay377]
  rw [cmp_sge, toInt_small j (by omega), toInt_small a (by omega)]
  by_cases h1 : (j : Int) ≤ (a : Int)
  · rw [if_pos (by exact_mod_cast h1), if_pos (by omega)]; rfl
  · rw [if_neg (by exact_mod_cast h1), if_neg (by omega)]; rfl

/-! ## The partial results -/

/-- The score of a query's row and a key's row in the head of lane `l`: masked unless the key is of the query's class and among
    the 129 rows ending with the query's. -/
def csc (sd : Nat) (Q K : Fin 2048 → Fin 256 → EReal) (row : Fin 2048) (l : Fin 256) (row' : Fin 2048) : EReal :=
  if row'.val / sd = row.val / sd ∧ row'.val ≤ row.val ∧ row.val ≤ row'.val + 128 then dotq (Q row) K l row' else ⊥

/-- The attention's result in a row and lane, -/
def OC (sd : Nat) (Q K V : Fin 2048 → Fin 256 → EReal) (row : Fin 2048) (l : Fin 256) : EReal :=
  out (csc sd Q K row l) fun r => V r l
/-- and its log-sum-exp. -/
def LC (sd : Nat) (Q K : Fin 2048 → Fin 256 → EReal) (row : Fin 2048) (l : Fin 256) : EReal := lse (csc sd Q K row l)

/-- A lane of the 256 by its half and its place there. -/
def lane (t : Fin 2) (z : Fin 128) : Fin 256 := ⟨128 * t.val + z.val, by omega⟩

/-- The buffer of results -/
def OF (sd : Nat) (Q K V : Fin 2048 → Fin 256 → EReal) (y : S2x2048x128.Idx) : EReal := OC sd Q K V (y 1) (lane (y 0) (y 2))
/-- and that of log-sum-exps. -/
def LF (sd : Nat) (Q K : Fin 2048 → Fin 256 → EReal) (y : S2x2048x128.Idx) : EReal := LC sd Q K (y 1) (lane (y 0) (y 2))

/-- The 256 keys that end with the block of 128 starting at row `R`, as rows. -/
def bandKeys (R : Nat) (h : R + 128 ≤ 2048) (h' : 128 ≤ R) : Fin 256 ↪ Fin 2048 :=
  ⟨fun j => ⟨R - 128 + j.val, by omega⟩, fun a b h => Fin.ext (by have := congrArg Fin.val h; simpa using this)⟩

/-- That block's own 128 keys, as rows. -/
def ownKeys (R : Nat) (h : R + 128 ≤ 2048) : Fin 128 ↪ Fin 2048 :=
  ⟨fun j => ⟨R + j.val, by omega⟩, fun a b h => Fin.ext (by have := congrArg Fin.val h; simpa using this)⟩

section Block
variable (sd : Nat) (Q K V : Fin 2048 → Fin 256 → EReal) (R : Nat)

section Band
variable (q : Vec Ideal S1x1x128x256 .bf16) (k v : Vec Ideal S1x1x256x256 .bf16) (hR : R + 128 ≤ 2048) (hs : 0 < sd) (hB : 128 ≤ R % sd)
  (hc : ∀ i, i < 128 → (R + i) / sd = R / sd)
  (hq : ∀ (a : Fin 128) y, q (ix4 0 0 a y) = Q ⟨R + a.val, by omega⟩ y)
  (hk : ∀ (j : Fin 256) y (h : R - 128 + j.val < 2048), k (ix4 0 0 j y) = K ⟨R - 128 + j.val, h⟩ y)
  (hv : ∀ (j : Fin 256) y (h : R - 128 + j.val < 2048), v (ix4 0 0 j y) = V ⟨R - 128 + j.val, h⟩ y)
include hs hB hc

omit hs hc in
theorem band_le : 128 ≤ R := hB.trans (Nat.mod_le _ _)

include hq hk

theorem band_score (a : Fin 128) (l : Fin 256) (j : Fin 256) :
    csc sd Q K ⟨R + a.val, by omega⟩ l (bandKeys R hR (hB.trans (Nat.mod_le _ _)) j)
      = msk (k0_pay376 (ix2 a j)) (dotq (fun y => q (ix4 0 0 a y)) (fun j y => k (ix4 0 0 j y)) l j) := by
  have h128 := band_le sd R hB
  rw [band_apply, csc]
  have e : dotq (Q ⟨R + a.val, by omega⟩) K l (bandKeys R hR h128 j)
      = dotq (fun y => q (ix4 0 0 a y)) (fun j y => k (ix4 0 0 j y)) l j := by
    refine Finset.sum_congr rfl fun x _ => ?_
    exact (congrArg₂ (· * ·) (hq a _) (hk j _ (by omega))).symm
  rw [e]
  refine if_congr ?_ rfl rfl
  show (R - 128 + j.val) / sd = (R + a.val) / sd ∧ R - 128 + j.val ≤ R + a.val ∧ R + a.val ≤ R - 128 + j.val + 128 ↔ _
  constructor
  · rintro ⟨-, h1, h2⟩; omega
  · rintro ⟨h1, h2⟩
    refine ⟨?_, by omega, by omega⟩
    rw [hc a.val a.isLt]
    apply le_antisymm
    · rw [← hc a.val a.isLt]; exact Nat.div_le_div_right (by omega)
    · rw [Nat.le_div_iff_mul_le hs]
      have := Nat.div_add_mod R sd
      rw [mul_comm]
      omega

theorem band_masked (a : Fin 128) (l : Fin 256) (r : Fin 2048) (h : r ∉ Set.range (bandKeys R hR (hB.trans (Nat.mod_le _ _)))) :
    csc sd Q K ⟨R + a.val, by omega⟩ l r = ⊥ := by
  have h128 := band_le sd R hB
  refine if_neg fun ⟨_, h1, h2⟩ => h ⟨⟨r.val - (R - 128), ?_⟩, Fin.ext ?_⟩
  · have h1 : r.val ≤ R + a.val := h1
    have h2 : R + a.val ≤ r.val + 128 := h2
    omega
  · have h2 : R + a.val ≤ r.val + 128 := h2
    show R - 128 + (r.val - (R - 128)) = r.val
    omega

theorem band_l (a : Fin 128) (l : Fin 256) : l256 (F := Ideal) k0_pay376 q k (ix2 a l) = LC sd Q K ⟨R + a.val, by omega⟩ l := by
  rw [l256_apply]
  exact (lse_embed (bandKeys R hR (hB.trans (Nat.mod_le _ _))) (band_score sd Q K R q k hR hs hB hc hq hk a l)
    (band_masked sd Q K R q k hR hs hB hc hq hk a l)).symm

include hv in
theorem band_o (a : Fin 128) (l : Fin 256) : o256 (F := Ideal) k0_pay376 q k v (ix2 a l) = OC sd Q K V ⟨R + a.val, by omega⟩ l := by
  rw [o256_apply]
  refine (out_embed (bandKeys R hR (hB.trans (Nat.mod_le _ _))) (band_score sd Q K R q k hR hs hB hc hq hk a l)
    (band_masked sd Q K R q k hR hs hB hc hq hk a l) fun j => ?_).symm
  have h128 := band_le sd R hB
  exact (hv j l (by omega)).symm

end Band

section Own
variable (q k v : Vec Ideal S1x1x128x256 .bf16) (hR : R + 128 ≤ 2048) (hs : 0 < sd) (hB : R % sd = 0)
  (hc : ∀ i, i < 128 → (R + i) / sd = R / sd)
  (hq : ∀ (a : Fin 128) y, q (ix4 0 0 a y) = Q ⟨R + a.val, by omega⟩ y)
  (hk : ∀ (j : Fin 128) y, k (ix4 0 0 j y) = K ⟨R + j.val, by omega⟩ y)
  (hv : ∀ (j : Fin 128) y, v (ix4 0 0 j y) = V ⟨R + j.val, by omega⟩ y)

include hs hB hc hq hk

theorem own_score (a : Fin 128) (l : Fin 256) (j : Fin 128) :
    csc sd Q K ⟨R + a.val, by omega⟩ l (ownKeys R hR j)
      = msk (k0_pay377 (ix2 a j)) (dotq (fun y => q (ix4 0 0 a y)) (fun j y => k (ix4 0 0 j y)) l j) := by
  rw [causal_apply, csc]
  have e : dotq (Q ⟨R + a.val, by omega⟩) K l (ownKeys R hR j)
      = dotq (fun y => q (ix4 0 0 a y)) (fun j y => k (ix4 0 0 j y)) l j := by
    refine Finset.sum_congr rfl fun x _ => ?_
    exact (congrArg₂ (· * ·) (hq a _) (hk j _)).symm
  rw [e]
  refine if_congr ?_ rfl rfl
  show (R + j.val) / sd = (R + a.val) / sd ∧ R + j.val ≤ R + a.val ∧ R + a.val ≤ R + j.val + 128 ↔ _
  rw [hc a.val a.isLt, hc j.val j.isLt]
  omega

theorem own_masked (a : Fin 128) (l : Fin 256) (r : Fin 2048) (h : r ∉ Set.range (ownKeys R hR)) :
    csc sd Q K ⟨R + a.val, by omega⟩ l r = ⊥ := by
  refine if_neg fun ⟨h0, h1, h2⟩ => h ?_
  have h0 : r.val / sd = (R + a.val) / sd := h0
  have h1 : r.val ≤ R + a.val := h1
  rw [hc a.val a.isLt] at h0
  have hle : R ≤ r.val := by
    have e1 := Nat.div_add_mod R sd
    have e2 := Nat.div_mul_le_self r.val sd
    rw [h0, mul_comm] at e2
    omega
  refine ⟨⟨r.val - R, by omega⟩, Fin.ext ?_⟩
  show R + (r.val - R) = r.val
  omega

theorem own_l (a : Fin 128) (l : Fin 256) : l128 (F := Ideal) k0_pay377 q k (ix2 a l) = LC sd Q K ⟨R + a.val, by omega⟩ l := by
  rw [l128_apply]
  exact (lse_embed (ownKeys R hR) (own_score sd Q K R q k hR hs hB hc hq hk a l) (own_masked sd Q K R q k hR hs hB hc hq hk a l)).symm

include hv in
theorem own_o (a : Fin 128) (l : Fin 256) : o128 (F := Ideal) k0_pay377 q k v (ix2 a l) = OC sd Q K V ⟨R + a.val, by omega⟩ l := by
  rw [o128_apply]
  exact (out_embed (ownKeys R hR) (own_score sd Q K R q k hR hs hB hc hq hk a l) (own_masked sd Q K R q k hR hs hB hc hq hk a l)
    fun j => (hv j l).symm).symm

end Own

end Block

/-! ## Stored blocks -/

/-- The first half of a block's lanes, stored at row `R`, agrees with `G` where the block does; -/
theorem lo_piece (w : FVec Ideal S128x256 .f32) (G : Fin 2048 → Fin 256 → EReal) (R : Nat) (hR : R + 128 ≤ 2048)
    (hw : ∀ (a : Fin 128) l, w (ix2 a l) = G ⟨R + a.val, by omega⟩ l) (off : Fin 3 → Nat) (hoff : off = ![0, R, 0])
    (inb : ∀ a, off a + S1x128x128.size a ≤ S2x2048x128.size a) (x : S1x128x128.Idx) :
    (lo w x : EReal) = (fun y : S2x2048x128.Idx => G (y 1) (lane (y 0) (y 2))) ((Rect.unit (s := S2x2048x128) off S1x128x128.size inb).emb x) := by
  subst hoff
  have hx : x = ix3 0 (x 1) (x 2) := by
    funext i; fin_cases i
    · exact Fin.ext (Nat.lt_one_iff.mp (x 0).isLt)
    · rfl
    · rfl
  rw [hx]
  refine (lo_apply w (x 1) (x 2)).trans ((hw _ _).trans ?_)
  refine congrArg₂ G (Fin.ext ?_) (Fin.ext ?_)
  · show R + (x 1).val = R + 1 * (x 1).val; omega
  · show (x 2).val = 128 * (0 + 1 * 0) + (0 + 1 * (x 2).val); omega

/-- so does the second. -/
theorem hi_piece (w : FVec Ideal S128x256 .f32) (G : Fin 2048 → Fin 256 → EReal) (R : Nat) (hR : R + 128 ≤ 2048)
    (hw : ∀ (a : Fin 128) l, w (ix2 a l) = G ⟨R + a.val, by omega⟩ l) (off : Fin 3 → Nat) (hoff : off = ![1, R, 0])
    (inb : ∀ a, off a + S1x128x128.size a ≤ S2x2048x128.size a) (x : S1x128x128.Idx) :
    (hi w x : EReal) = (fun y : S2x2048x128.Idx => G (y 1) (lane (y 0) (y 2))) ((Rect.unit (s := S2x2048x128) off S1x128x128.size inb).emb x) := by
  subst hoff
  have hx : x = ix3 0 (x 1) (x 2) := by
    funext i; fin_cases i
    · exact Fin.ext (Nat.lt_one_iff.mp (x 0).isLt)
    · rfl
    · rfl
  rw [hx]
  refine (hi_apply w (x 1) (x 2)).trans ((hw _ _).trans ?_)
  refine congrArg₂ G (Fin.ext ?_) (Fin.ext ?_)
  · show R + (x 1).val = R + 1 * (x 1).val; omega
  · show 128 + (x 2).val = 128 * (1 + 1 * 0) + (0 + 1 * (x 2).val); omega

/-- A load of rows from a whole buffer of queries, keys or values. -/
theorem load_rows {C S N : Nat} {arg : Memref sig .tc .vmem ⟨4, ![1, C, S, 256]⟩ .bf16} (harg : arg.IsWhole)
    (x : Vec Ideal ⟨4, ![1, C, S, 256]⟩ .bf16) (c R : Nat) (hc : c < C) (off : Fin 4 → Nat) (hoff : off = ![0, c, R, 0])
    (inb : ∀ a, off a + (![1, 1, N, 256] : Fin 4 → Nat) a ≤ (⟨4, ![1, C, S, 256]⟩ : Shape).size a) (a : Fin N) (y : Fin 256)
    (h : R + a.val < S) :
    View.readAt (Elt Ideal) arg.view (Rect.unit (s := ⟨4, ![1, C, S, 256]⟩) off ![1, 1, N, 256] inb).toLoadRect (harg.unread x) (ix4 0 0 a y)
      = x (ix4 0 ⟨c, hc⟩ ⟨R + a.val, h⟩ y) := by
  subst hoff
  rw [Memref.IsWhole.readAt_unread]
  refine congrArg x ?_
  funext i; fin_cases i
  · exact Fin.ext rfl
  · exact Fin.ext (by show c + 1 * 0 = c; omega)
  · exact Fin.ext (by show R + 1 * a.val = R + a.val; omega)
  · exact Fin.ext (by show 0 + 1 * y.val = y.val; omega)

/-- A group's queries, keys or values by class-major row, `S` rows to a class. -/
def rowsOf {C S : Nat} (hd : S * C = 2048) (x : Vec Ideal ⟨4, ![1, C, S, 256]⟩ .bf16) (row : Fin 2048) (y : Fin 256) : EReal :=
  x (ix4 0 ⟨row.val / S, Nat.div_lt_of_lt_mul (by rw [hd]; exact row.isLt)⟩
    ⟨row.val % S, Nat.mod_lt _ (Nat.pos_of_ne_zero fun h => by subst h; simp at hd)⟩ y)

section Loads
variable {C S : Nat} (hd : S * C = 2048) (c : Nat) (hc : c < C)
include hd hc

theorem class_le (n : Nat) (h : n ≤ S) : S * c + n ≤ 2048 := by
  rw [← hd]
  calc S * c + n ≤ S * c + S := Nat.add_le_add_left h _
    _ = S * (c + 1) := (Nat.mul_succ _ _).symm
    _ ≤ S * C := Nat.mul_le_mul_left _ hc

/-- The load by class-major row. -/
theorem load_rowsOf {N : Nat} {arg : Memref sig .tc .vmem ⟨4, ![1, C, S, 256]⟩ .bf16} (harg : arg.IsWhole)
    (x : Vec Ideal ⟨4, ![1, C, S, 256]⟩ .bf16) (r : Nat) (off : Fin 4 → Nat) (hoff : off = ![0, c, r, 0])
    (inb : ∀ a, off a + (![1, 1, N, 256] : Fin 4 → Nat) a ≤ (⟨4, ![1, C, S, 256]⟩ : Shape).size a) (a : Fin N) (y : Fin 256)
    (n : Nat) (h : n < 2048) (hn : n = S * c + r + a.val) (hS : r + a.val < S) :
    View.readAt (Elt Ideal) arg.view (Rect.unit (s := ⟨4, ![1, C, S, 256]⟩) off ![1, 1, N, 256] inb).toLoadRect (harg.unread x) (ix4 0 0 a y)
      = rowsOf hd x ⟨n, h⟩ y := by
  rw [load_rows harg x c r hc off hoff inb a y hS]
  subst hn
  refine congrArg x ?_
  have e1 : (S * c + r + a.val) / S = c := by
    rw [Nat.add_assoc, Nat.mul_add_div (by omega), Nat.div_eq_of_lt hS]; rfl
  have e2 : (S * c + r + a.val) % S = r + a.val := by
    rw [Nat.add_assoc, Nat.mul_add_mod, Nat.mod_eq_of_lt hS]
  simp only [e1, e2]

variable {argq argk argv : Memref sig .tc .vmem ⟨4, ![1, C, S, 256]⟩ .bf16} (hargq : argq.IsWhole) (hargk : argk.IsWhole)
  (hargv : argv.IsWhole) (xq xk xv : Vec Ideal ⟨4, ![1, C, S, 256]⟩ .bf16)

section Band
variable (r : Nat) (h1 : 128 ≤ r) (h2 : r + 128 ≤ S)
  (offq : Fin 4 → Nat) (hoffq : offq = ![0, c, r, 0])
  (inbq : ∀ a, offq a + (![1, 1, 128, 256] : Fin 4 → Nat) a ≤ (⟨4, ![1, C, S, 256]⟩ : Shape).size a)
  (offk : Fin 4 → Nat) (hoffk : offk = ![0, c, r - 128, 0])
  (inbk : ∀ a, offk a + (![1, 1, 256, 256] : Fin 4 → Nat) a ≤ (⟨4, ![1, C, S, 256]⟩ : Shape).size a)
  (R : Nat) (hR : R + 128 ≤ 2048) (e : R = S * c + r)
include h1 h2 hoffq hoffk e

theorem same_class (i : Nat) (hi : i < 128) : (R + i) / S = R / S := by
  subst e
  rw [Nat.add_assoc, Nat.mul_add_div (by omega), Nat.mul_add_div (by omega), Nat.div_eq_of_lt (by omega : r + i < S),
    Nat.div_eq_of_lt (by omega : r < S)]

/-- A stored block over 256 keys, from the loads, is the attention's result -/
theorem band_block_o (a : Fin 128) (l : Fin 256) :
    o256 (F := Ideal) k0_pay376
        (View.readAt (Elt Ideal) argq.view (Rect.unit (s := ⟨4, ![1, C, S, 256]⟩) offq ![1, 1, 128, 256] inbq).toLoadRect (hargq.unread xq))
        (View.readAt (Elt Ideal) argk.view (Rect.unit (s := ⟨4, ![1, C, S, 256]⟩) offk ![1, 1, 256, 256] inbk).toLoadRect (hargk.unread xk))
        (View.readAt (Elt Ideal) argv.view (Rect.unit (s := ⟨4, ![1, C, S, 256]⟩) offk ![1, 1, 256, 256] inbk).toLoadRect (hargv.unread xv))
        (ix2 a l)
      = OC S (rowsOf hd xq) (rowsOf hd xk) (rowsOf hd xv) ⟨R + a.val, by omega⟩ l := by
  refine band_o S _ _ _ R _ _ _ hR (by omega) ?_ (same_class hd c hc r h1 h2 offq hoffq offk hoffk R e)
    (fun a y => load_rowsOf hd c hc hargq xq r offq hoffq inbq a y _ _ (by omega) (by omega))
    (fun j y h => load_rowsOf hd c hc hargk xk (r - 128) offk hoffk inbk j y _ _ (by omega) (by omega))
    (fun j y h => load_rowsOf hd c hc hargv xv (r - 128) offk hoffk inbk j y _ _ (by omega) (by omega)) a l
  rw [e, Nat.mul_add_mod, Nat.mod_eq_of_lt (by omega)]; exact h1

/-- and its log-sum-exp. -/
theorem band_block_l (a : Fin 128) (l : Fin 256) :
    l256 (F := Ideal) k0_pay376
        (View.readAt (Elt Ideal) argq.view (Rect.unit (s := ⟨4, ![1, C, S, 256]⟩) offq ![1, 1, 128, 256] inbq).toLoadRect (hargq.unread xq))
        (View.readAt (Elt Ideal) argk.view (Rect.unit (s := ⟨4, ![1, C, S, 256]⟩) offk ![1, 1, 256, 256] inbk).toLoadRect (hargk.unread xk))
        (ix2 a l)
      = LC S (rowsOf hd xq) (rowsOf hd xk) ⟨R + a.val, by omega⟩ l := by
  refine band_l S _ _ R _ _ hR (by omega) ?_ (same_class hd c hc r h1 h2 offq hoffq offk hoffk R e)
    (fun a y => load_rowsOf hd c hc hargq xq r offq hoffq inbq a y _ _ (by omega) (by omega))
    (fun j y h => load_rowsOf hd c hc hargk xk (r - 128) offk hoffk inbk j y _ _ (by omega) (by omega)) a l
  rw [e, Nat.mul_add_mod, Nat.mod_eq_of_lt (by omega)]; exact h1

end Band

section Own
variable (h2 : 128 ≤ S) (off : Fin 4 → Nat) (hoff : off = ![0, c, 0, 0])
  (inb : ∀ a, off a + (![1, 1, 128, 256] : Fin 4 → Nat) a ≤ (⟨4, ![1, C, S, 256]⟩ : Shape).size a)
  (R : Nat) (hR : R + 128 ≤ 2048) (e : R = S * c)
include h2 hoff e

theorem same_class' (i : Nat) (hi : i < 128) : (R + i) / S = R / S := by
  subst e
  rw [Nat.mul_add_div (by omega), Nat.mul_div_cancel_left _ (by omega), Nat.div_eq_of_lt (by omega : i < S)]; rfl

/-- A stored block over its own 128 keys, from the loads, is the attention's result -/
theorem own_block_o (a : Fin 128) (l : Fin 256) :
    o128 (F := Ideal) k0_pay377
        (View.readAt (Elt Ideal) argq.view (Rect.unit (s := ⟨4, ![1, C, S, 256]⟩) off ![1, 1, 128, 256] inb).toLoadRect (hargq.unread xq))
        (View.readAt (Elt Ideal) argk.view (Rect.unit (s := ⟨4, ![1, C, S, 256]⟩) off ![1, 1, 128, 256] inb).toLoadRect (hargk.unread xk))
        (View.readAt (Elt Ideal) argv.view (Rect.unit (s := ⟨4, ![1, C, S, 256]⟩) off ![1, 1, 128, 256] inb).toLoadRect (hargv.unread xv))
        (ix2 a l)
      = OC S (rowsOf hd xq) (rowsOf hd xk) (rowsOf hd xv) ⟨R + a.val, by omega⟩ l :=
  own_o S _ _ _ R _ _ _ hR (by omega) (by rw [e, Nat.mul_mod_right]) (same_class' hd c hc h2 off hoff R e)
    (fun a y => load_rowsOf hd c hc hargq xq 0 off hoff inb a y _ _ (by omega) (by omega))
    (fun j y => load_rowsOf hd c hc hargk xk 0 off hoff inb j y _ _ (by omega) (by omega))
    (fun j y => load_rowsOf hd c hc hargv xv 0 off hoff inb j y _ _ (by omega) (by omega)) a l

/-- and its log-sum-exp. -/
theorem own_block_l (a : Fin 128) (l : Fin 256) :
    l128 (F := Ideal) k0_pay377
        (View.readAt (Elt Ideal) argq.view (Rect.unit (s := ⟨4, ![1, C, S, 256]⟩) off ![1, 1, 128, 256] inb).toLoadRect (hargq.unread xq))
        (View.readAt (Elt Ideal) argk.view (Rect.unit (s := ⟨4, ![1, C, S, 256]⟩) off ![1, 1, 128, 256] inb).toLoadRect (hargk.unread xk))
        (ix2 a l)
      = LC S (rowsOf hd xq) (rowsOf hd xk) ⟨R + a.val, by omega⟩ l :=
  own_l S _ _ R _ _ hR (by omega) (by rw [e, Nat.mul_mod_right]) (same_class' hd c hc h2 off hoff R e)
    (fun a y => load_rowsOf hd c hc hargq xq 0 off hoff inb a y _ _ (by omega) (by omega))
    (fun j y => load_rowsOf hd c hc hargk xk 0 off hoff inb j y _ _ (by omega) (by omega)) a l

end Own

end Loads

end Cert.KernelIdeal.Attn

end
-- ==== Proof.Attn.Trips.lean ====
module

public import proofs.«01_k».proof.Proof.Attn.Pieces
public import proofs.«01_k».proof.Proof.Gen.KernelIdeal.Loops

/-! One trip of each of the attention kernel's loops stores blocks that agree with the attention of the trip's group. -/

@[expose] public section

set_option maxRecDepth 16384

noncomputable section

namespace Cert.KernelIdeal.Attn

open Cert.KernelIdeal.Gen Cert.Attn
open Idealize.ShloMosaic Idealize.ShloMosaic.TcCoe Idealize.ShloMosaic.Pointwise

variable (𝒱 : Variants) (c : Dev nD) (bd : Option 𝒱.V) (i : grid0.Coords) (arg2 : Memref sig .tc .vmem S1x1x2048x256 .bf16) (harg2 : arg2.IsWhole) (arg3 : Memref sig .tc .vmem S1x4x512x256 .bf16) (harg3 : arg3.IsWhole) (arg4 : Memref sig .tc .vmem S1x16x128x256 .bf16) (harg4 : arg4.IsWhole) (arg5 : Memref sig .tc .vmem S1x1x2048x256 .bf16) (harg5 : arg5.IsWhole) (arg6 : Memref sig .tc .vmem S1x4x512x256 .bf16) (harg6 : arg6.IsWhole) (arg7 : Memref sig .tc .vmem S1x16x128x256 .bf16) (harg7 : arg7.IsWhole) (arg8 : Memref sig .tc .vmem S1x1x2048x256 .bf16) (harg8 : arg8.IsWhole) (arg9 : Memref sig .tc .vmem S1x4x512x256 .bf16) (harg9 : arg9.IsWhole) (arg10 : Memref sig .tc .vmem S1x16x128x256 .bf16) (harg10 : arg10.IsWhole) (arg11 : Memref sig .tc .vmem S1x2048x256 .bf16) (harg11 : arg11.IsWhole) (arg12 : Memref sig .tc .vmem S2x2048x128 .f32) (harg12 : arg12.IsWhole) (arg13 : Memref sig .tc .vmem S2x2048x128 .f32) (harg13 : arg13.IsWhole) (arg14 : Memref sig .tc .vmem S2x2048x128 .f32) (harg14 : arg14.IsWhole) (arg15 : Memref sig .tc .vmem S2x2048x128 .f32) (harg15 : arg15.IsWhole) (arg16 : Memref sig .tc .vmem S2x2048x128 .f32) (harg16 : arg16.IsWhole)

/-- Group of dilation 16, results. -/
theorem trip3_o (x2 x5 x8 : Vec Ideal S1x16x128x256 .bf16) (k : Fin k0_t3_loop.trips) :
    ∀ p ∈ (trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay377 (harg4.unread x2) (harg7.unread x5) (harg10.unread x8) k).1,
      ∀ x : p.1.shape.Idx, p.2 x = OF 128 (rowsOf (C := 16) rfl x2) (rowsOf (C := 16) rfl x5) (rowsOf (C := 16) rfl x8) (p.1.emb x) := by
  have hk : k.val < 4 := k.isLt
  unfold trip_k0_t3
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · exact hi_piece (o128 (F := Ideal) k0_pay377 _ _ _) _ (512 * k.val + 128 * 3) (by omega) (own_block_o (C := 16) (S := 128) rfl (4 * k.val + 3) (by omega) harg4 harg7 harg10 x2 x5 x8 (by omega) _ (k0_off14_eq k 3) (k0_off14_inb k 3) _ (by omega) (by omega)) _ (k0_off16_eq k 3) (k0_off16_inb k 3)
  · exact lo_piece (o128 (F := Ideal) k0_pay377 _ _ _) _ (512 * k.val + 128 * 3) (by omega) (own_block_o (C := 16) (S := 128) rfl (4 * k.val + 3) (by omega) harg4 harg7 harg10 x2 x5 x8 (by omega) _ (k0_off14_eq k 3) (k0_off14_inb k 3) _ (by omega) (by omega)) _ (k0_off15_eq k 3) (k0_off15_inb k 3)
  · exact hi_piece (o128 (F := Ideal) k0_pay377 _ _ _) _ (512 * k.val + 128 * 2) (by omega) (own_block_o (C := 16) (S := 128) rfl (4 * k.val + 2) (by omega) harg4 harg7 harg10 x2 x5 x8 (by omega) _ (k0_off14_eq k 2) (k0_off14_inb k 2) _ (by omega) (by omega)) _ (k0_off16_eq k 2) (k0_off16_inb k 2)
  · exact lo_piece (o128 (F := Ideal) k0_pay377 _ _ _) _ (512 * k.val + 128 * 2) (by omega) (own_block_o (C := 16) (S := 128) rfl (4 * k.val + 2) (by omega) harg4 harg7 harg10 x2 x5 x8 (by omega) _ (k0_off14_eq k 2) (k0_off14_inb k 2) _ (by omega) (by omega)) _ (k0_off15_eq k 2) (k0_off15_inb k 2)
  · exact hi_piece (o128 (F := Ideal) k0_pay377 _ _ _) _ (512 * k.val + 128 * 1) (by omega) (own_block_o (C := 16) (S := 128) rfl (4 * k.val + 1) (by omega) harg4 harg7 harg10 x2 x5 x8 (by omega) _ (k0_off14_eq k 1) (k0_off14_inb k 1) _ (by omega) (by omega)) _ (k0_off16_eq k 1) (k0_off16_inb k 1)
  · exact lo_piece (o128 (F := Ideal) k0_pay377 _ _ _) _ (512 * k.val + 128 * 1) (by omega) (own_block_o (C := 16) (S := 128) rfl (4 * k.val + 1) (by omega) harg4 harg7 harg10 x2 x5 x8 (by omega) _ (k0_off14_eq k 1) (k0_off14_inb k 1) _ (by omega) (by omega)) _ (k0_off15_eq k 1) (k0_off15_inb k 1)
  · exact hi_piece (o128 (F := Ideal) k0_pay377 _ _ _) _ (512 * k.val + 128 * 0) (by omega) (own_block_o (C := 16) (S := 128) rfl (4 * k.val + 0) (by omega) harg4 harg7 harg10 x2 x5 x8 (by omega) _ (k0_off14_eq k 0) (k0_off14_inb k 0) _ (by omega) (by omega)) _ (k0_off16_eq k 0) (k0_off16_inb k 0)
  · exact lo_piece (o128 (F := Ideal) k0_pay377 _ _ _) _ (512 * k.val + 128 * 0) (by omega) (own_block_o (C := 16) (S := 128) rfl (4 * k.val + 0) (by omega) harg4 harg7 harg10 x2 x5 x8 (by omega) _ (k0_off14_eq k 0) (k0_off14_inb k 0) _ (by omega) (by omega)) _ (k0_off15_eq k 0) (k0_off15_inb k 0)

/-- Group of dilation 16, log-sum-exps. -/
theorem trip3_l (x2 x5 x8 : Vec Ideal S1x16x128x256 .bf16) (k : Fin k0_t3_loop.trips) :
    ∀ p ∈ (trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay377 (harg4.unread x2) (harg7.unread x5) (harg10.unread x8) k).2.1,
      ∀ x : p.1.shape.Idx, p.2 x = LF 128 (rowsOf (C := 16) rfl x2) (rowsOf (C := 16) rfl x5) (p.1.emb x) := by
  have hk : k.val < 4 := k.isLt
  unfold trip_k0_t3
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · exact hi_piece (l128 (F := Ideal) k0_pay377 _ _) _ (512 * k.val + 128 * 3) (by omega) (own_block_l (C := 16) (S := 128) rfl (4 * k.val + 3) (by omega) harg4 harg7 x2 x5 (by omega) _ (k0_off14_eq k 3) (k0_off14_inb k 3) _ (by omega) (by omega)) _ (k0_off16_eq k 3) (k0_off16_inb k 3)
  · exact lo_piece (l128 (F := Ideal) k0_pay377 _ _) _ (512 * k.val + 128 * 3) (by omega) (own_block_l (C := 16) (S := 128) rfl (4 * k.val + 3) (by omega) harg4 harg7 x2 x5 (by omega) _ (k0_off14_eq k 3) (k0_off14_inb k 3) _ (by omega) (by omega)) _ (k0_off15_eq k 3) (k0_off15_inb k 3)
  · exact hi_piece (l128 (F := Ideal) k0_pay377 _ _) _ (512 * k.val + 128 * 2) (by omega) (own_block_l (C := 16) (S := 128) rfl (4 * k.val + 2) (by omega) harg4 harg7 x2 x5 (by omega) _ (k0_off14_eq k 2) (k0_off14_inb k 2) _ (by omega) (by omega)) _ (k0_off16_eq k 2) (k0_off16_inb k 2)
  · exact lo_piece (l128 (F := Ideal) k0_pay377 _ _) _ (512 * k.val + 128 * 2) (by omega) (own_block_l (C := 16) (S := 128) rfl (4 * k.val + 2) (by omega) harg4 harg7 x2 x5 (by omega) _ (k0_off14_eq k 2) (k0_off14_inb k 2) _ (by omega) (by omega)) _ (k0_off15_eq k 2) (k0_off15_inb k 2)
  · exact hi_piece (l128 (F := Ideal) k0_pay377 _ _) _ (512 * k.val + 128 * 1) (by omega) (own_block_l (C := 16) (S := 128) rfl (4 * k.val + 1) (by omega) harg4 harg7 x2 x5 (by omega) _ (k0_off14_eq k 1) (k0_off14_inb k 1) _ (by omega) (by omega)) _ (k0_off16_eq k 1) (k0_off16_inb k 1)
  · exact lo_piece (l128 (F := Ideal) k0_pay377 _ _) _ (512 * k.val + 128 * 1) (by omega) (own_block_l (C := 16) (S := 128) rfl (4 * k.val + 1) (by omega) harg4 harg7 x2 x5 (by omega) _ (k0_off14_eq k 1) (k0_off14_inb k 1) _ (by omega) (by omega)) _ (k0_off15_eq k 1) (k0_off15_inb k 1)
  · exact hi_piece (l128 (F := Ideal) k0_pay377 _ _) _ (512 * k.val + 128 * 0) (by omega) (own_block_l (C := 16) (S := 128) rfl (4 * k.val + 0) (by omega) harg4 harg7 x2 x5 (by omega) _ (k0_off14_eq k 0) (k0_off14_inb k 0) _ (by omega) (by omega)) _ (k0_off16_eq k 0) (k0_off16_inb k 0)
  · exact lo_piece (l128 (F := Ideal) k0_pay377 _ _) _ (512 * k.val + 128 * 0) (by omega) (own_block_l (C := 16) (S := 128) rfl (4 * k.val + 0) (by omega) harg4 harg7 x2 x5 (by omega) _ (k0_off14_eq k 0) (k0_off14_inb k 0) _ (by omega) (by omega)) _ (k0_off15_eq k 0) (k0_off15_inb k 0)

/-- Group of dilation 4, results. -/
theorem trip2_o (x1 x4 x7 : Vec Ideal S1x4x512x256 .bf16) (k : Fin k0_t2_loop.trips) :
    ∀ p ∈ (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 k0_pay377 (harg3.unread x1) (harg6.unread x4) (harg9.unread x7) k).1,
      ∀ x : p.1.shape.Idx, p.2 x = OF 512 (rowsOf (C := 4) rfl x1) (rowsOf (C := 4) rfl x4) (rowsOf (C := 4) rfl x7) (p.1.emb x) := by
  have hk : k.val < 4 := k.isLt
  unfold trip_k0_t2
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · exact hi_piece (o256 (F := Ideal) k0_pay376 _ _ _) _ (512 * k.val + 128 * 3) (by omega) (band_block_o (C := 4) (S := 512) rfl (k.val) (by omega) harg3 harg6 harg9 x1 x4 x7 (384) (by omega) (by omega) _ (k0_off12_eq k) (k0_off12_inb k) _ (k0_off13_eq k) (k0_off13_inb k) _ (by omega) (by omega)) _ (k0_off7_eq k 3) (k0_off7_inb k 3)
  · exact lo_piece (o256 (F := Ideal) k0_pay376 _ _ _) _ (512 * k.val + 128 * 3) (by omega) (band_block_o (C := 4) (S := 512) rfl (k.val) (by omega) harg3 harg6 harg9 x1 x4 x7 (384) (by omega) (by omega) _ (k0_off12_eq k) (k0_off12_inb k) _ (k0_off13_eq k) (k0_off13_inb k) _ (by omega) (by omega)) _ (k0_off6_eq k 3) (k0_off6_inb k 3)
  · exact hi_piece (o256 (F := Ideal) k0_pay376 _ _ _) _ (512 * k.val + 128 * 2) (by omega) (band_block_o (C := 4) (S := 512) rfl (k.val) (by omega) harg3 harg6 harg9 x1 x4 x7 (256) (by omega) (by omega) _ (k0_off10_eq k) (k0_off10_inb k) _ (k0_off11_eq k) (k0_off11_inb k) _ (by omega) (by omega)) _ (k0_off7_eq k 2) (k0_off7_inb k 2)
  · exact lo_piece (o256 (F := Ideal) k0_pay376 _ _ _) _ (512 * k.val + 128 * 2) (by omega) (band_block_o (C := 4) (S := 512) rfl (k.val) (by omega) harg3 harg6 harg9 x1 x4 x7 (256) (by omega) (by omega) _ (k0_off10_eq k) (k0_off10_inb k) _ (k0_off11_eq k) (k0_off11_inb k) _ (by omega) (by omega)) _ (k0_off6_eq k 2) (k0_off6_inb k 2)
  · exact hi_piece (o256 (F := Ideal) k0_pay376 _ _ _) _ (512 * k.val + 128 * 1) (by omega) (band_block_o (C := 4) (S := 512) rfl (k.val) (by omega) harg3 harg6 harg9 x1 x4 x7 (128) (by omega) (by omega) _ (k0_off8_eq k) (k0_off8_inb k) _ (k0_off9_eq k) (k0_off9_inb k) _ (by omega) (by omega)) _ (k0_off7_eq k 1) (k0_off7_inb k 1)
  · exact lo_piece (o256 (F := Ideal) k0_pay376 _ _ _) _ (512 * k.val + 128 * 1) (by omega) (band_block_o (C := 4) (S := 512) rfl (k.val) (by omega) harg3 harg6 harg9 x1 x4 x7 (128) (by omega) (by omega) _ (k0_off8_eq k) (k0_off8_inb k) _ (k0_off9_eq k) (k0_off9_inb k) _ (by omega) (by omega)) _ (k0_off6_eq k 1) (k0_off6_inb k 1)
  · exact hi_piece (o128 (F := Ideal) k0_pay377 _ _ _) _ (512 * k.val + 128 * 0) (by omega) (own_block_o (C := 4) (S := 512) rfl (k.val) (by omega) harg3 harg6 harg9 x1 x4 x7 (by omega) _ (k0_off5_eq k) (k0_off5_inb k) _ (by omega) (by omega)) _ (k0_off7_eq k 0) (k0_off7_inb k 0)
  · exact lo_piece (o128 (F := Ideal) k0_pay377 _ _ _) _ (512 * k.val + 128 * 0) (by omega) (own_block_o (C := 4) (S := 512) rfl (k.val) (by omega) harg3 harg6 harg9 x1 x4 x7 (by omega) _ (k0_off5_eq k) (k0_off5_inb k) _ (by omega) (by omega)) _ (k0_off6_eq k 0) (k0_off6_inb k 0)

/-- Group of dilation 4, log-sum-exps. -/
theorem trip2_l (x1 x4 x7 : Vec Ideal S1x4x512x256 .bf16) (k : Fin k0_t2_loop.trips) :
    ∀ p ∈ (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 k0_pay377 (harg3.unread x1) (harg6.unread x4) (harg9.unread x7) k).2.1,
      ∀ x : p.1.shape.Idx, p.2 x = LF 512 (rowsOf (C := 4) rfl x1) (rowsOf (C := 4) rfl x4) (p.1.emb x) := by
  have hk : k.val < 4 := k.isLt
  unfold trip_k0_t2
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · exact hi_piece (l256 (F := Ideal) k0_pay376 _ _) _ (512 * k.val + 128 * 3) (by omega) (band_block_l (C := 4) (S := 512) rfl (k.val) (by omega) harg3 harg6 x1 x4 (384) (by omega) (by omega) _ (k0_off12_eq k) (k0_off12_inb k) _ (k0_off13_eq k) (k0_off13_inb k) _ (by omega) (by omega)) _ (k0_off7_eq k 3) (k0_off7_inb k 3)
  · exact lo_piece (l256 (F := Ideal) k0_pay376 _ _) _ (512 * k.val + 128 * 3) (by omega) (band_block_l (C := 4) (S := 512) rfl (k.val) (by omega) harg3 harg6 x1 x4 (384) (by omega) (by omega) _ (k0_off12_eq k) (k0_off12_inb k) _ (k0_off13_eq k) (k0_off13_inb k) _ (by omega) (by omega)) _ (k0_off6_eq k 3) (k0_off6_inb k 3)
  · exact hi_piece (l256 (F := Ideal) k0_pay376 _ _) _ (512 * k.val + 128 * 2) (by omega) (band_block_l (C := 4) (S := 512) rfl (k.val) (by omega) harg3 harg6 x1 x4 (256) (by omega) (by omega) _ (k0_off10_eq k) (k0_off10_inb k) _ (k0_off11_eq k) (k0_off11_inb k) _ (by omega) (by omega)) _ (k0_off7_eq k 2) (k0_off7_inb k 2)
  · exact lo_piece (l256 (F := Ideal) k0_pay376 _ _) _ (512 * k.val + 128 * 2) (by omega) (band_block_l (C := 4) (S := 512) rfl (k.val) (by omega) harg3 harg6 x1 x4 (256) (by omega) (by omega) _ (k0_off10_eq k) (k0_off10_inb k) _ (k0_off11_eq k) (k0_off11_inb k) _ (by omega) (by omega)) _ (k0_off6_eq k 2) (k0_off6_inb k 2)
  · exact hi_piece (l256 (F := Ideal) k0_pay376 _ _) _ (512 * k.val + 128 * 1) (by omega) (band_block_l (C := 4) (S := 512) rfl (k.val) (by omega) harg3 harg6 x1 x4 (128) (by omega) (by omega) _ (k0_off8_eq k) (k0_off8_inb k) _ (k0_off9_eq k) (k0_off9_inb k) _ (by omega) (by omega)) _ (k0_off7_eq k 1) (k0_off7_inb k 1)
  · exact lo_piece (l256 (F := Ideal) k0_pay376 _ _) _ (512 * k.val + 128 * 1) (by omega) (band_block_l (C := 4) (S := 512) rfl (k.val) (by omega) harg3 harg6 x1 x4 (128) (by omega) (by omega) _ (k0_off8_eq k) (k0_off8_inb k) _ (k0_off9_eq k) (k0_off9_inb k) _ (by omega) (by omega)) _ (k0_off6_eq k 1) (k0_off6_inb k 1)
  · exact hi_piece (l128 (F := Ideal) k0_pay377 _ _) _ (512 * k.val + 128 * 0) (by omega) (own_block_l (C := 4) (S := 512) rfl (k.val) (by omega) harg3 harg6 x1 x4 (by omega) _ (k0_off5_eq k) (k0_off5_inb k) _ (by omega) (by omega)) _ (k0_off7_eq k 0) (k0_off7_inb k 0)
  · exact lo_piece (l128 (F := Ideal) k0_pay377 _ _) _ (512 * k.val + 128 * 0) (by omega) (own_block_l (C := 4) (S := 512) rfl (k.val) (by omega) harg3 harg6 x1 x4 (by omega) _ (k0_off5_eq k) (k0_off5_inb k) _ (by omega) (by omega)) _ (k0_off6_eq k 0) (k0_off6_inb k 0)

/-- Group of dilation 1, results. -/
theorem trip1_o (x0 x3 x6 : Vec Ideal S1x1x2048x256 .bf16) (v359 v363 v380 v384 v401 v405 v412 v417 v418 v419) (k : Fin k0_t1_loop.trips) :
    ∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 v359 v363 v380 v384 v401 v405 v412 v417 v418 v419 (harg2.unread x0) (harg5.unread x3) (harg8.unread x6) k).1,
      ∀ x : p.1.shape.Idx, p.2 x = OF 2048 (rowsOf (C := 1) rfl x0) (rowsOf (C := 1) rfl x3) (rowsOf (C := 1) rfl x6) (p.1.emb x) := by
  have hk : k.val < 3 := k.isLt
  unfold trip_k0_t1
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · exact hi_piece (o256 (F := Ideal) k0_pay376 _ _ _) _ (512 * k.val + 128 * 3 + 512) (by omega) (band_block_o (C := 1) (S := 2048) rfl (0) (by omega) harg2 harg5 harg8 x0 x3 x6 (512 * k.val + 128 * 3 + 512) (by omega) (by omega) _ (k0_off1_eq k 3) (k0_off1_inb k 3) _ (k0_off2_eq k 3) (k0_off2_inb k 3) _ (by omega) (by omega)) _ (k0_off4_eq k 3) (k0_off4_inb k 3)
  · exact lo_piece (o256 (F := Ideal) k0_pay376 _ _ _) _ (512 * k.val + 128 * 3 + 512) (by omega) (band_block_o (C := 1) (S := 2048) rfl (0) (by omega) harg2 harg5 harg8 x0 x3 x6 (512 * k.val + 128 * 3 + 512) (by omega) (by omega) _ (k0_off1_eq k 3) (k0_off1_inb k 3) _ (k0_off2_eq k 3) (k0_off2_inb k 3) _ (by omega) (by omega)) _ (k0_off3_eq k 3) (k0_off3_inb k 3)
  · exact hi_piece (o256 (F := Ideal) k0_pay376 _ _ _) _ (512 * k.val + 128 * 2 + 512) (by omega) (band_block_o (C := 1) (S := 2048) rfl (0) (by omega) harg2 harg5 harg8 x0 x3 x6 (512 * k.val + 128 * 2 + 512) (by omega) (by omega) _ (k0_off1_eq k 2) (k0_off1_inb k 2) _ (k0_off2_eq k 2) (k0_off2_inb k 2) _ (by omega) (by omega)) _ (k0_off4_eq k 2) (k0_off4_inb k 2)
  · exact lo_piece (o256 (F := Ideal) k0_pay376 _ _ _) _ (512 * k.val + 128 * 2 + 512) (by omega) (band_block_o (C := 1) (S := 2048) rfl (0) (by omega) harg2 harg5 harg8 x0 x3 x6 (512 * k.val + 128 * 2 + 512) (by omega) (by omega) _ (k0_off1_eq k 2) (k0_off1_inb k 2) _ (k0_off2_eq k 2) (k0_off2_inb k 2) _ (by omega) (by omega)) _ (k0_off3_eq k 2) (k0_off3_inb k 2)
  · exact hi_piece (o256 (F := Ideal) k0_pay376 _ _ _) _ (512 * k.val + 128 * 1 + 512) (by omega) (band_block_o (C := 1) (S := 2048) rfl (0) (by omega) harg2 harg5 harg8 x0 x3 x6 (512 * k.val + 128 * 1 + 512) (by omega) (by omega) _ (k0_off1_eq k 1) (k0_off1_inb k 1) _ (k0_off2_eq k 1) (k0_off2_inb k 1) _ (by omega) (by omega)) _ (k0_off4_eq k 1) (k0_off4_inb k 1)
  · exact lo_piece (o256 (F := Ideal) k0_pay376 _ _ _) _ (512 * k.val + 128 * 1 + 512) (by omega) (band_block_o (C := 1) (S := 2048) rfl (0) (by omega) harg2 harg5 harg8 x0 x3 x6 (512 * k.val + 128 * 1 + 512) (by omega) (by omega) _ (k0_off1_eq k 1) (k0_off1_inb k 1) _ (k0_off2_eq k 1) (k0_off2_inb k 1) _ (by omega) (by omega)) _ (k0_off3_eq k 1) (k0_off3_inb k 1)
  · exact hi_piece (o256 (F := Ideal) k0_pay376 _ _ _) _ (512 * k.val + 128 * 0 + 512) (by omega) (band_block_o (C := 1) (S := 2048) rfl (0) (by omega) harg2 harg5 harg8 x0 x3 x6 (512 * k.val + 128 * 0 + 512) (by omega) (by omega) _ (k0_off1_eq k 0) (k0_off1_inb k 0) _ (k0_off2_eq k 0) (k0_off2_inb k 0) _ (by omega) (by omega)) _ (k0_off4_eq k 0) (k0_off4_inb k 0)
  · exact lo_piece (o256 (F := Ideal) k0_pay376 _ _ _) _ (512 * k.val + 128 * 0 + 512) (by omega) (band_block_o (C := 1) (S := 2048) rfl (0) (by omega) harg2 harg5 harg8 x0 x3 x6 (512 * k.val + 128 * 0 + 512) (by omega) (by omega) _ (k0_off1_eq k 0) (k0_off1_inb k 0) _ (k0_off2_eq k 0) (k0_off2_inb k 0) _ (by omega) (by omega)) _ (k0_off3_eq k 0) (k0_off3_inb k 0)

/-- Group of dilation 1, log-sum-exps. -/
theorem trip1_l (x0 x3 x6 : Vec Ideal S1x1x2048x256 .bf16) (v359 v363 v380 v384 v401 v405 v412 v417 v418 v419) (k : Fin k0_t1_loop.trips) :
    ∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 v359 v363 v380 v384 v401 v405 v412 v417 v418 v419 (harg2.unread x0) (harg5.unread x3) (harg8.unread x6) k).2.1,
      ∀ x : p.1.shape.Idx, p.2 x = LF 2048 (rowsOf (C := 1) rfl x0) (rowsOf (C := 1) rfl x3) (p.1.emb x) := by
  have hk : k.val < 3 := k.isLt
  unfold trip_k0_t1
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · exact hi_piece (l256 (F := Ideal) k0_pay376 _ _) _ (512 * k.val + 128 * 3 + 512) (by omega) (band_block_l (C := 1) (S := 2048) rfl (0) (by omega) harg2 harg5 x0 x3 (512 * k.val + 128 * 3 + 512) (by omega) (by omega) _ (k0_off1_eq k 3) (k0_off1_inb k 3) _ (k0_off2_eq k 3) (k0_off2_inb k 3) _ (by omega) (by omega)) _ (k0_off4_eq k 3) (k0_off4_inb k 3)
  · exact lo_piece (l256 (F := Ideal) k0_pay376 _ _) _ (512 * k.val + 128 * 3 + 512) (by omega) (band_block_l (C := 1) (S := 2048) rfl (0) (by omega) harg2 harg5 x0 x3 (512 * k.val + 128 * 3 + 512) (by omega) (by omega) _ (k0_off1_eq k 3) (k0_off1_inb k 3) _ (k0_off2_eq k 3) (k0_off2_inb k 3) _ (by omega) (by omega)) _ (k0_off3_eq k 3) (k0_off3_inb k 3)
  · exact hi_piece (l256 (F := Ideal) k0_pay376 _ _) _ (512 * k.val + 128 * 2 + 512) (by omega) (band_block_l (C := 1) (S := 2048) rfl (0) (by omega) harg2 harg5 x0 x3 (512 * k.val + 128 * 2 + 512) (by omega) (by omega) _ (k0_off1_eq k 2) (k0_off1_inb k 2) _ (k0_off2_eq k 2) (k0_off2_inb k 2) _ (by omega) (by omega)) _ (k0_off4_eq k 2) (k0_off4_inb k 2)
  · exact lo_piece (l256 (F := Ideal) k0_pay376 _ _) _ (512 * k.val + 128 * 2 + 512) (by omega) (band_block_l (C := 1) (S := 2048) rfl (0) (by omega) harg2 harg5 x0 x3 (512 * k.val + 128 * 2 + 512) (by omega) (by omega) _ (k0_off1_eq k 2) (k0_off1_inb k 2) _ (k0_off2_eq k 2) (k0_off2_inb k 2) _ (by omega) (by omega)) _ (k0_off3_eq k 2) (k0_off3_inb k 2)
  · exact hi_piece (l256 (F := Ideal) k0_pay376 _ _) _ (512 * k.val + 128 * 1 + 512) (by omega) (band_block_l (C := 1) (S := 2048) rfl (0) (by omega) harg2 harg5 x0 x3 (512 * k.val + 128 * 1 + 512) (by omega) (by omega) _ (k0_off1_eq k 1) (k0_off1_inb k 1) _ (k0_off2_eq k 1) (k0_off2_inb k 1) _ (by omega) (by omega)) _ (k0_off4_eq k 1) (k0_off4_inb k 1)
  · exact lo_piece (l256 (F := Ideal) k0_pay376 _ _) _ (512 * k.val + 128 * 1 + 512) (by omega) (band_block_l (C := 1) (S := 2048) rfl (0) (by omega) harg2 harg5 x0 x3 (512 * k.val + 128 * 1 + 512) (by omega) (by omega) _ (k0_off1_eq k 1) (k0_off1_inb k 1) _ (k0_off2_eq k 1) (k0_off2_inb k 1) _ (by omega) (by omega)) _ (k0_off3_eq k 1) (k0_off3_inb k 1)
  · exact hi_piece (l256 (F := Ideal) k0_pay376 _ _) _ (512 * k.val + 128 * 0 + 512) (by omega) (band_block_l (C := 1) (S := 2048) rfl (0) (by omega) harg2 harg5 x0 x3 (512 * k.val + 128 * 0 + 512) (by omega) (by omega) _ (k0_off1_eq k 0) (k0_off1_inb k 0) _ (k0_off2_eq k 0) (k0_off2_inb k 0) _ (by omega) (by omega)) _ (k0_off4_eq k 0) (k0_off4_inb k 0)
  · exact lo_piece (l256 (F := Ideal) k0_pay376 _ _) _ (512 * k.val + 128 * 0 + 512) (by omega) (band_block_l (C := 1) (S := 2048) rfl (0) (by omega) harg2 harg5 x0 x3 (512 * k.val + 128 * 0 + 512) (by omega) (by omega) _ (k0_off1_eq k 0) (k0_off1_inb k 0) _ (k0_off2_eq k 0) (k0_off2_inb k 0) _ (by omega) (by omega)) _ (k0_off3_eq k 0) (k0_off3_inb k 0)

end Cert.KernelIdeal.Attn

end
-- ==== Proof.Attn.Run.lean ====
module

public import proofs.«01_k».proof.Proof.Gen.KernelIdeal.Frame
public import proofs.«01_k».proof.Proof.Gen.KernelIdeal.Skeleton
public import proofs.«01_k».proof.Proof.Gen.KernelIdeal.Loops

/-! One run of the attention kernel's body over whole staging buffers, its scratch buffers at any contents: the inputs come
    back as they were, and the output buffer holds two stores, the list of which is what the theorem finds. -/

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body's triple. `L g0 g1` lists the stores into the output buffer, the last first, where `g0` and `g1` are what the
    two buffers of class-major partial results held at the start. -/
def run (c : Dev nD) (i : grid0.Coords) (arg2 : Memref sig .tc .vmem S1x1x2048x256 .bf16) (harg2 : arg2.IsWhole) (arg3 : Memref sig .tc .vmem S1x4x512x256 .bf16) (harg3 : arg3.IsWhole) (arg4 : Memref sig .tc .vmem S1x16x128x256 .bf16) (harg4 : arg4.IsWhole) (arg5 : Memref sig .tc .vmem S1x1x2048x256 .bf16) (harg5 : arg5.IsWhole) (arg6 : Memref sig .tc .vmem S1x4x512x256 .bf16) (harg6 : arg6.IsWhole) (arg7 : Memref sig .tc .vmem S1x16x128x256 .bf16) (harg7 : arg7.IsWhole) (arg8 : Memref sig .tc .vmem S1x1x2048x256 .bf16) (harg8 : arg8.IsWhole) (arg9 : Memref sig .tc .vmem S1x4x512x256 .bf16) (harg9 : arg9.IsWhole) (arg10 : Memref sig .tc .vmem S1x16x128x256 .bf16) (harg10 : arg10.IsWhole) (arg11 : Memref sig .tc .vmem S1x2048x256 .bf16) (harg11 : arg11.IsWhole) (arg12 : Memref sig .tc .vmem S2x2048x128 .f32) (harg12 : arg12.IsWhole) (arg13 : Memref sig .tc .vmem S2x2048x128 .f32) (harg13 : arg13.IsWhole) (arg14 : Memref sig .tc .vmem S2x2048x128 .f32) (harg14 : arg14.IsWhole) (arg15 : Memref sig .tc .vmem S2x2048x128 .f32) (harg15 : arg15.IsWhole) (arg16 : Memref sig .tc .vmem S2x2048x128 .f32) (harg16 : arg16.IsWhole)
    (x0 : Vec F S1x1x2048x256 .bf16) (x1 : Vec F S1x4x512x256 .bf16) (x2 : Vec F S1x16x128x256 .bf16) (x3 : Vec F S1x1x2048x256 .bf16) (x4 : Vec F S1x4x512x256 .bf16) (x5 : Vec F S1x16x128x256 .bf16) (x6 : Vec F S1x1x2048x256 .bf16) (x7 : Vec F S1x4x512x256 .bf16) (x8 : Vec F S1x16x128x256 .bf16) :
    { L : BufTy.Contents (Elt F) arg12.view.ty → BufTy.Contents (Elt F) arg13.view.ty → List (View.Piece (Elt F) S1x2048x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ g0 g1 g, owns (c : Thread nD τ) arg11 fullShare (arg11.view.read (Elt F) (arg11.view.writes (Elt F) g (L g0 g1)))) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_attn_prompt_eq_skeleton]; unfold cc0_attn_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists fs0, fs1, f9, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Attn

end
-- ==== Proof.Attn.Contents.lean ====
module

public import proofs.«01_k».proof.Proof.Attn.Trips
public import proofs.«01_k».proof.Proof.Attn.Run

/-! What the two buffers of results and of log-sum-exps hold after each of the attention kernel's groups. -/

@[expose] public section

set_option maxRecDepth 16384

noncomputable section

namespace Cert.KernelIdeal.Attn

open Cert.KernelIdeal.Gen Cert.Attn
open Idealize.ShloMosaic Idealize.ShloMosaic.TcCoe Idealize.ShloMosaic.Pointwise

abbrev PL := List (View.Piece (Elt Ideal) S2x2048x128 .f32)

/-- Every stored piece agrees with `G`. -/
def Agr (L : PL) (G : S2x2048x128.Idx → EReal) : Prop := ∀ p ∈ L, ∀ x : p.1.shape.Idx, p.2 x = G (p.1.emb x)

/-- The pieces cover the rows from `lo` to `up`. -/
def Cov (L : PL) (lo up : Nat) : Prop := ∀ y : S2x2048x128.Idx, lo ≤ (y 1).val → (y 1).val < up → ∃ p ∈ L, y ∈ p.1.set

theorem agr_app {L L' : PL} {G} (h : Agr L G) (h' : Agr L' G) : Agr (L ++ L') G :=
  fun p hp => (List.mem_append.mp hp).elim (h p) (h' p)

theorem cov_app {L L' : PL} {a b c d e f : Nat} (h : Cov L a b) (h' : Cov L' c d) (he : ∀ n, e ≤ n → n < f → (a ≤ n ∧ n < b) ∨ (c ≤ n ∧ n < d)) :
    Cov (L ++ L') e f := by
  intro y h1 h2
  rcases he _ h1 h2 with ⟨h3, h4⟩ | ⟨h3, h4⟩
  · obtain ⟨p, hp, hy⟩ := h y h3 h4; exact ⟨p, List.mem_append_left _ hp, hy⟩
  · obtain ⟨p, hp, hy⟩ := h' y h3 h4; exact ⟨p, List.mem_append_right _ hp, hy⟩

/-- A load of covered pieces standing in front reads what they agree with. -/
theorem read_front {sg : RefSig} {κ : Kind} {sp : Space} (v : View sg κ sp S2x2048x128 .f32) (f : BufTy.Contents (Elt Ideal) v.ty) (L L' : PL) (G) (h : Agr L G) (hc : Cov L 0 2048)
    (r : LoadRect S2x2048x128) (x) :
    (View.readAt (Elt Ideal) v r (v.writes (Elt Ideal) f (L ++ L')) x : EReal) = G (r.idx x) := by
  rw [View.readAt_apply, View.writes_append]
  exact View.read_writes_apply_of_pieces (Val := Elt Ideal) v _ (fun y => (G y : Elt Ideal .f32)) L (fun p hp x => h p hp x) _ (hc _ (Nat.zero_le _) (r.idx x 1).isLt)

theorem unit_mem (t R : Nat) (off : Fin 3 → Nat) (hoff : off = ![t, R, 0]) (inb : ∀ a, off a + S1x128x128.size a ≤ S2x2048x128.size a) (y : S2x2048x128.Idx)
    (h0 : (y 0).val = t) (h1 : R ≤ (y 1).val) (h2 : (y 1).val < R + 128) : y ∈ (Rect.unit (s := S2x2048x128) off S1x128x128.size inb).set := by
  subst hoff
  rw [Rect.mem_set_unit]
  intro a
  have h3 : (y 2).val < 128 := (y 2).isLt
  fin_cases a
  · exact ⟨h0 ▸ le_refl _, h0 ▸ Nat.lt_succ_self _⟩
  · exact ⟨h1, h2⟩
  · exact ⟨Nat.zero_le _, by show (y 2).val < 0 + 128; omega⟩

theorem half_cases (y : S2x2048x128.Idx) : (y 0).val = 0 ∨ (y 0).val = 1 := by
  have h : (y 0).val < 2 := (y 0).isLt
  omega

variable (𝒱 : Variants) (c : Dev nD) (bd : Option 𝒱.V) (i : grid0.Coords) (arg2 : Memref sig .tc .vmem S1x1x2048x256 .bf16) (harg2 : arg2.IsWhole) (arg3 : Memref sig .tc .vmem S1x4x512x256 .bf16) (harg3 : arg3.IsWhole) (arg4 : Memref sig .tc .vmem S1x16x128x256 .bf16) (harg4 : arg4.IsWhole) (arg5 : Memref sig .tc .vmem S1x1x2048x256 .bf16) (harg5 : arg5.IsWhole) (arg6 : Memref sig .tc .vmem S1x4x512x256 .bf16) (harg6 : arg6.IsWhole) (arg7 : Memref sig .tc .vmem S1x16x128x256 .bf16) (harg7 : arg7.IsWhole) (arg8 : Memref sig .tc .vmem S1x1x2048x256 .bf16) (harg8 : arg8.IsWhole) (arg9 : Memref sig .tc .vmem S1x4x512x256 .bf16) (harg9 : arg9.IsWhole) (arg10 : Memref sig .tc .vmem S1x16x128x256 .bf16) (harg10 : arg10.IsWhole) (arg11 : Memref sig .tc .vmem S1x2048x256 .bf16) (harg11 : arg11.IsWhole) (arg12 : Memref sig .tc .vmem S2x2048x128 .f32) (harg12 : arg12.IsWhole) (arg13 : Memref sig .tc .vmem S2x2048x128 .f32) (harg13 : arg13.IsWhole) (arg14 : Memref sig .tc .vmem S2x2048x128 .f32) (harg14 : arg14.IsWhole) (arg15 : Memref sig .tc .vmem S2x2048x128 .f32) (harg15 : arg15.IsWhole) (arg16 : Memref sig .tc .vmem S2x2048x128 .f32) (harg16 : arg16.IsWhole)

theorem cov1_o (x0 x3 x6 : Vec Ideal S1x1x2048x256 .bf16) (v359 v363 v380 v384 v401 v405 v412 v417 v418 v419) (k : Fin k0_t1_loop.trips) :
    Cov (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 v359 v363 v380 v384 v401 v405 v412 v417 v418 v419 (harg2.unread x0) (harg5.unread x3) (harg8.unread x6) k).1 (512 * k.val + 512) (512 * k.val + 512 + 512) := by
  have hk : k.val < 3 := k.isLt
  intro y h1 h2
  unfold trip_k0_t1
  rcases half_cases y with h0 | h0
  · rcases (by omega : (y 1).val < 512 * k.val + 128 * 1 + 512 ∨ (512 * k.val + 128 * 1 + 512 ≤ (y 1).val ∧ (y 1).val < 512 * k.val + 128 * 2 + 512) ∨ (512 * k.val + 128 * 2 + 512 ≤ (y 1).val ∧ (y 1).val < 512 * k.val + 128 * 3 + 512) ∨ 512 * k.val + 128 * 3 + 512 ≤ (y 1).val) with h | h | h | h
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), unit_mem 0 (512 * k.val + 128 * 0 + 512) _ (k0_off3_eq k 0) (k0_off3_inb k 0) y h0 (by omega) (by omega)⟩
    · exact ⟨_, (List.mem_cons_of_mem _ (List.mem_cons_of_mem _ (List.mem_cons_of_mem _ (List.mem_cons_of_mem _ (List.mem_cons_of_mem _ List.mem_cons_self))))), unit_mem 0 (512 * k.val + 128 * 1 + 512) _ (k0_off3_eq k 1) (k0_off3_inb k 1) y h0 (by omega) (by omega)⟩
    · exact ⟨_, (List.mem_cons_of_mem _ (List.mem_cons_of_mem _ (List.mem_cons_of_mem _ List.mem_cons_self))), unit_mem 0 (512 * k.val + 128 * 2 + 512) _ (k0_off3_eq k 2) (k0_off3_inb k 2) y h0 (by omega) (by omega)⟩
    · exact ⟨_, (List.mem_cons_of_mem _ List.mem_cons_self), unit_mem 0 (512 * k.val + 128 * 3 + 512) _ (k0_off3_eq k 3) (k0_off3_inb k 3) y h0 (by omega) (by omega)⟩
  · rcases (by omega : (y 1).val < 512 * k.val + 128 * 1 + 512 ∨ (512 * k.val + 128 * 1 + 512 ≤ (y 1).val ∧ (y 1).val < 512 * k.val + 128 * 2 + 512) ∨ (512 * k.val + 128 * 2 + 512 ≤ (y 1).val ∧ (y 1).val < 512 * k.val + 128 * 3 + 512) ∨ 512 * k.val + 128 * 3 + 512 ≤ (y 1).val) with h | h | h | h
    · exact ⟨_, (List.mem_cons_of_mem _ (List.mem_cons_of_mem _ (List.mem_cons_of_mem _ (List.mem_cons_of_mem _ (List.mem_cons_of_mem _ (List.mem_cons_of_mem _ List.mem_cons_self)))))), unit_mem 1 (512 * k.val + 128 * 0 + 512) _ (k0_off4_eq k 0) (k0_off4_inb k 0) y h0 (by omega) (by omega)⟩
    · exact ⟨_, (List.mem_cons_of_mem _ (List.mem_cons_of_mem _ (List.mem_cons_of_mem _ (List.mem_cons_of_mem _ List.mem_cons_self)))), unit_mem 1 (512 * k.val + 128 * 1 + 512) _ (k0_off4_eq k 1) (k0_off4_inb k 1) y h0 (by omega) (by omega)⟩
    · exact ⟨_, (List.mem_cons_of_mem _ (List.mem_cons_of_mem _ List.mem_cons_self)), unit_mem 1 (512 * k.val + 128 * 2 + 512) _ (k0_off4_eq k 2) (k0_off4_inb k 2) y h0 (by omega) (by omega)⟩
    · exact ⟨_, List.mem_cons_self, unit_mem 1 (512 * k.val + 128 * 3 + 512) _ (k0_off4_eq k 3) (k0_off4_inb k 3) y h0 (by omega) (by omega)⟩

theorem cov1_l (x0 x3 x6 : Vec Ideal S1x1x2048x256 .bf16) (v359 v363 v380 v384 v401 v405 v412 v417 v418 v419) (k : Fin k0_t1_loop.trips) :
    Cov (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 v359 v363 v380 v384 v401 v405 v412 v417 v418 v419 (harg2.unread x0) (harg5.unread x3) (harg8.unread x6) k).2.1 (512 * k.val + 512) (512 * k.val + 512 + 512) := by
  have hk : k.val < 3 := k.isLt
  intro y h1 h2
  unfold trip_k0_t1
  rcases half_cases y with h0 | h0
  · rcases (by omega : (y 1).val < 512 * k.val + 128 * 1 + 512 ∨ (512 * k.val + 128 * 1 + 512 ≤ (y 1).val ∧ (y 1).val < 512 * k.val + 128 * 2 + 512) ∨ (512 * k.val + 128 * 2 + 512 ≤ (y 1).val ∧ (y 1).val < 512 * k.val + 128 * 3 + 512) ∨ 512 * k.val + 128 * 3 + 512 ≤ (y 1).val) with h | h | h | h
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), unit_mem 0 (512 * k.val + 128 * 0 + 512) _ (k0_off3_eq k 0) (k0_off3_inb k 0) y h0 (by omega) (by omega)⟩
    · exact ⟨_, (List.mem_cons_of_mem _ (List.mem_cons_of_mem _ (List.mem_cons_of_mem _ (List.mem_cons_of_mem _ (List.mem_cons_of_mem _ List.mem_cons_self))))), unit_mem 0 (512 * k.val + 128 * 1 + 512) _ (k0_off3_eq k 1) (k0_off3_inb k 1) y h0 (by omega) (by omega)⟩
    · exact ⟨_, (List.mem_cons_of_mem _ (List.mem_cons_of_mem _ (List.mem_cons_of_mem _ List.mem_cons_self))), unit_mem 0 (512 * k.val + 128 * 2 + 512) _ (k0_off3_eq k 2) (k0_off3_inb k 2) y h0 (by omega) (by omega)⟩
    · exact ⟨_, (List.mem_cons_of_mem _ List.mem_cons_self), unit_mem 0 (512 * k.val + 128 * 3 + 512) _ (k0_off3_eq k 3) (k0_off3_inb k 3) y h0 (by omega) (by omega)⟩
  · rcases (by omega : (y 1).val < 512 * k.val + 128 * 1 + 512 ∨ (512 * k.val + 128 * 1 + 512 ≤ (y 1).val ∧ (y 1).val < 512 * k.val + 128 * 2 + 512) ∨ (512 * k.val + 128 * 2 + 512 ≤ (y 1).val ∧ (y 1).val < 512 * k.val + 128 * 3 + 512) ∨ 512 * k.val + 128 * 3 + 512 ≤ (y 1).val) with h | h | h | h
    · exact ⟨_, (List.mem_cons_of_mem _ (List.mem_cons_of_mem _ (List.mem_cons_of_mem _ (List.mem_cons_of_mem _ (List.mem_cons_of_mem _ (List.mem_cons_of_mem _ List.mem_cons_self)))))), unit_mem 1 (512 * k.val + 128 * 0 + 512) _ (k0_off4_eq k 0) (k0_off4_inb k 0) y h0 (by omega) (by omega)⟩
    · exact ⟨_, (List.mem_cons_of_mem _ (List.mem_cons_of_mem _ (List.mem_cons_of_mem _ (List.mem_cons_of_mem _ List.mem_cons_self)))), unit_mem 1 (512 * k.val + 128 * 1 + 512) _ (k0_off4_eq k 1) (k0_off4_inb k 1) y h0 (by omega) (by omega)⟩
    · exact ⟨_, (List.mem_cons_of_mem _ (List.mem_cons_of_mem _ List.mem_cons_self)), unit_mem 1 (512 * k.val + 128 * 2 + 512) _ (k0_off4_eq k 2) (k0_off4_inb k 2) y h0 (by omega) (by omega)⟩
    · exact ⟨_, List.mem_cons_self, unit_mem 1 (512 * k.val + 128 * 3 + 512) _ (k0_off4_eq k 3) (k0_off4_inb k 3) y h0 (by omega) (by omega)⟩

theorem pb1 (x0 x3 x6 : Vec Ideal S1x1x2048x256 .bf16) (v359 v363 v380 v384 v401 v405 v412 v417 v418 v419) : ∀ n ≤ 3,
    (Agr (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 v359 v363 v380 v384 v401 v405 v412 v417 v418 v419 (harg2.unread x0) (harg5.unread x3) (harg8.unread x6) n).1 (OF 2048 (rowsOf (C := 1) rfl x0) (rowsOf (C := 1) rfl x3) (rowsOf (C := 1) rfl x6)) ∧ Cov (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 v359 v363 v380 v384 v401 v405 v412 v417 v418 v419 (harg2.unread x0) (harg5.unread x3) (harg8.unread x6) n).1 512 (512 + 512 * n))
    ∧ (Agr (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 v359 v363 v380 v384 v401 v405 v412 v417 v418 v419 (harg2.unread x0) (harg5.unread x3) (harg8.unread x6) n).2 (LF 2048 (rowsOf (C := 1) rfl x0) (rowsOf (C := 1) rfl x3)) ∧ Cov (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 v359 v363 v380 v384 v401 v405 v412 v417 v418 v419 (harg2.unread x0) (harg5.unread x3) (harg8.unread x6) n).2 512 (512 + 512 * n)) := by
  intro n
  induction n with
  | zero =>
    intro _
    exact ⟨⟨fun p hp => absurd hp List.not_mem_nil, fun y h1 h2 => by omega⟩, ⟨fun p hp => absurd hp List.not_mem_nil, fun y h1 h2 => by omega⟩⟩
  | succ k ih =>
    intro hk
    obtain ⟨⟨ha, hb⟩, ⟨hc, hd⟩⟩ := ih (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 v359 v363 v380 v384 v401 v405 v412 v417 v418 v419 (harg2.unread x0) (harg5.unread x3) (harg8.unread x6) (⟨k, hk⟩ : Fin k0_t1_loop.trips)
    have e1 := congrArg Prod.fst e
    have e2 := congrArg Prod.snd e
    dsimp only at e1 e2
    rw [e1, e2]
    exact ⟨⟨agr_app (trip1_o 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 v359 v363 v380 v384 v401 v405 v412 v417 v418 v419 ⟨k, hk⟩) ha,
        cov_app (cov1_o 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 v359 v363 v380 v384 v401 v405 v412 v417 v418 v419 ⟨k, hk⟩) hb (fun m h1 h2 => by dsimp only; omega)⟩,
      ⟨agr_app (trip1_l 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 v359 v363 v380 v384 v401 v405 v412 v417 v418 v419 ⟨k, hk⟩) hc,
        cov_app (cov1_l 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 v359 v363 v380 v384 v401 v405 v412 v417 v418 v419 ⟨k, hk⟩) hd (fun m h1 h2 => by dsimp only; omega)⟩⟩

theorem cov2_o (x1 x4 x7 : Vec Ideal S1x4x512x256 .bf16) (k : Fin k0_t2_loop.trips) :
    Cov (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 k0_pay377 (harg3.unread x1) (harg6.unread x4) (harg9.unread x7) k).1 (512 * k.val) (512 * k.val + 512) := by
  have hk : k.val < 4 := k.isLt
  intro y h1 h2
  unfold trip_k0_t2
  rcases half_cases y with h0 | h0
  · rcases (by omega : (y 1).val < 512 * k.val + 128 * 1 ∨ (512 * k.val + 128 * 1 ≤ (y 1).val ∧ (y 1).val < 512 * k.val + 128 * 2) ∨ (512 * k.val + 128 * 2 ≤ (y 1).val ∧ (y 1).val < 512 * k.val + 128 * 3) ∨ 512 * k.val + 128 * 3 ≤ (y 1).val) with h | h | h | h
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), unit_mem 0 (512 * k.val + 128 * 0) _ (k0_off6_eq k 0) (k0_off6_inb k 0) y h0 (by omega) (by omega)⟩
    · exact ⟨_, (List.mem_cons_of_mem _ (List.mem_cons_of_mem _ (List.mem_cons_of_mem _ (List.mem_cons_of_mem _ (List.mem_cons_of_mem _ List.mem_cons_self))))), unit_mem 0 (512 * k.val + 128 * 1) _ (k0_off6_eq k 1) (k0_off6_inb k 1) y h0 (by omega) (by omega)⟩
    · exact ⟨_, (List.mem_cons_of_mem _ (List.mem_cons_of_mem _ (List.mem_cons_of_mem _ List.mem_cons_self))), unit_mem 0 (512 * k.val + 128 * 2) _ (k0_off6_eq k 2) (k0_off6_inb k 2) y h0 (by omega) (by omega)⟩
    · exact ⟨_, (List.mem_cons_of_mem _ List.mem_cons_self), unit_mem 0 (512 * k.val + 128 * 3) _ (k0_off6_eq k 3) (k0_off6_inb k 3) y h0 (by omega) (by omega)⟩
  · rcases (by omega : (y 1).val < 512 * k.val + 128 * 1 ∨ (512 * k.val + 128 * 1 ≤ (y 1).val ∧ (y 1).val < 512 * k.val + 128 * 2) ∨ (512 * k.val + 128 * 2 ≤ (y 1).val ∧ (y 1).val < 512 * k.val + 128 * 3) ∨ 512 * k.val + 128 * 3 ≤ (y 1).val) with h | h | h | h
    · exact ⟨_, (List.mem_cons_of_mem _ (List.mem_cons_of_mem _ (List.mem_cons_of_mem _ (List.mem_cons_of_mem _ (List.mem_cons_of_mem _ (List.mem_cons_of_mem _ List.mem_cons_self)))))), unit_mem 1 (512 * k.val + 128 * 0) _ (k0_off7_eq k 0) (k0_off7_inb k 0) y h0 (by omega) (by omega)⟩
    · exact ⟨_, (List.mem_cons_of_mem _ (List.mem_cons_of_mem _ (List.mem_cons_of_mem _ (List.mem_cons_of_mem _ List.mem_cons_self)))), unit_mem 1 (512 * k.val + 128 * 1) _ (k0_off7_eq k 1) (k0_off7_inb k 1) y h0 (by omega) (by omega)⟩
    · exact ⟨_, (List.mem_cons_of_mem _ (List.mem_cons_of_mem _ List.mem_cons_self)), unit_mem 1 (512 * k.val + 128 * 2) _ (k0_off7_eq k 2) (k0_off7_inb k 2) y h0 (by omega) (by omega)⟩
    · exact ⟨_, List.mem_cons_self, unit_mem 1 (512 * k.val + 128 * 3) _ (k0_off7_eq k 3) (k0_off7_inb k 3) y h0 (by omega) (by omega)⟩

theorem cov2_l (x1 x4 x7 : Vec Ideal S1x4x512x256 .bf16) (k : Fin k0_t2_loop.trips) :
    Cov (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 k0_pay377 (harg3.unread x1) (harg6.unread x4) (harg9.unread x7) k).2.1 (512 * k.val) (512 * k.val + 512) := by
  have hk : k.val < 4 := k.isLt
  intro y h1 h2
  unfold trip_k0_t2
  rcases half_cases y with h0 | h0
  · rcases (by omega : (y 1).val < 512 * k.val + 128 * 1 ∨ (512 * k.val + 128 * 1 ≤ (y 1).val ∧ (y 1).val < 512 * k.val + 128 * 2) ∨ (512 * k.val + 128 * 2 ≤ (y 1).val ∧ (y 1).val < 512 * k.val + 128 * 3) ∨ 512 * k.val + 128 * 3 ≤ (y 1).val) with h | h | h | h
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), unit_mem 0 (512 * k.val + 128 * 0) _ (k0_off6_eq k 0) (k0_off6_inb k 0) y h0 (by omega) (by omega)⟩
    · exact ⟨_, (List.mem_cons_of_mem _ (List.mem_cons_of_mem _ (List.mem_cons_of_mem _ (List.mem_cons_of_mem _ (List.mem_cons_of_mem _ List.mem_cons_self))))), unit_mem 0 (512 * k.val + 128 * 1) _ (k0_off6_eq k 1) (k0_off6_inb k 1) y h0 (by omega) (by omega)⟩
    · exact ⟨_, (List.mem_cons_of_mem _ (List.mem_cons_of_mem _ (List.mem_cons_of_mem _ List.mem_cons_self))), unit_mem 0 (512 * k.val + 128 * 2) _ (k0_off6_eq k 2) (k0_off6_inb k 2) y h0 (by omega) (by omega)⟩
    · exact ⟨_, (List.mem_cons_of_mem _ List.mem_cons_self), unit_mem 0 (512 * k.val + 128 * 3) _ (k0_off6_eq k 3) (k0_off6_inb k 3) y h0 (by omega) (by omega)⟩
  · rcases (by omega : (y 1).val < 512 * k.val + 128 * 1 ∨ (512 * k.val + 128 * 1 ≤ (y 1).val ∧ (y 1).val < 512 * k.val + 128 * 2) ∨ (512 * k.val + 128 * 2 ≤ (y 1).val ∧ (y 1).val < 512 * k.val + 128 * 3) ∨ 512 * k.val + 128 * 3 ≤ (y 1).val) with h | h | h | h
    · exact ⟨_, (List.mem_cons_of_mem _ (List.mem_cons_of_mem _ (List.mem_cons_of_mem _ (List.mem_cons_of_mem _ (List.mem_cons_of_mem _ (List.mem_cons_of_mem _ List.mem_cons_self)))))), unit_mem 1 (512 * k.val + 128 * 0) _ (k0_off7_eq k 0) (k0_off7_inb k 0) y h0 (by omega) (by omega)⟩
    · exact ⟨_, (List.mem_cons_of_mem _ (List.mem_cons_of_mem _ (List.mem_cons_of_mem _ (List.mem_cons_of_mem _ List.mem_cons_self)))), unit_mem 1 (512 * k.val + 128 * 1) _ (k0_off7_eq k 1) (k0_off7_inb k 1) y h0 (by omega) (by omega)⟩
    · exact ⟨_, (List.mem_cons_of_mem _ (List.mem_cons_of_mem _ List.mem_cons_self)), unit_mem 1 (512 * k.val + 128 * 2) _ (k0_off7_eq k 2) (k0_off7_inb k 2) y h0 (by omega) (by omega)⟩
    · exact ⟨_, List.mem_cons_self, unit_mem 1 (512 * k.val + 128 * 3) _ (k0_off7_eq k 3) (k0_off7_inb k 3) y h0 (by omega) (by omega)⟩

theorem pb2 (x1 x4 x7 : Vec Ideal S1x4x512x256 .bf16) : ∀ n ≤ 4,
    (Agr (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 k0_pay377 (harg3.unread x1) (harg6.unread x4) (harg9.unread x7) n).1 (OF 512 (rowsOf (C := 4) rfl x1) (rowsOf (C := 4) rfl x4) (rowsOf (C := 4) rfl x7)) ∧ Cov (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 k0_pay377 (harg3.unread x1) (harg6.unread x4) (harg9.unread x7) n).1 0 (0 + 512 * n))
    ∧ (Agr (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 k0_pay377 (harg3.unread x1) (harg6.unread x4) (harg9.unread x7) n).2 (LF 512 (rowsOf (C := 4) rfl x1) (rowsOf (C := 4) rfl x4)) ∧ Cov (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 k0_pay377 (harg3.unread x1) (harg6.unread x4) (harg9.unread x7) n).2 0 (0 + 512 * n)) := by
  intro n
  induction n with
  | zero =>
    intro _
    exact ⟨⟨fun p hp => absurd hp List.not_mem_nil, fun y h1 h2 => by omega⟩, ⟨fun p hp => absurd hp List.not_mem_nil, fun y h1 h2 => by omega⟩⟩
  | succ k ih =>
    intro hk
    obtain ⟨⟨ha, hb⟩, ⟨hc, hd⟩⟩ := ih (by omega)
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 k0_pay377 (harg3.unread x1) (harg6.unread x4) (harg9.unread x7) (⟨k, hk⟩ : Fin k0_t2_loop.trips)
    have e1 := congrArg Prod.fst e
    have e2 := congrArg Prod.snd e
    dsimp only at e1 e2
    rw [e1, e2]
    exact ⟨⟨agr_app (trip2_o 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 ⟨k, hk⟩) ha,
        cov_app (cov2_o 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 ⟨k, hk⟩) hb (fun m h1 h2 => by dsimp only; omega)⟩,
      ⟨agr_app (trip2_l 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 ⟨k, hk⟩) hc,
        cov_app (cov2_l 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 ⟨k, hk⟩) hd (fun m h1 h2 => by dsimp only; omega)⟩⟩

theorem cov3_o (x2 x5 x8 : Vec Ideal S1x16x128x256 .bf16) (k : Fin k0_t3_loop.trips) :
    Cov (trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay377 (harg4.unread x2) (harg7.unread x5) (harg10.unread x8) k).1 (512 * k.val) (512 * k.val + 512) := by
  have hk : k.val < 4 := k.isLt
  intro y h1 h2
  unfold trip_k0_t3
  rcases half_cases y with h0 | h0
  · rcases (by omega : (y 1).val < 512 * k.val + 128 * 1 ∨ (512 * k.val + 128 * 1 ≤ (y 1).val ∧ (y 1).val < 512 * k.val + 128 * 2) ∨ (512 * k.val + 128 * 2 ≤ (y 1).val ∧ (y 1).val < 512 * k.val + 128 * 3) ∨ 512 * k.val + 128 * 3 ≤ (y 1).val) with h | h | h | h
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), unit_mem 0 (512 * k.val + 128 * 0) _ (k0_off15_eq k 0) (k0_off15_inb k 0) y h0 (by omega) (by omega)⟩
    · exact ⟨_, (List.mem_cons_of_mem _ (List.mem_cons_of_mem _ (List.mem_cons_of_mem _ (List.mem_cons_of_mem _ (List.mem_cons_of_mem _ List.mem_cons_self))))), unit_mem 0 (512 * k.val + 128 * 1) _ (k0_off15_eq k 1) (k0_off15_inb k 1) y h0 (by omega) (by omega)⟩
    · exact ⟨_, (List.mem_cons_of_mem _ (List.mem_cons_of_mem _ (List.mem_cons_of_mem _ List.mem_cons_self))), unit_mem 0 (512 * k.val + 128 * 2) _ (k0_off15_eq k 2) (k0_off15_inb k 2) y h0 (by omega) (by omega)⟩
    · exact ⟨_, (List.mem_cons_of_mem _ List.mem_cons_self), unit_mem 0 (512 * k.val + 128 * 3) _ (k0_off15_eq k 3) (k0_off15_inb k 3) y h0 (by omega) (by omega)⟩
  · rcases (by omega : (y 1).val < 512 * k.val + 128 * 1 ∨ (512 * k.val + 128 * 1 ≤ (y 1).val ∧ (y 1).val < 512 * k.val + 128 * 2) ∨ (512 * k.val + 128 * 2 ≤ (y 1).val ∧ (y 1).val < 512 * k.val + 128 * 3) ∨ 512 * k.val + 128 * 3 ≤ (y 1).val) with h | h | h | h
    · exact ⟨_, (List.mem_cons_of_mem _ (List.mem_cons_of_mem _ (List.mem_cons_of_mem _ (List.mem_cons_of_mem _ (List.mem_cons_of_mem _ (List.mem_cons_of_mem _ List.mem_cons_self)))))), unit_mem 1 (512 * k.val + 128 * 0) _ (k0_off16_eq k 0) (k0_off16_inb k 0) y h0 (by omega) (by omega)⟩
    · exact ⟨_, (List.mem_cons_of_mem _ (List.mem_cons_of_mem _ (List.mem_cons_of_mem _ (List.mem_cons_of_mem _ List.mem_cons_self)))), unit_mem 1 (512 * k.val + 128 * 1) _ (k0_off16_eq k 1) (k0_off16_inb k 1) y h0 (by omega) (by omega)⟩
    · exact ⟨_, (List.mem_cons_of_mem _ (List.mem_cons_of_mem _ List.mem_cons_self)), unit_mem 1 (512 * k.val + 128 * 2) _ (k0_off16_eq k 2) (k0_off16_inb k 2) y h0 (by omega) (by omega)⟩
    · exact ⟨_, List.mem_cons_self, unit_mem 1 (512 * k.val + 128 * 3) _ (k0_off16_eq k 3) (k0_off16_inb k 3) y h0 (by omega) (by omega)⟩

theorem cov3_l (x2 x5 x8 : Vec Ideal S1x16x128x256 .bf16) (k : Fin k0_t3_loop.trips) :
    Cov (trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay377 (harg4.unread x2) (harg7.unread x5) (harg10.unread x8) k).2.1 (512 * k.val) (512 * k.val + 512) := by
  have hk : k.val < 4 := k.isLt
  intro y h1 h2
  unfold trip_k0_t3
  rcases half_cases y with h0 | h0
  · rcases (by omega : (y 1).val < 512 * k.val + 128 * 1 ∨ (512 * k.val + 128 * 1 ≤ (y 1).val ∧ (y 1).val < 512 * k.val + 128 * 2) ∨ (512 * k.val + 128 * 2 ≤ (y 1).val ∧ (y 1).val < 512 * k.val + 128 * 3) ∨ 512 * k.val + 128 * 3 ≤ (y 1).val) with h | h | h | h
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), unit_mem 0 (512 * k.val + 128 * 0) _ (k0_off15_eq k 0) (k0_off15_inb k 0) y h0 (by omega) (by omega)⟩
    · exact ⟨_, (List.mem_cons_of_mem _ (List.mem_cons_of_mem _ (List.mem_cons_of_mem _ (List.mem_cons_of_mem _ (List.mem_cons_of_mem _ List.mem_cons_self))))), unit_mem 0 (512 * k.val + 128 * 1) _ (k0_off15_eq k 1) (k0_off15_inb k 1) y h0 (by omega) (by omega)⟩
    · exact ⟨_, (List.mem_cons_of_mem _ (List.mem_cons_of_mem _ (List.mem_cons_of_mem _ List.mem_cons_self))), unit_mem 0 (512 * k.val + 128 * 2) _ (k0_off15_eq k 2) (k0_off15_inb k 2) y h0 (by omega) (by omega)⟩
    · exact ⟨_, (List.mem_cons_of_mem _ List.mem_cons_self), unit_mem 0 (512 * k.val + 128 * 3) _ (k0_off15_eq k 3) (k0_off15_inb k 3) y h0 (by omega) (by omega)⟩
  · rcases (by omega : (y 1).val < 512 * k.val + 128 * 1 ∨ (512 * k.val + 128 * 1 ≤ (y 1).val ∧ (y 1).val < 512 * k.val + 128 * 2) ∨ (512 * k.val + 128 * 2 ≤ (y 1).val ∧ (y 1).val < 512 * k.val + 128 * 3) ∨ 512 * k.val + 128 * 3 ≤ (y 1).val) with h | h | h | h
    · exact ⟨_, (List.mem_cons_of_mem _ (List.mem_cons_of_mem _ (List.mem_cons_of_mem _ (List.mem_cons_of_mem _ (List.mem_cons_of_mem _ (List.mem_cons_of_mem _ List.mem_cons_self)))))), unit_mem 1 (512 * k.val + 128 * 0) _ (k0_off16_eq k 0) (k0_off16_inb k 0) y h0 (by omega) (by omega)⟩
    · exact ⟨_, (List.mem_cons_of_mem _ (List.mem_cons_of_mem _ (List.mem_cons_of_mem _ (List.mem_cons_of_mem _ List.mem_cons_self)))), unit_mem 1 (512 * k.val + 128 * 1) _ (k0_off16_eq k 1) (k0_off16_inb k 1) y h0 (by omega) (by omega)⟩
    · exact ⟨_, (List.mem_cons_of_mem _ (List.mem_cons_of_mem _ List.mem_cons_self)), unit_mem 1 (512 * k.val + 128 * 2) _ (k0_off16_eq k 2) (k0_off16_inb k 2) y h0 (by omega) (by omega)⟩
    · exact ⟨_, List.mem_cons_self, unit_mem 1 (512 * k.val + 128 * 3) _ (k0_off16_eq k 3) (k0_off16_inb k 3) y h0 (by omega) (by omega)⟩

theorem pb3 (x2 x5 x8 : Vec Ideal S1x16x128x256 .bf16) : ∀ n ≤ 4,
    (Agr (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay377 (harg4.unread x2) (harg7.unread x5) (harg10.unread x8) n).1 (OF 128 (rowsOf (C := 16) rfl x2) (rowsOf (C := 16) rfl x5) (rowsOf (C := 16) rfl x8)) ∧ Cov (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay377 (harg4.unread x2) (harg7.unread x5) (harg10.unread x8) n).1 0 (0 + 512 * n))
    ∧ (Agr (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay377 (harg4.unread x2) (harg7.unread x5) (harg10.unread x8) n).2 (LF 128 (rowsOf (C := 16) rfl x2) (rowsOf (C := 16) rfl x5)) ∧ Cov (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay377 (harg4.unread x2) (harg7.unread x5) (harg10.unread x8) n).2 0 (0 + 512 * n)) := by
  intro n
  induction n with
  | zero =>
    intro _
    exact ⟨⟨fun p hp => absurd hp List.not_mem_nil, fun y h1 h2 => by omega⟩, ⟨fun p hp => absurd hp List.not_mem_nil, fun y h1 h2 => by omega⟩⟩
  | succ k ih =>
    intro hk
    obtain ⟨⟨ha, hb⟩, ⟨hc, hd⟩⟩ := ih (by omega)
    have e := pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay377 (harg4.unread x2) (harg7.unread x5) (harg10.unread x8) (⟨k, hk⟩ : Fin k0_t3_loop.trips)
    have e1 := congrArg Prod.fst e
    have e2 := congrArg Prod.snd e
    dsimp only at e1 e2
    rw [e1, e2]
    exact ⟨⟨agr_app (trip3_o 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 ⟨k, hk⟩) ha,
        cov_app (cov3_o 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 ⟨k, hk⟩) hb (fun m h1 h2 => by dsimp only; omega)⟩,
      ⟨agr_app (trip3_l 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 ⟨k, hk⟩) hc,
        cov_app (cov3_l 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 ⟨k, hk⟩) hd (fun m h1 h2 => by dsimp only; omega)⟩⟩

/-- The eight pieces stored before the first loop. -/
def stat_o (x0 x3 x6 : Vec Ideal S1x1x2048x256 .bf16) : PL := [⟨Rect.unit (s := S2x2048x128) ![1, 384, 0] S1x128x128.size inb_S2x2048x128_S1x128x128_1_384_0, k0_pay503 (run.sl.r_37 (F := Ideal) c arg2 harg2 arg5 harg5 arg8 harg8 x0 x3 x6) (run.sl.r_41 (F := Ideal) c arg2 harg2 arg5 harg5 arg8 harg8 x0 x3 x6) (run.sl.r_43 (F := Ideal) c arg2 harg2 arg5 harg5 arg8 harg8 x0 x3 x6) (run.sl.r_46 (F := Ideal) c arg2 harg2 arg5 harg5 x0 x3) (run.sl.r_47 (F := Ideal) c arg2 harg2 arg5 harg5 x0 x3) (run.sl.r_48 (F := Ideal) c arg8 harg8 x6)⟩, ⟨Rect.unit (s := S2x2048x128) ![0, 384, 0] S1x128x128.size inb_S2x2048x128_S1x128x128_0_384_0, k0_pay502 (run.sl.r_37 (F := Ideal) c arg2 harg2 arg5 harg5 arg8 harg8 x0 x3 x6) (run.sl.r_41 (F := Ideal) c arg2 harg2 arg5 harg5 arg8 harg8 x0 x3 x6) (run.sl.r_43 (F := Ideal) c arg2 harg2 arg5 harg5 arg8 harg8 x0 x3 x6) (run.sl.r_46 (F := Ideal) c arg2 harg2 arg5 harg5 x0 x3) (run.sl.r_47 (F := Ideal) c arg2 harg2 arg5 harg5 x0 x3) (run.sl.r_48 (F := Ideal) c arg8 harg8 x6)⟩, ⟨Rect.unit (s := S2x2048x128) ![1, 256, 0] S1x128x128.size inb_S2x2048x128_S1x128x128_1_256_0, k0_pay469 k0_pay376 (run.sl.r_21 (F := Ideal) c arg2 harg2 x0) (run.sl.r_22 (F := Ideal) c arg5 harg5 x3) (run.sl.r_23 (F := Ideal) c arg8 harg8 x6) (run.sl.r_26 (F := Ideal) c arg2 harg2 arg5 harg5 arg8 harg8 x0 x3 x6) (run.sl.r_28 (F := Ideal) c arg2 harg2 arg5 harg5 arg8 harg8 x0 x3 x6) (run.sl.r_31 (F := Ideal) c arg2 harg2 arg5 harg5 x0 x3) (run.sl.r_32 (F := Ideal) c arg2 harg2 arg5 harg5 arg8 harg8 x0 x3 x6)⟩, ⟨Rect.unit (s := S2x2048x128) ![0, 256, 0] S1x128x128.size inb_S2x2048x128_S1x128x128_0_256_0, k0_pay468 k0_pay376 (run.sl.r_21 (F := Ideal) c arg2 harg2 x0) (run.sl.r_22 (F := Ideal) c arg5 harg5 x3) (run.sl.r_23 (F := Ideal) c arg8 harg8 x6) (run.sl.r_26 (F := Ideal) c arg2 harg2 arg5 harg5 arg8 harg8 x0 x3 x6) (run.sl.r_28 (F := Ideal) c arg2 harg2 arg5 harg5 arg8 harg8 x0 x3 x6) (run.sl.r_31 (F := Ideal) c arg2 harg2 arg5 harg5 x0 x3) (run.sl.r_32 (F := Ideal) c arg2 harg2 arg5 harg5 arg8 harg8 x0 x3 x6)⟩, ⟨Rect.unit (s := S2x2048x128) ![1, 128, 0] S1x128x128.size inb_S2x2048x128_S1x128x128_1_128_0, k0_pay438 (run.sl.r_18 (F := Ideal) c arg2 harg2 arg5 harg5 arg8 harg8 x0 x3 x6)⟩, ⟨Rect.unit (s := S2x2048x128) ![0, 128, 0] S1x128x128.size inb_S2x2048x128_S1x128x128_0_128_0, k0_pay437 (run.sl.r_20 (F := Ideal) c arg2 harg2 arg5 harg5 arg8 harg8 x0 x3 x6)⟩, ⟨Rect.unit (s := S2x2048x128) ![1, 0, 0] S1x128x128.size inb_S2x2048x128_S1x128x128_1_0_0, run.sl.v112 (F := Ideal) c arg2 harg2 arg5 harg5 arg8 harg8 x0 x3 x6⟩, ⟨Rect.unit (s := S2x2048x128) ![0, 0, 0] S1x128x128.size inb_S2x2048x128_S1x128x128_0_0_0, run.sl.v108 (F := Ideal) c arg2 harg2 arg5 harg5 arg8 harg8 x0 x3 x6⟩]

theorem stat_o_agr (x0 x3 x6 : Vec Ideal S1x1x2048x256 .bf16) : Agr (stat_o c arg2 harg2 arg5 harg5 arg8 harg8 x0 x3 x6) (OF 2048 (rowsOf (C := 1) rfl x0) (rowsOf (C := 1) rfl x3) (rowsOf (C := 1) rfl x6)) := by
  unfold stat_o
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · exact hi_piece (o256 (F := Ideal) k0_pay376 _ _ _) _ 384 (by omega) (band_block_o (C := 1) (S := 2048) rfl 0 (by omega) harg2 harg5 harg8 x0 x3 x6 384 (by omega) (by omega) _ rfl inb_S1x1x2048x256_S1x1x128x256_0_0_384_0 _ rfl inb_S1x1x2048x256_S1x1x256x256_0_0_256_0 _ (by omega) (by omega)) _ rfl inb_S2x2048x128_S1x128x128_1_384_0
  · exact lo_piece (o256 (F := Ideal) k0_pay376 _ _ _) _ 384 (by omega) (band_block_o (C := 1) (S := 2048) rfl 0 (by omega) harg2 harg5 harg8 x0 x3 x6 384 (by omega) (by omega) _ rfl inb_S1x1x2048x256_S1x1x128x256_0_0_384_0 _ rfl inb_S1x1x2048x256_S1x1x256x256_0_0_256_0 _ (by omega) (by omega)) _ rfl inb_S2x2048x128_S1x128x128_0_384_0
  · exact hi_piece (o256 (F := Ideal) k0_pay376 _ _ _) _ 256 (by omega) (band_block_o (C := 1) (S := 2048) rfl 0 (by omega) harg2 harg5 harg8 x0 x3 x6 256 (by omega) (by omega) _ rfl inb_S1x1x2048x256_S1x1x128x256_0_0_256_0 _ rfl inb_S1x1x2048x256_S1x1x256x256_0_0_128_0 _ (by omega) (by omega)) _ rfl inb_S2x2048x128_S1x128x128_1_256_0
  · exact lo_piece (o256 (F := Ideal) k0_pay376 _ _ _) _ 256 (by omega) (band_block_o (C := 1) (S := 2048) rfl 0 (by omega) harg2 harg5 harg8 x0 x3 x6 256 (by omega) (by omega) _ rfl inb_S1x1x2048x256_S1x1x128x256_0_0_256_0 _ rfl inb_S1x1x2048x256_S1x1x256x256_0_0_128_0 _ (by omega) (by omega)) _ rfl inb_S2x2048x128_S1x128x128_0_256_0
  · exact hi_piece (o256 (F := Ideal) k0_pay376 _ _ _) _ 128 (by omega) (band_block_o (C := 1) (S := 2048) rfl 0 (by omega) harg2 harg5 harg8 x0 x3 x6 128 (by omega) (by omega) _ rfl inb_S1x1x2048x256_S1x1x128x256_0_0_128_0 _ rfl inb_S1x1x2048x256_S1x1x256x256_0_0_0_0 _ (by omega) (by omega)) _ rfl inb_S2x2048x128_S1x128x128_1_128_0
  · exact lo_piece (o256 (F := Ideal) k0_pay376 _ _ _) _ 128 (by omega) (band_block_o (C := 1) (S := 2048) rfl 0 (by omega) harg2 harg5 harg8 x0 x3 x6 128 (by omega) (by omega) _ rfl inb_S1x1x2048x256_S1x1x128x256_0_0_128_0 _ rfl inb_S1x1x2048x256_S1x1x256x256_0_0_0_0 _ (by omega) (by omega)) _ rfl inb_S2x2048x128_S1x128x128_0_128_0
  · exact hi_piece (o128 (F := Ideal) k0_pay377 _ _ _) _ 0 (by omega) (own_block_o (C := 1) (S := 2048) rfl 0 (by omega) harg2 harg5 harg8 x0 x3 x6 (by omega) _ rfl inb_S1x1x2048x256_S1x1x128x256_0_0_0_0 _ (by omega) (by omega)) _ rfl inb_S2x2048x128_S1x128x128_1_0_0
  · exact lo_piece (o128 (F := Ideal) k0_pay377 _ _ _) _ 0 (by omega) (own_block_o (C := 1) (S := 2048) rfl 0 (by omega) harg2 harg5 harg8 x0 x3 x6 (by omega) _ rfl inb_S1x1x2048x256_S1x1x128x256_0_0_0_0 _ (by omega) (by omega)) _ rfl inb_S2x2048x128_S1x128x128_0_0_0

theorem stat_o_cov (x0 x3 x6 : Vec Ideal S1x1x2048x256 .bf16) : Cov (stat_o c arg2 harg2 arg5 harg5 arg8 harg8 x0 x3 x6) 0 512 := by
  intro y h1 h2
  unfold stat_o
  rcases half_cases y with h0 | h0
  · rcases (by omega : (y 1).val < 128 ∨ (128 ≤ (y 1).val ∧ (y 1).val < 256) ∨ (256 ≤ (y 1).val ∧ (y 1).val < 384) ∨ 384 ≤ (y 1).val) with h | h | h | h
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), unit_mem 0 (0) _ rfl inb_S2x2048x128_S1x128x128_0_0_0 y h0 (by omega) (by omega)⟩
    · exact ⟨_, (List.mem_cons_of_mem _ (List.mem_cons_of_mem _ (List.mem_cons_of_mem _ (List.mem_cons_of_mem _ (List.mem_cons_of_mem _ List.mem_cons_self))))), unit_mem 0 (128) _ rfl inb_S2x2048x128_S1x128x128_0_128_0 y h0 (by omega) (by omega)⟩
    · exact ⟨_, (List.mem_cons_of_mem _ (List.mem_cons_of_mem _ (List.mem_cons_of_mem _ List.mem_cons_self))), unit_mem 0 (256) _ rfl inb_S2x2048x128_S1x128x128_0_256_0 y h0 (by omega) (by omega)⟩
    · exact ⟨_, (List.mem_cons_of_mem _ List.mem_cons_self), unit_mem 0 (384) _ rfl inb_S2x2048x128_S1x128x128_0_384_0 y h0 (by omega) (by omega)⟩
  · rcases (by omega : (y 1).val < 128 ∨ (128 ≤ (y 1).val ∧ (y 1).val < 256) ∨ (256 ≤ (y 1).val ∧ (y 1).val < 384) ∨ 384 ≤ (y 1).val) with h | h | h | h
    · exact ⟨_, (List.mem_cons_of_mem _ (List.mem_cons_of_mem _ (List.mem_cons_of_mem _ (List.mem_cons_of_mem _ (List.mem_cons_of_mem _ (List.mem_cons_of_mem _ List.mem_cons_self)))))), unit_mem 1 (0) _ rfl inb_S2x2048x128_S1x128x128_1_0_0 y h0 (by omega) (by omega)⟩
    · exact ⟨_, (List.mem_cons_of_mem _ (List.mem_cons_of_mem _ (List.mem_cons_of_mem _ (List.mem_cons_of_mem _ List.mem_cons_self)))), unit_mem 1 (128) _ rfl inb_S2x2048x128_S1x128x128_1_128_0 y h0 (by omega) (by omega)⟩
    · exact ⟨_, (List.mem_cons_of_mem _ (List.mem_cons_of_mem _ List.mem_cons_self)), unit_mem 1 (256) _ rfl inb_S2x2048x128_S1x128x128_1_256_0 y h0 (by omega) (by omega)⟩
    · exact ⟨_, List.mem_cons_self, unit_mem 1 (384) _ rfl inb_S2x2048x128_S1x128x128_1_384_0 y h0 (by omega) (by omega)⟩

/-- The eight pieces stored before the first loop. -/
def stat_l (x0 x3 x6 : Vec Ideal S1x1x2048x256 .bf16) : PL := [⟨Rect.unit (s := S2x2048x128) ![1, 384, 0] S1x128x128.size inb_S2x2048x128_S1x128x128_1_384_0, k0_pay505 (run.sl.r_38 (F := Ideal) c arg2 harg2 arg5 harg5 x0 x3) (run.sl.r_42 (F := Ideal) c arg2 harg2 arg5 harg5 x0 x3) (run.sl.r_44 (F := Ideal) c arg2 harg2 arg5 harg5 x0 x3) (run.sl.r_45 (F := Ideal) c arg2 harg2 arg5 harg5 x0 x3) (run.sl.r_46 (F := Ideal) c arg2 harg2 arg5 harg5 x0 x3)⟩, ⟨Rect.unit (s := S2x2048x128) ![0, 384, 0] S1x128x128.size inb_S2x2048x128_S1x128x128_0_384_0, k0_pay504 (run.sl.r_38 (F := Ideal) c arg2 harg2 arg5 harg5 x0 x3) (run.sl.r_42 (F := Ideal) c arg2 harg2 arg5 harg5 x0 x3) (run.sl.r_44 (F := Ideal) c arg2 harg2 arg5 harg5 x0 x3) (run.sl.r_45 (F := Ideal) c arg2 harg2 arg5 harg5 x0 x3) (run.sl.r_46 (F := Ideal) c arg2 harg2 arg5 harg5 x0 x3)⟩, ⟨Rect.unit (s := S2x2048x128) ![1, 256, 0] S1x128x128.size inb_S2x2048x128_S1x128x128_1_256_0, k0_pay472 (run.sl.r_33 (F := Ideal) c arg2 harg2 arg5 harg5 x0 x3)⟩, ⟨Rect.unit (s := S2x2048x128) ![0, 256, 0] S1x128x128.size inb_S2x2048x128_S1x128x128_0_256_0, k0_pay470 k0_pay376 (run.sl.r_21 (F := Ideal) c arg2 harg2 x0) (run.sl.r_22 (F := Ideal) c arg5 harg5 x3) (run.sl.r_27 (F := Ideal) c arg2 harg2 arg5 harg5 x0 x3) (run.sl.r_29 (F := Ideal) c arg2 harg2 arg5 harg5 x0 x3) (run.sl.r_30 (F := Ideal) c arg2 harg2 arg5 harg5 x0 x3) (run.sl.r_31 (F := Ideal) c arg2 harg2 arg5 harg5 x0 x3)⟩, ⟨Rect.unit (s := S2x2048x128) ![1, 128, 0] S1x128x128.size inb_S2x2048x128_S1x128x128_1_128_0, k0_pay440 (run.sl.r_19 (F := Ideal) c arg2 harg2 arg5 harg5 x0 x3)⟩, ⟨Rect.unit (s := S2x2048x128) ![0, 128, 0] S1x128x128.size inb_S2x2048x128_S1x128x128_0_128_0, k0_pay439 (run.sl.r_19 (F := Ideal) c arg2 harg2 arg5 harg5 x0 x3)⟩, ⟨Rect.unit (s := S2x2048x128) ![1, 0, 0] S1x128x128.size inb_S2x2048x128_S1x128x128_1_0_0, run.sl.v120 (F := Ideal) c arg2 harg2 arg5 harg5 x0 x3⟩, ⟨Rect.unit (s := S2x2048x128) ![0, 0, 0] S1x128x128.size inb_S2x2048x128_S1x128x128_0_0_0, run.sl.v116 (F := Ideal) c arg2 harg2 arg5 harg5 x0 x3⟩]

theorem stat_l_agr (x0 x3 x6 : Vec Ideal S1x1x2048x256 .bf16) : Agr (stat_l c arg2 harg2 arg5 harg5 x0 x3 x6) (LF 2048 (rowsOf (C := 1) rfl x0) (rowsOf (C := 1) rfl x3)) := by
  unfold stat_l
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · exact hi_piece (l256 (F := Ideal) k0_pay376 _ _) _ 384 (by omega) (band_block_l (C := 1) (S := 2048) rfl 0 (by omega) harg2 harg5 x0 x3 384 (by omega) (by omega) _ rfl inb_S1x1x2048x256_S1x1x128x256_0_0_384_0 _ rfl inb_S1x1x2048x256_S1x1x256x256_0_0_256_0 _ (by omega) (by omega)) _ rfl inb_S2x2048x128_S1x128x128_1_384_0
  · exact lo_piece (l256 (F := Ideal) k0_pay376 _ _) _ 384 (by omega) (band_block_l (C := 1) (S := 2048) rfl 0 (by omega) harg2 harg5 x0 x3 384 (by omega) (by omega) _ rfl inb_S1x1x2048x256_S1x1x128x256_0_0_384_0 _ rfl inb_S1x1x2048x256_S1x1x256x256_0_0_256_0 _ (by omega) (by omega)) _ rfl inb_S2x2048x128_S1x128x128_0_384_0
  · exact hi_piece (l256 (F := Ideal) k0_pay376 _ _) _ 256 (by omega) (band_block_l (C := 1) (S := 2048) rfl 0 (by omega) harg2 harg5 x0 x3 256 (by omega) (by omega) _ rfl inb_S1x1x2048x256_S1x1x128x256_0_0_256_0 _ rfl inb_S1x1x2048x256_S1x1x256x256_0_0_128_0 _ (by omega) (by omega)) _ rfl inb_S2x2048x128_S1x128x128_1_256_0
  · exact lo_piece (l256 (F := Ideal) k0_pay376 _ _) _ 256 (by omega) (band_block_l (C := 1) (S := 2048) rfl 0 (by omega) harg2 harg5 x0 x3 256 (by omega) (by omega) _ rfl inb_S1x1x2048x256_S1x1x128x256_0_0_256_0 _ rfl inb_S1x1x2048x256_S1x1x256x256_0_0_128_0 _ (by omega) (by omega)) _ rfl inb_S2x2048x128_S1x128x128_0_256_0
  · exact hi_piece (l256 (F := Ideal) k0_pay376 _ _) _ 128 (by omega) (band_block_l (C := 1) (S := 2048) rfl 0 (by omega) harg2 harg5 x0 x3 128 (by omega) (by omega) _ rfl inb_S1x1x2048x256_S1x1x128x256_0_0_128_0 _ rfl inb_S1x1x2048x256_S1x1x256x256_0_0_0_0 _ (by omega) (by omega)) _ rfl inb_S2x2048x128_S1x128x128_1_128_0
  · exact lo_piece (l256 (F := Ideal) k0_pay376 _ _) _ 128 (by omega) (band_block_l (C := 1) (S := 2048) rfl 0 (by omega) harg2 harg5 x0 x3 128 (by omega) (by omega) _ rfl inb_S1x1x2048x256_S1x1x128x256_0_0_128_0 _ rfl inb_S1x1x2048x256_S1x1x256x256_0_0_0_0 _ (by omega) (by omega)) _ rfl inb_S2x2048x128_S1x128x128_0_128_0
  · exact hi_piece (l128 (F := Ideal) k0_pay377 _ _) _ 0 (by omega) (own_block_l (C := 1) (S := 2048) rfl 0 (by omega) harg2 harg5 x0 x3 (by omega) _ rfl inb_S1x1x2048x256_S1x1x128x256_0_0_0_0 _ (by omega) (by omega)) _ rfl inb_S2x2048x128_S1x128x128_1_0_0
  · exact lo_piece (l128 (F := Ideal) k0_pay377 _ _) _ 0 (by omega) (own_block_l (C := 1) (S := 2048) rfl 0 (by omega) harg2 harg5 x0 x3 (by omega) _ rfl inb_S1x1x2048x256_S1x1x128x256_0_0_0_0 _ (by omega) (by omega)) _ rfl inb_S2x2048x128_S1x128x128_0_0_0

theorem stat_l_cov (x0 x3 x6 : Vec Ideal S1x1x2048x256 .bf16) : Cov (stat_l c arg2 harg2 arg5 harg5 x0 x3 x6) 0 512 := by
  intro y h1 h2
  unfold stat_l
  rcases half_cases y with h0 | h0
  · rcases (by omega : (y 1).val < 128 ∨ (128 ≤ (y 1).val ∧ (y 1).val < 256) ∨ (256 ≤ (y 1).val ∧ (y 1).val < 384) ∨ 384 ≤ (y 1).val) with h | h | h | h
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), unit_mem 0 (0) _ rfl inb_S2x2048x128_S1x128x128_0_0_0 y h0 (by omega) (by omega)⟩
    · exact ⟨_, (List.mem_cons_of_mem _ (List.mem_cons_of_mem _ (List.mem_cons_of_mem _ (List.mem_cons_of_mem _ (List.mem_cons_of_mem _ List.mem_cons_self))))), unit_mem 0 (128) _ rfl inb_S2x2048x128_S1x128x128_0_128_0 y h0 (by omega) (by omega)⟩
    · exact ⟨_, (List.mem_cons_of_mem _ (List.mem_cons_of_mem _ (List.mem_cons_of_mem _ List.mem_cons_self))), unit_mem 0 (256) _ rfl inb_S2x2048x128_S1x128x128_0_256_0 y h0 (by omega) (by omega)⟩
    · exact ⟨_, (List.mem_cons_of_mem _ List.mem_cons_self), unit_mem 0 (384) _ rfl inb_S2x2048x128_S1x128x128_0_384_0 y h0 (by omega) (by omega)⟩
  · rcases (by omega : (y 1).val < 128 ∨ (128 ≤ (y 1).val ∧ (y 1).val < 256) ∨ (256 ≤ (y 1).val ∧ (y 1).val < 384) ∨ 384 ≤ (y 1).val) with h | h | h | h
    · exact ⟨_, (List.mem_cons_of_mem _ (List.mem_cons_of_mem _ (List.mem_cons_of_mem _ (List.mem_cons_of_mem _ (List.mem_cons_of_mem _ (List.mem_cons_of_mem _ List.mem_cons_self)))))), unit_mem 1 (0) _ rfl inb_S2x2048x128_S1x128x128_1_0_0 y h0 (by omega) (by omega)⟩
    · exact ⟨_, (List.mem_cons_of_mem _ (List.mem_cons_of_mem _ (List.mem_cons_of_mem _ (List.mem_cons_of_mem _ List.mem_cons_self)))), unit_mem 1 (128) _ rfl inb_S2x2048x128_S1x128x128_1_128_0 y h0 (by omega) (by omega)⟩
    · exact ⟨_, (List.mem_cons_of_mem _ (List.mem_cons_of_mem _ List.mem_cons_self)), unit_mem 1 (256) _ rfl inb_S2x2048x128_S1x128x128_1_256_0 y h0 (by omega) (by omega)⟩
    · exact ⟨_, List.mem_cons_self, unit_mem 1 (384) _ rfl inb_S2x2048x128_S1x128x128_1_384_0 y h0 (by omega) (by omega)⟩

end Cert.KernelIdeal.Attn

end
-- ==== Proof.Attn.Step.lean ====
module

public import proofs.«01_k».proof.Proof.Attn.Contents

/-! One step of the attention kernel's joining of its three groups: the rows of one class of a group, met at a stride in the running
    maximum, the running sum and the running denominator. -/

@[expose] public section

set_option maxRecDepth 16384

noncomputable section

namespace Cert.KernelIdeal.Attn

open Cert.KernelIdeal.Gen Cert.Attn
open Idealize.ShloMosaic Idealize.ShloMosaic.TcCoe Idealize.ShloMosaic.Pointwise

/-- A value at each half, row and lane. -/
abbrev Val3 := S2x2048x128.Idx → EReal

/-- The running maximum after a group with log-sum-exps `L`, -/
def mUp (M L : Val3) : Val3 := fun y => max (M y) (L y)
/-- the running sum after it, its results `O`, -/
def nUp (M N L O : Val3) : Val3 := fun y => N y * Ideal.exp (M y - max (M y) (L y)) + O y * Ideal.exp (L y - max (M y) (L y))
/-- and the running denominator. -/
def dUp (M D L : Val3) : Val3 := fun y => D y * Ideal.exp (M y - max (M y) (L y)) + Ideal.exp (L y - max (M y) (L y))

/-- The place, in the group's order, of a position: its class first. -/
def cls (d S : Nat) (h : d * S = 2048) (hd : 0 < d) (y : S2x2048x128.Idx) : S2x2048x128.Idx :=
  ix3 (y 0) ⟨(y 1).val % d * S + (y 1).val / d, by
    have h1 : (y 1).val < d * S := h ▸ (y 1).isLt
    have h2 := Nat.mod_lt (y 1).val hd
    have h3 : (y 1).val / d < S := (Nat.div_lt_iff_lt_mul hd).mpr (by rw [Nat.mul_comm]; exact h1)
    calc (y 1).val % d * S + (y 1).val / d < (y 1).val % d * S + S := Nat.add_lt_add_left h3 _
      _ = ((y 1).val % d + 1) * S := (Nat.succ_mul _ _).symm
      _ ≤ d * S := Nat.mul_le_mul_right _ h2
      _ = 2048 := h⟩ (y 2)

/-- The buffer `v` written by `L` holds `f'` at the classes met in the first `k` steps, `f` elsewhere. -/
def Holds (d k : Nat) (f f' : Val3) (v : View sig .tc .vmem S2x2048x128 .f32) (L : PL) : Prop :=
  ∀ y, (v.read (Elt Ideal) (v.writes (Elt Ideal) v.junk L) y : EReal) = if 2 * ((y 1).val % d) + (y 0).val < k then f' y else f y

theorem holds_next {d d' : Nat} {f f' f'' : Val3} {v : View sig .tc .vmem S2x2048x128 .f32} {L : PL} (hd : 0 < d)
    (h : Holds d (2 * d) f f' v L) : Holds d' 0 f' f'' v L := by
  intro y
  have h0 : (y 0).val < 2 := (y 0).isLt
  have h1 := Nat.mod_lt (y 1).val hd
  rw [h y, if_pos (by omega), if_neg (by omega)]

/-! ## Classes of 512 -/

def pos4 (t r : Nat) (ht : t < 2) (hr : r < 4) (a : Fin 512) (b : Fin 128) : S2x2048x128.Idx :=
  ix3 ⟨t, ht⟩ ⟨r + 4 * a.val, by omega⟩ b

theorem get4 {v : View sig .tc .vmem S2x2048x128 .f32} {L : PL} {f f' : Val3} (k t r : Nat) (hk : k = 2 * r + t) (ht : t < 2) (hr : r < 4)
    (inb : ∀ a, S1x512x128.size a = 0 ∨ (![t, r, 0] : Fin 3 → Nat) a + (![1, 4, 1] : Fin 3 → Nat) a * (S1x512x128.size a - 1) < S2x2048x128.size a)
    (h : Holds 4 k f f' v L) (a : Fin 512) (b : Fin 128) :
    (v.readCov (Val := Elt Ideal) L { off := ![t, r, 0], size := S1x512x128.size, stride := ![1, 4, 1], inb := inb } (ix3 0 a b) : EReal) = f (pos4 t r ht hr a b) := by
  have e : LoadRect.idx (s := S2x2048x128) { off := ![t, r, 0], size := S1x512x128.size, stride := ![1, 4, 1], inb := inb } (ix3 0 a b) = pos4 t r ht hr a b := by
    funext i
    apply Fin.ext
    fin_cases i
    · show t + 1 * 0 = t; omega
    · show r + 4 * a.val = r + 4 * a.val; rfl
    · show 0 + 1 * b.val = b.val; omega
  unfold View.readCov
  rw [View.readAt_apply, e, h, if_neg]
  show ¬ 2 * ((r + 4 * a.val) % 4) + t < k
  omega

theorem put4 {v : View sig .tc .vmem S2x2048x128 .f32} {L : PL} {f f' : Val3} (k t r : Nat) (hk : k = 2 * r + t) (ht : t < 2) (hr : r < 4)
    (inb : ∀ a, S1x512x128.size a = 0 ∨ (![t, r, 0] : Fin 3 → Nat) a + (![1, 4, 1] : Fin 3 → Nat) a * (S1x512x128.size a - 1) < S2x2048x128.size a)
    (spos : ∀ a, 0 < (![1, 4, 1] : Fin 3 → Nat) a) (h : Holds 4 k f f' v L) (w : Vec Ideal S1x512x128 .f32)
    (hw : ∀ (a : Fin 512) (b : Fin 128), (w (ix3 0 a b) : EReal) = f' (pos4 t r ht hr a b)) :
    Holds 4 (k + 1) f f' v (⟨{ off := ![t, r, 0], size := S1x512x128.size, stride := ![1, 4, 1], inb := inb, stride_pos := spos }, w⟩ :: L) := by
  intro y
  have h0 : (y 0).val < 2 := (y 0).isLt
  have h1 : (y 1).val < 2048 := (y 1).isLt
  by_cases hy : (y 0).val = t ∧ (y 1).val % 4 = r
  · have e : y = pos4 t r ht hr ⟨(y 1).val / 4, by omega⟩ ⟨(y 2).val, (y 2).isLt⟩ := by
      funext i
      apply Fin.ext
      fin_cases i
      · exact hy.1
      · show (y 1).val = r + 4 * ((y 1).val / 4); omega
      · rfl
    rw [if_pos (by omega)]
    have e2 : Rect.emb (s := S2x2048x128) { off := ![t, r, 0], size := S1x512x128.size, stride := ![1, 4, 1], inb := inb, stride_pos := spos } (ix3 0 ⟨(y 1).val / 4, by omega⟩ ⟨(y 2).val, (y 2).isLt⟩ : S1x512x128.Idx) = y := by
      funext i
      apply Fin.ext
      fin_cases i
      · show t + 1 * 0 = (y 0).val; omega
      · show r + 4 * ((y 1).val / 4) = (y 1).val; omega
      · show 0 + 1 * (y 2).val = (y 2).val; omega
    have e3 := View.read_writes_cons_emb (Val := Elt Ideal) v v.junk { off := ![t, r, 0], size := S1x512x128.size, stride := ![1, 4, 1], inb := inb, stride_pos := spos } w L (ix3 0 ⟨(y 1).val / 4, by omega⟩ ⟨(y 2).val, (y 2).isLt⟩ : S1x512x128.Idx)
    rw [e2] at e3
    exact e3.trans ((hw _ _).trans (congrArg f' e.symm))
  · refine (View.read_writes_cons_miss (Val := Elt Ideal) v v.junk _ L y ?_).trans ((h y).trans ?_)
    · intro hm
      have hm := (LoadRect.mem_set _).mp hm
      obtain ⟨j0, hj0, e0⟩ := hm 0
      obtain ⟨j1, hj1, e1⟩ := hm 1
      have e0 : (y 0).val = t + 1 * j0 := e0
      have e1 : (y 1).val = r + 4 * j1 := e1
      have hj0 : j0 < 1 := hj0
      exact hy ⟨by omega, by omega⟩
    · by_cases hc : 2 * ((y 1).val % 4) + (y 0).val < k
      · rw [if_pos hc, if_pos (by omega)]
      · rw [if_neg hc, if_neg (by omega)]

def tm4 (l m : Vec Ideal S1x512x128 .f32) : FVec Ideal S1x512x128 .f32 :=
  shapeCast S1x512x128 (maximumf (shapeCast S512x128 m shapeCasts_S1x512x128_S512x128) (shapeCast S512x128 l shapeCasts_S1x512x128_S512x128)) shapeCasts_S512x128_S1x512x128
def ta4 (l m : Vec Ideal S1x512x128 .f32) : FVec Ideal S512x128 .f32 :=
  exp (subf (shapeCast S512x128 m shapeCasts_S1x512x128_S512x128) (maximumf (shapeCast S512x128 m shapeCasts_S1x512x128_S512x128) (shapeCast S512x128 l shapeCasts_S1x512x128_S512x128)))
def tb4 (l m : Vec Ideal S1x512x128 .f32) : FVec Ideal S512x128 .f32 :=
  exp (subf (shapeCast S512x128 l shapeCasts_S1x512x128_S512x128) (maximumf (shapeCast S512x128 m shapeCasts_S1x512x128_S512x128) (shapeCast S512x128 l shapeCasts_S1x512x128_S512x128)))
def tn4 (o l m n : Vec Ideal S1x512x128 .f32) : FVec Ideal S1x512x128 .f32 :=
  shapeCast S1x512x128 (addf (mulf (shapeCast S512x128 n shapeCasts_S1x512x128_S512x128) (ta4 l m)) (mulf (shapeCast S512x128 o shapeCasts_S1x512x128_S512x128) (tb4 l m))) shapeCasts_S512x128_S1x512x128
def td4 (l m n : Vec Ideal S1x512x128 .f32) : FVec Ideal S1x512x128 .f32 :=
  shapeCast S1x512x128 (addf (mulf (shapeCast S512x128 n shapeCasts_S1x512x128_S512x128) (ta4 l m)) (tb4 l m)) shapeCasts_S512x128_S1x512x128

theorem tm4_apply (l m : Vec Ideal S1x512x128 .f32) (a : Fin 512) (b : Fin 128) :
    (tm4 l m (ix3 0 a b) : EReal) = max (m (ix3 0 a b) : EReal) (l (ix3 0 a b)) := by
  pointwise [tm4]
theorem tn4_apply (o l m n : Vec Ideal S1x512x128 .f32) (a : Fin 512) (b : Fin 128) :
    (tn4 o l m n (ix3 0 a b) : EReal) = (n (ix3 0 a b) : EReal) * Ideal.exp ((m (ix3 0 a b) : EReal) - max (m (ix3 0 a b) : EReal) (l (ix3 0 a b)))
      + (o (ix3 0 a b) : EReal) * Ideal.exp ((l (ix3 0 a b) : EReal) - max (m (ix3 0 a b) : EReal) (l (ix3 0 a b))) := by
  pointwise [tn4, ta4, tb4]
theorem td4_apply (l m n : Vec Ideal S1x512x128 .f32) (a : Fin 512) (b : Fin 128) :
    (td4 l m n (ix3 0 a b) : EReal) = (n (ix3 0 a b) : EReal) * Ideal.exp ((m (ix3 0 a b) : EReal) - max (m (ix3 0 a b) : EReal) (l (ix3 0 a b)))
      + Ideal.exp ((l (ix3 0 a b) : EReal) - max (m (ix3 0 a b) : EReal) (l (ix3 0 a b))) := by
  pointwise [td4, ta4, tb4]

/-- A class's load, at a position. -/
theorem cls4 (t r : Nat) (ht : t < 2) (hr : r < 4) (R : Nat) (hR : R = r * 512) (inb : ∀ a, (![t, R, 0] : Fin 3 → Nat) a + S1x512x128.size a ≤ S2x2048x128.size a) (a : Fin 512) (b : Fin 128) :
    (Rect.unit (s := S2x2048x128) ![t, R, 0] S1x512x128.size inb).toLoadRect.idx (ix3 0 a b) = cls 4 512 rfl (by omega) (pos4 t r ht hr a b) := by
  funext i
  apply Fin.ext
  fin_cases i
  · show t + 1 * 0 = t; omega
  · show R + 1 * a.val = (r + 4 * a.val) % 4 * 512 + (r + 4 * a.val) / 4
    rw [show (r + 4 * a.val) % 4 = r by omega, show (r + 4 * a.val) / 4 = a.val by omega, hR]; omega
  · show 0 + 1 * b.val = b.val; omega

/-- One step, all three buffers. -/
theorem step4 {v14 v15 v16 : View sig .tc .vmem S2x2048x128 .f32} {Lm Ln Ld : PL} {M N D Lc Oc : Val3} (k t r : Nat) (hk : k = 2 * r + t) (ht : t < 2) (hr : r < 4)
    (inb : ∀ a, S1x512x128.size a = 0 ∨ (![t, r, 0] : Fin 3 → Nat) a + (![1, 4, 1] : Fin 3 → Nat) a * (S1x512x128.size a - 1) < S2x2048x128.size a)
    (spos : ∀ a, 0 < (![1, 4, 1] : Fin 3 → Nat) a) (R : Nat) (hR : R = r * 512) (inb' : ∀ a, (![t, R, 0] : Fin 3 → Nat) a + S1x512x128.size a ≤ S2x2048x128.size a)
    (hm : Holds 4 k M (mUp M (fun y => Lc (cls 4 512 rfl (by omega) y))) v14 Lm)
    (hn : Holds 4 k N (nUp M N (fun y => Lc (cls 4 512 rfl (by omega) y)) (fun y => Oc (cls 4 512 rfl (by omega) y))) v15 Ln)
    (hd : Holds 4 k D (dUp M D (fun y => Lc (cls 4 512 rfl (by omega) y))) v16 Ld)
    (o l : Vec Ideal S1x512x128 .f32)
    (ho : ∀ x : S1x512x128.Idx, (o x : EReal) = Oc ((Rect.unit (s := S2x2048x128) ![t, R, 0] S1x512x128.size inb').toLoadRect.idx x))
    (hl : ∀ x : S1x512x128.Idx, (l x : EReal) = Lc ((Rect.unit (s := S2x2048x128) ![t, R, 0] S1x512x128.size inb').toLoadRect.idx x)) :
    Holds 4 (k + 1) M (mUp M (fun y => Lc (cls 4 512 rfl (by omega) y))) v14
        (⟨{ off := ![t, r, 0], size := S1x512x128.size, stride := ![1, 4, 1], inb := inb, stride_pos := spos }, tm4 l (v14.readCov (Val := Elt Ideal) Lm { off := ![t, r, 0], size := S1x512x128.size, stride := ![1, 4, 1], inb := inb })⟩ :: Lm)
    ∧ Holds 4 (k + 1) N (nUp M N (fun y => Lc (cls 4 512 rfl (by omega) y)) (fun y => Oc (cls 4 512 rfl (by omega) y))) v15
        (⟨{ off := ![t, r, 0], size := S1x512x128.size, stride := ![1, 4, 1], inb := inb, stride_pos := spos }, tn4 o l (v14.readCov (Val := Elt Ideal) Lm { off := ![t, r, 0], size := S1x512x128.size, stride := ![1, 4, 1], inb := inb }) (v15.readCov (Val := Elt Ideal) Ln { off := ![t, r, 0], size := S1x512x128.size, stride := ![1, 4, 1], inb := inb })⟩ :: Ln)
    ∧ Holds 4 (k + 1) D (dUp M D (fun y => Lc (cls 4 512 rfl (by omega) y))) v16
        (⟨{ off := ![t, r, 0], size := S1x512x128.size, stride := ![1, 4, 1], inb := inb, stride_pos := spos }, td4 l (v14.readCov (Val := Elt Ideal) Lm { off := ![t, r, 0], size := S1x512x128.size, stride := ![1, 4, 1], inb := inb }) (v16.readCov (Val := Elt Ideal) Ld { off := ![t, r, 0], size := S1x512x128.size, stride := ![1, 4, 1], inb := inb })⟩ :: Ld) := by
  have gl : ∀ a b, (l (ix3 0 a b) : EReal) = Lc (cls 4 512 rfl (by omega) (pos4 t r ht hr a b)) := fun a b => (hl _).trans (congrArg Lc (cls4 t r ht hr R hR inb' a b))
  have go : ∀ a b, (o (ix3 0 a b) : EReal) = Oc (cls 4 512 rfl (by omega) (pos4 t r ht hr a b)) := fun a b => (ho _).trans (congrArg Oc (cls4 t r ht hr R hR inb' a b))
  refine ⟨put4 k t r hk ht hr inb spos hm _ fun a b => ?_, put4 k t r hk ht hr inb spos hn _ fun a b => ?_, put4 k t r hk ht hr inb spos hd _ fun a b => ?_⟩
  · refine (tm4_apply _ _ a b).trans ?_
    rw [get4 k t r hk ht hr inb hm, gl]; rfl
  · refine (tn4_apply _ _ _ _ a b).trans ?_
    rw [get4 k t r hk ht hr inb hm, get4 k t r hk ht hr inb hn, gl, go]; rfl
  · refine (td4_apply _ _ _ a b).trans ?_
    rw [get4 k t r hk ht hr inb hm, get4 k t r hk ht hr inb hd, gl]; rfl

/-! ## Classes of 128 -/

def pos16 (t r : Nat) (ht : t < 2) (hr : r < 16) (a : Fin 128) (b : Fin 128) : S2x2048x128.Idx :=
  ix3 ⟨t, ht⟩ ⟨r + 16 * a.val, by omega⟩ b

theorem get16 {v : View sig .tc .vmem S2x2048x128 .f32} {L : PL} {f f' : Val3} (k t r : Nat) (hk : k = 2 * r + t) (ht : t < 2) (hr : r < 16)
    (inb : ∀ a, S1x128x128.size a = 0 ∨ (![t, r, 0] : Fin 3 → Nat) a + (![1, 16, 1] : Fin 3 → Nat) a * (S1x128x128.size a - 1) < S2x2048x128.size a)
    (h : Holds 16 k f f' v L) (a : Fin 128) (b : Fin 128) :
    (v.readCov (Val := Elt Ideal) L { off := ![t, r, 0], size := S1x128x128.size, stride := ![1, 16, 1], inb := inb } (ix3 0 a b) : EReal) = f (pos16 t r ht hr a b) := by
  have e : LoadRect.idx (s := S2x2048x128) { off := ![t, r, 0], size := S1x128x128.size, stride := ![1, 16, 1], inb := inb } (ix3 0 a b) = pos16 t r ht hr a b := by
    funext i
    apply Fin.ext
    fin_cases i
    · show t + 1 * 0 = t; omega
    · show r + 16 * a.val = r + 16 * a.val; rfl
    · show 0 + 1 * b.val = b.val; omega
  unfold View.readCov
  rw [View.readAt_apply, e, h, if_neg]
  show ¬ 2 * ((r + 16 * a.val) % 16) + t < k
  omega

theorem put16 {v : View sig .tc .vmem S2x2048x128 .f32} {L : PL} {f f' : Val3} (k t r : Nat) (hk : k = 2 * r + t) (ht : t < 2) (hr : r < 16)
    (inb : ∀ a, S1x128x128.size a = 0 ∨ (![t, r, 0] : Fin 3 → Nat) a + (![1, 16, 1] : Fin 3 → Nat) a * (S1x128x128.size a - 1) < S2x2048x128.size a)
    (spos : ∀ a, 0 < (![1, 16, 1] : Fin 3 → Nat) a) (h : Holds 16 k f f' v L) (w : Vec Ideal S1x128x128 .f32)
    (hw : ∀ (a : Fin 128) (b : Fin 128), (w (ix3 0 a b) : EReal) = f' (pos16 t r ht hr a b)) :
    Holds 16 (k + 1) f f' v (⟨{ off := ![t, r, 0], size := S1x128x128.size, stride := ![1, 16, 1], inb := inb, stride_pos := spos }, w⟩ :: L) := by
  intro y
  have h0 : (y 0).val < 2 := (y 0).isLt
  have h1 : (y 1).val < 2048 := (y 1).isLt
  by_cases hy : (y 0).val = t ∧ (y 1).val % 16 = r
  · have e : y = pos16 t r ht hr ⟨(y 1).val / 16, by omega⟩ ⟨(y 2).val, (y 2).isLt⟩ := by
      funext i
      apply Fin.ext
      fin_cases i
      · exact hy.1
      · show (y 1).val = r + 16 * ((y 1).val / 16); omega
      · rfl
    rw [if_pos (by omega)]
    have e2 : Rect.emb (s := S2x2048x128) { off := ![t, r, 0], size := S1x128x128.size, stride := ![1, 16, 1], inb := inb, stride_pos := spos } (ix3 0 ⟨(y 1).val / 16, by omega⟩ ⟨(y 2).val, (y 2).isLt⟩ : S1x128x128.Idx) = y := by
      funext i
      apply Fin.ext
      fin_cases i
      · show t + 1 * 0 = (y 0).val; omega
      · show r + 16 * ((y 1).val / 16) = (y 1).val; omega
      · show 0 + 1 * (y 2).val = (y 2).val; omega
    have e3 := View.read_writes_cons_emb (Val := Elt Ideal) v v.junk { off := ![t, r, 0], size := S1x128x128.size, stride := ![1, 16, 1], inb := inb, stride_pos := spos } w L (ix3 0 ⟨(y 1).val / 16, by omega⟩ ⟨(y 2).val, (y 2).isLt⟩ : S1x128x128.Idx)
    rw [e2] at e3
    exact e3.trans ((hw _ _).trans (congrArg f' e.symm))
  · refine (View.read_writes_cons_miss (Val := Elt Ideal) v v.junk _ L y ?_).trans ((h y).trans ?_)
    · intro hm
      have hm := (LoadRect.mem_set _).mp hm
      obtain ⟨j0, hj0, e0⟩ := hm 0
      obtain ⟨j1, hj1, e1⟩ := hm 1
      have e0 : (y 0).val = t + 1 * j0 := e0
      have e1 : (y 1).val = r + 16 * j1 := e1
      have hj0 : j0 < 1 := hj0
      exact hy ⟨by omega, by omega⟩
    · by_cases hc : 2 * ((y 1).val % 16) + (y 0).val < k
      · rw [if_pos hc, if_pos (by omega)]
      · rw [if_neg hc, if_neg (by omega)]

def tm16 (l m : Vec Ideal S1x128x128 .f32) : FVec Ideal S1x128x128 .f32 :=
  shapeCast S1x128x128 (maximumf (shapeCast S128x128 m shapeCasts_S1x128x128_S128x128) (shapeCast S128x128 l shapeCasts_S1x128x128_S128x128)) shapeCasts_S128x128_S1x128x128
def ta16 (l m : Vec Ideal S1x128x128 .f32) : FVec Ideal S128x128 .f32 :=
  exp (subf (shapeCast S128x128 m shapeCasts_S1x128x128_S128x128) (maximumf (shapeCast S128x128 m shapeCasts_S1x128x128_S128x128) (shapeCast S128x128 l shapeCasts_S1x128x128_S128x128)))
def tb16 (l m : Vec Ideal S1x128x128 .f32) : FVec Ideal S128x128 .f32 :=
  exp (subf (shapeCast S128x128 l shapeCasts_S1x128x128_S128x128) (maximumf (shapeCast S128x128 m shapeCasts_S1x128x128_S128x128) (shapeCast S128x128 l shapeCasts_S1x128x128_S128x128)))
def tn16 (o l m n : Vec Ideal S1x128x128 .f32) : FVec Ideal S1x128x128 .f32 :=
  shapeCast S1x128x128 (addf (mulf (shapeCast S128x128 n shapeCasts_S1x128x128_S128x128) (ta16 l m)) (mulf (shapeCast S128x128 o shapeCasts_S1x128x128_S128x128) (tb16 l m))) shapeCasts_S128x128_S1x128x128
def td16 (l m n : Vec Ideal S1x128x128 .f32) : FVec Ideal S1x128x128 .f32 :=
  shapeCast S1x128x128 (addf (mulf (shapeCast S128x128 n shapeCasts_S1x128x128_S128x128) (ta16 l m)) (tb16 l m)) shapeCasts_S128x128_S1x128x128

theorem tm16_apply (l m : Vec Ideal S1x128x128 .f32) (a : Fin 128) (b : Fin 128) :
    (tm16 l m (ix3 0 a b) : EReal) = max (m (ix3 0 a b) : EReal) (l (ix3 0 a b)) := by
  pointwise [tm16]
theorem tn16_apply (o l m n : Vec Ideal S1x128x128 .f32) (a : Fin 128) (b : Fin 128) :
    (tn16 o l m n (ix3 0 a b) : EReal) = (n (ix3 0 a b) : EReal) * Ideal.exp ((m (ix3 0 a b) : EReal) - max (m (ix3 0 a b) : EReal) (l (ix3 0 a b)))
      + (o (ix3 0 a b) : EReal) * Ideal.exp ((l (ix3 0 a b) : EReal) - max (m (ix3 0 a b) : EReal) (l (ix3 0 a b))) := by
  pointwise [tn16, ta16, tb16]
theorem td16_apply (l m n : Vec Ideal S1x128x128 .f32) (a : Fin 128) (b : Fin 128) :
    (td16 l m n (ix3 0 a b) : EReal) = (n (ix3 0 a b) : EReal) * Ideal.exp ((m (ix3 0 a b) : EReal) - max (m (ix3 0 a b) : EReal) (l (ix3 0 a b)))
      + Ideal.exp ((l (ix3 0 a b) : EReal) - max (m (ix3 0 a b) : EReal) (l (ix3 0 a b))) := by
  pointwise [td16, ta16, tb16]

/-- A class's load, at a position. -/
theorem cls16 (t r : Nat) (ht : t < 2) (hr : r < 16) (R : Nat) (hR : R = r * 128) (inb : ∀ a, (![t, R, 0] : Fin 3 → Nat) a + S1x128x128.size a ≤ S2x2048x128.size a) (a : Fin 128) (b : Fin 128) :
    (Rect.unit (s := S2x2048x128) ![t, R, 0] S1x128x128.size inb).toLoadRect.idx (ix3 0 a b) = cls 16 128 rfl (by omega) (pos16 t r ht hr a b) := by
  funext i
  apply Fin.ext
  fin_cases i
  · show t + 1 * 0 = t; omega
  · show R + 1 * a.val = (r + 16 * a.val) % 16 * 128 + (r + 16 * a.val) / 16
    rw [show (r + 16 * a.val) % 16 = r by omega, show (r + 16 * a.val) / 16 = a.val by omega, hR]; omega
  · show 0 + 1 * b.val = b.val; omega

/-- One step, all three buffers. -/
theorem step16 {v14 v15 v16 : View sig .tc .vmem S2x2048x128 .f32} {Lm Ln Ld : PL} {M N D Lc Oc : Val3} (k t r : Nat) (hk : k = 2 * r + t) (ht : t < 2) (hr : r < 16)
    (inb : ∀ a, S1x128x128.size a = 0 ∨ (![t, r, 0] : Fin 3 → Nat) a + (![1, 16, 1] : Fin 3 → Nat) a * (S1x128x128.size a - 1) < S2x2048x128.size a)
    (spos : ∀ a, 0 < (![1, 16, 1] : Fin 3 → Nat) a) (R : Nat) (hR : R = r * 128) (inb' : ∀ a, (![t, R, 0] : Fin 3 → Nat) a + S1x128x128.size a ≤ S2x2048x128.size a)
    (hm : Holds 16 k M (mUp M (fun y => Lc (cls 16 128 rfl (by omega) y))) v14 Lm)
    (hn : Holds 16 k N (nUp M N (fun y => Lc (cls 16 128 rfl (by omega) y)) (fun y => Oc (cls 16 128 rfl (by omega) y))) v15 Ln)
    (hd : Holds 16 k D (dUp M D (fun y => Lc (cls 16 128 rfl (by omega) y))) v16 Ld)
    (o l : Vec Ideal S1x128x128 .f32)
    (ho : ∀ x : S1x128x128.Idx, (o x : EReal) = Oc ((Rect.unit (s := S2x2048x128) ![t, R, 0] S1x128x128.size inb').toLoadRect.idx x))
    (hl : ∀ x : S1x128x128.Idx, (l x : EReal) = Lc ((Rect.unit (s := S2x2048x128) ![t, R, 0] S1x128x128.size inb').toLoadRect.idx x)) :
    Holds 16 (k + 1) M (mUp M (fun y => Lc (cls 16 128 rfl (by omega) y))) v14
        (⟨{ off := ![t, r, 0], size := S1x128x128.size, stride := ![1, 16, 1], inb := inb, stride_pos := spos }, tm16 l (v14.readCov (Val := Elt Ideal) Lm { off := ![t, r, 0], size := S1x128x128.size, stride := ![1, 16, 1], inb := inb })⟩ :: Lm)
    ∧ Holds 16 (k + 1) N (nUp M N (fun y => Lc (cls 16 128 rfl (by omega) y)) (fun y => Oc (cls 16 128 rfl (by omega) y))) v15
        (⟨{ off := ![t, r, 0], size := S1x128x128.size, stride := ![1, 16, 1], inb := inb, stride_pos := spos }, tn16 o l (v14.readCov (Val := Elt Ideal) Lm { off := ![t, r, 0], size := S1x128x128.size, stride := ![1, 16, 1], inb := inb }) (v15.readCov (Val := Elt Ideal) Ln { off := ![t, r, 0], size := S1x128x128.size, stride := ![1, 16, 1], inb := inb })⟩ :: Ln)
    ∧ Holds 16 (k + 1) D (dUp M D (fun y => Lc (cls 16 128 rfl (by omega) y))) v16
        (⟨{ off := ![t, r, 0], size := S1x128x128.size, stride := ![1, 16, 1], inb := inb, stride_pos := spos }, td16 l (v14.readCov (Val := Elt Ideal) Lm { off := ![t, r, 0], size := S1x128x128.size, stride := ![1, 16, 1], inb := inb }) (v16.readCov (Val := Elt Ideal) Ld { off := ![t, r, 0], size := S1x128x128.size, stride := ![1, 16, 1], inb := inb })⟩ :: Ld) := by
  have gl : ∀ a b, (l (ix3 0 a b) : EReal) = Lc (cls 16 128 rfl (by omega) (pos16 t r ht hr a b)) := fun a b => (hl _).trans (congrArg Lc (cls16 t r ht hr R hR inb' a b))
  have go : ∀ a b, (o (ix3 0 a b) : EReal) = Oc (cls 16 128 rfl (by omega) (pos16 t r ht hr a b)) := fun a b => (ho _).trans (congrArg Oc (cls16 t r ht hr R hR inb' a b))
  refine ⟨put16 k t r hk ht hr inb spos hm _ fun a b => ?_, put16 k t r hk ht hr inb spos hn _ fun a b => ?_, put16 k t r hk ht hr inb spos hd _ fun a b => ?_⟩
  · refine (tm16_apply _ _ a b).trans ?_
    rw [get16 k t r hk ht hr inb hm, gl]; rfl
  · refine (tn16_apply _ _ _ _ a b).trans ?_
    rw [get16 k t r hk ht hr inb hm, get16 k t r hk ht hr inb hn, gl, go]; rfl
  · refine (td16_apply _ _ _ a b).trans ?_
    rw [get16 k t r hk ht hr inb hm, get16 k t r hk ht hr inb hd, gl]; rfl

end Cert.KernelIdeal.Attn

end
-- ==== Proof.Attn.Merge.lean ====
module

public import proofs.«01_k».proof.Proof.Attn.Step

/-! The attention kernel's joining of its three groups, step by step: what the running maximum, sum and denominator hold after each. -/

@[expose] public section

set_option maxRecDepth 16384

noncomputable section

namespace Cert.KernelIdeal.Attn

open Cert.KernelIdeal.Gen Cert.Attn
open Idealize.ShloMosaic Idealize.ShloMosaic.TcCoe Idealize.ShloMosaic.Pointwise

section Values
variable (x0 x3 x6 : Vec Ideal S1x1x2048x256 .bf16) (x1 x4 x7 : Vec Ideal S1x4x512x256 .bf16) (x2 x5 x8 : Vec Ideal S1x16x128x256 .bf16)

/-- The three groups' log-sum-exps and results, at each position. -/
abbrev Lc0 : Val3 := LF 2048 (rowsOf (C := 1) rfl x0) (rowsOf (C := 1) rfl x3)
abbrev Oc0 : Val3 := OF 2048 (rowsOf (C := 1) rfl x0) (rowsOf (C := 1) rfl x3) (rowsOf (C := 1) rfl x6)
abbrev Lc1 : Val3 := LF 512 (rowsOf (C := 4) rfl x1) (rowsOf (C := 4) rfl x4)
abbrev Oc1 : Val3 := OF 512 (rowsOf (C := 4) rfl x1) (rowsOf (C := 4) rfl x4) (rowsOf (C := 4) rfl x7)
abbrev Lc2 : Val3 := LF 128 (rowsOf (C := 16) rfl x2) (rowsOf (C := 16) rfl x5)
abbrev Oc2 : Val3 := OF 128 (rowsOf (C := 16) rfl x2) (rowsOf (C := 16) rfl x5) (rowsOf (C := 16) rfl x8)
abbrev Ln1 : Val3 := fun y => Lc1 x1 x4 (cls 4 512 rfl (by omega) y)
abbrev On1 : Val3 := fun y => Oc1 x1 x4 x7 (cls 4 512 rfl (by omega) y)
abbrev Ln2 : Val3 := fun y => Lc2 x2 x5 (cls 16 128 rfl (by omega) y)
abbrev On2 : Val3 := fun y => Oc2 x2 x5 x8 (cls 16 128 rfl (by omega) y)
/-- The running values after two groups, -/
def M1 : Val3 := mUp (Lc0 x0 x3) (Ln1 x1 x4)
def N1 : Val3 := nUp (Lc0 x0 x3) (Oc0 x0 x3 x6) (Ln1 x1 x4) (On1 x1 x4 x7)
def D1 : Val3 := dUp (Lc0 x0 x3) (fun _ => 1) (Ln1 x1 x4)
/-- and after three. -/
def M2 : Val3 := mUp (M1 x0 x3 x1 x4) (Ln2 x2 x5)
def N2 : Val3 := nUp (M1 x0 x3 x1 x4) (N1 x0 x3 x6 x1 x4 x7) (Ln2 x2 x5) (On2 x2 x5 x8)
def D2 : Val3 := dUp (M1 x0 x3 x1 x4) (D1 x0 x3 x1 x4) (Ln2 x2 x5)
end Values

variable (c : Dev nD) (i : grid0.Coords) (arg2 : Memref sig .tc .vmem S1x1x2048x256 .bf16) (harg2 : arg2.IsWhole) (arg3 : Memref sig .tc .vmem S1x4x512x256 .bf16) (harg3 : arg3.IsWhole) (arg4 : Memref sig .tc .vmem S1x16x128x256 .bf16) (harg4 : arg4.IsWhole) (arg5 : Memref sig .tc .vmem S1x1x2048x256 .bf16) (harg5 : arg5.IsWhole) (arg6 : Memref sig .tc .vmem S1x4x512x256 .bf16) (harg6 : arg6.IsWhole) (arg7 : Memref sig .tc .vmem S1x16x128x256 .bf16) (harg7 : arg7.IsWhole) (arg8 : Memref sig .tc .vmem S1x1x2048x256 .bf16) (harg8 : arg8.IsWhole) (arg9 : Memref sig .tc .vmem S1x4x512x256 .bf16) (harg9 : arg9.IsWhole) (arg10 : Memref sig .tc .vmem S1x16x128x256 .bf16) (harg10 : arg10.IsWhole) (arg11 : Memref sig .tc .vmem S1x2048x256 .bf16) (harg11 : arg11.IsWhole) (arg12 : Memref sig .tc .vmem S2x2048x128 .f32) (harg12 : arg12.IsWhole) (arg13 : Memref sig .tc .vmem S2x2048x128 .f32) (harg13 : arg13.IsWhole) (arg14 : Memref sig .tc .vmem S2x2048x128 .f32) (harg14 : arg14.IsWhole) (arg15 : Memref sig .tc .vmem S2x2048x128 .f32) (harg15 : arg15.IsWhole) (arg16 : Memref sig .tc .vmem S2x2048x128 .f32) (harg16 : arg16.IsWhole)

variable (x0 x3 x6 : Vec Ideal S1x1x2048x256 .bf16) (x1 x4 x7 : Vec Ideal S1x4x512x256 .bf16) (x2 x5 x8 : Vec Ideal S1x16x128x256 .bf16)

theorem ld0_o (f : BufTy.Contents (Elt Ideal) arg12.view.ty) (r : LoadRect S2x2048x128) (x) :
    (View.readAt (Elt Ideal) arg12.view r (arg12.view.writes (Elt Ideal) f ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 (run.sl.r_37 (F := Ideal) c arg2 harg2 arg5 harg5 arg8 harg8 x0 x3 x6) (run.sl.r_38 (F := Ideal) c arg2 harg2 arg5 harg5 x0 x3) (run.sl.r_41 (F := Ideal) c arg2 harg2 arg5 harg5 arg8 harg8 x0 x3 x6) (run.sl.r_42 (F := Ideal) c arg2 harg2 arg5 harg5 x0 x3) (run.sl.r_43 (F := Ideal) c arg2 harg2 arg5 harg5 arg8 harg8 x0 x3 x6) (run.sl.r_44 (F := Ideal) c arg2 harg2 arg5 harg5 x0 x3) (run.sl.r_45 (F := Ideal) c arg2 harg2 arg5 harg5 x0 x3) (run.sl.r_46 (F := Ideal) c arg2 harg2 arg5 harg5 x0 x3) (run.sl.r_47 (F := Ideal) c arg2 harg2 arg5 harg5 x0 x3) (run.sl.r_48 (F := Ideal) c arg8 harg8 x6) (harg2.unread x0) (harg5.unread x3) (harg8.unread x6) (Scf.trips k0_t1_loop.lb k0_t1_loop.ub k0_t1_loop.st)).1 ++ stat_o c arg2 harg2 arg5 harg5 arg8 harg8 x0 x3 x6)) x : EReal) = (Oc0 x0 x3 x6) (r.idx x) := by
  have h := (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 (run.sl.r_37 (F := Ideal) c arg2 harg2 arg5 harg5 arg8 harg8 x0 x3 x6) (run.sl.r_38 (F := Ideal) c arg2 harg2 arg5 harg5 x0 x3) (run.sl.r_41 (F := Ideal) c arg2 harg2 arg5 harg5 arg8 harg8 x0 x3 x6) (run.sl.r_42 (F := Ideal) c arg2 harg2 arg5 harg5 x0 x3) (run.sl.r_43 (F := Ideal) c arg2 harg2 arg5 harg5 arg8 harg8 x0 x3 x6) (run.sl.r_44 (F := Ideal) c arg2 harg2 arg5 harg5 x0 x3) (run.sl.r_45 (F := Ideal) c arg2 harg2 arg5 harg5 x0 x3) (run.sl.r_46 (F := Ideal) c arg2 harg2 arg5 harg5 x0 x3) (run.sl.r_47 (F := Ideal) c arg2 harg2 arg5 harg5 x0 x3) (run.sl.r_48 (F := Ideal) c arg8 harg8 x6) 3 (le_refl _)).1
  have e := read_front arg12.view f ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 (run.sl.r_37 (F := Ideal) c arg2 harg2 arg5 harg5 arg8 harg8 x0 x3 x6) (run.sl.r_38 (F := Ideal) c arg2 harg2 arg5 harg5 x0 x3) (run.sl.r_41 (F := Ideal) c arg2 harg2 arg5 harg5 arg8 harg8 x0 x3 x6) (run.sl.r_42 (F := Ideal) c arg2 harg2 arg5 harg5 x0 x3) (run.sl.r_43 (F := Ideal) c arg2 harg2 arg5 harg5 arg8 harg8 x0 x3 x6) (run.sl.r_44 (F := Ideal) c arg2 harg2 arg5 harg5 x0 x3) (run.sl.r_45 (F := Ideal) c arg2 harg2 arg5 harg5 x0 x3) (run.sl.r_46 (F := Ideal) c arg2 harg2 arg5 harg5 x0 x3) (run.sl.r_47 (F := Ideal) c arg2 harg2 arg5 harg5 x0 x3) (run.sl.r_48 (F := Ideal) c arg8 harg8 x6) (harg2.unread x0) (harg5.unread x3) (harg8.unread x6) (Scf.trips k0_t1_loop.lb k0_t1_loop.ub k0_t1_loop.st)).1 ++ stat_o c arg2 harg2 arg5 harg5 arg8 harg8 x0 x3 x6) [] (Oc0 x0 x3 x6) (agr_app h.1 (stat_o_agr c arg2 harg2 arg5 harg5 arg8 harg8 x0 x3 x6))
    (cov_app h.2 (stat_o_cov c arg2 harg2 arg5 harg5 arg8 harg8 x0 x3 x6) (fun m _ _ => by omega)) r x
  rw [List.append_nil] at e
  exact e

theorem ld0_l (f : BufTy.Contents (Elt Ideal) arg13.view.ty) (r : LoadRect S2x2048x128) (x) :
    (View.readAt (Elt Ideal) arg13.view r (arg13.view.writes (Elt Ideal) f ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 (run.sl.r_37 (F := Ideal) c arg2 harg2 arg5 harg5 arg8 harg8 x0 x3 x6) (run.sl.r_38 (F := Ideal) c arg2 harg2 arg5 harg5 x0 x3) (run.sl.r_41 (F := Ideal) c arg2 harg2 arg5 harg5 arg8 harg8 x0 x3 x6) (run.sl.r_42 (F := Ideal) c arg2 harg2 arg5 harg5 x0 x3) (run.sl.r_43 (F := Ideal) c arg2 harg2 arg5 harg5 arg8 harg8 x0 x3 x6) (run.sl.r_44 (F := Ideal) c arg2 harg2 arg5 harg5 x0 x3) (run.sl.r_45 (F := Ideal) c arg2 harg2 arg5 harg5 x0 x3) (run.sl.r_46 (F := Ideal) c arg2 harg2 arg5 harg5 x0 x3) (run.sl.r_47 (F := Ideal) c arg2 harg2 arg5 harg5 x0 x3) (run.sl.r_48 (F := Ideal) c arg8 harg8 x6) (harg2.unread x0) (harg5.unread x3) (harg8.unread x6) (Scf.trips k0_t1_loop.lb k0_t1_loop.ub k0_t1_loop.st)).2 ++ stat_l c arg2 harg2 arg5 harg5 x0 x3 x6)) x : EReal) = (Lc0 x0 x3) (r.idx x) := by
  have h := (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 (run.sl.r_37 (F := Ideal) c arg2 harg2 arg5 harg5 arg8 harg8 x0 x3 x6) (run.sl.r_38 (F := Ideal) c arg2 harg2 arg5 harg5 x0 x3) (run.sl.r_41 (F := Ideal) c arg2 harg2 arg5 harg5 arg8 harg8 x0 x3 x6) (run.sl.r_42 (F := Ideal) c arg2 harg2 arg5 harg5 x0 x3) (run.sl.r_43 (F := Ideal) c arg2 harg2 arg5 harg5 arg8 harg8 x0 x3 x6) (run.sl.r_44 (F := Ideal) c arg2 harg2 arg5 harg5 x0 x3) (run.sl.r_45 (F := Ideal) c arg2 harg2 arg5 harg5 x0 x3) (run.sl.r_46 (F := Ideal) c arg2 harg2 arg5 harg5 x0 x3) (run.sl.r_47 (F := Ideal) c arg2 harg2 arg5 harg5 x0 x3) (run.sl.r_48 (F := Ideal) c arg8 harg8 x6) 3 (le_refl _)).2
  have e := read_front arg13.view f ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 (run.sl.r_37 (F := Ideal) c arg2 harg2 arg5 harg5 arg8 harg8 x0 x3 x6) (run.sl.r_38 (F := Ideal) c arg2 harg2 arg5 harg5 x0 x3) (run.sl.r_41 (F := Ideal) c arg2 harg2 arg5 harg5 arg8 harg8 x0 x3 x6) (run.sl.r_42 (F := Ideal) c arg2 harg2 arg5 harg5 x0 x3) (run.sl.r_43 (F := Ideal) c arg2 harg2 arg5 harg5 arg8 harg8 x0 x3 x6) (run.sl.r_44 (F := Ideal) c arg2 harg2 arg5 harg5 x0 x3) (run.sl.r_45 (F := Ideal) c arg2 harg2 arg5 harg5 x0 x3) (run.sl.r_46 (F := Ideal) c arg2 harg2 arg5 harg5 x0 x3) (run.sl.r_47 (F := Ideal) c arg2 harg2 arg5 harg5 x0 x3) (run.sl.r_48 (F := Ideal) c arg8 harg8 x6) (harg2.unread x0) (harg5.unread x3) (harg8.unread x6) (Scf.trips k0_t1_loop.lb k0_t1_loop.ub k0_t1_loop.st)).2 ++ stat_l c arg2 harg2 arg5 harg5 x0 x3 x6) [] (Lc0 x0 x3) (agr_app h.1 (stat_l_agr c arg2 harg2 arg5 harg5 x0 x3 x6))
    (cov_app h.2 (stat_l_cov c arg2 harg2 arg5 harg5 x0 x3 x6) (fun m _ _ => by omega)) r x
  rw [List.append_nil] at e
  exact e

theorem ld1_o (f : BufTy.Contents (Elt Ideal) arg12.view.ty) (L' : PL) (r : LoadRect S2x2048x128) (x) :
    (View.readAt (Elt Ideal) arg12.view r (arg12.view.writes (Elt Ideal) f ((pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 k0_pay377 (harg3.unread x1) (harg6.unread x4) (harg9.unread x7) (Scf.trips k0_t2_loop.lb k0_t2_loop.ub k0_t2_loop.st)).1 ++ L')) x : EReal) = (Oc1 x1 x4 x7) (r.idx x) := by
  have h := (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7  4 (le_refl _)).1
  exact read_front arg12.view f (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 k0_pay377 (harg3.unread x1) (harg6.unread x4) (harg9.unread x7) (Scf.trips k0_t2_loop.lb k0_t2_loop.ub k0_t2_loop.st)).1 L' (Oc1 x1 x4 x7) h.1 h.2 r x

theorem ld1_l (f : BufTy.Contents (Elt Ideal) arg13.view.ty) (L' : PL) (r : LoadRect S2x2048x128) (x) :
    (View.readAt (Elt Ideal) arg13.view r (arg13.view.writes (Elt Ideal) f ((pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 k0_pay377 (harg3.unread x1) (harg6.unread x4) (harg9.unread x7) (Scf.trips k0_t2_loop.lb k0_t2_loop.ub k0_t2_loop.st)).2 ++ L')) x : EReal) = (Lc1 x1 x4) (r.idx x) := by
  have h := (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7  4 (le_refl _)).2
  exact read_front arg13.view f (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay376 k0_pay377 (harg3.unread x1) (harg6.unread x4) (harg9.unread x7) (Scf.trips k0_t2_loop.lb k0_t2_loop.ub k0_t2_loop.st)).2 L' (Lc1 x1 x4) h.1 h.2 r x

theorem ld2_o (f : BufTy.Contents (Elt Ideal) arg12.view.ty) (L' : PL) (r : LoadRect S2x2048x128) (x) :
    (View.readAt (Elt Ideal) arg12.view r (arg12.view.writes (Elt Ideal) f ((pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay377 (harg4.unread x2) (harg7.unread x5) (harg10.unread x8) (Scf.trips k0_t3_loop.lb k0_t3_loop.ub k0_t3_loop.st)).1 ++ L')) x : EReal) = (Oc2 x2 x5 x8) (r.idx x) := by
  have h := (pb3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8  4 (le_refl _)).1
  exact read_front arg12.view f (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay377 (harg4.unread x2) (harg7.unread x5) (harg10.unread x8) (Scf.trips k0_t3_loop.lb k0_t3_loop.ub k0_t3_loop.st)).1 L' (Oc2 x2 x5 x8) h.1 h.2 r x

theorem ld2_l (f : BufTy.Contents (Elt Ideal) arg13.view.ty) (L' : PL) (r : LoadRect S2x2048x128) (x) :
    (View.readAt (Elt Ideal) arg13.view r (arg13.view.writes (Elt Ideal) f ((pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay377 (harg4.unread x2) (harg7.unread x5) (harg10.unread x8) (Scf.trips k0_t3_loop.lb k0_t3_loop.ub k0_t3_loop.st)).2 ++ L')) x : EReal) = (Lc2 x2 x5) (r.idx x) := by
  have h := (pb3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8  4 (le_refl _)).2
  exact read_front arg13.view f (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay377 (harg4.unread x2) (harg7.unread x5) (harg10.unread x8) (Scf.trips k0_t3_loop.lb k0_t3_loop.ub k0_t3_loop.st)).2 L' (Lc2 x2 x5) h.1 h.2 r x

variable (fs0 : BufTy.Contents (Elt Ideal) arg12.view.ty) (fs1 : BufTy.Contents (Elt Ideal) arg13.view.ty)

theorem holds_whole {f f' : Val3} {v : View sig .tc .vmem S2x2048x128 .f32} (w : Vec Ideal S2x2048x128 .f32) (hw : ∀ y, (w y : EReal) = f y) :
    Holds 4 0 f f' v [⟨Rect.unit (s := S2x2048x128) ![0, 0, 0] S2x2048x128.size inb_S2x2048x128_S2x2048x128_0_0_0, w⟩] := by
  intro y
  rw [if_neg (by omega)]
  have e : (Rect.unit (s := S2x2048x128) ![0, 0, 0] S2x2048x128.size inb_S2x2048x128_S2x2048x128_0_0_0).emb y = y := by
    funext i
    apply Fin.ext
    fin_cases i
    · show 0 + 1 * (y 0).val = (y 0).val; omega
    · show 0 + 1 * (y 1).val = (y 1).val; omega
    · show 0 + 1 * (y 2).val = (y 2).val; omega
  have e3 := View.read_writes_cons_emb (Val := Elt Ideal) v v.junk (Rect.unit (s := S2x2048x128) ![0, 0, 0] S2x2048x128.size inb_S2x2048x128_S2x2048x128_0_0_0) w [] y
  rw [e] at e3
  exact e3.trans (hw y)

theorem whole_idx (y : S2x2048x128.Idx) : (Rect.unit (s := S2x2048x128) ![0, 0, 0] S2x2048x128.size inb_S2x2048x128_S2x2048x128_0_0_0).toLoadRect.idx y = y := by
  funext i
  apply Fin.ext
  fin_cases i
  · show 0 + 1 * (y 0).val = (y 0).val; omega
  · show 0 + 1 * (y 1).val = (y 1).val; omega
  · show 0 + 1 * (y 2).val = (y 2).val; omega

theorem same_apply (w : Vec Ideal S2x2048x128 .f32) (y) : (shapeCast S2x2048x128 w shapeCasts_S2x2048x128_S2x2048x128 y : EReal) = w y := by
  rw [shapeCast_self]

theorem pay512_apply (y) : (k0_pay512 (F := Ideal) y : EReal) = 1 := by
  refine (same_apply (broadcast S2x2048x128 (Scalar.ofBits (F := Ideal) .f32 0x3F800000#32)) y).trans ?_
  show Ideal.ofBits .f32 0x3F800000#32 = 1
  simp [Ideal.ofBits, Ideal.ieee]
  rw [← EReal.coe_mul]
  norm_num

include x2 x5 x8 x1 x4 x7 fs0 fs1 x0 x3 x6

theorem st_0 : Holds 4 0 (Lc0 x0 x3) (M1 x0 x3 x1 x4) arg14.view (run.sl.HS2_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 fs1) ∧ Holds 4 0 (Oc0 x0 x3 x6) (N1 x0 x3 x6 x1 x4 x7) arg15.view (run.sl.HS3_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 fs0) ∧ Holds 4 0 (fun _ => 1) (D1 x0 x3 x1 x4) arg16.view (run.sl.HS4_1 (F := Ideal) ) := by
  refine ⟨holds_whole _ fun y => ?_, holds_whole _ fun y => ?_, holds_whole _ fun y => ?_⟩
  · refine (same_apply (run.sl.v446 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 fs1) y).trans ?_
    unfold run.sl.v446
    exact ((ld0_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 fs1 (Rect.unit (s := S2x2048x128) ![0, 0, 0] S2x2048x128.size inb_S2x2048x128_S2x2048x128_0_0_0).toLoadRect y).trans (congrArg (Lc0 x0 x3) (whole_idx y)))
  · refine (same_apply (run.sl.v450 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 fs0) y).trans ?_
    unfold run.sl.v450
    exact ((ld0_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 fs0 (Rect.unit (s := S2x2048x128) ![0, 0, 0] S2x2048x128.size inb_S2x2048x128_S2x2048x128_0_0_0).toLoadRect y).trans (congrArg (Oc0 x0 x3 x6) (whole_idx y)))
  · exact pay512_apply y

theorem st_1 : Holds 4 1 (Lc0 x0 x3) (M1 x0 x3 x1 x4) arg14.view (run.sl.HS2_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ∧ Holds 4 1 (Oc0 x0 x3 x6) (N1 x0 x3 x6 x1 x4 x7) arg15.view (run.sl.HS3_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0 fs1) ∧ Holds 4 1 (fun _ => 1) (D1 x0 x3 x1 x4) arg16.view (run.sl.HS4_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) := by
  have h := st_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x512x128.Idx, ((run.sl.v459 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) x : EReal) = (Oc1 x1 x4 x7) ((Rect.unit (s := S2x2048x128) ![0, 0, 0] S1x512x128.size inb_S2x2048x128_S1x512x128_0_0_0).toLoadRect.idx x) := by
    intro x
    unfold run.sl.v459
    exact ld1_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs0 _ (Rect.unit (s := S2x2048x128) ![0, 0, 0] S1x512x128.size inb_S2x2048x128_S1x512x128_0_0_0).toLoadRect x
  have hl : ∀ x : S1x512x128.Idx, ((run.sl.v461 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) x : EReal) = (Lc1 x1 x4) ((Rect.unit (s := S2x2048x128) ![0, 0, 0] S1x512x128.size inb_S2x2048x128_S1x512x128_0_0_0).toLoadRect.idx x) := by
    intro x
    unfold run.sl.v461
    exact ld1_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs1 _ (Rect.unit (s := S2x2048x128) ![0, 0, 0] S1x512x128.size inb_S2x2048x128_S1x512x128_0_0_0).toLoadRect x
  exact step4 0 0 0 rfl (by omega) (by omega) inb_S2x2048x128_S1x512x128_0_0_0_s_1_4_1 spos_1_4_1 0 rfl inb_S2x2048x128_S1x512x128_0_0_0 h.1 h.2.1 h.2.2
      (run.sl.v459 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) (run.sl.v461 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ho hl

theorem st_2 : Holds 4 2 (Lc0 x0 x3) (M1 x0 x3 x1 x4) arg14.view (run.sl.HS2_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ∧ Holds 4 2 (Oc0 x0 x3 x6) (N1 x0 x3 x6 x1 x4 x7) arg15.view (run.sl.HS3_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0 fs1) ∧ Holds 4 2 (fun _ => 1) (D1 x0 x3 x1 x4) arg16.view (run.sl.HS4_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) := by
  have h := st_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x512x128.Idx, ((run.sl.v488 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) x : EReal) = (Oc1 x1 x4 x7) ((Rect.unit (s := S2x2048x128) ![1, 0, 0] S1x512x128.size inb_S2x2048x128_S1x512x128_1_0_0).toLoadRect.idx x) := by
    intro x
    unfold run.sl.v488
    exact ld1_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs0 _ (Rect.unit (s := S2x2048x128) ![1, 0, 0] S1x512x128.size inb_S2x2048x128_S1x512x128_1_0_0).toLoadRect x
  have hl : ∀ x : S1x512x128.Idx, ((run.sl.v490 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) x : EReal) = (Lc1 x1 x4) ((Rect.unit (s := S2x2048x128) ![1, 0, 0] S1x512x128.size inb_S2x2048x128_S1x512x128_1_0_0).toLoadRect.idx x) := by
    intro x
    unfold run.sl.v490
    exact ld1_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs1 _ (Rect.unit (s := S2x2048x128) ![1, 0, 0] S1x512x128.size inb_S2x2048x128_S1x512x128_1_0_0).toLoadRect x
  exact step4 1 1 0 rfl (by omega) (by omega) inb_S2x2048x128_S1x512x128_1_0_0_s_1_4_1 spos_1_4_1 0 rfl inb_S2x2048x128_S1x512x128_1_0_0 h.1 h.2.1 h.2.2
      (run.sl.v488 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) (run.sl.v490 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ho hl

theorem st_3 : Holds 4 3 (Lc0 x0 x3) (M1 x0 x3 x1 x4) arg14.view (run.sl.HS2_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ∧ Holds 4 3 (Oc0 x0 x3 x6) (N1 x0 x3 x6 x1 x4 x7) arg15.view (run.sl.HS3_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0 fs1) ∧ Holds 4 3 (fun _ => 1) (D1 x0 x3 x1 x4) arg16.view (run.sl.HS4_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) := by
  have h := st_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x512x128.Idx, ((run.sl.v517 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) x : EReal) = (Oc1 x1 x4 x7) ((Rect.unit (s := S2x2048x128) ![0, 512, 0] S1x512x128.size inb_S2x2048x128_S1x512x128_0_512_0).toLoadRect.idx x) := by
    intro x
    unfold run.sl.v517
    exact ld1_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs0 _ (Rect.unit (s := S2x2048x128) ![0, 512, 0] S1x512x128.size inb_S2x2048x128_S1x512x128_0_512_0).toLoadRect x
  have hl : ∀ x : S1x512x128.Idx, ((run.sl.v519 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) x : EReal) = (Lc1 x1 x4) ((Rect.unit (s := S2x2048x128) ![0, 512, 0] S1x512x128.size inb_S2x2048x128_S1x512x128_0_512_0).toLoadRect.idx x) := by
    intro x
    unfold run.sl.v519
    exact ld1_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs1 _ (Rect.unit (s := S2x2048x128) ![0, 512, 0] S1x512x128.size inb_S2x2048x128_S1x512x128_0_512_0).toLoadRect x
  exact step4 2 0 1 rfl (by omega) (by omega) inb_S2x2048x128_S1x512x128_0_1_0_s_1_4_1 spos_1_4_1 512 rfl inb_S2x2048x128_S1x512x128_0_512_0 h.1 h.2.1 h.2.2
      (run.sl.v517 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) (run.sl.v519 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ho hl

theorem st_4 : Holds 4 4 (Lc0 x0 x3) (M1 x0 x3 x1 x4) arg14.view (run.sl.HS2_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ∧ Holds 4 4 (Oc0 x0 x3 x6) (N1 x0 x3 x6 x1 x4 x7) arg15.view (run.sl.HS3_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0 fs1) ∧ Holds 4 4 (fun _ => 1) (D1 x0 x3 x1 x4) arg16.view (run.sl.HS4_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) := by
  have h := st_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x512x128.Idx, ((run.sl.v546 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) x : EReal) = (Oc1 x1 x4 x7) ((Rect.unit (s := S2x2048x128) ![1, 512, 0] S1x512x128.size inb_S2x2048x128_S1x512x128_1_512_0).toLoadRect.idx x) := by
    intro x
    unfold run.sl.v546
    exact ld1_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs0 _ (Rect.unit (s := S2x2048x128) ![1, 512, 0] S1x512x128.size inb_S2x2048x128_S1x512x128_1_512_0).toLoadRect x
  have hl : ∀ x : S1x512x128.Idx, ((run.sl.v548 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) x : EReal) = (Lc1 x1 x4) ((Rect.unit (s := S2x2048x128) ![1, 512, 0] S1x512x128.size inb_S2x2048x128_S1x512x128_1_512_0).toLoadRect.idx x) := by
    intro x
    unfold run.sl.v548
    exact ld1_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs1 _ (Rect.unit (s := S2x2048x128) ![1, 512, 0] S1x512x128.size inb_S2x2048x128_S1x512x128_1_512_0).toLoadRect x
  exact step4 3 1 1 rfl (by omega) (by omega) inb_S2x2048x128_S1x512x128_1_1_0_s_1_4_1 spos_1_4_1 512 rfl inb_S2x2048x128_S1x512x128_1_512_0 h.1 h.2.1 h.2.2
      (run.sl.v546 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) (run.sl.v548 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ho hl

theorem st_5 : Holds 4 5 (Lc0 x0 x3) (M1 x0 x3 x1 x4) arg14.view (run.sl.HS2_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ∧ Holds 4 5 (Oc0 x0 x3 x6) (N1 x0 x3 x6 x1 x4 x7) arg15.view (run.sl.HS3_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0 fs1) ∧ Holds 4 5 (fun _ => 1) (D1 x0 x3 x1 x4) arg16.view (run.sl.HS4_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) := by
  have h := st_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x512x128.Idx, ((run.sl.v575 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) x : EReal) = (Oc1 x1 x4 x7) ((Rect.unit (s := S2x2048x128) ![0, 1024, 0] S1x512x128.size inb_S2x2048x128_S1x512x128_0_1024_0).toLoadRect.idx x) := by
    intro x
    unfold run.sl.v575
    exact ld1_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs0 _ (Rect.unit (s := S2x2048x128) ![0, 1024, 0] S1x512x128.size inb_S2x2048x128_S1x512x128_0_1024_0).toLoadRect x
  have hl : ∀ x : S1x512x128.Idx, ((run.sl.v577 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) x : EReal) = (Lc1 x1 x4) ((Rect.unit (s := S2x2048x128) ![0, 1024, 0] S1x512x128.size inb_S2x2048x128_S1x512x128_0_1024_0).toLoadRect.idx x) := by
    intro x
    unfold run.sl.v577
    exact ld1_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs1 _ (Rect.unit (s := S2x2048x128) ![0, 1024, 0] S1x512x128.size inb_S2x2048x128_S1x512x128_0_1024_0).toLoadRect x
  exact step4 4 0 2 rfl (by omega) (by omega) inb_S2x2048x128_S1x512x128_0_2_0_s_1_4_1 spos_1_4_1 1024 rfl inb_S2x2048x128_S1x512x128_0_1024_0 h.1 h.2.1 h.2.2
      (run.sl.v575 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) (run.sl.v577 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ho hl

theorem st_6 : Holds 4 6 (Lc0 x0 x3) (M1 x0 x3 x1 x4) arg14.view (run.sl.HS2_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ∧ Holds 4 6 (Oc0 x0 x3 x6) (N1 x0 x3 x6 x1 x4 x7) arg15.view (run.sl.HS3_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0 fs1) ∧ Holds 4 6 (fun _ => 1) (D1 x0 x3 x1 x4) arg16.view (run.sl.HS4_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) := by
  have h := st_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x512x128.Idx, ((run.sl.v604 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) x : EReal) = (Oc1 x1 x4 x7) ((Rect.unit (s := S2x2048x128) ![1, 1024, 0] S1x512x128.size inb_S2x2048x128_S1x512x128_1_1024_0).toLoadRect.idx x) := by
    intro x
    unfold run.sl.v604
    exact ld1_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs0 _ (Rect.unit (s := S2x2048x128) ![1, 1024, 0] S1x512x128.size inb_S2x2048x128_S1x512x128_1_1024_0).toLoadRect x
  have hl : ∀ x : S1x512x128.Idx, ((run.sl.v606 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) x : EReal) = (Lc1 x1 x4) ((Rect.unit (s := S2x2048x128) ![1, 1024, 0] S1x512x128.size inb_S2x2048x128_S1x512x128_1_1024_0).toLoadRect.idx x) := by
    intro x
    unfold run.sl.v606
    exact ld1_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs1 _ (Rect.unit (s := S2x2048x128) ![1, 1024, 0] S1x512x128.size inb_S2x2048x128_S1x512x128_1_1024_0).toLoadRect x
  exact step4 5 1 2 rfl (by omega) (by omega) inb_S2x2048x128_S1x512x128_1_2_0_s_1_4_1 spos_1_4_1 1024 rfl inb_S2x2048x128_S1x512x128_1_1024_0 h.1 h.2.1 h.2.2
      (run.sl.v604 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) (run.sl.v606 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ho hl

theorem st_7 : Holds 4 7 (Lc0 x0 x3) (M1 x0 x3 x1 x4) arg14.view (run.sl.HS2_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ∧ Holds 4 7 (Oc0 x0 x3 x6) (N1 x0 x3 x6 x1 x4 x7) arg15.view (run.sl.HS3_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0 fs1) ∧ Holds 4 7 (fun _ => 1) (D1 x0 x3 x1 x4) arg16.view (run.sl.HS4_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) := by
  have h := st_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x512x128.Idx, ((run.sl.v633 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) x : EReal) = (Oc1 x1 x4 x7) ((Rect.unit (s := S2x2048x128) ![0, 1536, 0] S1x512x128.size inb_S2x2048x128_S1x512x128_0_1536_0).toLoadRect.idx x) := by
    intro x
    unfold run.sl.v633
    exact ld1_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs0 _ (Rect.unit (s := S2x2048x128) ![0, 1536, 0] S1x512x128.size inb_S2x2048x128_S1x512x128_0_1536_0).toLoadRect x
  have hl : ∀ x : S1x512x128.Idx, ((run.sl.v635 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) x : EReal) = (Lc1 x1 x4) ((Rect.unit (s := S2x2048x128) ![0, 1536, 0] S1x512x128.size inb_S2x2048x128_S1x512x128_0_1536_0).toLoadRect.idx x) := by
    intro x
    unfold run.sl.v635
    exact ld1_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs1 _ (Rect.unit (s := S2x2048x128) ![0, 1536, 0] S1x512x128.size inb_S2x2048x128_S1x512x128_0_1536_0).toLoadRect x
  exact step4 6 0 3 rfl (by omega) (by omega) inb_S2x2048x128_S1x512x128_0_3_0_s_1_4_1 spos_1_4_1 1536 rfl inb_S2x2048x128_S1x512x128_0_1536_0 h.1 h.2.1 h.2.2
      (run.sl.v633 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) (run.sl.v635 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ho hl

theorem st_8 : Holds 4 8 (Lc0 x0 x3) (M1 x0 x3 x1 x4) arg14.view (⟨{ off := ![1, 3, 0], size := S1x512x128.size, stride := ![1, 4, 1], inb := inb_S2x2048x128_S1x512x128_1_3_0_s_1_4_1, stride_pos := spos_1_4_1 }, k0_pay584 (run.sl.v664 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) (run.sl.v666 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1)⟩ :: (run.sl.HS2_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1)) ∧ Holds 4 8 (Oc0 x0 x3 x6) (N1 x0 x3 x6 x1 x4 x7) arg15.view (⟨{ off := ![1, 3, 0], size := S1x512x128.size, stride := ![1, 4, 1], inb := inb_S2x2048x128_S1x512x128_1_3_0_s_1_4_1, stride_pos := spos_1_4_1 }, k0_pay582 (run.sl.v662 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) (run.sl.v664 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) (run.sl.v666 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) (run.sl.v673 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0 fs1)⟩ :: (run.sl.HS3_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0 fs1)) ∧ Holds 4 8 (fun _ => 1) (D1 x0 x3 x1 x4) arg16.view (⟨{ off := ![1, 3, 0], size := S1x512x128.size, stride := ![1, 4, 1], inb := inb_S2x2048x128_S1x512x128_1_3_0_s_1_4_1, stride_pos := spos_1_4_1 }, k0_pay583 (run.sl.v664 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) (run.sl.v666 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) (run.sl.v681 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1)⟩ :: (run.sl.HS4_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1)) := by
  have h := st_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x512x128.Idx, ((run.sl.v662 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) x : EReal) = (Oc1 x1 x4 x7) ((Rect.unit (s := S2x2048x128) ![1, 1536, 0] S1x512x128.size inb_S2x2048x128_S1x512x128_1_1536_0).toLoadRect.idx x) := by
    intro x
    unfold run.sl.v662
    exact ld1_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs0 _ (Rect.unit (s := S2x2048x128) ![1, 1536, 0] S1x512x128.size inb_S2x2048x128_S1x512x128_1_1536_0).toLoadRect x
  have hl : ∀ x : S1x512x128.Idx, ((run.sl.v664 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) x : EReal) = (Lc1 x1 x4) ((Rect.unit (s := S2x2048x128) ![1, 1536, 0] S1x512x128.size inb_S2x2048x128_S1x512x128_1_1536_0).toLoadRect.idx x) := by
    intro x
    unfold run.sl.v664
    exact ld1_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x4 x7 fs1 _ (Rect.unit (s := S2x2048x128) ![1, 1536, 0] S1x512x128.size inb_S2x2048x128_S1x512x128_1_1536_0).toLoadRect x
  exact step4 7 1 3 rfl (by omega) (by omega) inb_S2x2048x128_S1x512x128_1_3_0_s_1_4_1 spos_1_4_1 1536 rfl inb_S2x2048x128_S1x512x128_1_1536_0 h.1 h.2.1 h.2.2
      (run.sl.v662 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs0) (run.sl.v664 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x6 x7 fs1) ho hl

theorem st_9 : Holds 16 1 (M1 x0 x3 x1 x4) (M2 x0 x3 x1 x4 x2 x5) arg14.view (run.sl.HS2_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 1 (N1 x0 x3 x6 x1 x4 x7) (N2 x0 x3 x6 x1 x4 x7 x2 x5 x8) arg15.view (run.sl.HS3_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 1 (D1 x0 x3 x1 x4) (D2 x0 x3 x1 x4 x2 x5) arg16.view (run.sl.HS4_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v692 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Oc2 x2 x5 x8) ((Rect.unit (s := S2x2048x128) ![0, 0, 0] S1x128x128.size inb_S2x2048x128_S1x128x128_0_0_0).toLoadRect.idx x) := by
    intro x
    unfold run.sl.v692 View.readCov
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 0, 0] S1x128x128.size inb_S2x2048x128_S1x128x128_0_0_0).toLoadRect x
  have hl : ∀ x : S1x128x128.Idx, ((run.sl.v694 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Lc2 x2 x5) ((Rect.unit (s := S2x2048x128) ![0, 0, 0] S1x128x128.size inb_S2x2048x128_S1x128x128_0_0_0).toLoadRect.idx x) := by
    intro x
    unfold run.sl.v694 View.readCov
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 0, 0] S1x128x128.size inb_S2x2048x128_S1x128x128_0_0_0).toLoadRect x
  exact step16 0 0 0 rfl (by omega) (by omega) inb_S2x2048x128_S1x128x128_0_0_0_s_1_16_1 spos_1_16_1 0 rfl inb_S2x2048x128_S1x128x128_0_0_0 (holds_next (d := 4) (by omega) h.1) (holds_next (d := 4) (by omega) h.2.1) (holds_next (d := 4) (by omega) h.2.2)
      (run.sl.v692 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (run.sl.v694 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) ho hl

theorem st_10 : Holds 16 2 (M1 x0 x3 x1 x4) (M2 x0 x3 x1 x4 x2 x5) arg14.view (run.sl.HS2_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 2 (N1 x0 x3 x6 x1 x4 x7) (N2 x0 x3 x6 x1 x4 x7 x2 x5 x8) arg15.view (run.sl.HS3_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 2 (D1 x0 x3 x1 x4) (D2 x0 x3 x1 x4 x2 x5) arg16.view (run.sl.HS4_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v721 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Oc2 x2 x5 x8) ((Rect.unit (s := S2x2048x128) ![1, 0, 0] S1x128x128.size inb_S2x2048x128_S1x128x128_1_0_0).toLoadRect.idx x) := by
    intro x
    unfold run.sl.v721 View.readCov
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 0, 0] S1x128x128.size inb_S2x2048x128_S1x128x128_1_0_0).toLoadRect x
  have hl : ∀ x : S1x128x128.Idx, ((run.sl.v723 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Lc2 x2 x5) ((Rect.unit (s := S2x2048x128) ![1, 0, 0] S1x128x128.size inb_S2x2048x128_S1x128x128_1_0_0).toLoadRect.idx x) := by
    intro x
    unfold run.sl.v723 View.readCov
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 0, 0] S1x128x128.size inb_S2x2048x128_S1x128x128_1_0_0).toLoadRect x
  exact step16 1 1 0 rfl (by omega) (by omega) inb_S2x2048x128_S1x128x128_1_0_0_s_1_16_1 spos_1_16_1 0 rfl inb_S2x2048x128_S1x128x128_1_0_0 h.1 h.2.1 h.2.2
      (run.sl.v721 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (run.sl.v723 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) ho hl

theorem st_11 : Holds 16 3 (M1 x0 x3 x1 x4) (M2 x0 x3 x1 x4 x2 x5) arg14.view (run.sl.HS2_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 3 (N1 x0 x3 x6 x1 x4 x7) (N2 x0 x3 x6 x1 x4 x7 x2 x5 x8) arg15.view (run.sl.HS3_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 3 (D1 x0 x3 x1 x4) (D2 x0 x3 x1 x4 x2 x5) arg16.view (run.sl.HS4_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v750 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Oc2 x2 x5 x8) ((Rect.unit (s := S2x2048x128) ![0, 128, 0] S1x128x128.size inb_S2x2048x128_S1x128x128_0_128_0).toLoadRect.idx x) := by
    intro x
    unfold run.sl.v750 View.readCov
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 128, 0] S1x128x128.size inb_S2x2048x128_S1x128x128_0_128_0).toLoadRect x
  have hl : ∀ x : S1x128x128.Idx, ((run.sl.v752 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Lc2 x2 x5) ((Rect.unit (s := S2x2048x128) ![0, 128, 0] S1x128x128.size inb_S2x2048x128_S1x128x128_0_128_0).toLoadRect.idx x) := by
    intro x
    unfold run.sl.v752 View.readCov
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 128, 0] S1x128x128.size inb_S2x2048x128_S1x128x128_0_128_0).toLoadRect x
  exact step16 2 0 1 rfl (by omega) (by omega) inb_S2x2048x128_S1x128x128_0_1_0_s_1_16_1 spos_1_16_1 128 rfl inb_S2x2048x128_S1x128x128_0_128_0 h.1 h.2.1 h.2.2
      (run.sl.v750 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (run.sl.v752 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) ho hl

theorem st_12 : Holds 16 4 (M1 x0 x3 x1 x4) (M2 x0 x3 x1 x4 x2 x5) arg14.view (run.sl.HS2_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 4 (N1 x0 x3 x6 x1 x4 x7) (N2 x0 x3 x6 x1 x4 x7 x2 x5 x8) arg15.view (run.sl.HS3_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 4 (D1 x0 x3 x1 x4) (D2 x0 x3 x1 x4 x2 x5) arg16.view (run.sl.HS4_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v779 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Oc2 x2 x5 x8) ((Rect.unit (s := S2x2048x128) ![1, 128, 0] S1x128x128.size inb_S2x2048x128_S1x128x128_1_128_0).toLoadRect.idx x) := by
    intro x
    unfold run.sl.v779 View.readCov
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 128, 0] S1x128x128.size inb_S2x2048x128_S1x128x128_1_128_0).toLoadRect x
  have hl : ∀ x : S1x128x128.Idx, ((run.sl.v781 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Lc2 x2 x5) ((Rect.unit (s := S2x2048x128) ![1, 128, 0] S1x128x128.size inb_S2x2048x128_S1x128x128_1_128_0).toLoadRect.idx x) := by
    intro x
    unfold run.sl.v781 View.readCov
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 128, 0] S1x128x128.size inb_S2x2048x128_S1x128x128_1_128_0).toLoadRect x
  exact step16 3 1 1 rfl (by omega) (by omega) inb_S2x2048x128_S1x128x128_1_1_0_s_1_16_1 spos_1_16_1 128 rfl inb_S2x2048x128_S1x128x128_1_128_0 h.1 h.2.1 h.2.2
      (run.sl.v779 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (run.sl.v781 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) ho hl

theorem st_13 : Holds 16 5 (M1 x0 x3 x1 x4) (M2 x0 x3 x1 x4 x2 x5) arg14.view (run.sl.HS2_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 5 (N1 x0 x3 x6 x1 x4 x7) (N2 x0 x3 x6 x1 x4 x7 x2 x5 x8) arg15.view (run.sl.HS3_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 5 (D1 x0 x3 x1 x4) (D2 x0 x3 x1 x4 x2 x5) arg16.view (run.sl.HS4_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v808 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Oc2 x2 x5 x8) ((Rect.unit (s := S2x2048x128) ![0, 256, 0] S1x128x128.size inb_S2x2048x128_S1x128x128_0_256_0).toLoadRect.idx x) := by
    intro x
    unfold run.sl.v808 View.readCov
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 256, 0] S1x128x128.size inb_S2x2048x128_S1x128x128_0_256_0).toLoadRect x
  have hl : ∀ x : S1x128x128.Idx, ((run.sl.v810 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Lc2 x2 x5) ((Rect.unit (s := S2x2048x128) ![0, 256, 0] S1x128x128.size inb_S2x2048x128_S1x128x128_0_256_0).toLoadRect.idx x) := by
    intro x
    unfold run.sl.v810 View.readCov
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 256, 0] S1x128x128.size inb_S2x2048x128_S1x128x128_0_256_0).toLoadRect x
  exact step16 4 0 2 rfl (by omega) (by omega) inb_S2x2048x128_S1x128x128_0_2_0_s_1_16_1 spos_1_16_1 256 rfl inb_S2x2048x128_S1x128x128_0_256_0 h.1 h.2.1 h.2.2
      (run.sl.v808 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (run.sl.v810 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) ho hl

theorem st_14 : Holds 16 6 (M1 x0 x3 x1 x4) (M2 x0 x3 x1 x4 x2 x5) arg14.view (run.sl.HS2_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 6 (N1 x0 x3 x6 x1 x4 x7) (N2 x0 x3 x6 x1 x4 x7 x2 x5 x8) arg15.view (run.sl.HS3_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 6 (D1 x0 x3 x1 x4) (D2 x0 x3 x1 x4 x2 x5) arg16.view (run.sl.HS4_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v837 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Oc2 x2 x5 x8) ((Rect.unit (s := S2x2048x128) ![1, 256, 0] S1x128x128.size inb_S2x2048x128_S1x128x128_1_256_0).toLoadRect.idx x) := by
    intro x
    unfold run.sl.v837 View.readCov
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 256, 0] S1x128x128.size inb_S2x2048x128_S1x128x128_1_256_0).toLoadRect x
  have hl : ∀ x : S1x128x128.Idx, ((run.sl.v839 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Lc2 x2 x5) ((Rect.unit (s := S2x2048x128) ![1, 256, 0] S1x128x128.size inb_S2x2048x128_S1x128x128_1_256_0).toLoadRect.idx x) := by
    intro x
    unfold run.sl.v839 View.readCov
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 256, 0] S1x128x128.size inb_S2x2048x128_S1x128x128_1_256_0).toLoadRect x
  exact step16 5 1 2 rfl (by omega) (by omega) inb_S2x2048x128_S1x128x128_1_2_0_s_1_16_1 spos_1_16_1 256 rfl inb_S2x2048x128_S1x128x128_1_256_0 h.1 h.2.1 h.2.2
      (run.sl.v837 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (run.sl.v839 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) ho hl

theorem st_15 : Holds 16 7 (M1 x0 x3 x1 x4) (M2 x0 x3 x1 x4 x2 x5) arg14.view (run.sl.HS2_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 7 (N1 x0 x3 x6 x1 x4 x7) (N2 x0 x3 x6 x1 x4 x7 x2 x5 x8) arg15.view (run.sl.HS3_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 7 (D1 x0 x3 x1 x4) (D2 x0 x3 x1 x4 x2 x5) arg16.view (run.sl.HS4_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v866 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Oc2 x2 x5 x8) ((Rect.unit (s := S2x2048x128) ![0, 384, 0] S1x128x128.size inb_S2x2048x128_S1x128x128_0_384_0).toLoadRect.idx x) := by
    intro x
    unfold run.sl.v866 View.readCov
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 384, 0] S1x128x128.size inb_S2x2048x128_S1x128x128_0_384_0).toLoadRect x
  have hl : ∀ x : S1x128x128.Idx, ((run.sl.v868 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Lc2 x2 x5) ((Rect.unit (s := S2x2048x128) ![0, 384, 0] S1x128x128.size inb_S2x2048x128_S1x128x128_0_384_0).toLoadRect.idx x) := by
    intro x
    unfold run.sl.v868 View.readCov
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 384, 0] S1x128x128.size inb_S2x2048x128_S1x128x128_0_384_0).toLoadRect x
  exact step16 6 0 3 rfl (by omega) (by omega) inb_S2x2048x128_S1x128x128_0_3_0_s_1_16_1 spos_1_16_1 384 rfl inb_S2x2048x128_S1x128x128_0_384_0 h.1 h.2.1 h.2.2
      (run.sl.v866 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (run.sl.v868 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) ho hl

theorem st_16 : Holds 16 8 (M1 x0 x3 x1 x4) (M2 x0 x3 x1 x4 x2 x5) arg14.view (run.sl.HS2_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 8 (N1 x0 x3 x6 x1 x4 x7) (N2 x0 x3 x6 x1 x4 x7 x2 x5 x8) arg15.view (run.sl.HS3_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 8 (D1 x0 x3 x1 x4) (D2 x0 x3 x1 x4 x2 x5) arg16.view (run.sl.HS4_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v895 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Oc2 x2 x5 x8) ((Rect.unit (s := S2x2048x128) ![1, 384, 0] S1x128x128.size inb_S2x2048x128_S1x128x128_1_384_0).toLoadRect.idx x) := by
    intro x
    unfold run.sl.v895 View.readCov
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 384, 0] S1x128x128.size inb_S2x2048x128_S1x128x128_1_384_0).toLoadRect x
  have hl : ∀ x : S1x128x128.Idx, ((run.sl.v897 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) x : EReal) = (Lc2 x2 x5) ((Rect.unit (s := S2x2048x128) ![1, 384, 0] S1x128x128.size inb_S2x2048x128_S1x128x128_1_384_0).toLoadRect.idx x) := by
    intro x
    unfold run.sl.v897 View.readCov
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 384, 0] S1x128x128.size inb_S2x2048x128_S1x128x128_1_384_0).toLoadRect x
  exact step16 7 1 3 rfl (by omega) (by omega) inb_S2x2048x128_S1x128x128_1_3_0_s_1_16_1 spos_1_16_1 384 rfl inb_S2x2048x128_S1x128x128_1_384_0 h.1 h.2.1 h.2.2
      (run.sl.v895 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (run.sl.v897 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) ho hl

theorem st_17 : Holds 16 9 (M1 x0 x3 x1 x4) (M2 x0 x3 x1 x4 x2 x5) arg14.view (run.sl.HS2_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 9 (N1 x0 x3 x6 x1 x4 x7) (N2 x0 x3 x6 x1 x4 x7 x2 x5 x8) arg15.view (run.sl.HS3_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 9 (D1 x0 x3 x1 x4) (D2 x0 x3 x1 x4 x2 x5) arg16.view (run.sl.HS4_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v924 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![0, 512, 0] S1x128x128.size inb_S2x2048x128_S1x128x128_0_512_0).toLoadRect.idx x) := by
    intro x
    unfold run.sl.v924
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 512, 0] S1x128x128.size inb_S2x2048x128_S1x128x128_0_512_0).toLoadRect x
  have hl : ∀ x : S1x128x128.Idx, ((run.sl.v926 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![0, 512, 0] S1x128x128.size inb_S2x2048x128_S1x128x128_0_512_0).toLoadRect.idx x) := by
    intro x
    unfold run.sl.v926
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 512, 0] S1x128x128.size inb_S2x2048x128_S1x128x128_0_512_0).toLoadRect x
  exact step16 8 0 4 rfl (by omega) (by omega) inb_S2x2048x128_S1x128x128_0_4_0_s_1_16_1 spos_1_16_1 512 rfl inb_S2x2048x128_S1x128x128_0_512_0 h.1 h.2.1 h.2.2
      (run.sl.v924 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v926 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_18 : Holds 16 10 (M1 x0 x3 x1 x4) (M2 x0 x3 x1 x4 x2 x5) arg14.view (run.sl.HS2_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 10 (N1 x0 x3 x6 x1 x4 x7) (N2 x0 x3 x6 x1 x4 x7 x2 x5 x8) arg15.view (run.sl.HS3_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 10 (D1 x0 x3 x1 x4) (D2 x0 x3 x1 x4 x2 x5) arg16.view (run.sl.HS4_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v953 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![1, 512, 0] S1x128x128.size inb_S2x2048x128_S1x128x128_1_512_0).toLoadRect.idx x) := by
    intro x
    unfold run.sl.v953
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 512, 0] S1x128x128.size inb_S2x2048x128_S1x128x128_1_512_0).toLoadRect x
  have hl : ∀ x : S1x128x128.Idx, ((run.sl.v955 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![1, 512, 0] S1x128x128.size inb_S2x2048x128_S1x128x128_1_512_0).toLoadRect.idx x) := by
    intro x
    unfold run.sl.v955
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 512, 0] S1x128x128.size inb_S2x2048x128_S1x128x128_1_512_0).toLoadRect x
  exact step16 9 1 4 rfl (by omega) (by omega) inb_S2x2048x128_S1x128x128_1_4_0_s_1_16_1 spos_1_16_1 512 rfl inb_S2x2048x128_S1x128x128_1_512_0 h.1 h.2.1 h.2.2
      (run.sl.v953 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v955 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_19 : Holds 16 11 (M1 x0 x3 x1 x4) (M2 x0 x3 x1 x4 x2 x5) arg14.view (run.sl.HS2_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 11 (N1 x0 x3 x6 x1 x4 x7) (N2 x0 x3 x6 x1 x4 x7 x2 x5 x8) arg15.view (run.sl.HS3_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 11 (D1 x0 x3 x1 x4) (D2 x0 x3 x1 x4 x2 x5) arg16.view (run.sl.HS4_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v982 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![0, 640, 0] S1x128x128.size inb_S2x2048x128_S1x128x128_0_640_0).toLoadRect.idx x) := by
    intro x
    unfold run.sl.v982
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 640, 0] S1x128x128.size inb_S2x2048x128_S1x128x128_0_640_0).toLoadRect x
  have hl : ∀ x : S1x128x128.Idx, ((run.sl.v984 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![0, 640, 0] S1x128x128.size inb_S2x2048x128_S1x128x128_0_640_0).toLoadRect.idx x) := by
    intro x
    unfold run.sl.v984
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 640, 0] S1x128x128.size inb_S2x2048x128_S1x128x128_0_640_0).toLoadRect x
  exact step16 10 0 5 rfl (by omega) (by omega) inb_S2x2048x128_S1x128x128_0_5_0_s_1_16_1 spos_1_16_1 640 rfl inb_S2x2048x128_S1x128x128_0_640_0 h.1 h.2.1 h.2.2
      (run.sl.v982 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v984 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_20 : Holds 16 12 (M1 x0 x3 x1 x4) (M2 x0 x3 x1 x4 x2 x5) arg14.view (run.sl.HS2_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 12 (N1 x0 x3 x6 x1 x4 x7) (N2 x0 x3 x6 x1 x4 x7 x2 x5 x8) arg15.view (run.sl.HS3_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 12 (D1 x0 x3 x1 x4) (D2 x0 x3 x1 x4 x2 x5) arg16.view (run.sl.HS4_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1011 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![1, 640, 0] S1x128x128.size inb_S2x2048x128_S1x128x128_1_640_0).toLoadRect.idx x) := by
    intro x
    unfold run.sl.v1011
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 640, 0] S1x128x128.size inb_S2x2048x128_S1x128x128_1_640_0).toLoadRect x
  have hl : ∀ x : S1x128x128.Idx, ((run.sl.v1013 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![1, 640, 0] S1x128x128.size inb_S2x2048x128_S1x128x128_1_640_0).toLoadRect.idx x) := by
    intro x
    unfold run.sl.v1013
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 640, 0] S1x128x128.size inb_S2x2048x128_S1x128x128_1_640_0).toLoadRect x
  exact step16 11 1 5 rfl (by omega) (by omega) inb_S2x2048x128_S1x128x128_1_5_0_s_1_16_1 spos_1_16_1 640 rfl inb_S2x2048x128_S1x128x128_1_640_0 h.1 h.2.1 h.2.2
      (run.sl.v1011 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1013 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

end Cert.KernelIdeal.Attn

end
-- ==== Proof.Attn.MergeLate.lean ====
module

public import proofs.«01_k».proof.Proof.Attn.Merge

/-! The attention kernel's joining of its three groups, its later steps. -/

@[expose] public section

set_option maxRecDepth 16384

noncomputable section

namespace Cert.KernelIdeal.Attn

open Cert.KernelIdeal.Gen Cert.Attn
open Idealize.ShloMosaic Idealize.ShloMosaic.TcCoe Idealize.ShloMosaic.Pointwise

variable (c : Dev nD) (i : grid0.Coords) (arg2 : Memref sig .tc .vmem S1x1x2048x256 .bf16) (harg2 : arg2.IsWhole) (arg3 : Memref sig .tc .vmem S1x4x512x256 .bf16) (harg3 : arg3.IsWhole) (arg4 : Memref sig .tc .vmem S1x16x128x256 .bf16) (harg4 : arg4.IsWhole) (arg5 : Memref sig .tc .vmem S1x1x2048x256 .bf16) (harg5 : arg5.IsWhole) (arg6 : Memref sig .tc .vmem S1x4x512x256 .bf16) (harg6 : arg6.IsWhole) (arg7 : Memref sig .tc .vmem S1x16x128x256 .bf16) (harg7 : arg7.IsWhole) (arg8 : Memref sig .tc .vmem S1x1x2048x256 .bf16) (harg8 : arg8.IsWhole) (arg9 : Memref sig .tc .vmem S1x4x512x256 .bf16) (harg9 : arg9.IsWhole) (arg10 : Memref sig .tc .vmem S1x16x128x256 .bf16) (harg10 : arg10.IsWhole) (arg11 : Memref sig .tc .vmem S1x2048x256 .bf16) (harg11 : arg11.IsWhole) (arg12 : Memref sig .tc .vmem S2x2048x128 .f32) (harg12 : arg12.IsWhole) (arg13 : Memref sig .tc .vmem S2x2048x128 .f32) (harg13 : arg13.IsWhole) (arg14 : Memref sig .tc .vmem S2x2048x128 .f32) (harg14 : arg14.IsWhole) (arg15 : Memref sig .tc .vmem S2x2048x128 .f32) (harg15 : arg15.IsWhole) (arg16 : Memref sig .tc .vmem S2x2048x128 .f32) (harg16 : arg16.IsWhole)

variable (x0 x3 x6 : Vec Ideal S1x1x2048x256 .bf16) (x1 x4 x7 : Vec Ideal S1x4x512x256 .bf16) (x2 x5 x8 : Vec Ideal S1x16x128x256 .bf16)

variable (fs0 : BufTy.Contents (Elt Ideal) arg12.view.ty) (fs1 : BufTy.Contents (Elt Ideal) arg13.view.ty)

include x2 x5 x8 x1 x4 x7 fs0 fs1 x0 x3 x6

theorem st_21 : Holds 16 13 (M1 x0 x3 x1 x4) (M2 x0 x3 x1 x4 x2 x5) arg14.view (run.sl.HS2_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 13 (N1 x0 x3 x6 x1 x4 x7) (N2 x0 x3 x6 x1 x4 x7 x2 x5 x8) arg15.view (run.sl.HS3_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 13 (D1 x0 x3 x1 x4) (D2 x0 x3 x1 x4 x2 x5) arg16.view (run.sl.HS4_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1040 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![0, 768, 0] S1x128x128.size inb_S2x2048x128_S1x128x128_0_768_0).toLoadRect.idx x) := by
    intro x
    unfold run.sl.v1040
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 768, 0] S1x128x128.size inb_S2x2048x128_S1x128x128_0_768_0).toLoadRect x
  have hl : ∀ x : S1x128x128.Idx, ((run.sl.v1042 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![0, 768, 0] S1x128x128.size inb_S2x2048x128_S1x128x128_0_768_0).toLoadRect.idx x) := by
    intro x
    unfold run.sl.v1042
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 768, 0] S1x128x128.size inb_S2x2048x128_S1x128x128_0_768_0).toLoadRect x
  exact step16 12 0 6 rfl (by omega) (by omega) inb_S2x2048x128_S1x128x128_0_6_0_s_1_16_1 spos_1_16_1 768 rfl inb_S2x2048x128_S1x128x128_0_768_0 h.1 h.2.1 h.2.2
      (run.sl.v1040 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1042 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_22 : Holds 16 14 (M1 x0 x3 x1 x4) (M2 x0 x3 x1 x4 x2 x5) arg14.view (run.sl.HS2_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 14 (N1 x0 x3 x6 x1 x4 x7) (N2 x0 x3 x6 x1 x4 x7 x2 x5 x8) arg15.view (run.sl.HS3_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 14 (D1 x0 x3 x1 x4) (D2 x0 x3 x1 x4 x2 x5) arg16.view (run.sl.HS4_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1069 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![1, 768, 0] S1x128x128.size inb_S2x2048x128_S1x128x128_1_768_0).toLoadRect.idx x) := by
    intro x
    unfold run.sl.v1069
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 768, 0] S1x128x128.size inb_S2x2048x128_S1x128x128_1_768_0).toLoadRect x
  have hl : ∀ x : S1x128x128.Idx, ((run.sl.v1071 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![1, 768, 0] S1x128x128.size inb_S2x2048x128_S1x128x128_1_768_0).toLoadRect.idx x) := by
    intro x
    unfold run.sl.v1071
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 768, 0] S1x128x128.size inb_S2x2048x128_S1x128x128_1_768_0).toLoadRect x
  exact step16 13 1 6 rfl (by omega) (by omega) inb_S2x2048x128_S1x128x128_1_6_0_s_1_16_1 spos_1_16_1 768 rfl inb_S2x2048x128_S1x128x128_1_768_0 h.1 h.2.1 h.2.2
      (run.sl.v1069 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1071 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_23 : Holds 16 15 (M1 x0 x3 x1 x4) (M2 x0 x3 x1 x4 x2 x5) arg14.view (run.sl.HS2_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 15 (N1 x0 x3 x6 x1 x4 x7) (N2 x0 x3 x6 x1 x4 x7 x2 x5 x8) arg15.view (run.sl.HS3_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 15 (D1 x0 x3 x1 x4) (D2 x0 x3 x1 x4 x2 x5) arg16.view (run.sl.HS4_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1098 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![0, 896, 0] S1x128x128.size inb_S2x2048x128_S1x128x128_0_896_0).toLoadRect.idx x) := by
    intro x
    unfold run.sl.v1098
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 896, 0] S1x128x128.size inb_S2x2048x128_S1x128x128_0_896_0).toLoadRect x
  have hl : ∀ x : S1x128x128.Idx, ((run.sl.v1100 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![0, 896, 0] S1x128x128.size inb_S2x2048x128_S1x128x128_0_896_0).toLoadRect.idx x) := by
    intro x
    unfold run.sl.v1100
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 896, 0] S1x128x128.size inb_S2x2048x128_S1x128x128_0_896_0).toLoadRect x
  exact step16 14 0 7 rfl (by omega) (by omega) inb_S2x2048x128_S1x128x128_0_7_0_s_1_16_1 spos_1_16_1 896 rfl inb_S2x2048x128_S1x128x128_0_896_0 h.1 h.2.1 h.2.2
      (run.sl.v1098 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1100 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_24 : Holds 16 16 (M1 x0 x3 x1 x4) (M2 x0 x3 x1 x4 x2 x5) arg14.view (run.sl.HS2_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 16 (N1 x0 x3 x6 x1 x4 x7) (N2 x0 x3 x6 x1 x4 x7 x2 x5 x8) arg15.view (run.sl.HS3_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 16 (D1 x0 x3 x1 x4) (D2 x0 x3 x1 x4 x2 x5) arg16.view (run.sl.HS4_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1127 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![1, 896, 0] S1x128x128.size inb_S2x2048x128_S1x128x128_1_896_0).toLoadRect.idx x) := by
    intro x
    unfold run.sl.v1127
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 896, 0] S1x128x128.size inb_S2x2048x128_S1x128x128_1_896_0).toLoadRect x
  have hl : ∀ x : S1x128x128.Idx, ((run.sl.v1129 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![1, 896, 0] S1x128x128.size inb_S2x2048x128_S1x128x128_1_896_0).toLoadRect.idx x) := by
    intro x
    unfold run.sl.v1129
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 896, 0] S1x128x128.size inb_S2x2048x128_S1x128x128_1_896_0).toLoadRect x
  exact step16 15 1 7 rfl (by omega) (by omega) inb_S2x2048x128_S1x128x128_1_7_0_s_1_16_1 spos_1_16_1 896 rfl inb_S2x2048x128_S1x128x128_1_896_0 h.1 h.2.1 h.2.2
      (run.sl.v1127 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1129 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_25 : Holds 16 17 (M1 x0 x3 x1 x4) (M2 x0 x3 x1 x4 x2 x5) arg14.view (run.sl.HS2_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 17 (N1 x0 x3 x6 x1 x4 x7) (N2 x0 x3 x6 x1 x4 x7 x2 x5 x8) arg15.view (run.sl.HS3_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 17 (D1 x0 x3 x1 x4) (D2 x0 x3 x1 x4 x2 x5) arg16.view (run.sl.HS4_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1156 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![0, 1024, 0] S1x128x128.size inb_S2x2048x128_S1x128x128_0_1024_0).toLoadRect.idx x) := by
    intro x
    unfold run.sl.v1156
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1024, 0] S1x128x128.size inb_S2x2048x128_S1x128x128_0_1024_0).toLoadRect x
  have hl : ∀ x : S1x128x128.Idx, ((run.sl.v1158 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![0, 1024, 0] S1x128x128.size inb_S2x2048x128_S1x128x128_0_1024_0).toLoadRect.idx x) := by
    intro x
    unfold run.sl.v1158
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1024, 0] S1x128x128.size inb_S2x2048x128_S1x128x128_0_1024_0).toLoadRect x
  exact step16 16 0 8 rfl (by omega) (by omega) inb_S2x2048x128_S1x128x128_0_8_0_s_1_16_1 spos_1_16_1 1024 rfl inb_S2x2048x128_S1x128x128_0_1024_0 h.1 h.2.1 h.2.2
      (run.sl.v1156 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1158 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_26 : Holds 16 18 (M1 x0 x3 x1 x4) (M2 x0 x3 x1 x4 x2 x5) arg14.view (run.sl.HS2_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 18 (N1 x0 x3 x6 x1 x4 x7) (N2 x0 x3 x6 x1 x4 x7 x2 x5 x8) arg15.view (run.sl.HS3_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 18 (D1 x0 x3 x1 x4) (D2 x0 x3 x1 x4 x2 x5) arg16.view (run.sl.HS4_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1185 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![1, 1024, 0] S1x128x128.size inb_S2x2048x128_S1x128x128_1_1024_0).toLoadRect.idx x) := by
    intro x
    unfold run.sl.v1185
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1024, 0] S1x128x128.size inb_S2x2048x128_S1x128x128_1_1024_0).toLoadRect x
  have hl : ∀ x : S1x128x128.Idx, ((run.sl.v1187 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![1, 1024, 0] S1x128x128.size inb_S2x2048x128_S1x128x128_1_1024_0).toLoadRect.idx x) := by
    intro x
    unfold run.sl.v1187
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1024, 0] S1x128x128.size inb_S2x2048x128_S1x128x128_1_1024_0).toLoadRect x
  exact step16 17 1 8 rfl (by omega) (by omega) inb_S2x2048x128_S1x128x128_1_8_0_s_1_16_1 spos_1_16_1 1024 rfl inb_S2x2048x128_S1x128x128_1_1024_0 h.1 h.2.1 h.2.2
      (run.sl.v1185 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1187 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_27 : Holds 16 19 (M1 x0 x3 x1 x4) (M2 x0 x3 x1 x4 x2 x5) arg14.view (run.sl.HS2_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 19 (N1 x0 x3 x6 x1 x4 x7) (N2 x0 x3 x6 x1 x4 x7 x2 x5 x8) arg15.view (run.sl.HS3_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 19 (D1 x0 x3 x1 x4) (D2 x0 x3 x1 x4 x2 x5) arg16.view (run.sl.HS4_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_26 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1214 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![0, 1152, 0] S1x128x128.size inb_S2x2048x128_S1x128x128_0_1152_0).toLoadRect.idx x) := by
    intro x
    unfold run.sl.v1214
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1152, 0] S1x128x128.size inb_S2x2048x128_S1x128x128_0_1152_0).toLoadRect x
  have hl : ∀ x : S1x128x128.Idx, ((run.sl.v1216 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![0, 1152, 0] S1x128x128.size inb_S2x2048x128_S1x128x128_0_1152_0).toLoadRect.idx x) := by
    intro x
    unfold run.sl.v1216
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1152, 0] S1x128x128.size inb_S2x2048x128_S1x128x128_0_1152_0).toLoadRect x
  exact step16 18 0 9 rfl (by omega) (by omega) inb_S2x2048x128_S1x128x128_0_9_0_s_1_16_1 spos_1_16_1 1152 rfl inb_S2x2048x128_S1x128x128_0_1152_0 h.1 h.2.1 h.2.2
      (run.sl.v1214 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1216 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_28 : Holds 16 20 (M1 x0 x3 x1 x4) (M2 x0 x3 x1 x4 x2 x5) arg14.view (run.sl.HS2_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 20 (N1 x0 x3 x6 x1 x4 x7) (N2 x0 x3 x6 x1 x4 x7 x2 x5 x8) arg15.view (run.sl.HS3_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 20 (D1 x0 x3 x1 x4) (D2 x0 x3 x1 x4 x2 x5) arg16.view (run.sl.HS4_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_27 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1243 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![1, 1152, 0] S1x128x128.size inb_S2x2048x128_S1x128x128_1_1152_0).toLoadRect.idx x) := by
    intro x
    unfold run.sl.v1243
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1152, 0] S1x128x128.size inb_S2x2048x128_S1x128x128_1_1152_0).toLoadRect x
  have hl : ∀ x : S1x128x128.Idx, ((run.sl.v1245 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![1, 1152, 0] S1x128x128.size inb_S2x2048x128_S1x128x128_1_1152_0).toLoadRect.idx x) := by
    intro x
    unfold run.sl.v1245
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1152, 0] S1x128x128.size inb_S2x2048x128_S1x128x128_1_1152_0).toLoadRect x
  exact step16 19 1 9 rfl (by omega) (by omega) inb_S2x2048x128_S1x128x128_1_9_0_s_1_16_1 spos_1_16_1 1152 rfl inb_S2x2048x128_S1x128x128_1_1152_0 h.1 h.2.1 h.2.2
      (run.sl.v1243 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1245 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_29 : Holds 16 21 (M1 x0 x3 x1 x4) (M2 x0 x3 x1 x4 x2 x5) arg14.view (run.sl.HS2_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 21 (N1 x0 x3 x6 x1 x4 x7) (N2 x0 x3 x6 x1 x4 x7 x2 x5 x8) arg15.view (run.sl.HS3_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 21 (D1 x0 x3 x1 x4) (D2 x0 x3 x1 x4 x2 x5) arg16.view (run.sl.HS4_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_28 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1272 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![0, 1280, 0] S1x128x128.size inb_S2x2048x128_S1x128x128_0_1280_0).toLoadRect.idx x) := by
    intro x
    unfold run.sl.v1272
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1280, 0] S1x128x128.size inb_S2x2048x128_S1x128x128_0_1280_0).toLoadRect x
  have hl : ∀ x : S1x128x128.Idx, ((run.sl.v1274 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![0, 1280, 0] S1x128x128.size inb_S2x2048x128_S1x128x128_0_1280_0).toLoadRect.idx x) := by
    intro x
    unfold run.sl.v1274
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1280, 0] S1x128x128.size inb_S2x2048x128_S1x128x128_0_1280_0).toLoadRect x
  exact step16 20 0 10 rfl (by omega) (by omega) inb_S2x2048x128_S1x128x128_0_10_0_s_1_16_1 spos_1_16_1 1280 rfl inb_S2x2048x128_S1x128x128_0_1280_0 h.1 h.2.1 h.2.2
      (run.sl.v1272 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1274 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_30 : Holds 16 22 (M1 x0 x3 x1 x4) (M2 x0 x3 x1 x4 x2 x5) arg14.view (run.sl.HS2_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 22 (N1 x0 x3 x6 x1 x4 x7) (N2 x0 x3 x6 x1 x4 x7 x2 x5 x8) arg15.view (run.sl.HS3_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 22 (D1 x0 x3 x1 x4) (D2 x0 x3 x1 x4 x2 x5) arg16.view (run.sl.HS4_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_29 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1301 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![1, 1280, 0] S1x128x128.size inb_S2x2048x128_S1x128x128_1_1280_0).toLoadRect.idx x) := by
    intro x
    unfold run.sl.v1301
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1280, 0] S1x128x128.size inb_S2x2048x128_S1x128x128_1_1280_0).toLoadRect x
  have hl : ∀ x : S1x128x128.Idx, ((run.sl.v1303 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![1, 1280, 0] S1x128x128.size inb_S2x2048x128_S1x128x128_1_1280_0).toLoadRect.idx x) := by
    intro x
    unfold run.sl.v1303
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1280, 0] S1x128x128.size inb_S2x2048x128_S1x128x128_1_1280_0).toLoadRect x
  exact step16 21 1 10 rfl (by omega) (by omega) inb_S2x2048x128_S1x128x128_1_10_0_s_1_16_1 spos_1_16_1 1280 rfl inb_S2x2048x128_S1x128x128_1_1280_0 h.1 h.2.1 h.2.2
      (run.sl.v1301 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1303 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_31 : Holds 16 23 (M1 x0 x3 x1 x4) (M2 x0 x3 x1 x4 x2 x5) arg14.view (run.sl.HS2_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 23 (N1 x0 x3 x6 x1 x4 x7) (N2 x0 x3 x6 x1 x4 x7 x2 x5 x8) arg15.view (run.sl.HS3_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 23 (D1 x0 x3 x1 x4) (D2 x0 x3 x1 x4 x2 x5) arg16.view (run.sl.HS4_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_30 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1330 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![0, 1408, 0] S1x128x128.size inb_S2x2048x128_S1x128x128_0_1408_0).toLoadRect.idx x) := by
    intro x
    unfold run.sl.v1330
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1408, 0] S1x128x128.size inb_S2x2048x128_S1x128x128_0_1408_0).toLoadRect x
  have hl : ∀ x : S1x128x128.Idx, ((run.sl.v1332 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![0, 1408, 0] S1x128x128.size inb_S2x2048x128_S1x128x128_0_1408_0).toLoadRect.idx x) := by
    intro x
    unfold run.sl.v1332
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1408, 0] S1x128x128.size inb_S2x2048x128_S1x128x128_0_1408_0).toLoadRect x
  exact step16 22 0 11 rfl (by omega) (by omega) inb_S2x2048x128_S1x128x128_0_11_0_s_1_16_1 spos_1_16_1 1408 rfl inb_S2x2048x128_S1x128x128_0_1408_0 h.1 h.2.1 h.2.2
      (run.sl.v1330 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1332 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_32 : Holds 16 24 (M1 x0 x3 x1 x4) (M2 x0 x3 x1 x4 x2 x5) arg14.view (run.sl.HS2_33 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 24 (N1 x0 x3 x6 x1 x4 x7) (N2 x0 x3 x6 x1 x4 x7 x2 x5 x8) arg15.view (run.sl.HS3_33 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 24 (D1 x0 x3 x1 x4) (D2 x0 x3 x1 x4 x2 x5) arg16.view (run.sl.HS4_33 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_31 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1359 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![1, 1408, 0] S1x128x128.size inb_S2x2048x128_S1x128x128_1_1408_0).toLoadRect.idx x) := by
    intro x
    unfold run.sl.v1359
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1408, 0] S1x128x128.size inb_S2x2048x128_S1x128x128_1_1408_0).toLoadRect x
  have hl : ∀ x : S1x128x128.Idx, ((run.sl.v1361 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![1, 1408, 0] S1x128x128.size inb_S2x2048x128_S1x128x128_1_1408_0).toLoadRect.idx x) := by
    intro x
    unfold run.sl.v1361
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1408, 0] S1x128x128.size inb_S2x2048x128_S1x128x128_1_1408_0).toLoadRect x
  exact step16 23 1 11 rfl (by omega) (by omega) inb_S2x2048x128_S1x128x128_1_11_0_s_1_16_1 spos_1_16_1 1408 rfl inb_S2x2048x128_S1x128x128_1_1408_0 h.1 h.2.1 h.2.2
      (run.sl.v1359 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1361 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_33 : Holds 16 25 (M1 x0 x3 x1 x4) (M2 x0 x3 x1 x4 x2 x5) arg14.view (run.sl.HS2_34 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 25 (N1 x0 x3 x6 x1 x4 x7) (N2 x0 x3 x6 x1 x4 x7 x2 x5 x8) arg15.view (run.sl.HS3_34 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 25 (D1 x0 x3 x1 x4) (D2 x0 x3 x1 x4 x2 x5) arg16.view (run.sl.HS4_34 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1388 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![0, 1536, 0] S1x128x128.size inb_S2x2048x128_S1x128x128_0_1536_0).toLoadRect.idx x) := by
    intro x
    unfold run.sl.v1388
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1536, 0] S1x128x128.size inb_S2x2048x128_S1x128x128_0_1536_0).toLoadRect x
  have hl : ∀ x : S1x128x128.Idx, ((run.sl.v1390 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![0, 1536, 0] S1x128x128.size inb_S2x2048x128_S1x128x128_0_1536_0).toLoadRect.idx x) := by
    intro x
    unfold run.sl.v1390
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1536, 0] S1x128x128.size inb_S2x2048x128_S1x128x128_0_1536_0).toLoadRect x
  exact step16 24 0 12 rfl (by omega) (by omega) inb_S2x2048x128_S1x128x128_0_12_0_s_1_16_1 spos_1_16_1 1536 rfl inb_S2x2048x128_S1x128x128_0_1536_0 h.1 h.2.1 h.2.2
      (run.sl.v1388 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1390 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_34 : Holds 16 26 (M1 x0 x3 x1 x4) (M2 x0 x3 x1 x4 x2 x5) arg14.view (run.sl.HS2_35 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 26 (N1 x0 x3 x6 x1 x4 x7) (N2 x0 x3 x6 x1 x4 x7 x2 x5 x8) arg15.view (run.sl.HS3_35 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 26 (D1 x0 x3 x1 x4) (D2 x0 x3 x1 x4 x2 x5) arg16.view (run.sl.HS4_35 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_33 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1417 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![1, 1536, 0] S1x128x128.size inb_S2x2048x128_S1x128x128_1_1536_0).toLoadRect.idx x) := by
    intro x
    unfold run.sl.v1417
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1536, 0] S1x128x128.size inb_S2x2048x128_S1x128x128_1_1536_0).toLoadRect x
  have hl : ∀ x : S1x128x128.Idx, ((run.sl.v1419 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![1, 1536, 0] S1x128x128.size inb_S2x2048x128_S1x128x128_1_1536_0).toLoadRect.idx x) := by
    intro x
    unfold run.sl.v1419
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1536, 0] S1x128x128.size inb_S2x2048x128_S1x128x128_1_1536_0).toLoadRect x
  exact step16 25 1 12 rfl (by omega) (by omega) inb_S2x2048x128_S1x128x128_1_12_0_s_1_16_1 spos_1_16_1 1536 rfl inb_S2x2048x128_S1x128x128_1_1536_0 h.1 h.2.1 h.2.2
      (run.sl.v1417 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1419 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_35 : Holds 16 27 (M1 x0 x3 x1 x4) (M2 x0 x3 x1 x4 x2 x5) arg14.view (run.sl.HS2_36 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 27 (N1 x0 x3 x6 x1 x4 x7) (N2 x0 x3 x6 x1 x4 x7 x2 x5 x8) arg15.view (run.sl.HS3_36 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 27 (D1 x0 x3 x1 x4) (D2 x0 x3 x1 x4 x2 x5) arg16.view (run.sl.HS4_36 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_34 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1446 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![0, 1664, 0] S1x128x128.size inb_S2x2048x128_S1x128x128_0_1664_0).toLoadRect.idx x) := by
    intro x
    unfold run.sl.v1446
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1664, 0] S1x128x128.size inb_S2x2048x128_S1x128x128_0_1664_0).toLoadRect x
  have hl : ∀ x : S1x128x128.Idx, ((run.sl.v1448 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![0, 1664, 0] S1x128x128.size inb_S2x2048x128_S1x128x128_0_1664_0).toLoadRect.idx x) := by
    intro x
    unfold run.sl.v1448
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1664, 0] S1x128x128.size inb_S2x2048x128_S1x128x128_0_1664_0).toLoadRect x
  exact step16 26 0 13 rfl (by omega) (by omega) inb_S2x2048x128_S1x128x128_0_13_0_s_1_16_1 spos_1_16_1 1664 rfl inb_S2x2048x128_S1x128x128_0_1664_0 h.1 h.2.1 h.2.2
      (run.sl.v1446 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1448 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_36 : Holds 16 28 (M1 x0 x3 x1 x4) (M2 x0 x3 x1 x4 x2 x5) arg14.view (run.sl.HS2_37 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 28 (N1 x0 x3 x6 x1 x4 x7) (N2 x0 x3 x6 x1 x4 x7 x2 x5 x8) arg15.view (run.sl.HS3_37 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 28 (D1 x0 x3 x1 x4) (D2 x0 x3 x1 x4 x2 x5) arg16.view (run.sl.HS4_37 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_35 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1475 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![1, 1664, 0] S1x128x128.size inb_S2x2048x128_S1x128x128_1_1664_0).toLoadRect.idx x) := by
    intro x
    unfold run.sl.v1475
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1664, 0] S1x128x128.size inb_S2x2048x128_S1x128x128_1_1664_0).toLoadRect x
  have hl : ∀ x : S1x128x128.Idx, ((run.sl.v1477 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![1, 1664, 0] S1x128x128.size inb_S2x2048x128_S1x128x128_1_1664_0).toLoadRect.idx x) := by
    intro x
    unfold run.sl.v1477
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1664, 0] S1x128x128.size inb_S2x2048x128_S1x128x128_1_1664_0).toLoadRect x
  exact step16 27 1 13 rfl (by omega) (by omega) inb_S2x2048x128_S1x128x128_1_13_0_s_1_16_1 spos_1_16_1 1664 rfl inb_S2x2048x128_S1x128x128_1_1664_0 h.1 h.2.1 h.2.2
      (run.sl.v1475 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1477 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_37 : Holds 16 29 (M1 x0 x3 x1 x4) (M2 x0 x3 x1 x4 x2 x5) arg14.view (run.sl.HS2_38 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 29 (N1 x0 x3 x6 x1 x4 x7) (N2 x0 x3 x6 x1 x4 x7 x2 x5 x8) arg15.view (run.sl.HS3_38 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 29 (D1 x0 x3 x1 x4) (D2 x0 x3 x1 x4 x2 x5) arg16.view (run.sl.HS4_38 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_36 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1504 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![0, 1792, 0] S1x128x128.size inb_S2x2048x128_S1x128x128_0_1792_0).toLoadRect.idx x) := by
    intro x
    unfold run.sl.v1504
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1792, 0] S1x128x128.size inb_S2x2048x128_S1x128x128_0_1792_0).toLoadRect x
  have hl : ∀ x : S1x128x128.Idx, ((run.sl.v1506 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![0, 1792, 0] S1x128x128.size inb_S2x2048x128_S1x128x128_0_1792_0).toLoadRect.idx x) := by
    intro x
    unfold run.sl.v1506
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1792, 0] S1x128x128.size inb_S2x2048x128_S1x128x128_0_1792_0).toLoadRect x
  exact step16 28 0 14 rfl (by omega) (by omega) inb_S2x2048x128_S1x128x128_0_14_0_s_1_16_1 spos_1_16_1 1792 rfl inb_S2x2048x128_S1x128x128_0_1792_0 h.1 h.2.1 h.2.2
      (run.sl.v1504 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1506 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_38 : Holds 16 30 (M1 x0 x3 x1 x4) (M2 x0 x3 x1 x4 x2 x5) arg14.view (run.sl.HS2_39 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 30 (N1 x0 x3 x6 x1 x4 x7) (N2 x0 x3 x6 x1 x4 x7 x2 x5 x8) arg15.view (run.sl.HS3_39 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 30 (D1 x0 x3 x1 x4) (D2 x0 x3 x1 x4 x2 x5) arg16.view (run.sl.HS4_39 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_37 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1533 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![1, 1792, 0] S1x128x128.size inb_S2x2048x128_S1x128x128_1_1792_0).toLoadRect.idx x) := by
    intro x
    unfold run.sl.v1533
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1792, 0] S1x128x128.size inb_S2x2048x128_S1x128x128_1_1792_0).toLoadRect x
  have hl : ∀ x : S1x128x128.Idx, ((run.sl.v1535 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![1, 1792, 0] S1x128x128.size inb_S2x2048x128_S1x128x128_1_1792_0).toLoadRect.idx x) := by
    intro x
    unfold run.sl.v1535
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1792, 0] S1x128x128.size inb_S2x2048x128_S1x128x128_1_1792_0).toLoadRect x
  exact step16 29 1 14 rfl (by omega) (by omega) inb_S2x2048x128_S1x128x128_1_14_0_s_1_16_1 spos_1_16_1 1792 rfl inb_S2x2048x128_S1x128x128_1_1792_0 h.1 h.2.1 h.2.2
      (run.sl.v1533 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1535 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_39 : Holds 16 31 (M1 x0 x3 x1 x4) (M2 x0 x3 x1 x4 x2 x5) arg14.view (run.sl.HS2_40 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ∧ Holds 16 31 (N1 x0 x3 x6 x1 x4 x7) (N2 x0 x3 x6 x1 x4 x7 x2 x5 x8) arg15.view (run.sl.HS3_40 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 31 (D1 x0 x3 x1 x4) (D2 x0 x3 x1 x4 x2 x5) arg16.view (run.sl.HS4_40 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_38 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1562 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![0, 1920, 0] S1x128x128.size inb_S2x2048x128_S1x128x128_0_1920_0).toLoadRect.idx x) := by
    intro x
    unfold run.sl.v1562
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1920, 0] S1x128x128.size inb_S2x2048x128_S1x128x128_0_1920_0).toLoadRect x
  have hl : ∀ x : S1x128x128.Idx, ((run.sl.v1564 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![0, 1920, 0] S1x128x128.size inb_S2x2048x128_S1x128x128_0_1920_0).toLoadRect.idx x) := by
    intro x
    unfold run.sl.v1564
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![0, 1920, 0] S1x128x128.size inb_S2x2048x128_S1x128x128_0_1920_0).toLoadRect x
  exact step16 30 0 15 rfl (by omega) (by omega) inb_S2x2048x128_S1x128x128_0_15_0_s_1_16_1 spos_1_16_1 1920 rfl inb_S2x2048x128_S1x128x128_0_1920_0 h.1 h.2.1 h.2.2
      (run.sl.v1562 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1564 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl

theorem st_40 : Holds 16 32 (N1 x0 x3 x6 x1 x4 x7) (N2 x0 x3 x6 x1 x4 x7 x2 x5 x8) arg15.view (run.sl.HS3_41 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0 fs1) ∧ Holds 16 32 (D1 x0 x3 x1 x4) (D2 x0 x3 x1 x4 x2 x5) arg16.view (run.sl.HS4_41 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) := by
  have h := st_39 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  have ho : ∀ x : S1x128x128.Idx, ((run.sl.v1591 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) x : EReal) = (Oc2 x2 x5 x8) ((Rect.unit (s := S2x2048x128) ![1, 1920, 0] S1x128x128.size inb_S2x2048x128_S1x128x128_1_1920_0).toLoadRect.idx x) := by
    intro x
    unfold run.sl.v1591
    exact ld2_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1920, 0] S1x128x128.size inb_S2x2048x128_S1x128x128_1_1920_0).toLoadRect x
  have hl : ∀ x : S1x128x128.Idx, ((run.sl.v1593 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) x : EReal) = (Lc2 x2 x5) ((Rect.unit (s := S2x2048x128) ![1, 1920, 0] S1x128x128.size inb_S2x2048x128_S1x128x128_1_1920_0).toLoadRect.idx x) := by
    intro x
    unfold run.sl.v1593
    exact ld2_l c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x8 _ _ (Rect.unit (s := S2x2048x128) ![1, 1920, 0] S1x128x128.size inb_S2x2048x128_S1x128x128_1_1920_0).toLoadRect x
  exact (step16 31 1 15 rfl (by omega) (by omega) inb_S2x2048x128_S1x128x128_1_15_0_s_1_16_1 spos_1_16_1 1920 rfl inb_S2x2048x128_S1x128x128_1_1920_0 h.1 h.2.1 h.2.2
      (run.sl.v1591 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs0) (run.sl.v1593 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 fs1) ho hl).2

end Cert.KernelIdeal.Attn

end
-- ==== Proof.Attn.Body.lean ====
module

public import proofs.«01_k».proof.Proof.Attn.MergeLate

/-! What the attention kernel's body stores in its output block. -/

@[expose] public section

set_option maxRecDepth 16384

noncomputable section

namespace Cert.KernelIdeal.Attn

open Cert.KernelIdeal.Gen Cert.Attn
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic Idealize.ShloMosaic.TcCoe Idealize.ShloMosaic.Pointwise

local notation "𝕄" => MT nD τ sig Unit (Elt Ideal) ℕ (UR sig nD τ) ℕ

/-- The output block: the joined sum over the joined denominator. -/
def blk (x0 : Vec Ideal S1x1x2048x256 .bf16) (x1 : Vec Ideal S1x4x512x256 .bf16) (x2 : Vec Ideal S1x16x128x256 .bf16) (x3 : Vec Ideal S1x1x2048x256 .bf16) (x4 : Vec Ideal S1x4x512x256 .bf16) (x5 : Vec Ideal S1x16x128x256 .bf16) (x6 : Vec Ideal S1x1x2048x256 .bf16) (x7 : Vec Ideal S1x4x512x256 .bf16) (x8 : Vec Ideal S1x16x128x256 .bf16) :
    Vec Ideal S1x2048x256 .bf16 := fun y =>
  have z : S2x2048x128.Idx := ix3 (⟨(y 2).val / 128, by have h : (y 2).val < 256 := (y 2).isLt; omega⟩ : Fin 2) (⟨(y 1).val, (y 1).isLt⟩ : Fin 2048) (⟨(y 2).val % 128, by omega⟩ : Fin 128)
  Ideal.div (N2 x0 x3 x6 x1 x4 x7 x2 x5 x8 z) (D2 x0 x3 x1 x4 x2 x5 z)

theorem out_apply (a b : Vec Ideal S1x2048x128 .f32) (p : Fin 2048) (q : Fin 128) :
    (k0_pay1 (F := Ideal) a b (ix3 0 p q) : EReal) = Ideal.div (a (ix3 0 p q)) (b (ix3 0 p q)) := by
  pointwise [k0_pay1]

theorem out_apply' (a b : Vec Ideal S1x2048x128 .f32) (p : Fin 2048) (q : Fin 128) :
    (k0_pay867 (F := Ideal) (shapeCast S2048x128 a shapeCasts_S1x2048x128_S2048x128) b (ix3 0 p q) : EReal) = Ideal.div (a (ix3 0 p q)) (b (ix3 0 p q)) := by
  pointwise [k0_pay867]

theorem fin16 {f f' : Val3} {v : View sig .tc .vmem S2x2048x128 .f32} {L : PL} (h : Holds 16 (31 + 1) f f' v L) (B : LoadRect S2x2048x128) (x) :
    (v.readCov (Val := Elt Ideal) L B x : EReal) = f' (B.idx x) := by
  unfold View.readCov
  have h0 : (B.idx x 0).val < 2 := (B.idx x 0).isLt
  rw [View.readAt_apply, h, if_pos (by omega)]

theorem unit_idx (t : Nat) (ht : t < 2) (inb : ∀ a, (![t, 0, 0] : Fin 3 → Nat) a + S1x2048x128.size a ≤ S2x2048x128.size a) (p : Fin 2048) (q : Fin 128) :
    (Rect.unit (s := S2x2048x128) ![t, 0, 0] S1x2048x128.size inb).toLoadRect.idx (ix3 0 p q) = ix3 ⟨t, ht⟩ p q := by
  funext i
  apply Fin.ext
  fin_cases i
  · show t + 1 * 0 = t; omega
  · show 0 + 1 * p.val = p.val; omega
  · show 0 + 1 * q.val = q.val; omega

theorem out_emb (t : Nat) (ht : t < 2) (o : Nat) (ho : o = 128 * t) (inb : ∀ a, (![0, 0, o] : Fin 3 → Nat) a + S1x2048x128.size a ≤ S1x2048x256.size a) (x : S1x2048x128.Idx)
    (f g : Val3) (w : Vec Ideal S1x2048x128 .bf16) (hw : ∀ (p : Fin 2048) (q : Fin 128), (w (ix3 0 p q) : EReal) = Ideal.div (f (ix3 ⟨t, ht⟩ p q)) (g (ix3 ⟨t, ht⟩ p q))) :
    (w x : EReal) = (fun y : S1x2048x256.Idx => have z : S2x2048x128.Idx := ix3 (⟨(y 2).val / 128, by have h : (y 2).val < 256 := (y 2).isLt; omega⟩ : Fin 2) (⟨(y 1).val, (y 1).isLt⟩ : Fin 2048) (⟨(y 2).val % 128, by omega⟩ : Fin 128)
      Ideal.div (f z) (g z)) ((Rect.unit (s := S1x2048x256) ![0, 0, o] S1x2048x128.size inb).emb x) := by
  have hx : x = ix3 0 (x 1) (x 2) := by
    funext i; fin_cases i
    · exact Fin.ext (Nat.lt_one_iff.mp (x 0).isLt)
    · rfl
    · rfl
  rw [hx]
  have h2 : (x 2).val < 128 := (x 2).isLt
  refine (hw (x 1) (x 2)).trans ?_
  have e : (ix3 ⟨t, ht⟩ (x 1) (x 2) : S2x2048x128.Idx) = ix3 (⟨(o + 1 * (x 2).val) / 128, by omega⟩ : Fin 2) (⟨0 + 1 * (x 1).val, by have := (x 1).isLt; show _ < 2048; have h : (x 1).val < 2048 := this; omega⟩ : Fin 2048) (⟨(o + 1 * (x 2).val) % 128, by omega⟩ : Fin 128) := by
    funext i
    apply Fin.ext
    fin_cases i
    · show t = (o + 1 * (x 2).val) / 128; omega
    · show (x 1).val = 0 + 1 * (x 1).val; omega
    · show (x 2).val = (o + 1 * (x 2).val) % 128; omega
  exact congrArg (fun z => Ideal.div (f z) (g z)) e

theorem cov_out (w w' : Vec Ideal S1x2048x128 .bf16) (y : S1x2048x256.Idx) :
    ∃ p ∈ ([⟨Rect.unit (s := S1x2048x256) ![0, 0, 128] S1x2048x128.size inb_S1x2048x256_S1x2048x128_0_0_128, w⟩,
      ⟨Rect.unit (s := S1x2048x256) ![0, 0, 0] S1x2048x128.size inb_S1x2048x256_S1x2048x128_0_0_0, w'⟩] : List (View.Piece (Elt Ideal) S1x2048x256 .bf16)), y ∈ p.1.set := by
  have h0 : (y 0).val < 1 := (y 0).isLt
  have h1 : (y 1).val < 2048 := (y 1).isLt
  have h2 : (y 2).val < 256 := (y 2).isLt
  by_cases hy : (y 2).val < 128
  · refine ⟨_, List.mem_cons_of_mem _ List.mem_cons_self, ?_⟩
    rw [Rect.mem_set_unit]
    intro a
    fin_cases a
    · exact ⟨Nat.zero_le _, by show (y 0).val < 0 + 1; omega⟩
    · exact ⟨Nat.zero_le _, by show (y 1).val < 0 + 2048; omega⟩
    · exact ⟨Nat.zero_le _, by show (y 2).val < 0 + 128; omega⟩
  · refine ⟨_, List.mem_cons_self, ?_⟩
    rw [Rect.mem_set_unit]
    intro a
    fin_cases a
    · exact ⟨Nat.zero_le _, by show (y 0).val < 0 + 1; omega⟩
    · exact ⟨Nat.zero_le _, by show (y 1).val < 0 + 2048; omega⟩
    · exact ⟨by show 128 ≤ (y 2).val; omega, by show (y 2).val < 128 + 128; omega⟩

variable (c : Dev nD) (i : grid0.Coords) (arg2 : Memref sig .tc .vmem S1x1x2048x256 .bf16) (harg2 : arg2.IsWhole) (arg3 : Memref sig .tc .vmem S1x4x512x256 .bf16) (harg3 : arg3.IsWhole) (arg4 : Memref sig .tc .vmem S1x16x128x256 .bf16) (harg4 : arg4.IsWhole) (arg5 : Memref sig .tc .vmem S1x1x2048x256 .bf16) (harg5 : arg5.IsWhole) (arg6 : Memref sig .tc .vmem S1x4x512x256 .bf16) (harg6 : arg6.IsWhole) (arg7 : Memref sig .tc .vmem S1x16x128x256 .bf16) (harg7 : arg7.IsWhole) (arg8 : Memref sig .tc .vmem S1x1x2048x256 .bf16) (harg8 : arg8.IsWhole) (arg9 : Memref sig .tc .vmem S1x4x512x256 .bf16) (harg9 : arg9.IsWhole) (arg10 : Memref sig .tc .vmem S1x16x128x256 .bf16) (harg10 : arg10.IsWhole) (arg11 : Memref sig .tc .vmem S1x2048x256 .bf16) (harg11 : arg11.IsWhole) (arg12 : Memref sig .tc .vmem S2x2048x128 .f32) (harg12 : arg12.IsWhole) (arg13 : Memref sig .tc .vmem S2x2048x128 .f32) (harg13 : arg13.IsWhole) (arg14 : Memref sig .tc .vmem S2x2048x128 .f32) (harg14 : arg14.IsWhole) (arg15 : Memref sig .tc .vmem S2x2048x128 .f32) (harg15 : arg15.IsWhole) (arg16 : Memref sig .tc .vmem S2x2048x128 .f32) (harg16 : arg16.IsWhole)
variable (x0 : Vec Ideal S1x1x2048x256 .bf16) (x1 : Vec Ideal S1x4x512x256 .bf16) (x2 : Vec Ideal S1x16x128x256 .bf16) (x3 : Vec Ideal S1x1x2048x256 .bf16) (x4 : Vec Ideal S1x4x512x256 .bf16) (x5 : Vec Ideal S1x16x128x256 .bf16) (x6 : Vec Ideal S1x1x2048x256 .bf16) (x7 : Vec Ideal S1x4x512x256 .bf16) (x8 : Vec Ideal S1x16x128x256 .bf16)

theorem run_read (fs0 : BufTy.Contents (Elt Ideal) arg12.view.ty) (fs1 : BufTy.Contents (Elt Ideal) arg13.view.ty) (g : BufTy.Contents (Elt Ideal) arg11.view.ty) :
    arg11.view.read (Elt Ideal) (arg11.view.writes (Elt Ideal) g ((run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).1 fs0 fs1)) = blk x0 x1 x2 x3 x4 x5 x6 x7 x8 := by
  have h := st_40 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x3 x6 x1 x4 x7 x2 x5 x8 fs0 fs1
  funext y
  refine View.read_writes_apply_of_pieces (Val := Elt Ideal) arg11.view g (blk x0 x1 x2 x3 x4 x5 x6 x7 x8) _ ?_ y ?_
  · unfold run
    refine List.forall_mem_cons.mpr ⟨fun x => ?_, List.forall_mem_cons.mpr ⟨fun x => ?_, fun _ h => absurd h List.not_mem_nil⟩⟩
    · refine out_emb 1 (by omega) 128 rfl inb_S1x2048x256_S1x2048x128_0_0_128 x _ _ _ fun p q => ?_
      refine (out_apply _ _ p q).trans (congrArg₂ Ideal.div ?_ ?_)
      · unfold run.sl.v1629
        exact (fin16 h.1 _ _).trans (congrArg _ (unit_idx 1 (by omega) _ p q))
      · unfold run.sl.v1631
        exact (fin16 h.2 _ _).trans (congrArg _ (unit_idx 1 (by omega) _ p q))
    · refine out_emb 0 (by omega) 0 rfl inb_S1x2048x256_S1x2048x128_0_0_0 x _ _ _ fun p q => ?_
      unfold run.sl.v1621
      refine (out_apply' _ _ p q).trans (congrArg₂ Ideal.div ?_ ?_)
      · unfold run.sl.v1620
        exact (fin16 h.1 _ _).trans (congrArg _ (unit_idx 0 (by omega) _ p q))
      · unfold run.sl.v1622
        exact (fin16 h.2 _ _).trans (congrArg _ (unit_idx 0 (by omega) _ p q))
  · exact cov_out _ _ y

theorem body_triple (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (blk x0 x1 x2 x3 x4 x5 x6 x7 x8) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := Ideal)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine .trans ?_ ((run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).2 E K)
  simp only [run_read]
  iintro ⟨H0, H1, H2, H3, H4, H5, H6, H7, H8, H9, S0, S1, S2, S3, S4, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  iintro ⟨H0, H1, H2, H3, H4, H5, H6, H7, H8, ⟨%g0, %g1, %g, H9⟩, S0, S1, S2, S3, S4⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  iexact S4

end Cert.KernelIdeal.Attn

end
-- ==== Proof.Attn.Frame.lean ====
module

public import proofs.«01_k».proof.Proof.Attn.Body
public import proofs.«01_k».proof.Proof.Gen.KernelIdeal.Frame
public import Idealize.ShloMosaic.Lib.Pipeline.ValueKit

/-! The attention kernel's run: every point's output block, and the result array after the run. -/

@[expose] public section

set_option maxRecDepth 16384

noncomputable section

namespace Cert.KernelIdeal.Attn

open Cert.KernelIdeal.Gen Cert.Attn
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

local notation "𝕄" => MT nD τ sig Unit (Elt Ideal) ℕ (UR sig nD τ) ℕ

variable (m : (ℓ : Loc nD τ sig) → Buf (Elt Ideal) ℓ) (ρ : Dev nD → PrngReg)

abbrev ms0_0 (t : Fin cfg0.N) : Memref sig .tc .vmem S1x1x2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x512x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x128x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4x512x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x16x128x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x256 .bf16 := win0_9.stage (cfg0.slots t 9)
abbrev hs0_9 (t : Fin cfg0.N) : (ms0_9 t).IsWhole := hstage0_9 ((cfg0.slots t 9).cast nbuf0_9)
abbrev scM0_0 : Memref sig .tc .vmem S2x2048x128 .f32 := Memref.whole cc0_scratch0
abbrev scM0_1 : Memref sig .tc .vmem S2x2048x128 .f32 := Memref.whole cc0_scratch1
abbrev scM0_2 : Memref sig .tc .vmem S2x2048x128 .f32 := Memref.whole cc0_scratch2
abbrev scM0_3 : Memref sig .tc .vmem S2x2048x128 .f32 := Memref.whole cc0_scratch3
abbrev scM0_4 : Memref sig .tc .vmem S2x2048x128 .f32 := Memref.whole cc0_scratch4

/-- The invariant between points: the scratch buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The output block of point `t`, from the blocks of the nine inputs. -/
def outBlk (c : Dev nD) (t : Fin cfg0.N) : Vec Ideal S1x2048x256 .bf16 :=
  blk (iblk m c 0 t) (iblk m c 1 t) (iblk m c 2 t) (iblk m c 3 t) (iblk m c 4 t) (iblk m c 5 t) (iblk m c 6 t) (iblk m c 7 t) (iblk m c 8 t)

/-- The arrays as launched; each input's buffer keeps its block and the output's buffer holds the body's block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outBlk m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  unfold outBlk
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := Ideal) .tc cfg0.body (cfg0.bodyArgs t (cfg0.slots t)) = bodyAt0 t := by
  unfold defs₀; rw [Defs.onTc_tc]

theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Attn.Whole.lean ====
module

public import proofs.«01_k».proof.Proof.Attn.Frame

/-! The attention kernel's result array after the run, as one function of the nine argument arrays. -/

@[expose] public section

set_option maxRecDepth 16384

noncomputable section

namespace Cert.KernelIdeal.Attn

open Cert.KernelIdeal.Gen Cert.Attn
open Idealize.ShloMosaic Idealize.ShloMosaic.TcCoe Idealize.ShloMosaic.Tactic Idealize.ShloMosaic.Pointwise
open Idealize.SL.Sem
open Idealize.ShloMosaic.Pipeline (Dat)

/-- The block of batch `b` and half `h` of an array of 1 class. -/
def bl0 (A : Vec Ideal S16x1x2048x512 .bf16) (b : Fin 16) (h : Fin 2) : Vec Ideal S1x1x2048x256 .bf16 := fun y =>
  A (ix4 b (⟨(y 1).val, (y 1).isLt⟩ : Fin 1) (⟨(y 2).val, (y 2).isLt⟩ : Fin 2048) (⟨256 * h.val + (y 3).val, by have h1 : (y 3).val < 256 := (y 3).isLt; have := h.isLt; omega⟩ : Fin 512))

/-- The block of batch `b` and half `h` of an array of 4 classes. -/
def bl1 (A : Vec Ideal S16x4x512x512 .bf16) (b : Fin 16) (h : Fin 2) : Vec Ideal S1x4x512x256 .bf16 := fun y =>
  A (ix4 b (⟨(y 1).val, (y 1).isLt⟩ : Fin 4) (⟨(y 2).val, (y 2).isLt⟩ : Fin 512) (⟨256 * h.val + (y 3).val, by have h1 : (y 3).val < 256 := (y 3).isLt; have := h.isLt; omega⟩ : Fin 512))

/-- The block of batch `b` and half `h` of an array of 16 classes. -/
def bl2 (A : Vec Ideal S16x16x128x512 .bf16) (b : Fin 16) (h : Fin 2) : Vec Ideal S1x16x128x256 .bf16 := fun y =>
  A (ix4 b (⟨(y 1).val, (y 1).isLt⟩ : Fin 16) (⟨(y 2).val, (y 2).isLt⟩ : Fin 128) (⟨256 * h.val + (y 3).val, by have h1 : (y 3).val < 256 := (y 3).isLt; have := h.isLt; omega⟩ : Fin 512))

/-- The result array. -/
def whole (A0 : Vec Ideal S16x1x2048x512 .bf16) (A1 : Vec Ideal S16x4x512x512 .bf16) (A2 : Vec Ideal S16x16x128x512 .bf16) (A3 : Vec Ideal S16x1x2048x512 .bf16) (A4 : Vec Ideal S16x4x512x512 .bf16) (A5 : Vec Ideal S16x16x128x512 .bf16) (A6 : Vec Ideal S16x1x2048x512 .bf16) (A7 : Vec Ideal S16x4x512x512 .bf16) (A8 : Vec Ideal S16x16x128x512 .bf16) : Vec Ideal S16x2048x512 .bf16 := fun i =>
  have b : Fin 16 := ⟨(i 0).val, (i 0).isLt⟩
  have h : Fin 2 := ⟨(i 2).val / 256, by have h1 : (i 2).val < 512 := (i 2).isLt; omega⟩
  blk (bl0 A0 b h) (bl1 A1 b h) (bl2 A2 b h) (bl0 A3 b h) (bl1 A4 b h) (bl2 A5 b h) (bl0 A6 b h) (bl1 A7 b h) (bl2 A8 b h) (ix3 0 (⟨(i 1).val, (i 1).isLt⟩ : Fin 2048) (⟨(i 2).val % 256, by omega⟩ : Fin 256))

theorem whole_at (A0 : Vec Ideal S16x1x2048x512 .bf16) (A1 : Vec Ideal S16x4x512x512 .bf16) (A2 : Vec Ideal S16x16x128x512 .bf16) (A3 : Vec Ideal S16x1x2048x512 .bf16) (A4 : Vec Ideal S16x4x512x512 .bf16) (A5 : Vec Ideal S16x16x128x512 .bf16) (A6 : Vec Ideal S16x1x2048x512 .bf16) (A7 : Vec Ideal S16x4x512x512 .bf16) (A8 : Vec Ideal S16x16x128x512 .bf16) (i : S16x2048x512.Idx) (b : Fin 16) (h : Fin 2) (y : S1x2048x256.Idx)
    (h0 : (i 0).val = b.val) (h1 : (i 1).val = (y 1).val) (h2 : (i 2).val = 256 * h.val + (y 2).val) :
    whole A0 A1 A2 A3 A4 A5 A6 A7 A8 i = blk (bl0 A0 b h) (bl1 A1 b h) (bl2 A2 b h) (bl0 A3 b h) (bl1 A4 b h) (bl2 A5 b h) (bl0 A6 b h) (bl1 A7 b h) (bl2 A8 b h) y := by
  have y0 : (y 0).val < 1 := (y 0).isLt
  have y2 : (y 2).val < 256 := (y 2).isLt
  have hb : (⟨(i 0).val, (i 0).isLt⟩ : Fin 16) = b := Fin.ext h0
  have hh : (⟨(i 2).val / 256, by have h1 : (i 2).val < 512 := (i 2).isLt; omega⟩ : Fin 2) = h := Fin.ext (by show (i 2).val / 256 = _; omega)
  unfold whole
  dsimp only
  rw [hb, hh]
  refine congrArg _ ?_
  funext a
  apply Fin.ext
  fin_cases a
  · show 0 = (y 0).val; omega
  · exact h1
  · show (i 2).val % 256 = (y 2).val; omega

variable (m : (ℓ : Loc nD τ sig) → Buf (Elt Ideal) ℓ) (ρ : Dev nD → PrngReg)

/-- The grid's two coordinates as a batch and a half. -/
abbrev pb (t : Fin cfg0.N) : Fin 16 := ⟨(grid0.coords t 0).val, (grid0.coords t 0).isLt⟩
abbrev ph (t : Fin cfg0.N) : Fin 2 := ⟨(grid0.coords t 1).val, (grid0.coords t 1).isLt⟩

theorem e0 : ∀ t : Fin cfg0.N, win0_0.index t = ![(grid0.coords t 0).val, 0, 0, (grid0.coords t 1).val] :=
  (by decide +kernel : ∀ t : Fin grid0.N, _)
theorem e1 : ∀ t : Fin cfg0.N, win0_1.index t = ![(grid0.coords t 0).val, 0, 0, (grid0.coords t 1).val] :=
  (by decide +kernel : ∀ t : Fin grid0.N, _)
theorem e2 : ∀ t : Fin cfg0.N, win0_2.index t = ![(grid0.coords t 0).val, 0, 0, (grid0.coords t 1).val] :=
  (by decide +kernel : ∀ t : Fin grid0.N, _)
theorem e3 : ∀ t : Fin cfg0.N, win0_3.index t = ![(grid0.coords t 0).val, 0, 0, (grid0.coords t 1).val] :=
  (by decide +kernel : ∀ t : Fin grid0.N, _)
theorem e4 : ∀ t : Fin cfg0.N, win0_4.index t = ![(grid0.coords t 0).val, 0, 0, (grid0.coords t 1).val] :=
  (by decide +kernel : ∀ t : Fin grid0.N, _)
theorem e5 : ∀ t : Fin cfg0.N, win0_5.index t = ![(grid0.coords t 0).val, 0, 0, (grid0.coords t 1).val] :=
  (by decide +kernel : ∀ t : Fin grid0.N, _)
theorem e6 : ∀ t : Fin cfg0.N, win0_6.index t = ![(grid0.coords t 0).val, 0, 0, (grid0.coords t 1).val] :=
  (by decide +kernel : ∀ t : Fin grid0.N, _)
theorem e7 : ∀ t : Fin cfg0.N, win0_7.index t = ![(grid0.coords t 0).val, 0, 0, (grid0.coords t 1).val] :=
  (by decide +kernel : ∀ t : Fin grid0.N, _)
theorem e8 : ∀ t : Fin cfg0.N, win0_8.index t = ![(grid0.coords t 0).val, 0, 0, (grid0.coords t 1).val] :=
  (by decide +kernel : ∀ t : Fin grid0.N, _)
theorem e9 : ∀ t : Fin cfg0.N, win0_9.index t = ![(grid0.coords t 0).val, 0, (grid0.coords t 1).val] :=
  (by decide +kernel : ∀ t : Fin grid0.N, _)
theorem iblk_0 (c : Dev nD) (t : Fin cfg0.N) :
    (iblk m c 0 t : Vec Ideal S1x1x2048x256 .bf16) = bl0 (m ((c : Thread nD τ).loc main_arg0)) (pb t) (ph t) := by
  funext y
  unfold bl0
  have hz : (y 0).val = 0 := by have h1 : (y 0).val < 1 := (y 0).isLt; omega
  blk_simp [iblk, e0]
  blk_ext [e0]
theorem iblk_1 (c : Dev nD) (t : Fin cfg0.N) :
    (iblk m c 1 t : Vec Ideal S1x4x512x256 .bf16) = bl1 (m ((c : Thread nD τ).loc main_arg1)) (pb t) (ph t) := by
  funext y
  unfold bl1
  have hz : (y 0).val = 0 := by have h1 : (y 0).val < 1 := (y 0).isLt; omega
  blk_simp [iblk, e1]
  blk_ext [e1]
theorem iblk_2 (c : Dev nD) (t : Fin cfg0.N) :
    (iblk m c 2 t : Vec Ideal S1x16x128x256 .bf16) = bl2 (m ((c : Thread nD τ).loc main_arg2)) (pb t) (ph t) := by
  funext y
  unfold bl2
  have hz : (y 0).val = 0 := by have h1 : (y 0).val < 1 := (y 0).isLt; omega
  blk_simp [iblk, e2]
  blk_ext [e2]
theorem iblk_3 (c : Dev nD) (t : Fin cfg0.N) :
    (iblk m c 3 t : Vec Ideal S1x1x2048x256 .bf16) = bl0 (m ((c : Thread nD τ).loc main_arg3)) (pb t) (ph t) := by
  funext y
  unfold bl0
  have hz : (y 0).val = 0 := by have h1 : (y 0).val < 1 := (y 0).isLt; omega
  blk_simp [iblk, e3]
  blk_ext [e3]
theorem iblk_4 (c : Dev nD) (t : Fin cfg0.N) :
    (iblk m c 4 t : Vec Ideal S1x4x512x256 .bf16) = bl1 (m ((c : Thread nD τ).loc main_arg4)) (pb t) (ph t) := by
  funext y
  unfold bl1
  have hz : (y 0).val = 0 := by have h1 : (y 0).val < 1 := (y 0).isLt; omega
  blk_simp [iblk, e4]
  blk_ext [e4]
theorem iblk_5 (c : Dev nD) (t : Fin cfg0.N) :
    (iblk m c 5 t : Vec Ideal S1x16x128x256 .bf16) = bl2 (m ((c : Thread nD τ).loc main_arg5)) (pb t) (ph t) := by
  funext y
  unfold bl2
  have hz : (y 0).val = 0 := by have h1 : (y 0).val < 1 := (y 0).isLt; omega
  blk_simp [iblk, e5]
  blk_ext [e5]
theorem iblk_6 (c : Dev nD) (t : Fin cfg0.N) :
    (iblk m c 6 t : Vec Ideal S1x1x2048x256 .bf16) = bl0 (m ((c : Thread nD τ).loc main_arg6)) (pb t) (ph t) := by
  funext y
  unfold bl0
  have hz : (y 0).val = 0 := by have h1 : (y 0).val < 1 := (y 0).isLt; omega
  blk_simp [iblk, e6]
  blk_ext [e6]
theorem iblk_7 (c : Dev nD) (t : Fin cfg0.N) :
    (iblk m c 7 t : Vec Ideal S1x4x512x256 .bf16) = bl1 (m ((c : Thread nD τ).loc main_arg7)) (pb t) (ph t) := by
  funext y
  unfold bl1
  have hz : (y 0).val = 0 := by have h1 : (y 0).val < 1 := (y 0).isLt; omega
  blk_simp [iblk, e7]
  blk_ext [e7]
theorem iblk_8 (c : Dev nD) (t : Fin cfg0.N) :
    (iblk m c 8 t : Vec Ideal S1x16x128x256 .bf16) = bl2 (m ((c : Thread nD τ).loc main_arg8)) (pb t) (ph t) := by
  funext y
  unfold bl2
  have hz : (y 0).val = 0 := by have h1 : (y 0).val < 1 := (y 0).isLt; omega
  blk_simp [iblk, e8]
  blk_ext [e8]

theorem final_o (c : Dev nD) : (dats m 0 c).arrAt 9 cfg0.N = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  unfold outBlk
  rw [iblk_0, iblk_1, iblk_2, iblk_3, iblk_4, iblk_5, iblk_6, iblk_7, iblk_8]
  have h0 : (y 0).val < 1 := (y 0).isLt
  have h1 : (y 1).val < 2048 := (y 1).isLt
  have h2 : (y 2).val < 256 := (y 2).isLt
  have hp1 : (grid0.coords t 1).val < 2 := (grid0.coords t 1).isLt
  have k0 : ((win0_9.blk t).view.emb y 0).val = (pb t).val := by blk_simp [e9]; try omega
  have k1 : ((win0_9.blk t).view.emb y 1).val = (y 1).val := by blk_simp [e9]; try omega
  have k2 : ((win0_9.blk t).view.emb y 2).val = 256 * (ph t).val + (y 2).val := by blk_simp [e9]; show _ = 256 * (grid0.coords t 1).val + _; omega
  exact (whole_at _ _ _ _ _ _ _ _ _ _ (pb t) (ph t) y k0 k1 k2).symm

end Cert.KernelIdeal.Attn

end
-- ==== Proof.Attn.MaskRef.lean ====
module

public import Idealize.ShloMosaic.Lib.Affine

/-! The reference's mask as an inequality between positions. -/

@[expose] public section

namespace Cert.Attn

open Idealize.ShloMosaic

theorem mask_word (d w p k : ℕ) (hd : 0 < d) (hd' : d < 2048) (hw : w ≤ 2048) (hp : p < 2048) (hk : k < 2048) :
    IntOp.andi (IntOp.andi (IntOp.cmpi .sge (IntOp.subi (BitVec.ofNat 32 p) (BitVec.ofNat 32 k)) 0#32)
        (IntOp.cmpi .sle (IntOp.subi (BitVec.ofNat 32 p) (BitVec.ofNat 32 k)) (BitVec.ofNat 32 w)))
      (IntOp.cmpi .eq (IntOp.remsi .host (IntOp.subi (BitVec.ofNat 32 p) (BitVec.ofNat 32 k)) (BitVec.ofNat 32 d)) 0#32)
    = BitVec.ofBool (decide (k ≤ p ∧ p ≤ k + w ∧ (p - k) % d = 0)) := by
  by_cases h : k ≤ p
  · have e : IntOp.subi (BitVec.ofNat 32 p) (BitVec.ofNat 32 k) = BitVec.ofNat 32 (p - k) := by
      unfold IntOp.subi
      apply BitVec.eq_of_toNat_eq
      simp only [BitVec.toNat_sub, BitVec.toNat_ofNat]
      omega
    have i1 : (BitVec.ofNat 32 (p - k)).toInt = ((p - k : ℕ) : ℤ) := by
      rw [BitVec.toInt_ofNat', Int.bmod_def]; split <;> omega
    have i2 : (BitVec.ofNat 32 w).toInt = (w : ℤ) := by
      rw [BitVec.toInt_ofNat', Int.bmod_def]; split <;> omega
    have n1 : (BitVec.ofNat 32 (p - k)).toNat = p - k := by rw [BitVec.toNat_ofNat]; omega
    have r := IntOp.toNat_remsi .host (x := BitVec.ofNat 32 (p - k)) (by rw [n1]; omega) d hd (by omega)
    rw [n1] at r
    rw [e]
    have a1 : IntOp.cmpi .sge (BitVec.ofNat 32 (p - k)) 0#32 = 1#1 := by
      simp [IntOp.cmpi, BitVec.sle, i1]
    have a2 : IntOp.cmpi .sle (BitVec.ofNat 32 (p - k)) (BitVec.ofNat 32 w) = BitVec.ofBool (decide (p ≤ k + w)) := by
      unfold IntOp.cmpi
      congr 1
      simp only [BitVec.sle, i1, i2]
      congr 1
      apply propext
      omega
    have a3 : IntOp.cmpi .eq (IntOp.remsi .host (BitVec.ofNat 32 (p - k)) (BitVec.ofNat 32 d)) 0#32 = BitVec.ofBool (decide ((p - k) % d = 0)) := by
      unfold IntOp.cmpi
      congr 1
      rw [Bool.eq_iff_iff]
      simp only [beq_iff_eq, decide_eq_true_eq, ← BitVec.toNat_inj, r]
      rfl
    rw [a1, a2, a3]
    by_cases b : p ≤ k + w <;> by_cases c : (p - k) % d = 0 <;> simp [b, c, h, IntOp.andi]
  · have i1 : (IntOp.subi (BitVec.ofNat 32 p) (BitVec.ofNat 32 k)).toInt < 0 := by
      unfold IntOp.subi
      rw [BitVec.toInt_sub, BitVec.toInt_ofNat', BitVec.toInt_ofNat']
      rw [Int.bmod_def, Int.bmod_def, Int.bmod_def]
      split_ifs <;> omega
    have a1 : IntOp.cmpi .sge (IntOp.subi (BitVec.ofNat 32 p) (BitVec.ofNat 32 k)) 0#32 = 0#1 := by
      have i2 : ¬ (0 : ℤ) ≤ (IntOp.subi (BitVec.ofNat 32 p) (BitVec.ofNat 32 k)).toInt := by omega
      simp [IntOp.cmpi, BitVec.sle, i2]
    rw [a1]
    simp [h, IntOp.andi]

end Cert.Attn
-- ==== Proof.Attn.RefRead.lean ====
module

public import proofs.«01_k».proof.Proof.Attn.Math
public import proofs.«01_k».proof.Proof.Attn.MaskRef
public import proofs.«01_k».proof.Proof.Gen.ReferenceIdeal.Read
public import Idealize.ShloMosaic.Lib.Pointwise

/-! The reference, read: each dilated attention is `out` and `lse` of its masked scores over positions. -/

@[expose] public section

noncomputable section

namespace Cert.ReferenceIdeal.Attn

open Cert.ReferenceIdeal Cert.ReferenceIdeal.Gen Cert.ReferenceIdeal.Read Cert.Attn
open Idealize.ShloMosaic Idealize.ShloMosaic.TcCoe Idealize.ShloMosaic.Pointwise

theorem bot_word : (FloatOps.ofBits .f32 0xFF800000#32 : Ideal .f32) = (⊥ : EReal) := by
  show Ideal.ofBits .f32 0xFF800000#32 = ⊥
  simp [Ideal.ofBits, Ideal.ieee]

theorem zero_word : (FloatOps.ofBits .f32 0x00000000#32 : Ideal .f32) = (0 : EReal) := by
  show Ideal.ofBits .f32 0x00000000#32 = 0
  simp [Ideal.ofBits, Ideal.ieee]

/-! ## 1 class of 2048 rows -/

/-- A value of head `h` at position `p`. -/
def nat0 (A : Vec Ideal S16x1x2048x512 .bf16) (b : Fin 16) (h : Fin 8) (p : Fin 2048) (x : Fin 64) : EReal :=
  A (ix4 b (⟨p.val % 1, by omega⟩ : Fin 1) (⟨p.val / 1, by omega⟩ : Fin 2048) (⟨h.val * 64 + x.val, by omega⟩ : Fin 512))

/-- The masked scores of position `p`. -/
def rs0 (Q K : Vec Ideal S16x1x2048x512 .bf16) (b : Fin 16) (h : Fin 8) (p k : Fin 2048) : EReal :=
  if k.val ≤ p.val ∧ p.val ≤ k.val + 128 ∧ (p.val - k.val) % 1 = 0 then ∑ x : Fin 64, nat0 Q b h p x * nat0 K b h k x else ⊥

theorem q0 (A : Vec Ideal S16x1x2048x512 .bf16) (i : S16x2048x8x64.Idx) : (val_main_v2 (F := Ideal) A i : EReal) = nat0 A (i 0) (i 2) (i 1) (i 3) := by
  rw [val_main_v2_apply, val_main_v1_apply, val_main_v0_apply]
  have h0 : (i 0).val < 16 := (i 0).isLt
  have h1 : (i 1).val < 2048 := (i 1).isLt
  have h2 : (i 2).val < 8 := (i 2).isLt
  have h3 : (i 3).val < 64 := (i 3).isLt
  show A _ = A _
  congr 1
  funext a
  apply Fin.ext
  fin_cases a
  · show ((((i 0).val * 2048 + (i 1).val) * 8 + (i 2).val) * 64 + (i 3).val) / 1048576 = (i 0).val
    omega
  · show 0 = (i 1).val % 1
    omega
  · show ((((i 0).val * 2048 + (i 1).val) * 8 + (i 2).val) * 64 + (i 3).val) / 512 % 2048 = (i 1).val / 1
    omega
  · show ((((i 0).val * 2048 + (i 1).val) * 8 + (i 2).val) * 64 + (i 3).val) % 512 = (i 2).val * 64 + (i 3).val
    omega

theorem k0 (A : Vec Ideal S16x1x2048x512 .bf16) (i : S16x2048x8x64.Idx) : (val_main_v5 (F := Ideal) A i : EReal) = nat0 A (i 0) (i 2) (i 1) (i 3) := by
  rw [val_main_v5_apply, val_main_v4_apply, val_main_v3_apply]
  have h0 : (i 0).val < 16 := (i 0).isLt
  have h1 : (i 1).val < 2048 := (i 1).isLt
  have h2 : (i 2).val < 8 := (i 2).isLt
  have h3 : (i 3).val < 64 := (i 3).isLt
  show A _ = A _
  congr 1
  funext a
  apply Fin.ext
  fin_cases a
  · show ((((i 0).val * 2048 + (i 1).val) * 8 + (i 2).val) * 64 + (i 3).val) / 1048576 = (i 0).val
    omega
  · show 0 = (i 1).val % 1
    omega
  · show ((((i 0).val * 2048 + (i 1).val) * 8 + (i 2).val) * 64 + (i 3).val) / 512 % 2048 = (i 1).val / 1
    omega
  · show ((((i 0).val * 2048 + (i 1).val) * 8 + (i 2).val) * 64 + (i 3).val) % 512 = (i 2).val * 64 + (i 3).val
    omega

theorem v0 (A : Vec Ideal S16x1x2048x512 .bf16) (i : S16x2048x8x64.Idx) : (val_main_v8 (F := Ideal) A i : EReal) = nat0 A (i 0) (i 2) (i 1) (i 3) := by
  rw [val_main_v8_apply, val_main_v7_apply, val_main_v6_apply]
  have h0 : (i 0).val < 16 := (i 0).isLt
  have h1 : (i 1).val < 2048 := (i 1).isLt
  have h2 : (i 2).val < 8 := (i 2).isLt
  have h3 : (i 3).val < 64 := (i 3).isLt
  show A _ = A _
  congr 1
  funext a
  apply Fin.ext
  fin_cases a
  · show ((((i 0).val * 2048 + (i 1).val) * 8 + (i 2).val) * 64 + (i 3).val) / 1048576 = (i 0).val
    omega
  · show 0 = (i 1).val % 1
    omega
  · show ((((i 0).val * 2048 + (i 1).val) * 8 + (i 2).val) * 64 + (i 3).val) / 512 % 2048 = (i 1).val / 1
    omega
  · show ((((i 0).val * 2048 + (i 1).val) * 8 + (i 2).val) * 64 + (i 3).val) % 512 = (i 2).val * 64 + (i 3).val
    omega

theorem sc0 (Q K : Vec Ideal S16x1x2048x512 .bf16) (i : S16x8x2048x2048.Idx) : (val_main_v28 (F := Ideal) Q K i : EReal) = rs0 Q K (i 0) (i 1) (i 2) (i 3) := by
  have hm : (val_main_call0_v1 (F := Ideal) i : BitVec 1) = BitVec.ofBool (decide ((i 3).val ≤ (i 2).val ∧ (i 2).val ≤ (i 3).val + 128 ∧ ((i 2).val - (i 3).val) % 1 = 0)) := by
    rw [val_main_call0_v1_apply, val_main_v27_apply, val_main_v26_apply, val_main_v21_apply, val_main_v18_apply, val_main_v20_apply, val_main_v25_apply, val_main_v23_apply, val_main_v16_apply, val_main_v14_apply, val_main_v15_apply, val_main_v11_apply, val_main_v13_apply, val_main_v10_apply, val_main_v12_apply, val_main_v17_apply, val_main_v19_apply, val_main_v22_apply, val_main_v24_apply, val_main_c_apply, val_main_c_0_apply, val_main_c_1_apply, val_main_c_2_apply]
    exact mask_word 1 128 (i 2).val (i 3).val (by omega) (by omega) (by omega) (i 2).isLt (i 3).isLt
  rw [val_main_v28_apply, hm, val_main_call0_v2_apply, val_main_call0_v0_apply, val_main_cst_apply, bot_word, val_main_v9_apply]
  unfold rs0
  simp only [q0, k0]
  unfold Scalar.select
  by_cases hc : (i 3).val ≤ (i 2).val ∧ (i 2).val ≤ (i 3).val + 128 ∧ ((i 2).val - (i 3).val) % 1 = 0
  · rw [if_pos hc, decide_eq_true hc]; rfl
  · rw [if_neg hc, decide_eq_false hc]; rfl

theorem mx0 (Q K : Vec Ideal S16x1x2048x512 .bf16) (i : S16x8x2048.Idx) : (val_main_v29 (F := Ideal) Q K i : EReal) = mx (rs0 Q K (i 0) (i 1) (i 2)) := by
  rw [← fold_max]
  unfold val_main_v29
  have hs : ∀ j, (val_main_v28 (F := Ideal) Q K j : EReal) = rs0 Q K (j 0) (j 1) (j 2) (j 3) := sc0 Q K
  generalize val_main_v28 (F := Ideal) Q K = y at hs ⊢
  obtain ⟨p, q, r, rfl⟩ : ∃ p q r, i = ix3 p q r := ⟨i 0, i 1, i 2, by funext a; fin_cases a <;> rfl⟩
  pointwise [hs]
  rw [val_main_cst_3_apply, bot_word]

theorem wt0 (Q K : Vec Ideal S16x1x2048x512 .bf16) (i : S16x8x2048x2048.Idx) : (val_main_v33 (F := Ideal) Q K i : EReal) = wt (rs0 Q K (i 0) (i 1) (i 2)) (i 3) := by
  rw [val_main_v33_apply, val_main_v32_apply, sc0, val_main_v31_apply, val_main_v30_apply, mx0]
  rfl

theorem dn0 (Q K : Vec Ideal S16x1x2048x512 .bf16) (i : S16x8x2048.Idx) : (val_main_v34 (F := Ideal) Q K i : EReal) = dn (rs0 Q K (i 0) (i 1) (i 2)) := by
  rw [val_main_v34_apply, val_main_cst_4_apply, zero_word, zero_add]
  simp only [wt0]
  rfl

theorem pr0 (Q K : Vec Ideal S16x1x2048x512 .bf16) (i : S16x8x2048x2048.Idx) : (val_main_v39 (F := Ideal) Q K i : EReal)
    = Ideal.div (wt (rs0 Q K (i 0) (i 1) (i 2)) (i 3)) (dn (rs0 Q K (i 0) (i 1) (i 2))) := by
  rw [val_main_v39_apply, val_main_v38_apply, val_main_v37_apply, wt0, val_main_v36_apply, val_main_v35_apply, dn0]
  rfl

theorem o0 (Q K A : Vec Ideal S16x1x2048x512 .bf16) (i : S16x2048x8x64.Idx) (hs : Good (rs0 Q K (i 0) (i 2) (i 1))) :
    (val_main_v41 (F := Ideal) Q K A i : EReal) = out (rs0 Q K (i 0) (i 2) (i 1)) (fun k => nat0 A (i 0) (i 2) k (i 3)) := by
  rw [out_eq_sum hs, val_main_v41_apply, val_main_v40_apply]
  simp only [v0, pr0]
  exact Finset.sum_congr rfl fun k _ => mul_comm _ _

theorem l0 (Q K : Vec Ideal S16x1x2048x512 .bf16) (i : S16x2048x8.Idx) : (val_main_v45 (F := Ideal) Q K i : EReal) = lse (rs0 Q K (i 0) (i 2) (i 1)) := by
  have h0 : (i 0).val < 16 := (i 0).isLt
  have h1 : (i 1).val < 2048 := (i 1).isLt
  have h2 : (i 2).val < 8 := (i 2).isLt
  rw [val_main_v45_apply, val_main_v44_apply, val_main_v43_apply, val_main_v42_apply, val_main_v30_apply, val_main_v35_apply, mx0, dn0]
  have e : idx_main_v30 (idx_main_v44 (idx_main_v45 i)) = ix3 (i 0) (i 2) (i 1) := by
    funext a
    apply Fin.ext
    fin_cases a
    · show (((i 0).val * 8 + (i 2).val) * 2048 + (i 1).val) / 16384 = (i 0).val
      omega
    · show (((i 0).val * 8 + (i 2).val) * 2048 + (i 1).val) / 2048 % 8 = (i 2).val
      omega
    · show (((i 0).val * 8 + (i 2).val) * 2048 + (i 1).val) / 1 % 2048 = (i 1).val
      omega
  have e' : idx_main_v35 (idx_main_v44 (idx_main_v45 i)) = ix3 (i 0) (i 2) (i 1) := e
  rw [e, e']
  rfl

/-! ## 4 classes of 512 rows -/

/-- A value of head `h` at position `p`. -/
def nat1 (A : Vec Ideal S16x4x512x512 .bf16) (b : Fin 16) (h : Fin 8) (p : Fin 2048) (x : Fin 64) : EReal :=
  A (ix4 b (⟨p.val % 4, by omega⟩ : Fin 4) (⟨p.val / 4, by omega⟩ : Fin 512) (⟨h.val * 64 + x.val, by omega⟩ : Fin 512))

/-- The masked scores of position `p`. -/
def rs1 (Q K : Vec Ideal S16x4x512x512 .bf16) (b : Fin 16) (h : Fin 8) (p k : Fin 2048) : EReal :=
  if k.val ≤ p.val ∧ p.val ≤ k.val + 512 ∧ (p.val - k.val) % 4 = 0 then ∑ x : Fin 64, nat1 Q b h p x * nat1 K b h k x else ⊥

theorem q1 (A : Vec Ideal S16x4x512x512 .bf16) (i : S16x2048x8x64.Idx) : (val_main_v48 (F := Ideal) A i : EReal) = nat1 A (i 0) (i 2) (i 1) (i 3) := by
  rw [val_main_v48_apply, val_main_v47_apply, val_main_v46_apply]
  have h0 : (i 0).val < 16 := (i 0).isLt
  have h1 : (i 1).val < 2048 := (i 1).isLt
  have h2 : (i 2).val < 8 := (i 2).isLt
  have h3 : (i 3).val < 64 := (i 3).isLt
  show A _ = A _
  congr 1
  funext a
  apply Fin.ext
  fin_cases a
  · show ((((i 0).val * 2048 + (i 1).val) * 8 + (i 2).val) * 64 + (i 3).val) / 1048576 = (i 0).val
    omega
  · show ((((i 0).val * 2048 + (i 1).val) * 8 + (i 2).val) * 64 + (i 3).val) / 512 % 4 = (i 1).val % 4
    omega
  · show ((((i 0).val * 2048 + (i 1).val) * 8 + (i 2).val) * 64 + (i 3).val) / 2048 % 512 = (i 1).val / 4
    omega
  · show ((((i 0).val * 2048 + (i 1).val) * 8 + (i 2).val) * 64 + (i 3).val) % 512 = (i 2).val * 64 + (i 3).val
    omega

theorem k1 (A : Vec Ideal S16x4x512x512 .bf16) (i : S16x2048x8x64.Idx) : (val_main_v51 (F := Ideal) A i : EReal) = nat1 A (i 0) (i 2) (i 1) (i 3) := by
  rw [val_main_v51_apply, val_main_v50_apply, val_main_v49_apply]
  have h0 : (i 0).val < 16 := (i 0).isLt
  have h1 : (i 1).val < 2048 := (i 1).isLt
  have h2 : (i 2).val < 8 := (i 2).isLt
  have h3 : (i 3).val < 64 := (i 3).isLt
  show A _ = A _
  congr 1
  funext a
  apply Fin.ext
  fin_cases a
  · show ((((i 0).val * 2048 + (i 1).val) * 8 + (i 2).val) * 64 + (i 3).val) / 1048576 = (i 0).val
    omega
  · show ((((i 0).val * 2048 + (i 1).val) * 8 + (i 2).val) * 64 + (i 3).val) / 512 % 4 = (i 1).val % 4
    omega
  · show ((((i 0).val * 2048 + (i 1).val) * 8 + (i 2).val) * 64 + (i 3).val) / 2048 % 512 = (i 1).val / 4
    omega
  · show ((((i 0).val * 2048 + (i 1).val) * 8 + (i 2).val) * 64 + (i 3).val) % 512 = (i 2).val * 64 + (i 3).val
    omega

theorem v1 (A : Vec Ideal S16x4x512x512 .bf16) (i : S16x2048x8x64.Idx) : (val_main_v54 (F := Ideal) A i : EReal) = nat1 A (i 0) (i 2) (i 1) (i 3) := by
  rw [val_main_v54_apply, val_main_v53_apply, val_main_v52_apply]
  have h0 : (i 0).val < 16 := (i 0).isLt
  have h1 : (i 1).val < 2048 := (i 1).isLt
  have h2 : (i 2).val < 8 := (i 2).isLt
  have h3 : (i 3).val < 64 := (i 3).isLt
  show A _ = A _
  congr 1
  funext a
  apply Fin.ext
  fin_cases a
  · show ((((i 0).val * 2048 + (i 1).val) * 8 + (i 2).val) * 64 + (i 3).val) / 1048576 = (i 0).val
    omega
  · show ((((i 0).val * 2048 + (i 1).val) * 8 + (i 2).val) * 64 + (i 3).val) / 512 % 4 = (i 1).val % 4
    omega
  · show ((((i 0).val * 2048 + (i 1).val) * 8 + (i 2).val) * 64 + (i 3).val) / 2048 % 512 = (i 1).val / 4
    omega
  · show ((((i 0).val * 2048 + (i 1).val) * 8 + (i 2).val) * 64 + (i 3).val) % 512 = (i 2).val * 64 + (i 3).val
    omega

theorem sc1 (Q K : Vec Ideal S16x4x512x512 .bf16) (i : S16x8x2048x2048.Idx) : (val_main_v74 (F := Ideal) Q K i : EReal) = rs1 Q K (i 0) (i 1) (i 2) (i 3) := by
  have hm : (val_main_call1_v1 (F := Ideal) i : BitVec 1) = BitVec.ofBool (decide ((i 3).val ≤ (i 2).val ∧ (i 2).val ≤ (i 3).val + 512 ∧ ((i 2).val - (i 3).val) % 4 = 0)) := by
    rw [val_main_call1_v1_apply, val_main_v73_apply, val_main_v72_apply, val_main_v67_apply, val_main_v64_apply, val_main_v66_apply, val_main_v71_apply, val_main_v69_apply, val_main_v62_apply, val_main_v60_apply, val_main_v61_apply, val_main_v57_apply, val_main_v59_apply, val_main_v56_apply, val_main_v58_apply, val_main_v63_apply, val_main_v65_apply, val_main_v68_apply, val_main_v70_apply, val_main_c_5_apply, val_main_c_6_apply, val_main_c_7_apply, val_main_c_8_apply]
    exact mask_word 4 512 (i 2).val (i 3).val (by omega) (by omega) (by omega) (i 2).isLt (i 3).isLt
  rw [val_main_v74_apply, hm, val_main_call1_v2_apply, val_main_call1_v0_apply, val_main_cst_9_apply, bot_word, val_main_v55_apply]
  unfold rs1
  simp only [q1, k1]
  unfold Scalar.select
  by_cases hc : (i 3).val ≤ (i 2).val ∧ (i 2).val ≤ (i 3).val + 512 ∧ ((i 2).val - (i 3).val) % 4 = 0
  · rw [if_pos hc, decide_eq_true hc]; rfl
  · rw [if_neg hc, decide_eq_false hc]; rfl

theorem mx1 (Q K : Vec Ideal S16x4x512x512 .bf16) (i : S16x8x2048.Idx) : (val_main_v75 (F := Ideal) Q K i : EReal) = mx (rs1 Q K (i 0) (i 1) (i 2)) := by
  rw [← fold_max]
  unfold val_main_v75
  have hs : ∀ j, (val_main_v74 (F := Ideal) Q K j : EReal) = rs1 Q K (j 0) (j 1) (j 2) (j 3) := sc1 Q K
  generalize val_main_v74 (F := Ideal) Q K = y at hs ⊢
  obtain ⟨p, q, r, rfl⟩ : ∃ p q r, i = ix3 p q r := ⟨i 0, i 1, i 2, by funext a; fin_cases a <;> rfl⟩
  pointwise [hs]
  rw [val_main_cst_10_apply, bot_word]

theorem wt1 (Q K : Vec Ideal S16x4x512x512 .bf16) (i : S16x8x2048x2048.Idx) : (val_main_v79 (F := Ideal) Q K i : EReal) = wt (rs1 Q K (i 0) (i 1) (i 2)) (i 3) := by
  rw [val_main_v79_apply, val_main_v78_apply, sc1, val_main_v77_apply, val_main_v76_apply, mx1]
  rfl

theorem dn1 (Q K : Vec Ideal S16x4x512x512 .bf16) (i : S16x8x2048.Idx) : (val_main_v80 (F := Ideal) Q K i : EReal) = dn (rs1 Q K (i 0) (i 1) (i 2)) := by
  rw [val_main_v80_apply, val_main_cst_11_apply, zero_word, zero_add]
  simp only [wt1]
  rfl

theorem pr1 (Q K : Vec Ideal S16x4x512x512 .bf16) (i : S16x8x2048x2048.Idx) : (val_main_v85 (F := Ideal) Q K i : EReal)
    = Ideal.div (wt (rs1 Q K (i 0) (i 1) (i 2)) (i 3)) (dn (rs1 Q K (i 0) (i 1) (i 2))) := by
  rw [val_main_v85_apply, val_main_v84_apply, val_main_v83_apply, wt1, val_main_v82_apply, val_main_v81_apply, dn1]
  rfl

theorem o1 (Q K A : Vec Ideal S16x4x512x512 .bf16) (i : S16x2048x8x64.Idx) (hs : Good (rs1 Q K (i 0) (i 2) (i 1))) :
    (val_main_v87 (F := Ideal) Q K A i : EReal) = out (rs1 Q K (i 0) (i 2) (i 1)) (fun k => nat1 A (i 0) (i 2) k (i 3)) := by
  rw [out_eq_sum hs, val_main_v87_apply, val_main_v86_apply]
  simp only [v1, pr1]
  exact Finset.sum_congr rfl fun k _ => mul_comm _ _

theorem l1 (Q K : Vec Ideal S16x4x512x512 .bf16) (i : S16x2048x8.Idx) : (val_main_v91 (F := Ideal) Q K i : EReal) = lse (rs1 Q K (i 0) (i 2) (i 1)) := by
  have h0 : (i 0).val < 16 := (i 0).isLt
  have h1 : (i 1).val < 2048 := (i 1).isLt
  have h2 : (i 2).val < 8 := (i 2).isLt
  rw [val_main_v91_apply, val_main_v90_apply, val_main_v89_apply, val_main_v88_apply, val_main_v76_apply, val_main_v81_apply, mx1, dn1]
  have e : idx_main_v76 (idx_main_v90 (idx_main_v91 i)) = ix3 (i 0) (i 2) (i 1) := by
    funext a
    apply Fin.ext
    fin_cases a
    · show (((i 0).val * 8 + (i 2).val) * 2048 + (i 1).val) / 16384 = (i 0).val
      omega
    · show (((i 0).val * 8 + (i 2).val) * 2048 + (i 1).val) / 2048 % 8 = (i 2).val
      omega
    · show (((i 0).val * 8 + (i 2).val) * 2048 + (i 1).val) / 1 % 2048 = (i 1).val
      omega
  have e' : idx_main_v81 (idx_main_v90 (idx_main_v91 i)) = ix3 (i 0) (i 2) (i 1) := e
  rw [e, e']
  rfl

/-! ## 16 classes of 128 rows -/

/-- A value of head `h` at position `p`. -/
def nat2 (A : Vec Ideal S16x16x128x512 .bf16) (b : Fin 16) (h : Fin 8) (p : Fin 2048) (x : Fin 64) : EReal :=
  A (ix4 b (⟨p.val % 16, by omega⟩ : Fin 16) (⟨p.val / 16, by omega⟩ : Fin 128) (⟨h.val * 64 + x.val, by omega⟩ : Fin 512))

/-- The masked scores of position `p`. -/
def rs2 (Q K : Vec Ideal S16x16x128x512 .bf16) (b : Fin 16) (h : Fin 8) (p k : Fin 2048) : EReal :=
  if k.val ≤ p.val ∧ p.val ≤ k.val + 2048 ∧ (p.val - k.val) % 16 = 0 then ∑ x : Fin 64, nat2 Q b h p x * nat2 K b h k x else ⊥

theorem q2 (A : Vec Ideal S16x16x128x512 .bf16) (i : S16x2048x8x64.Idx) : (val_main_v94 (F := Ideal) A i : EReal) = nat2 A (i 0) (i 2) (i 1) (i 3) := by
  rw [val_main_v94_apply, val_main_v93_apply, val_main_v92_apply]
  have h0 : (i 0).val < 16 := (i 0).isLt
  have h1 : (i 1).val < 2048 := (i 1).isLt
  have h2 : (i 2).val < 8 := (i 2).isLt
  have h3 : (i 3).val < 64 := (i 3).isLt
  show A _ = A _
  congr 1
  funext a
  apply Fin.ext
  fin_cases a
  · show ((((i 0).val * 2048 + (i 1).val) * 8 + (i 2).val) * 64 + (i 3).val) / 1048576 = (i 0).val
    omega
  · show ((((i 0).val * 2048 + (i 1).val) * 8 + (i 2).val) * 64 + (i 3).val) / 512 % 16 = (i 1).val % 16
    omega
  · show ((((i 0).val * 2048 + (i 1).val) * 8 + (i 2).val) * 64 + (i 3).val) / 8192 % 128 = (i 1).val / 16
    omega
  · show ((((i 0).val * 2048 + (i 1).val) * 8 + (i 2).val) * 64 + (i 3).val) % 512 = (i 2).val * 64 + (i 3).val
    omega

theorem k2 (A : Vec Ideal S16x16x128x512 .bf16) (i : S16x2048x8x64.Idx) : (val_main_v97 (F := Ideal) A i : EReal) = nat2 A (i 0) (i 2) (i 1) (i 3) := by
  rw [val_main_v97_apply, val_main_v96_apply, val_main_v95_apply]
  have h0 : (i 0).val < 16 := (i 0).isLt
  have h1 : (i 1).val < 2048 := (i 1).isLt
  have h2 : (i 2).val < 8 := (i 2).isLt
  have h3 : (i 3).val < 64 := (i 3).isLt
  show A _ = A _
  congr 1
  funext a
  apply Fin.ext
  fin_cases a
  · show ((((i 0).val * 2048 + (i 1).val) * 8 + (i 2).val) * 64 + (i 3).val) / 1048576 = (i 0).val
    omega
  · show ((((i 0).val * 2048 + (i 1).val) * 8 + (i 2).val) * 64 + (i 3).val) / 512 % 16 = (i 1).val % 16
    omega
  · show ((((i 0).val * 2048 + (i 1).val) * 8 + (i 2).val) * 64 + (i 3).val) / 8192 % 128 = (i 1).val / 16
    omega
  · show ((((i 0).val * 2048 + (i 1).val) * 8 + (i 2).val) * 64 + (i 3).val) % 512 = (i 2).val * 64 + (i 3).val
    omega

theorem v2 (A : Vec Ideal S16x16x128x512 .bf16) (i : S16x2048x8x64.Idx) : (val_main_v100 (F := Ideal) A i : EReal) = nat2 A (i 0) (i 2) (i 1) (i 3) := by
  rw [val_main_v100_apply, val_main_v99_apply, val_main_v98_apply]
  have h0 : (i 0).val < 16 := (i 0).isLt
  have h1 : (i 1).val < 2048 := (i 1).isLt
  have h2 : (i 2).val < 8 := (i 2).isLt
  have h3 : (i 3).val < 64 := (i 3).isLt
  show A _ = A _
  congr 1
  funext a
  apply Fin.ext
  fin_cases a
  · show ((((i 0).val * 2048 + (i 1).val) * 8 + (i 2).val) * 64 + (i 3).val) / 1048576 = (i 0).val
    omega
  · show ((((i 0).val * 2048 + (i 1).val) * 8 + (i 2).val) * 64 + (i 3).val) / 512 % 16 = (i 1).val % 16
    omega
  · show ((((i 0).val * 2048 + (i 1).val) * 8 + (i 2).val) * 64 + (i 3).val) / 8192 % 128 = (i 1).val / 16
    omega
  · show ((((i 0).val * 2048 + (i 1).val) * 8 + (i 2).val) * 64 + (i 3).val) % 512 = (i 2).val * 64 + (i 3).val
    omega

theorem sc2 (Q K : Vec Ideal S16x16x128x512 .bf16) (i : S16x8x2048x2048.Idx) : (val_main_v120 (F := Ideal) Q K i : EReal) = rs2 Q K (i 0) (i 1) (i 2) (i 3) := by
  have hm : (val_main_call2_v1 (F := Ideal) i : BitVec 1) = BitVec.ofBool (decide ((i 3).val ≤ (i 2).val ∧ (i 2).val ≤ (i 3).val + 2048 ∧ ((i 2).val - (i 3).val) % 16 = 0)) := by
    rw [val_main_call2_v1_apply, val_main_v119_apply, val_main_v118_apply, val_main_v113_apply, val_main_v110_apply, val_main_v112_apply, val_main_v117_apply, val_main_v115_apply, val_main_v108_apply, val_main_v106_apply, val_main_v107_apply, val_main_v103_apply, val_main_v105_apply, val_main_v102_apply, val_main_v104_apply, val_main_v109_apply, val_main_v111_apply, val_main_v114_apply, val_main_v116_apply, val_main_c_12_apply, val_main_c_13_apply, val_main_c_14_apply, val_main_c_15_apply]
    exact mask_word 16 2048 (i 2).val (i 3).val (by omega) (by omega) (by omega) (i 2).isLt (i 3).isLt
  rw [val_main_v120_apply, hm, val_main_call2_v2_apply, val_main_call2_v0_apply, val_main_cst_16_apply, bot_word, val_main_v101_apply]
  unfold rs2
  simp only [q2, k2]
  unfold Scalar.select
  by_cases hc : (i 3).val ≤ (i 2).val ∧ (i 2).val ≤ (i 3).val + 2048 ∧ ((i 2).val - (i 3).val) % 16 = 0
  · rw [if_pos hc, decide_eq_true hc]; rfl
  · rw [if_neg hc, decide_eq_false hc]; rfl

theorem mx2 (Q K : Vec Ideal S16x16x128x512 .bf16) (i : S16x8x2048.Idx) : (val_main_v121 (F := Ideal) Q K i : EReal) = mx (rs2 Q K (i 0) (i 1) (i 2)) := by
  rw [← fold_max]
  unfold val_main_v121
  have hs : ∀ j, (val_main_v120 (F := Ideal) Q K j : EReal) = rs2 Q K (j 0) (j 1) (j 2) (j 3) := sc2 Q K
  generalize val_main_v120 (F := Ideal) Q K = y at hs ⊢
  obtain ⟨p, q, r, rfl⟩ : ∃ p q r, i = ix3 p q r := ⟨i 0, i 1, i 2, by funext a; fin_cases a <;> rfl⟩
  pointwise [hs]
  rw [val_main_cst_17_apply, bot_word]

theorem wt2 (Q K : Vec Ideal S16x16x128x512 .bf16) (i : S16x8x2048x2048.Idx) : (val_main_v125 (F := Ideal) Q K i : EReal) = wt (rs2 Q K (i 0) (i 1) (i 2)) (i 3) := by
  rw [val_main_v125_apply, val_main_v124_apply, sc2, val_main_v123_apply, val_main_v122_apply, mx2]
  rfl

theorem dn2 (Q K : Vec Ideal S16x16x128x512 .bf16) (i : S16x8x2048.Idx) : (val_main_v126 (F := Ideal) Q K i : EReal) = dn (rs2 Q K (i 0) (i 1) (i 2)) := by
  rw [val_main_v126_apply, val_main_cst_18_apply, zero_word, zero_add]
  simp only [wt2]
  rfl

theorem pr2 (Q K : Vec Ideal S16x16x128x512 .bf16) (i : S16x8x2048x2048.Idx) : (val_main_v131 (F := Ideal) Q K i : EReal)
    = Ideal.div (wt (rs2 Q K (i 0) (i 1) (i 2)) (i 3)) (dn (rs2 Q K (i 0) (i 1) (i 2))) := by
  rw [val_main_v131_apply, val_main_v130_apply, val_main_v129_apply, wt2, val_main_v128_apply, val_main_v127_apply, dn2]
  rfl

theorem o2 (Q K A : Vec Ideal S16x16x128x512 .bf16) (i : S16x2048x8x64.Idx) (hs : Good (rs2 Q K (i 0) (i 2) (i 1))) :
    (val_main_v133 (F := Ideal) Q K A i : EReal) = out (rs2 Q K (i 0) (i 2) (i 1)) (fun k => nat2 A (i 0) (i 2) k (i 3)) := by
  rw [out_eq_sum hs, val_main_v133_apply, val_main_v132_apply]
  simp only [v2, pr2]
  exact Finset.sum_congr rfl fun k _ => mul_comm _ _

theorem l2 (Q K : Vec Ideal S16x16x128x512 .bf16) (i : S16x2048x8.Idx) : (val_main_v137 (F := Ideal) Q K i : EReal) = lse (rs2 Q K (i 0) (i 2) (i 1)) := by
  have h0 : (i 0).val < 16 := (i 0).isLt
  have h1 : (i 1).val < 2048 := (i 1).isLt
  have h2 : (i 2).val < 8 := (i 2).isLt
  rw [val_main_v137_apply, val_main_v136_apply, val_main_v135_apply, val_main_v134_apply, val_main_v122_apply, val_main_v127_apply, mx2, dn2]
  have e : idx_main_v122 (idx_main_v136 (idx_main_v137 i)) = ix3 (i 0) (i 2) (i 1) := by
    funext a
    apply Fin.ext
    fin_cases a
    · show (((i 0).val * 8 + (i 2).val) * 2048 + (i 1).val) / 16384 = (i 0).val
      omega
    · show (((i 0).val * 8 + (i 2).val) * 2048 + (i 1).val) / 2048 % 8 = (i 2).val
      omega
    · show (((i 0).val * 8 + (i 2).val) * 2048 + (i 1).val) / 1 % 2048 = (i 1).val
      omega
  have e' : idx_main_v127 (idx_main_v136 (idx_main_v137 i)) = ix3 (i 0) (i 2) (i 1) := e
  rw [e, e']
  rfl

end Cert.ReferenceIdeal.Attn

end
-- ==== Proof.Attn.RefRes.lean ====
module

public import proofs.«01_k».proof.Proof.Attn.RefRead
public import proofs.«01_k».proof.Proof.Attn.MaskRef
public import proofs.«01_k».proof.Proof.Gen.ReferenceIdeal.Read
public import Idealize.ShloMosaic.Lib.Pointwise

/-! The reference's result at a position and a lane. -/

@[expose] public section

noncomputable section

namespace Cert.ReferenceIdeal.Attn

open Cert.ReferenceIdeal Cert.ReferenceIdeal.Gen Cert.ReferenceIdeal.Read Cert.Attn
open Idealize.ShloMosaic Idealize.ShloMosaic.TcCoe Idealize.ShloMosaic.Pointwise

theorem idx_res (i : S16x2048x512.Idx) (b : Fin 16) (p : Fin 2048) (h : Fin 8) (x : Fin 64)
    (hb : (i 0).val = b.val) (hp : (i 1).val = p.val) (hw : (i 2).val = h.val * 64 + x.val) : idx_main_v163 i = ix4 b p h x := by
  funext a
  apply Fin.ext
  fin_cases a
  · show (((i 0).val * 2048 + (i 1).val) * 512 + (i 2).val) / 1048576 = b.val
    omega
  · show (((i 0).val * 2048 + (i 1).val) * 512 + (i 2).val) / 512 % 2048 = p.val
    omega
  · show (((i 0).val * 2048 + (i 1).val) * 512 + (i 2).val) / 64 % 8 = h.val
    omega
  · show (((i 0).val * 2048 + (i 1).val) * 512 + (i 2).val) % 64 = x.val
    omega

theorem jn (l0 l1 l2 c0 c1 c2 : EReal) :
    (FloatOps.truncf (F := Ideal) .bf16 bitsLt_bf16_f32 (FloatOps.addf (φ := .f32)
      (FloatOps.addf (φ := .f32)
        (FloatOps.mulf (φ := .f32) (FloatOps.hostDivf (φ := .f32) (FloatOps.hostUnary (φ := .f32) .exp (FloatOps.subf (φ := .f32) l0 (FloatOps.maximumf (φ := .f32) (FloatOps.maximumf (φ := .f32) l0 l1) l2)))
          (FloatOps.addf (φ := .f32) (FloatOps.addf (φ := .f32) (FloatOps.hostUnary (φ := .f32) .exp (FloatOps.subf (φ := .f32) l0 (FloatOps.maximumf (φ := .f32) (FloatOps.maximumf (φ := .f32) l0 l1) l2)))
              (FloatOps.hostUnary (φ := .f32) .exp (FloatOps.subf (φ := .f32) l1 (FloatOps.maximumf (φ := .f32) (FloatOps.maximumf (φ := .f32) l0 l1) l2))))
            (FloatOps.hostUnary (φ := .f32) .exp (FloatOps.subf (φ := .f32) l2 (FloatOps.maximumf (φ := .f32) (FloatOps.maximumf (φ := .f32) l0 l1) l2))))) c0)
        (FloatOps.mulf (φ := .f32) (FloatOps.hostDivf (φ := .f32) (FloatOps.hostUnary (φ := .f32) .exp (FloatOps.subf (φ := .f32) l1 (FloatOps.maximumf (φ := .f32) (FloatOps.maximumf (φ := .f32) l0 l1) l2)))
          (FloatOps.addf (φ := .f32) (FloatOps.addf (φ := .f32) (FloatOps.hostUnary (φ := .f32) .exp (FloatOps.subf (φ := .f32) l0 (FloatOps.maximumf (φ := .f32) (FloatOps.maximumf (φ := .f32) l0 l1) l2)))
              (FloatOps.hostUnary (φ := .f32) .exp (FloatOps.subf (φ := .f32) l1 (FloatOps.maximumf (φ := .f32) (FloatOps.maximumf (φ := .f32) l0 l1) l2))))
            (FloatOps.hostUnary (φ := .f32) .exp (FloatOps.subf (φ := .f32) l2 (FloatOps.maximumf (φ := .f32) (FloatOps.maximumf (φ := .f32) l0 l1) l2))))) c1))
      (FloatOps.mulf (φ := .f32) (FloatOps.hostDivf (φ := .f32) (FloatOps.hostUnary (φ := .f32) .exp (FloatOps.subf (φ := .f32) l2 (FloatOps.maximumf (φ := .f32) (FloatOps.maximumf (φ := .f32) l0 l1) l2)))
          (FloatOps.addf (φ := .f32) (FloatOps.addf (φ := .f32) (FloatOps.hostUnary (φ := .f32) .exp (FloatOps.subf (φ := .f32) l0 (FloatOps.maximumf (φ := .f32) (FloatOps.maximumf (φ := .f32) l0 l1) l2)))
              (FloatOps.hostUnary (φ := .f32) .exp (FloatOps.subf (φ := .f32) l1 (FloatOps.maximumf (φ := .f32) (FloatOps.maximumf (φ := .f32) l0 l1) l2))))
            (FloatOps.hostUnary (φ := .f32) .exp (FloatOps.subf (φ := .f32) l2 (FloatOps.maximumf (φ := .f32) (FloatOps.maximumf (φ := .f32) l0 l1) l2))))) c2)) : EReal)
      = Ideal.div (Ideal.exp (l0 - max (max l0 l1) l2)) (Ideal.exp (l0 - max (max l0 l1) l2) + Ideal.exp (l1 - max (max l0 l1) l2) + Ideal.exp (l2 - max (max l0 l1) l2)) * c0
        + Ideal.div (Ideal.exp (l1 - max (max l0 l1) l2)) (Ideal.exp (l0 - max (max l0 l1) l2) + Ideal.exp (l1 - max (max l0 l1) l2) + Ideal.exp (l2 - max (max l0 l1) l2)) * c1
        + Ideal.div (Ideal.exp (l2 - max (max l0 l1) l2)) (Ideal.exp (l0 - max (max l0 l1) l2) + Ideal.exp (l1 - max (max l0 l1) l2) + Ideal.exp (l2 - max (max l0 l1) l2)) * c2 := rfl

theorem i0 (b : Fin 16) (p : Fin 2048) (h : Fin 8) (x : Fin 64) : idx_main_v149 (idx_main_v150 (ix4 b p h x)) = ix3 b p h := by funext a; fin_cases a <;> rfl
theorem i1 (b : Fin 16) (p : Fin 2048) (h : Fin 8) (x : Fin 64) : idx_main_v153 (idx_main_v154 (ix4 b p h x)) = ix3 b p h := by funext a; fin_cases a <;> rfl
theorem i2 (b : Fin 16) (p : Fin 2048) (h : Fin 8) (x : Fin 64) : idx_main_v158 (idx_main_v159 (ix4 b p h x)) = ix3 b p h := by funext a; fin_cases a <;> rfl

theorem lse0 (Q K : Vec Ideal S16x1x2048x512 .bf16) (b : Fin 16) (p : Fin 2048) (h : Fin 8) : (val_main_v45 (F := Ideal) Q K (ix3 b p h) : EReal) = lse (rs0 Q K b h p) := l0 Q K (ix3 b p h)
theorem out0 (Q K A : Vec Ideal S16x1x2048x512 .bf16) (b : Fin 16) (p : Fin 2048) (h : Fin 8) (x : Fin 64) (hs : Good (rs0 Q K b h p)) :
    (val_main_v41 (F := Ideal) Q K A (ix4 b p h x) : EReal) = out (rs0 Q K b h p) (fun k => nat0 A b h k x) := o0 Q K A (ix4 b p h x) hs

theorem lse1 (Q K : Vec Ideal S16x4x512x512 .bf16) (b : Fin 16) (p : Fin 2048) (h : Fin 8) : (val_main_v91 (F := Ideal) Q K (ix3 b p h) : EReal) = lse (rs1 Q K b h p) := l1 Q K (ix3 b p h)
theorem out1 (Q K A : Vec Ideal S16x4x512x512 .bf16) (b : Fin 16) (p : Fin 2048) (h : Fin 8) (x : Fin 64) (hs : Good (rs1 Q K b h p)) :
    (val_main_v87 (F := Ideal) Q K A (ix4 b p h x) : EReal) = out (rs1 Q K b h p) (fun k => nat1 A b h k x) := o1 Q K A (ix4 b p h x) hs

theorem lse2 (Q K : Vec Ideal S16x16x128x512 .bf16) (b : Fin 16) (p : Fin 2048) (h : Fin 8) : (val_main_v137 (F := Ideal) Q K (ix3 b p h) : EReal) = lse (rs2 Q K b h p) := l2 Q K (ix3 b p h)
theorem out2 (Q K A : Vec Ideal S16x16x128x512 .bf16) (b : Fin 16) (p : Fin 2048) (h : Fin 8) (x : Fin 64) (hs : Good (rs2 Q K b h p)) :
    (val_main_v133 (F := Ideal) Q K A (ix4 b p h x) : EReal) = out (rs2 Q K b h p) (fun k => nat2 A b h k x) := o2 Q K A (ix4 b p h x) hs

/-- The result at a position and a lane: the three attentions combined by the softmax of their log-sum-exps. -/
theorem res (x0 : Vec Ideal S16x1x2048x512 .bf16) (x1 : Vec Ideal S16x4x512x512 .bf16) (x2 : Vec Ideal S16x16x128x512 .bf16) (x3 : Vec Ideal S16x1x2048x512 .bf16) (x4 : Vec Ideal S16x4x512x512 .bf16) (x5 : Vec Ideal S16x16x128x512 .bf16) (x6 : Vec Ideal S16x1x2048x512 .bf16) (x7 : Vec Ideal S16x4x512x512 .bf16) (x8 : Vec Ideal S16x16x128x512 .bf16) (i : S16x2048x512.Idx) (b : Fin 16) (p : Fin 2048) (h : Fin 8) (x : Fin 64)
    (hb : (i 0).val = b.val) (hp : (i 1).val = p.val) (hw : (i 2).val = h.val * 64 + x.val)
    (g0 : Good (rs0 x0 x3 b h p)) (g1 : Good (rs1 x1 x4 b h p)) (g2 : Good (rs2 x2 x5 b h p)) :
    (val_main_v163 (F := Ideal) x0 x1 x2 x3 x4 x5 x6 x7 x8 i : EReal)
      = have l0 := lse (rs0 x0 x3 b h p)
        have l1 := lse (rs1 x1 x4 b h p)
        have l2 := lse (rs2 x2 x5 b h p)
        have e0 := Ideal.exp (l0 - max (max l0 l1) l2)
        have e1 := Ideal.exp (l1 - max (max l0 l1) l2)
        have e2 := Ideal.exp (l2 - max (max l0 l1) l2)
        Ideal.div e0 (e0 + e1 + e2) * out (rs0 x0 x3 b h p) (fun k => nat0 x6 b h k x)
          + Ideal.div e1 (e0 + e1 + e2) * out (rs1 x1 x4 b h p) (fun k => nat1 x7 b h k x)
          + Ideal.div e2 (e0 + e1 + e2) * out (rs2 x2 x5 b h p) (fun k => nat2 x8 b h k x) := by
  have e := idx_res i b p h x hb hp hw
  have L0 := lse0 x0 x3 b p h
  have L1 := lse1 x1 x4 b p h
  have L2 := lse2 x2 x5 b p h
  have O0 := out0 x0 x3 x6 b p h x g0
  have O1 := out1 x1 x4 x7 b p h x g1
  have O2 := out2 x2 x5 x8 b p h x g2
  rw [val_main_v163_apply, val_main_v162_apply, e, val_main_v161_apply, val_main_v156_apply, val_main_v151_apply, val_main_v155_apply, val_main_v160_apply, O0, O1, O2,
    val_main_v150_apply, val_main_v149_apply, i0, val_main_v154_apply, val_main_v153_apply, i1, val_main_v159_apply, val_main_v158_apply, i2,
    val_main_v148_apply, val_main_v152_apply, val_main_v157_apply, val_main_v147_apply, val_main_v146_apply, val_main_v141_apply, val_main_v143_apply, val_main_v145_apply,
    val_main_v140_apply, val_main_v142_apply, val_main_v144_apply, val_main_v139_apply, val_main_v138_apply, L0, L1, L2]
  exact jn _ _ _ _ _ _

end Cert.ReferenceIdeal.Attn

end
-- ==== Proof.Attn.Join.lean ====
module

public import proofs.«01_k».proof.Proof.Attn.Whole
public import proofs.«01_k».proof.Proof.Attn.RefRes

/-! The kernel's result array is the reference's: a group's rows are positions in another order. -/

@[expose] public section

noncomputable section

namespace Cert.KernelIdeal.Attn

open Cert.Attn Cert.ReferenceIdeal.Attn
open Idealize.ShloMosaic Idealize.ShloMosaic.TcCoe Idealize.ShloMosaic.Pointwise

/-- Every element is a real. -/
def Fin' {s : Shape} (A : Vec Ideal s .bf16) : Prop := ∀ i, ∃ r : ℝ, (A i : EReal) = r

/-! ## 1 class of 2048 rows -/

/-- The row of a position. -/
def pr0 : Fin 2048 ≃ Fin 2048 where
  toFun k := ⟨k.val % 1 * 2048 + k.val / 1, by omega⟩
  invFun r := ⟨r.val % 2048 * 1 + r.val / 2048, by omega⟩
  left_inv k := Fin.ext (by show (k.val % 1 * 2048 + k.val / 1) % 2048 * 1 + (k.val % 1 * 2048 + k.val / 1) / 2048 = k.val; omega)
  right_inv r := Fin.ext (by show (r.val % 2048 * 1 + r.val / 2048) % 1 * 2048 + (r.val % 2048 * 1 + r.val / 2048) / 1 = r.val; omega)

theorem row0 (A : Vec Ideal S16x1x2048x512 .bf16) (b : Fin 16) (hh : Fin 2) (h : Fin 8) (k : Fin 2048) (l : Fin 256) (x : Fin 64) (hl : 256 * hh.val + l.val = h.val * 64 + x.val) :
    rowsOf (C := 1) (S := 2048) rfl (bl0 A b hh) (pr0 k) l = nat0 A b h k x := by
  unfold rowsOf bl0 nat0
  refine congrArg A ?_
  funext a
  apply Fin.ext
  fin_cases a
  · rfl
  · show (k.val % 1 * 2048 + k.val / 1) / 2048 = k.val % 1
    omega
  · show (k.val % 1 * 2048 + k.val / 1) % 2048 = k.val / 1
    omega
  · exact hl

theorem csc0 (Q K : Vec Ideal S16x1x2048x512 .bf16) (b : Fin 16) (hh : Fin 2) (h : Fin 8) (p : Fin 2048) (l : Fin 256) (hl : 4 * hh.val + l.val / 64 = h.val) (k : Fin 2048) :
    csc 2048 (rowsOf (C := 1) (S := 2048) rfl (bl0 Q b hh)) (rowsOf (C := 1) (S := 2048) rfl (bl0 K b hh)) (pr0 p) l (pr0 k) = rs0 Q K b h p k := by
  unfold csc rs0
  have e : ((pr0 k).val / 2048 = (pr0 p).val / 2048 ∧ (pr0 k).val ≤ (pr0 p).val ∧ (pr0 p).val ≤ (pr0 k).val + 128)
      ↔ (k.val ≤ p.val ∧ p.val ≤ k.val + 128 ∧ (p.val - k.val) % 1 = 0) := by
    show ((k.val % 1 * 2048 + k.val / 1) / 2048 = (p.val % 1 * 2048 + p.val / 1) / 2048 ∧ k.val % 1 * 2048 + k.val / 1 ≤ p.val % 1 * 2048 + p.val / 1 ∧ p.val % 1 * 2048 + p.val / 1 ≤ k.val % 1 * 2048 + k.val / 1 + 128) ↔ _
    have a1 : (k.val % 1 * 2048 + k.val / 1) / 2048 = k.val % 1 := by omega
    have a2 : (p.val % 1 * 2048 + p.val / 1) / 2048 = p.val % 1 := by omega
    rw [a1, a2]
    constructor
    · rintro ⟨h1, h2, h3⟩
      rw [h1] at h2 h3
      omega
    · rintro ⟨h1, h2, h3⟩
      have h4 : k.val % 1 = p.val % 1 := by omega
      rw [h4]
      omega
  simp only [e]
  refine if_congr Iff.rfl ?_ rfl
  unfold dotq
  refine Finset.sum_congr rfl fun x _ => ?_
  rw [row0 Q b hh h p _ x (by show 256 * hh.val + (64 * (l.val / 64) + x.val) = _; omega), row0 K b hh h k _ x (by show 256 * hh.val + (64 * (l.val / 64) + x.val) = _; omega)]

theorem lse_g0 (Q K : Vec Ideal S16x1x2048x512 .bf16) (b : Fin 16) (hh : Fin 2) (h : Fin 8) (p : Fin 2048) (l : Fin 256) (hl : 4 * hh.val + l.val / 64 = h.val) :
    LC 2048 (rowsOf (C := 1) (S := 2048) rfl (bl0 Q b hh)) (rowsOf (C := 1) (S := 2048) rfl (bl0 K b hh)) (pr0 p) l = lse (rs0 Q K b h p) :=
  lse_embed pr0.toEmbedding (csc0 Q K b hh h p l hl) fun k hk => absurd ⟨pr0.symm k, pr0.apply_symm_apply k⟩ hk

theorem out_g0 (Q K A : Vec Ideal S16x1x2048x512 .bf16) (b : Fin 16) (hh : Fin 2) (h : Fin 8) (p : Fin 2048) (l : Fin 256) (x : Fin 64) (hl : 256 * hh.val + l.val = h.val * 64 + x.val) :
    OC 2048 (rowsOf (C := 1) (S := 2048) rfl (bl0 Q b hh)) (rowsOf (C := 1) (S := 2048) rfl (bl0 K b hh)) (rowsOf (C := 1) (S := 2048) rfl (bl0 A b hh)) (pr0 p) l
      = out (rs0 Q K b h p) (fun k => nat0 A b h k x) :=
  out_embed pr0.toEmbedding (csc0 Q K b hh h p l (by omega)) (fun k hk => absurd ⟨pr0.symm k, pr0.apply_symm_apply k⟩ hk) fun k => row0 A b hh h k l x hl

theorem good0 (Q K : Vec Ideal S16x1x2048x512 .bf16) (hQ : Fin' Q) (hK : Fin' K) (b : Fin 16) (h : Fin 8) (p : Fin 2048) : Good (rs0 Q K b h p) := by
  choose f hf using hQ
  choose f' hf' using hK
  have hr : ∀ k, ∃ r : ℝ, ∑ x : Fin 64, nat0 Q b h p x * nat0 K b h k x = r := fun k => by
    unfold nat0
    simp only [hf, hf', ← EReal.coe_mul, ← coe_sum]
    exact ⟨_, rfl⟩
  refine ⟨fun k => ?_, p, ?_⟩
  · unfold rs0
    split_ifs
    · exact Or.inr (hr k)
    · exact Or.inl rfl
  · unfold rs0
    rw [if_pos (by omega)]
    exact hr p

/-! ## 4 classes of 512 rows -/

/-- The row of a position. -/
def pr1 : Fin 2048 ≃ Fin 2048 where
  toFun k := ⟨k.val % 4 * 512 + k.val / 4, by omega⟩
  invFun r := ⟨r.val % 512 * 4 + r.val / 512, by omega⟩
  left_inv k := Fin.ext (by show (k.val % 4 * 512 + k.val / 4) % 512 * 4 + (k.val % 4 * 512 + k.val / 4) / 512 = k.val; omega)
  right_inv r := Fin.ext (by show (r.val % 512 * 4 + r.val / 512) % 4 * 512 + (r.val % 512 * 4 + r.val / 512) / 4 = r.val; omega)

theorem row1 (A : Vec Ideal S16x4x512x512 .bf16) (b : Fin 16) (hh : Fin 2) (h : Fin 8) (k : Fin 2048) (l : Fin 256) (x : Fin 64) (hl : 256 * hh.val + l.val = h.val * 64 + x.val) :
    rowsOf (C := 4) (S := 512) rfl (bl1 A b hh) (pr1 k) l = nat1 A b h k x := by
  unfold rowsOf bl1 nat1
  refine congrArg A ?_
  funext a
  apply Fin.ext
  fin_cases a
  · rfl
  · show (k.val % 4 * 512 + k.val / 4) / 512 = k.val % 4
    omega
  · show (k.val % 4 * 512 + k.val / 4) % 512 = k.val / 4
    omega
  · exact hl

theorem csc1 (Q K : Vec Ideal S16x4x512x512 .bf16) (b : Fin 16) (hh : Fin 2) (h : Fin 8) (p : Fin 2048) (l : Fin 256) (hl : 4 * hh.val + l.val / 64 = h.val) (k : Fin 2048) :
    csc 512 (rowsOf (C := 4) (S := 512) rfl (bl1 Q b hh)) (rowsOf (C := 4) (S := 512) rfl (bl1 K b hh)) (pr1 p) l (pr1 k) = rs1 Q K b h p k := by
  unfold csc rs1
  have e : ((pr1 k).val / 512 = (pr1 p).val / 512 ∧ (pr1 k).val ≤ (pr1 p).val ∧ (pr1 p).val ≤ (pr1 k).val + 128)
      ↔ (k.val ≤ p.val ∧ p.val ≤ k.val + 512 ∧ (p.val - k.val) % 4 = 0) := by
    show ((k.val % 4 * 512 + k.val / 4) / 512 = (p.val % 4 * 512 + p.val / 4) / 512 ∧ k.val % 4 * 512 + k.val / 4 ≤ p.val % 4 * 512 + p.val / 4 ∧ p.val % 4 * 512 + p.val / 4 ≤ k.val % 4 * 512 + k.val / 4 + 128) ↔ _
    have a1 : (k.val % 4 * 512 + k.val / 4) / 512 = k.val % 4 := by omega
    have a2 : (p.val % 4 * 512 + p.val / 4) / 512 = p.val % 4 := by omega
    rw [a1, a2]
    constructor
    · rintro ⟨h1, h2, h3⟩
      rw [h1] at h2 h3
      omega
    · rintro ⟨h1, h2, h3⟩
      have h4 : k.val % 4 = p.val % 4 := by omega
      rw [h4]
      omega
  simp only [e]
  refine if_congr Iff.rfl ?_ rfl
  unfold dotq
  refine Finset.sum_congr rfl fun x _ => ?_
  rw [row1 Q b hh h p _ x (by show 256 * hh.val + (64 * (l.val / 64) + x.val) = _; omega), row1 K b hh h k _ x (by show 256 * hh.val + (64 * (l.val / 64) + x.val) = _; omega)]

theorem lse_g1 (Q K : Vec Ideal S16x4x512x512 .bf16) (b : Fin 16) (hh : Fin 2) (h : Fin 8) (p : Fin 2048) (l : Fin 256) (hl : 4 * hh.val + l.val / 64 = h.val) :
    LC 512 (rowsOf (C := 4) (S := 512) rfl (bl1 Q b hh)) (rowsOf (C := 4) (S := 512) rfl (bl1 K b hh)) (pr1 p) l = lse (rs1 Q K b h p) :=
  lse_embed pr1.toEmbedding (csc1 Q K b hh h p l hl) fun k hk => absurd ⟨pr1.symm k, pr1.apply_symm_apply k⟩ hk

theorem out_g1 (Q K A : Vec Ideal S16x4x512x512 .bf16) (b : Fin 16) (hh : Fin 2) (h : Fin 8) (p : Fin 2048) (l : Fin 256) (x : Fin 64) (hl : 256 * hh.val + l.val = h.val * 64 + x.val) :
    OC 512 (rowsOf (C := 4) (S := 512) rfl (bl1 Q b hh)) (rowsOf (C := 4) (S := 512) rfl (bl1 K b hh)) (rowsOf (C := 4) (S := 512) rfl (bl1 A b hh)) (pr1 p) l
      = out (rs1 Q K b h p) (fun k => nat1 A b h k x) :=
  out_embed pr1.toEmbedding (csc1 Q K b hh h p l (by omega)) (fun k hk => absurd ⟨pr1.symm k, pr1.apply_symm_apply k⟩ hk) fun k => row1 A b hh h k l x hl

theorem good1 (Q K : Vec Ideal S16x4x512x512 .bf16) (hQ : Fin' Q) (hK : Fin' K) (b : Fin 16) (h : Fin 8) (p : Fin 2048) : Good (rs1 Q K b h p) := by
  choose f hf using hQ
  choose f' hf' using hK
  have hr : ∀ k, ∃ r : ℝ, ∑ x : Fin 64, nat1 Q b h p x * nat1 K b h k x = r := fun k => by
    unfold nat1
    simp only [hf, hf', ← EReal.coe_mul, ← coe_sum]
    exact ⟨_, rfl⟩
  refine ⟨fun k => ?_, p, ?_⟩
  · unfold rs1
    split_ifs
    · exact Or.inr (hr k)
    · exact Or.inl rfl
  · unfold rs1
    rw [if_pos (by omega)]
    exact hr p

/-! ## 16 classes of 128 rows -/

/-- The row of a position. -/
def pr2 : Fin 2048 ≃ Fin 2048 where
  toFun k := ⟨k.val % 16 * 128 + k.val / 16, by omega⟩
  invFun r := ⟨r.val % 128 * 16 + r.val / 128, by omega⟩
  left_inv k := Fin.ext (by show (k.val % 16 * 128 + k.val / 16) % 128 * 16 + (k.val % 16 * 128 + k.val / 16) / 128 = k.val; omega)
  right_inv r := Fin.ext (by show (r.val % 128 * 16 + r.val / 128) % 16 * 128 + (r.val % 128 * 16 + r.val / 128) / 16 = r.val; omega)

theorem row2 (A : Vec Ideal S16x16x128x512 .bf16) (b : Fin 16) (hh : Fin 2) (h : Fin 8) (k : Fin 2048) (l : Fin 256) (x : Fin 64) (hl : 256 * hh.val + l.val = h.val * 64 + x.val) :
    rowsOf (C := 16) (S := 128) rfl (bl2 A b hh) (pr2 k) l = nat2 A b h k x := by
  unfold rowsOf bl2 nat2
  refine congrArg A ?_
  funext a
  apply Fin.ext
  fin_cases a
  · rfl
  · show (k.val % 16 * 128 + k.val / 16) / 128 = k.val % 16
    omega
  · show (k.val % 16 * 128 + k.val / 16) % 128 = k.val / 16
    omega
  · exact hl

theorem csc2 (Q K : Vec Ideal S16x16x128x512 .bf16) (b : Fin 16) (hh : Fin 2) (h : Fin 8) (p : Fin 2048) (l : Fin 256) (hl : 4 * hh.val + l.val / 64 = h.val) (k : Fin 2048) :
    csc 128 (rowsOf (C := 16) (S := 128) rfl (bl2 Q b hh)) (rowsOf (C := 16) (S := 128) rfl (bl2 K b hh)) (pr2 p) l (pr2 k) = rs2 Q K b h p k := by
  unfold csc rs2
  have e : ((pr2 k).val / 128 = (pr2 p).val / 128 ∧ (pr2 k).val ≤ (pr2 p).val ∧ (pr2 p).val ≤ (pr2 k).val + 128)
      ↔ (k.val ≤ p.val ∧ p.val ≤ k.val + 2048 ∧ (p.val - k.val) % 16 = 0) := by
    show ((k.val % 16 * 128 + k.val / 16) / 128 = (p.val % 16 * 128 + p.val / 16) / 128 ∧ k.val % 16 * 128 + k.val / 16 ≤ p.val % 16 * 128 + p.val / 16 ∧ p.val % 16 * 128 + p.val / 16 ≤ k.val % 16 * 128 + k.val / 16 + 128) ↔ _
    have a1 : (k.val % 16 * 128 + k.val / 16) / 128 = k.val % 16 := by omega
    have a2 : (p.val % 16 * 128 + p.val / 16) / 128 = p.val % 16 := by omega
    rw [a1, a2]
    constructor
    · rintro ⟨h1, h2, h3⟩
      rw [h1] at h2 h3
      omega
    · rintro ⟨h1, h2, h3⟩
      have h4 : k.val % 16 = p.val % 16 := by omega
      rw [h4]
      omega
  simp only [e]
  refine if_congr Iff.rfl ?_ rfl
  unfold dotq
  refine Finset.sum_congr rfl fun x _ => ?_
  rw [row2 Q b hh h p _ x (by show 256 * hh.val + (64 * (l.val / 64) + x.val) = _; omega), row2 K b hh h k _ x (by show 256 * hh.val + (64 * (l.val / 64) + x.val) = _; omega)]

theorem lse_g2 (Q K : Vec Ideal S16x16x128x512 .bf16) (b : Fin 16) (hh : Fin 2) (h : Fin 8) (p : Fin 2048) (l : Fin 256) (hl : 4 * hh.val + l.val / 64 = h.val) :
    LC 128 (rowsOf (C := 16) (S := 128) rfl (bl2 Q b hh)) (rowsOf (C := 16) (S := 128) rfl (bl2 K b hh)) (pr2 p) l = lse (rs2 Q K b h p) :=
  lse_embed pr2.toEmbedding (csc2 Q K b hh h p l hl) fun k hk => absurd ⟨pr2.symm k, pr2.apply_symm_apply k⟩ hk

theorem out_g2 (Q K A : Vec Ideal S16x16x128x512 .bf16) (b : Fin 16) (hh : Fin 2) (h : Fin 8) (p : Fin 2048) (l : Fin 256) (x : Fin 64) (hl : 256 * hh.val + l.val = h.val * 64 + x.val) :
    OC 128 (rowsOf (C := 16) (S := 128) rfl (bl2 Q b hh)) (rowsOf (C := 16) (S := 128) rfl (bl2 K b hh)) (rowsOf (C := 16) (S := 128) rfl (bl2 A b hh)) (pr2 p) l
      = out (rs2 Q K b h p) (fun k => nat2 A b h k x) :=
  out_embed pr2.toEmbedding (csc2 Q K b hh h p l (by omega)) (fun k hk => absurd ⟨pr2.symm k, pr2.apply_symm_apply k⟩ hk) fun k => row2 A b hh h k l x hl

theorem good2 (Q K : Vec Ideal S16x16x128x512 .bf16) (hQ : Fin' Q) (hK : Fin' K) (b : Fin 16) (h : Fin 8) (p : Fin 2048) : Good (rs2 Q K b h p) := by
  choose f hf using hQ
  choose f' hf' using hK
  have hr : ∀ k, ∃ r : ℝ, ∑ x : Fin 64, nat2 Q b h p x * nat2 K b h k x = r := fun k => by
    unfold nat2
    simp only [hf, hf', ← EReal.coe_mul, ← coe_sum]
    exact ⟨_, rfl⟩
  refine ⟨fun k => ?_, p, ?_⟩
  · unfold rs2
    split_ifs
    · exact Or.inr (hr k)
    · exact Or.inl rfl
  · unfold rs2
    rw [if_pos (by omega)]
    exact hr p

/-! ## The whole array -/

theorem whole_eq (x0 : Vec Ideal S16x1x2048x512 .bf16) (x1 : Vec Ideal S16x4x512x512 .bf16) (x2 : Vec Ideal S16x16x128x512 .bf16) (x3 : Vec Ideal S16x1x2048x512 .bf16) (x4 : Vec Ideal S16x4x512x512 .bf16) (x5 : Vec Ideal S16x16x128x512 .bf16) (x6 : Vec Ideal S16x1x2048x512 .bf16) (x7 : Vec Ideal S16x4x512x512 .bf16) (x8 : Vec Ideal S16x16x128x512 .bf16) (hq0 : Fin' x0) (hq1 : Fin' x1) (hq2 : Fin' x2) (hk0 : Fin' x3) (hk1 : Fin' x4) (hk2 : Fin' x5) :
    whole x0 x1 x2 x3 x4 x5 x6 x7 x8 = Cert.ReferenceIdeal.Read.val_main_v163 (F := Ideal) x0 x1 x2 x3 x4 x5 x6 x7 x8 := by
  funext i
  have i0 : (i 0).val < 16 := (i 0).isLt
  have i1 : (i 1).val < 2048 := (i 1).isLt
  have i2 : (i 2).val < 512 := (i 2).isLt
  obtain ⟨b, hb⟩ : ∃ b : Fin 16, (i 0).val = b.val := ⟨⟨_, i0⟩, rfl⟩
  obtain ⟨p, hp⟩ : ∃ p : Fin 2048, (i 1).val = p.val := ⟨⟨_, i1⟩, rfl⟩
  obtain ⟨hh, hhh⟩ : ∃ hh : Fin 2, (i 2).val / 256 = hh.val := ⟨⟨_, by omega⟩, rfl⟩
  obtain ⟨t, ht⟩ : ∃ t : Fin 2, (i 2).val % 256 / 128 = t.val := ⟨⟨_, by omega⟩, rfl⟩
  obtain ⟨z, hz⟩ : ∃ z : Fin 128, (i 2).val % 128 = z.val := ⟨⟨_, by omega⟩, rfl⟩
  obtain ⟨h, hh8⟩ : ∃ h : Fin 8, (i 2).val / 64 = h.val := ⟨⟨_, by omega⟩, rfl⟩
  obtain ⟨x, hx⟩ : ∃ x : Fin 64, (i 2).val % 64 = x.val := ⟨⟨_, by omega⟩, rfl⟩
  have hl : 256 * hh.val + (lane t z).val = h.val * 64 + x.val := by
    show 256 * hh.val + (128 * t.val + z.val) = _
    omega
  have hl' : 4 * hh.val + (lane t z).val / 64 = h.val := by omega
  rw [res x0 x1 x2 x3 x4 x5 x6 x7 x8 i b p h x hb hp (by omega) (good0 x0 x3 hq0 hk0 b h p) (good1 x1 x4 hq1 hk1 b h p) (good2 x2 x5 hq2 hk2 b h p)]
  rw [whole_at (A0 := x0) (A1 := x1) (A2 := x2) (A3 := x3) (A4 := x4) (A5 := x5) (A6 := x6) (A7 := x7) (A8 := x8) i b hh (ix3 0 p (lane t z)) hb hp (by show _ = 256 * hh.val + (lane t z).val; omega)]
  obtain ⟨l0, e0⟩ := lse_real (good0 x0 x3 hq0 hk0 b h p)
  obtain ⟨l1, e1⟩ := lse_real (good1 x1 x4 hq1 hk1 b h p)
  obtain ⟨l2, e2⟩ := lse_real (good2 x2 x5 hq2 hk2 b h p)
  have L0 : Lc0 (bl0 x0 b hh) (bl0 x3 b hh) (ix3 t p z) = lse (rs0 x0 x3 b h p) := by
    rw [← lse_g0 x0 x3 b hh h p (lane t z) hl']
    show LC 2048 _ _ p (lane t z) = LC 2048 _ _ (pr0 p) (lane t z)
    rw [show pr0 p = p from Fin.ext (by show p.val % 1 * 2048 + p.val / 1 = p.val; omega)]
  have O0 : Oc0 (bl0 x0 b hh) (bl0 x3 b hh) (bl0 x6 b hh) (ix3 t p z) = out (rs0 x0 x3 b h p) (fun k => nat0 x6 b h k x) := by
    rw [← out_g0 x0 x3 x6 b hh h p (lane t z) x hl]
    show OC 2048 _ _ _ p (lane t z) = OC 2048 _ _ _ (pr0 p) (lane t z)
    rw [show pr0 p = p from Fin.ext (by show p.val % 1 * 2048 + p.val / 1 = p.val; omega)]
  have L1 : Ln1 (bl1 x1 b hh) (bl1 x4 b hh) (ix3 t p z) = lse (rs1 x1 x4 b h p) := lse_g1 x1 x4 b hh h p (lane t z) hl'
  have O1 : On1 (bl1 x1 b hh) (bl1 x4 b hh) (bl1 x7 b hh) (ix3 t p z) = out (rs1 x1 x4 b h p) (fun k => nat1 x7 b h k x) := out_g1 x1 x4 x7 b hh h p (lane t z) x hl
  have L2 : Ln2 (bl2 x2 b hh) (bl2 x5 b hh) (ix3 t p z) = lse (rs2 x2 x5 b h p) := lse_g2 x2 x5 b hh h p (lane t z) hl'
  have O2 : On2 (bl2 x2 b hh) (bl2 x5 b hh) (bl2 x8 b hh) (ix3 t p z) = out (rs2 x2 x5 b h p) (fun k => nat2 x8 b h k x) := out_g2 x2 x5 x8 b hh h p (lane t z) x hl
  have hy : (ix3 (⟨(lane t z).val / 128, by omega⟩ : Fin 2) p (⟨(lane t z).val % 128, by omega⟩ : Fin 128) : S2x2048x128.Idx) = ix3 t p z := by
    funext a
    apply Fin.ext
    fin_cases a
    · show (128 * t.val + z.val) / 128 = t.val
      omega
    · rfl
    · show (128 * t.val + z.val) % 128 = z.val
      omega
  show Ideal.div (N2 (bl0 x0 b hh) (bl0 x3 b hh) (bl0 x6 b hh) (bl1 x1 b hh) (bl1 x4 b hh) (bl1 x7 b hh) (bl2 x2 b hh) (bl2 x5 b hh) (bl2 x8 b hh) (ix3 (⟨(lane t z).val / 128, by omega⟩ : Fin 2) p (⟨(lane t z).val % 128, by omega⟩ : Fin 128)))
    (D2 (bl0 x0 b hh) (bl0 x3 b hh) (bl1 x1 b hh) (bl1 x4 b hh) (bl2 x2 b hh) (bl2 x5 b hh) (ix3 (⟨(lane t z).val / 128, by omega⟩ : Fin 2) p (⟨(lane t z).val % 128, by omega⟩ : Fin 128))) = _
  rw [hy]
  unfold N2 D2 N1 D1 M1 nUp dUp mUp
  rw [L0, O0, L1, O1, L2, O2, e0, e1, e2]
  exact join3 l0 l1 l2 _ _ _

end Cert.KernelIdeal.Attn

end
-- ==== Proof.Proj.Pay.lean ====
module

public import proofs.«01_k».proof.Proof.Gen.Kernel2Ideal.Skeleton
public import Idealize.ShloMosaic.Lib.Pointwise
public import Idealize.ShloMosaic.PureOps.Ideal

/-! The projection kernel's vector operations at one place: a row's RMSNorm, its product with a column of the weights, and the
    logistic function. -/

@[expose] public section

set_option maxRecDepth 16384

noncomputable section

namespace Cert.Proj

open Idealize.ShloMosaic

/-- One entry of a row `a` after its RMSNorm with gains `g`, -/
def nm (a g : Fin 1024 → EReal) (k : Fin 1024) : EReal :=
  a k * Ideal.rsqrt (Ideal.div (∑ j, a j * a j) (Ideal.ofBits .f32 0x44800000#32) + Ideal.ofBits .f32 0x358637BD#32) * g k

/-- the normed row's product with a column `w` of the weights, -/
def pj (a g w : Fin 1024 → EReal) : EReal := ∑ k, nm a g k * w k

/-- and the logistic function. -/
def sg (x : EReal) : EReal := Ideal.div 1 (1 + Ideal.exp (-x))

theorem sg_sub (x : EReal) : Ideal.div 1 (1 + Ideal.exp (0 - x)) = sg x := by
  rw [zero_sub]; rfl

end Cert.Proj

namespace Cert.Kernel2Ideal.Proj

open Cert.Kernel2Ideal.Gen Cert.Proj
open Idealize.ShloMosaic Idealize.ShloMosaic.TcCoe Idealize.ShloMosaic.Pointwise

/-- A product of the normed block with 512 columns, at one place. -/
def mm (V : FVec Ideal S512x1024 .bf16) (W : Vec Ideal S1024x512 .bf16) (p c : Fin 512) : EReal := ∑ k : Fin 1024, V (ix2 p k) * W (ix2 k c)

theorem norm_apply (A : Vec Ideal S512x1024 .f32) (G : Vec Ideal S1x1024 .f32) (p : Fin 512) (k : Fin 1024) :
    (k0_pay2 (F := Ideal) A G (ix2 p k) : EReal) = nm (fun k => A (ix2 p k)) (fun k => G (ix2 0 k)) k := by
  pointwise [k0_pay2]
  rfl

variable (V : FVec Ideal S512x1024 .bf16) (W : Vec Ideal S1024x512 .bf16) (X : FVec Ideal S512x512 .f32) (Y : FVec Ideal S512x512 .f32) (p c : Fin 512)

theorem q_apply (A : Vec Ideal S512x1024 .f32) (G : Vec Ideal S1x1024 .f32) :
    (k0_pay3 (F := Ideal) A G W (ix4 0 0 p c) : EReal) = mm (k0_pay2 A G) W p c * Ideal.ofBits .f32 0x3E000000#32 := by
  pointwise [k0_pay3]
  rfl

theorem k_apply : (k0_pay55 (F := Ideal) V W (ix4 0 0 p c) : EReal) = mm V W p c := by
  pointwise [k0_pay55, k0_pay53]
  rfl

theorem v_apply : (k0_pay103 (F := Ideal) V W (ix4 0 0 p c) : EReal) = mm V W p c := by
  pointwise [k0_pay103, k0_pay101]
  rfl

theorem mm155 : (k0_pay155 (F := Ideal) V W (ix2 p c) : EReal) = mm V W p c := by
  pointwise [k0_pay155]
  rfl

theorem mm156 : (k0_pay156 (F := Ideal) V W (ix2 p c) : EReal) = mm V W p c := by
  pointwise [k0_pay156]
  rfl

theorem mm160 : (k0_pay160 (F := Ideal) V W (ix2 p c) : EReal) = mm V W p c := by
  pointwise [k0_pay160]
  rfl

theorem glu_apply : (k0_pay157 (F := Ideal) X Y (ix2 p c) : EReal) = X (ix2 p c) * sg (Y (ix2 p c)) := by
  pointwise [k0_pay157]
  rw [sg_sub]

theorem g158 : (k0_pay158 (F := Ideal) V W (ix2 p c) : EReal) = sg (mm V W p c) := by
  pointwise [k0_pay158]
  exact sg_sub _

theorem g159 : (k0_pay159 (F := Ideal) V W (ix2 p c) : EReal) = sg (mm V W p c) := by
  pointwise [k0_pay159]
  exact sg_sub _

theorem g162 : (k0_pay162 (F := Ideal) X (k0_pay161 (F := Ideal)) (ix2 p c) : EReal) = sg (X (ix2 p c)) := by
  pointwise [k0_pay162, k0_pay161]
  exact sg_sub _

theorem g163 : (k0_pay1 (F := Ideal) (k0_pay163 V W) (k0_pay164 (F := Ideal)) (ix2 p c) : EReal) = sg (mm V W p c) := by
  pointwise [k0_pay1, k0_pay163, k0_pay164]
  exact sg_sub _

end Cert.Kernel2Ideal.Proj
-- ==== Proof.Proj.Out.lean ====
module

public import proofs.«01_k».proof.Proof.Gen.Kernel2Ideal.Frame
public import proofs.«01_k».proof.Proof.Proj.Pay

/-! What the projection kernel's body leaves in its output blocks, each as one formula over the block's rows and the weights' columns. -/

@[expose] public section

set_option maxRecDepth 16384

noncomputable section

namespace Cert.Kernel2Ideal.Proj

open Cert.Kernel2Ideal Cert.Kernel2Ideal.Gen Cert.Proj
open Idealize.ShloMosaic Idealize.ShloMosaic.TcCoe Idealize.ShloMosaic.Pointwise
open Idealize.SL.Sem

/-! ## The formulas -/

/-- A column of the weights, -/
def col (w : Vec Ideal S1024x7680 .bf16) (n : Nat) (k : Fin 1024) : EReal := if h : n < 7680 then w (ix2 k ⟨n, h⟩) else 0

/-- the product of one row of a block and a column, -/
def pr (x0 : Vec Ideal S512x1024 .f32) (x1 : Vec Ideal S1x1024 .f32) (x2 : Vec Ideal S1024x7680 .bf16) (p : Fin 512) (n : Nat) : EReal :=
  pj (fun k => x0 (ix2 p k)) (fun k => x1 (ix2 0 k)) (col x2 n)

/-- the block of the gated convolution input, -/
def gC (x0 : Vec Ideal S512x1024 .f32) (x1 : Vec Ideal S1x1024 .f32) (x2 : Vec Ideal S1024x7680 .bf16) : Vec Ideal S512x512 .f32 := fun y =>
  pr x0 x1 x2 ⟨(y 0).val, (y 0).isLt⟩ (4608 + (y 1).val) * sg (pr x0 x1 x2 ⟨(y 0).val, (y 0).isLt⟩ (5120 + (y 1).val))

/-- the block of a gate whose columns start at `o`, -/
def gG (o : Nat) (x0 : Vec Ideal S512x1024 .f32) (x1 : Vec Ideal S1x1024 .f32) (x2 : Vec Ideal S1024x7680 .bf16) : Vec Ideal S512x1024 .f32 := fun y =>
  sg (pr x0 x1 x2 ⟨(y 0).val, (y 0).isLt⟩ (o + (y 1).val))

/-- and the block of queries, keys or values whose columns start at `o`. -/
def gP (o : Nat) (s : EReal → EReal) (x0 : Vec Ideal S512x1024 .f32) (x1 : Vec Ideal S1x1024 .f32) (x2 : Vec Ideal S1024x7680 .bf16) : Vec Ideal S1x1x512x512 .bf16 := fun y =>
  s (pr x0 x1 x2 ⟨(y 2).val, (y 2).isLt⟩ (o + (y 3).val))

/-- The queries are scaled. -/
def sc (x : EReal) : EReal := x * Ideal.ofBits .f32 0x3E000000#32

/-! ## The loads -/

section Loads
variable {arg1 : Memref sig .tc .vmem S512x1024 .f32} (harg1 : arg1.IsWhole) {arg2 : Memref sig .tc .vmem S1x1024 .f32} (harg2 : arg2.IsWhole)
  {arg3 : Memref sig .tc .vmem S1024x7680 .bf16} (harg3 : arg3.IsWhole)
  (x0 : Vec Ideal S512x1024 .f32) (x1 : Vec Ideal S1x1024 .f32) (x2 : Vec Ideal S1024x7680 .bf16)

/-- The loaded block of rows, -/
abbrev ld0 : Vec Ideal S512x1024 .f32 :=
  arg1.view.readAt (Elt Ideal) (Rect.unit (s := S512x1024) ![0, 0] S512x1024.size inb_S512x1024_S512x1024_0_0).toLoadRect (harg1.unread x0)
/-- gains -/
abbrev ld1 : Vec Ideal S1x1024 .f32 :=
  arg2.view.readAt (Elt Ideal) (Rect.unit (s := S1x1024) ![0, 0] S1x1024.size inb_S1x1024_S1x1024_0_0).toLoadRect (harg2.unread x1)
/-- and 512 columns of weights. -/
abbrev ld2 (o : Nat) (inb : ∀ a, (![0, o] : Fin 2 → Nat) a + S1024x512.size a ≤ S1024x7680.size a) : Vec Ideal S1024x512 .bf16 :=
  arg3.view.readAt (Elt Ideal) (Rect.unit (s := S1024x7680) ![0, o] S1024x512.size inb).toLoadRect (harg3.unread x2)

theorem ld0_apply (p : Fin 512) (k : Fin 1024) : ld0 harg1 x0 (ix2 p k) = x0 (ix2 p k) := by
  unfold ld0
  rw [View.readAt_apply, harg1.read_unread]
  congr 1
  funext a
  apply Fin.ext
  fin_cases a
  · show 0 + 1 * p.val = p.val; omega
  · show 0 + 1 * k.val = k.val; omega

theorem ld1_apply (k : Fin 1024) : ld1 harg2 x1 (ix2 0 k) = x1 (ix2 0 k) := by
  unfold ld1
  rw [View.readAt_apply, harg2.read_unread]
  congr 1
  funext a
  apply Fin.ext
  fin_cases a
  · rfl
  · show 0 + 1 * k.val = k.val; omega

theorem ld2_apply (o : Nat) (inb : ∀ a, (![0, o] : Fin 2 → Nat) a + S1024x512.size a ≤ S1024x7680.size a) (k : Fin 1024) (c : Fin 512) :
    (ld2 harg3 x2 o inb (ix2 k c) : EReal) = col x2 (o + c.val) k := by
  have hb : o + 512 ≤ 7680 := inb 1
  unfold ld2 col
  rw [View.readAt_apply, harg3.read_unread, dif_pos (by omega)]
  congr 1
  funext a
  apply Fin.ext
  fin_cases a
  · show 0 + 1 * k.val = k.val; omega
  · show o + 1 * c.val = o + c.val; omega

/-- A product of the run's loads is `pr`. -/
theorem mm_ld (o : Nat) (inb : ∀ a, (![0, o] : Fin 2 → Nat) a + S1024x512.size a ≤ S1024x7680.size a) (p c : Fin 512) :
    mm (k0_pay2 (F := Ideal) (ld0 harg1 x0) (ld1 harg2 x1)) (ld2 harg3 x2 o inb) p c = pr x0 x1 x2 p (o + c.val) := by
  unfold mm pr pj
  refine Finset.sum_congr rfl fun k _ => ?_
  rw [norm_apply, ld2_apply]
  simp only [ld0_apply, ld1_apply]

/-! ## The blocks -/

/-- A block stored in one piece. -/
theorem whole2 (v : View sig .tc .vmem S512x512 .f32) (f) (w G : Vec Ideal S512x512 .f32) (h : ∀ p c, (w (ix2 p c) : EReal) = G (ix2 p c)) :
    v.read (Elt Ideal) (v.writes (Elt Ideal) f [⟨Rect.unit (s := S512x512) ![0, 0] S512x512.size inb_S512x512_S512x512_0_0, w⟩]) = G := by
  funext y
  refine View.read_writes_apply_of_pieces (Val := Elt Ideal) v f G _ ?_ y ?_
  · refine List.forall_mem_cons.mpr ⟨fun x => ?_, fun _ h => absurd h List.not_mem_nil⟩
    have e : x = ix2 (x 0) (x 1) := by funext a; fin_cases a <;> rfl
    refine ((congrArg w e).trans (h _ _)).trans (congrArg G ?_)
    funext a
    apply Fin.ext
    fin_cases a
    · show (x 0).val = 0 + 1 * (x 0).val; omega
    · show (x 1).val = 0 + 1 * (x 1).val; omega
  · refine ⟨_, List.mem_cons_self, ?_⟩
    rw [Rect.mem_set_unit]
    intro a
    have h0 : (y 0).val < 512 := (y 0).isLt
    have h1 : (y 1).val < 512 := (y 1).isLt
    fin_cases a
    · exact ⟨Nat.zero_le _, by show (y 0).val < 0 + 512; omega⟩
    · exact ⟨Nat.zero_le _, by show (y 1).val < 0 + 512; omega⟩

/-- A block of one class stored in one piece. -/
theorem whole4 (v : View sig .tc .vmem S1x1x512x512 .bf16) (f) (w G : Vec Ideal S1x1x512x512 .bf16) (h : ∀ p c, (w (ix4 0 0 p c) : EReal) = G (ix4 0 0 p c)) :
    v.read (Elt Ideal) (v.writes (Elt Ideal) f [⟨Rect.unit (s := S1x1x512x512) ![0, 0, 0, 0] S1x1x512x512.size inb_S1x1x512x512_S1x1x512x512_0_0_0_0, w⟩]) = G := by
  funext y
  refine View.read_writes_apply_of_pieces (Val := Elt Ideal) v f G _ ?_ y ?_
  · refine List.forall_mem_cons.mpr ⟨fun x => ?_, fun _ h => absurd h List.not_mem_nil⟩
    have e : x = ix4 0 0 (x 2) (x 3) := by
      funext a; fin_cases a
      · exact Fin.ext (Nat.lt_one_iff.mp (x 0).isLt)
      · exact Fin.ext (Nat.lt_one_iff.mp (x 1).isLt)
      · rfl
      · rfl
    refine ((congrArg w e).trans (h _ _)).trans (congrArg G ?_)
    have h0 : (x 0).val < 1 := (x 0).isLt
    have h1 : (x 1).val < 1 := (x 1).isLt
    funext a
    apply Fin.ext
    fin_cases a
    · show 0 = 0 + 1 * (x 0).val; omega
    · show 0 = 0 + 1 * (x 1).val; omega
    · show (x 2).val = 0 + 1 * (x 2).val; omega
    · show (x 3).val = 0 + 1 * (x 3).val; omega
  · refine ⟨_, List.mem_cons_self, ?_⟩
    rw [Rect.mem_set_unit]
    intro a
    have h0 : (y 0).val < 1 := (y 0).isLt
    have h1 : (y 1).val < 1 := (y 1).isLt
    have h2 : (y 2).val < 512 := (y 2).isLt
    have h3 : (y 3).val < 512 := (y 3).isLt
    fin_cases a
    · exact ⟨Nat.zero_le _, by show (y 0).val < 0 + 1; omega⟩
    · exact ⟨Nat.zero_le _, by show (y 1).val < 0 + 1; omega⟩
    · exact ⟨Nat.zero_le _, by show (y 2).val < 0 + 512; omega⟩
    · exact ⟨Nat.zero_le _, by show (y 3).val < 0 + 512; omega⟩

theorem half_emb (o : Nat) (inb : ∀ a, (![0, o] : Fin 2 → Nat) a + S512x512.size a ≤ S512x1024.size a) (w : Vec Ideal S512x512 .f32) (G : Vec Ideal S512x1024 .f32)
    (h : ∀ (p c : Fin 512) (hc : o + c.val < 1024), (w (ix2 p c) : EReal) = G (ix2 p ⟨o + c.val, hc⟩)) (x : S512x512.Idx) :
    (w x : EReal) = G ((Rect.unit (s := S512x1024) ![0, o] S512x512.size inb).emb x) := by
  have hb : o + 512 ≤ 1024 := inb 1
  have h1 : (x 1).val < 512 := (x 1).isLt
  have e : x = ix2 (x 0) (x 1) := by funext a; fin_cases a <;> rfl
  refine ((congrArg w e).trans (h (x 0) (x 1) (by omega))).trans (congrArg G ?_)
  funext a
  apply Fin.ext
  fin_cases a
  · show (x 0).val = 0 + 1 * (x 0).val; omega
  · show o + (x 1).val = o + 1 * (x 1).val; omega

/-- A block stored in two halves. -/
theorem halves (v : View sig .tc .vmem S512x1024 .f32) (f) (w w' : Vec Ideal S512x512 .f32) (G : Vec Ideal S512x1024 .f32)
    (h : ∀ (p c : Fin 512) (hc : 512 + c.val < 1024), (w (ix2 p c) : EReal) = G (ix2 p ⟨512 + c.val, hc⟩))
    (h' : ∀ (p c : Fin 512) (hc : 0 + c.val < 1024), (w' (ix2 p c) : EReal) = G (ix2 p ⟨0 + c.val, hc⟩)) :
    v.read (Elt Ideal) (v.writes (Elt Ideal) f [⟨Rect.unit (s := S512x1024) ![0, 512] S512x512.size inb_S512x1024_S512x512_0_512, w⟩,
      ⟨Rect.unit (s := S512x1024) ![0, 0] S512x512.size inb_S512x1024_S512x512_0_0, w'⟩]) = G := by
  funext y
  refine View.read_writes_apply_of_pieces (Val := Elt Ideal) v f G _ ?_ y ?_
  · exact List.forall_mem_cons.mpr ⟨half_emb 512 inb_S512x1024_S512x512_0_512 w G h, List.forall_mem_cons.mpr ⟨half_emb 0 inb_S512x1024_S512x512_0_0 w' G h', fun _ h => absurd h List.not_mem_nil⟩⟩
  · have h0 : (y 0).val < 512 := (y 0).isLt
    have h1 : (y 1).val < 1024 := (y 1).isLt
    by_cases hy : (y 1).val < 512
    · refine ⟨_, List.mem_cons_of_mem _ List.mem_cons_self, ?_⟩
      rw [Rect.mem_set_unit]
      intro a
      fin_cases a
      · exact ⟨Nat.zero_le _, by show (y 0).val < 0 + 512; omega⟩
      · exact ⟨Nat.zero_le _, by show (y 1).val < 0 + 512; omega⟩
    · refine ⟨_, List.mem_cons_self, ?_⟩
      rw [Rect.mem_set_unit]
      intro a
      fin_cases a
      · exact ⟨Nat.zero_le _, by show (y 0).val < 0 + 512; omega⟩
      · exact ⟨by show 512 ≤ (y 1).val; omega, by show (y 1).val < 512 + 512; omega⟩

theorem c_list (v : View sig .tc .vmem S512x512 .f32) (f) :
    v.read (Elt Ideal) (v.writes (Elt Ideal) f [⟨Rect.unit (s := S512x512) ![0, 0] S512x512.size inb_S512x512_S512x512_0_0,
      k0_pay157 (k0_pay155 (k0_pay2 (ld0 harg1 x0) (ld1 harg2 x1)) (ld2 harg3 x2 4608 inb_S1024x7680_S1024x512_0_4608))
        (k0_pay156 (k0_pay2 (ld0 harg1 x0) (ld1 harg2 x1)) (ld2 harg3 x2 5120 inb_S1024x7680_S1024x512_0_5120))⟩]) = gC x0 x1 x2 :=
  whole2 v f _ _ fun p c => by
    rw [glu_apply, mm155, mm156, mm_ld, mm_ld]; rfl

theorem ga_list (v : View sig .tc .vmem S512x1024 .f32) (f) :
    v.read (Elt Ideal) (v.writes (Elt Ideal) f [⟨Rect.unit (s := S512x1024) ![0, 512] S512x512.size inb_S512x1024_S512x512_0_512,
        k0_pay159 (k0_pay2 (ld0 harg1 x0) (ld1 harg2 x1)) (ld2 harg3 x2 6144 inb_S1024x7680_S1024x512_0_6144)⟩,
      ⟨Rect.unit (s := S512x1024) ![0, 0] S512x512.size inb_S512x1024_S512x512_0_0,
        k0_pay158 (k0_pay2 (ld0 harg1 x0) (ld1 harg2 x1)) (ld2 harg3 x2 5632 inb_S1024x7680_S1024x512_0_5632)⟩]) = gG 5632 x0 x1 x2 :=
  halves v f _ _ _ (fun p c _ => by
    rw [g159, mm_ld, show 6144 + c.val = 5632 + (512 + c.val) by omega]; rfl) fun p c _ => by
    rw [g158, mm_ld, show 5632 + c.val = 5632 + (0 + c.val) by omega]; rfl

theorem gb_list (v : View sig .tc .vmem S512x1024 .f32) (f) :
    v.read (Elt Ideal) (v.writes (Elt Ideal) f [⟨Rect.unit (s := S512x1024) ![0, 512] S512x512.size inb_S512x1024_S512x512_0_512,
        k0_pay1 (k0_pay163 (k0_pay2 (ld0 harg1 x0) (ld1 harg2 x1)) (ld2 harg3 x2 7168 inb_S1024x7680_S1024x512_0_7168)) (k0_pay164 (F := Ideal))⟩,
      ⟨Rect.unit (s := S512x1024) ![0, 0] S512x512.size inb_S512x1024_S512x512_0_0,
        k0_pay162 (k0_pay160 (k0_pay2 (ld0 harg1 x0) (ld1 harg2 x1)) (ld2 harg3 x2 6656 inb_S1024x7680_S1024x512_0_6656)) (k0_pay161 (F := Ideal))⟩]) = gG 6656 x0 x1 x2 :=
  halves v f _ _ _ (fun p c _ => by
    rw [g163, mm_ld, show 7168 + c.val = 6656 + (512 + c.val) by omega]; rfl) fun p c _ => by
    rw [g162, mm160, mm_ld, show 6656 + c.val = 6656 + (0 + c.val) by omega]; rfl

theorem q_list (v : View sig .tc .vmem S1x1x512x512 .bf16) (f) :
    v.read (Elt Ideal) (v.writes (Elt Ideal) f [⟨Rect.unit (s := S1x1x512x512) ![0, 0, 0, 0] S1x1x512x512.size inb_S1x1x512x512_S1x1x512x512_0_0_0_0,
      k0_pay3 (ld0 harg1 x0) (ld1 harg2 x1) (ld2 harg3 x2 0 inb_S1024x7680_S1024x512_0_0)⟩]) = gP 0 sc x0 x1 x2 :=
  whole4 v f _ _ fun p c => by
    rw [q_apply, mm_ld]; rfl

theorem k_list (v : View sig .tc .vmem S1x1x512x512 .bf16) (f) :
    v.read (Elt Ideal) (v.writes (Elt Ideal) f [⟨Rect.unit (s := S1x1x512x512) ![0, 0, 0, 0] S1x1x512x512.size inb_S1x1x512x512_S1x1x512x512_0_0_0_0,
      k0_pay55 (k0_pay2 (ld0 harg1 x0) (ld1 harg2 x1)) (ld2 harg3 x2 1536 inb_S1024x7680_S1024x512_0_1536)⟩]) = gP 1536 id x0 x1 x2 :=
  whole4 v f _ _ fun p c => by
    rw [k_apply, mm_ld]; rfl

theorem v_list (v : View sig .tc .vmem S1x1x512x512 .bf16) (f) :
    v.read (Elt Ideal) (v.writes (Elt Ideal) f [⟨Rect.unit (s := S1x1x512x512) ![0, 0, 0, 0] S1x1x512x512.size inb_S1x1x512x512_S1x1x512x512_0_0_0_0,
      k0_pay103 (k0_pay2 (ld0 harg1 x0) (ld1 harg2 x1)) (ld2 harg3 x2 3072 inb_S1024x7680_S1024x512_0_3072)⟩]) = gP 3072 id x0 x1 x2 :=
  whole4 v f _ _ fun p c => by
    rw [v_apply, mm_ld]; rfl

end Loads

/-! ## What each case of the body leaves -/

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7680 .bf16) (harg3 : arg3.IsWhole) (arg7 : Memref sig .tc .vmem S512x512 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1x512x512 .bf16) (harg10 : arg10.IsWhole) (arg11 : Memref sig .tc .vmem S1x4x128x512 .bf16) (harg11 : arg11.IsWhole) (arg12 : Memref sig .tc .vmem S1x16x32x512 .bf16) (harg12 : arg12.IsWhole) (arg13 : Memref sig .tc .vmem S1x1x512x512 .bf16) (harg13 : arg13.IsWhole) (arg14 : Memref sig .tc .vmem S1x4x128x512 .bf16) (harg14 : arg14.IsWhole) (arg15 : Memref sig .tc .vmem S1x16x32x512 .bf16) (harg15 : arg15.IsWhole) (arg16 : Memref sig .tc .vmem S1x1x512x512 .bf16) (harg16 : arg16.IsWhole) (arg17 : Memref sig .tc .vmem S1x4x128x512 .bf16) (harg17 : arg17.IsWhole) (arg18 : Memref sig .tc .vmem S1x16x32x512 .bf16) (harg18 : arg18.IsWhole) (arg19 : Memref sig .tc .vmem S1x1x2x512x128 .f32) (harg19 : arg19.IsWhole) (arg20 : Memref sig .tc .vmem S1x1x2x512x512 .f32) (harg20 : arg20.IsWhole) (arg21 : Memref sig .tc .vmem S1x1x2x512x512 .f32) (harg21 : arg21.IsWhole) (arg22 : Memref sig .tc .vmem S4x512x128 .f32) (harg22 : arg22.IsWhole)
  (x0 : Vec Ideal S512x1024 .f32) (x1 : Vec Ideal S1x1024 .f32) (x2 : Vec Ideal S1024x7680 .bf16)

theorem out_A_3 (hc0 : ¬cond0_0 i) (hc1 : ¬cond0_1 i) (hc2 : ¬cond0_2 i) (hc3 : ¬cond0_3 i) :
    out0_A_3 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gC x0 x1 x2 :=
  c_list harg1 harg2 harg3 x0 x1 x2 _ _

theorem out_A_4 (hc0 : ¬cond0_0 i) (hc1 : ¬cond0_1 i) (hc2 : ¬cond0_2 i) (hc3 : ¬cond0_3 i) :
    out0_A_4 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gG 5632 x0 x1 x2 :=
  ga_list harg1 harg2 harg3 x0 x1 x2 _ _

theorem out_A_5 (hc0 : ¬cond0_0 i) (hc1 : ¬cond0_1 i) (hc2 : ¬cond0_2 i) (hc3 : ¬cond0_3 i) :
    out0_A_5 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gG 6656 x0 x1 x2 :=
  gb_list harg1 harg2 harg3 x0 x1 x2 _ _

theorem out_A_6 (hc0 : ¬cond0_0 i) (hc1 : ¬cond0_1 i) (hc2 : ¬cond0_2 i) (hc3 : ¬cond0_3 i) :
    out0_A_6 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gP 0 sc x0 x1 x2 :=
  q_list harg1 harg2 harg3 x0 x1 x2 _ _

theorem out_A_9 (hc0 : ¬cond0_0 i) (hc1 : ¬cond0_1 i) (hc2 : ¬cond0_2 i) (hc3 : ¬cond0_3 i) :
    out0_A_9 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gP 1536 id x0 x1 x2 :=
  k_list harg1 harg2 harg3 x0 x1 x2 _ _

theorem out_A_12 (hc0 : ¬cond0_0 i) (hc1 : ¬cond0_1 i) (hc2 : ¬cond0_2 i) (hc3 : ¬cond0_3 i) :
    out0_A_12 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gP 3072 id x0 x1 x2 :=
  v_list harg1 harg2 harg3 x0 x1 x2 _ _

theorem out_B_3 (hc0 : cond0_0 i) (hc1 : cond0_1 i) (hc2 : cond0_2 i) (hc3 : cond0_3 i) :
    out0_B_3 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gC x0 x1 x2 :=
  c_list harg1 harg2 harg3 x0 x1 x2 _ _

theorem out_B_4 (hc0 : cond0_0 i) (hc1 : cond0_1 i) (hc2 : cond0_2 i) (hc3 : cond0_3 i) :
    out0_B_4 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gG 5632 x0 x1 x2 :=
  ga_list harg1 harg2 harg3 x0 x1 x2 _ _

theorem out_B_5 (hc0 : cond0_0 i) (hc1 : cond0_1 i) (hc2 : cond0_2 i) (hc3 : cond0_3 i) :
    out0_B_5 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gG 6656 x0 x1 x2 :=
  gb_list harg1 harg2 harg3 x0 x1 x2 _ _

theorem out_B_6 (hc0 : cond0_0 i) (hc1 : cond0_1 i) (hc2 : cond0_2 i) (hc3 : cond0_3 i) :
    out0_B_6 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gP 0 sc x0 x1 x2 :=
  q_list harg1 harg2 harg3 x0 x1 x2 _ _

theorem out_B_9 (hc0 : cond0_0 i) (hc1 : cond0_1 i) (hc2 : cond0_2 i) (hc3 : cond0_3 i) :
    out0_B_9 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gP 1536 id x0 x1 x2 :=
  k_list harg1 harg2 harg3 x0 x1 x2 _ _

theorem out_B_12 (hc0 : cond0_0 i) (hc1 : cond0_1 i) (hc2 : cond0_2 i) (hc3 : cond0_3 i) :
    out0_B_12 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gP 3072 id x0 x1 x2 :=
  v_list harg1 harg2 harg3 x0 x1 x2 _ _

end Cert.Kernel2Ideal.Proj

end
-- ==== Proof.Proj.Strided.lean ====
module

public import proofs.«01_k».proof.Proof.Proj.Out

/-! The second and third group's queries, keys and values: a product goes into the scratch array in four pieces of 128
    columns, and is read back class by class. -/

@[expose] public section

set_option maxRecDepth 16384

noncomputable section

namespace Cert.Kernel2Ideal.Proj

open Cert.Kernel2Ideal Cert.Kernel2Ideal.Gen Cert.Proj
open Idealize.ShloMosaic Idealize.ShloMosaic.TcCoe Idealize.ShloMosaic.Pointwise
open Idealize.SL.Sem

/-- The scratch array that holds the matrix `val`. -/
def sB (val : Fin 512 → Fin 512 → EReal) : Vec Ideal S4x512x128 .f32 := fun y =>
  val ⟨(y 1).val, (y 1).isLt⟩ ⟨128 * (y 0).val + (y 2).val, by have h0 : (y 0).val < 4 := (y 0).isLt; have h2 : (y 2).val < 128 := (y 2).isLt; omega⟩

section Store
variable {val : Fin 512 → Fin 512 → EReal}

/-- One piece of it. -/
theorem scr1 (t : Nat) (ht : t < 4) (inb : ∀ a, (![t, 0, 0] : Fin 3 → Nat) a + S1x512x128.size a ≤ S4x512x128.size a) (w : Vec Ideal S1x512x128 .f32)
    (h : ∀ p (l : Fin 128), (w (ix3 0 p l) : EReal) = val p ⟨128 * t + l.val, by omega⟩) (x : S1x512x128.Idx) :
    (w x : EReal) = sB val ((Rect.unit (s := S4x512x128) ![t, 0, 0] S1x512x128.size inb).emb x) := by
  have e : x = ix3 0 (x 1) (x 2) := by
    funext a; fin_cases a
    · exact Fin.ext (Nat.lt_one_iff.mp (x 0).isLt)
    · rfl
    · rfl
  have h0 : (x 0).val < 1 := (x 0).isLt
  refine ((congrArg w e).trans (h _ _)).trans (congrArg₂ val (Fin.ext ?_) (Fin.ext ?_))
  · show (x 1).val = 0 + 1 * (x 1).val; omega
  · show 128 * t + (x 2).val = 128 * (t + 1 * (x 0).val) + (0 + 1 * (x 2).val); omega

theorem mem_scr (t : Nat) (inb : ∀ a, (![t, 0, 0] : Fin 3 → Nat) a + S1x512x128.size a ≤ S4x512x128.size a) (y : S4x512x128.Idx) (h : (y 0).val = t) :
    y ∈ (Rect.unit (s := S4x512x128) ![t, 0, 0] S1x512x128.size inb).set := by
  rw [Rect.mem_set_unit]
  intro a
  have h1 : (y 1).val < 512 := (y 1).isLt
  have h2 : (y 2).val < 128 := (y 2).isLt
  fin_cases a
  · exact ⟨by show t ≤ (y 0).val; omega, by show (y 0).val < t + 1; omega⟩
  · exact ⟨Nat.zero_le _, by show (y 1).val < 0 + 512; omega⟩
  · exact ⟨Nat.zero_le _, by show (y 2).val < 0 + 128; omega⟩

/-- The four pieces, whatever was stored before. -/
theorem scr (v : View sig .tc .vmem S4x512x128 .f32) (f) (L : List (View.Piece (Elt Ideal) S4x512x128 .f32)) (w3 w2 w1 w0 : Vec Ideal S1x512x128 .f32)
    (h3 : ∀ p (l : Fin 128), (w3 (ix3 0 p l) : EReal) = val p ⟨128 * 3 + l.val, by omega⟩)
    (h2 : ∀ p (l : Fin 128), (w2 (ix3 0 p l) : EReal) = val p ⟨128 * 2 + l.val, by omega⟩)
    (h1 : ∀ p (l : Fin 128), (w1 (ix3 0 p l) : EReal) = val p ⟨128 * 1 + l.val, by omega⟩)
    (h0 : ∀ p (l : Fin 128), (w0 (ix3 0 p l) : EReal) = val p ⟨128 * 0 + l.val, by omega⟩) :
    v.read (Elt Ideal) (v.writes (Elt Ideal) f (⟨Rect.unit (s := S4x512x128) ![3, 0, 0] S1x512x128.size inb_S4x512x128_S1x512x128_3_0_0, w3⟩ ::
      ⟨Rect.unit (s := S4x512x128) ![2, 0, 0] S1x512x128.size inb_S4x512x128_S1x512x128_2_0_0, w2⟩ ::
      ⟨Rect.unit (s := S4x512x128) ![1, 0, 0] S1x512x128.size inb_S4x512x128_S1x512x128_1_0_0, w1⟩ ::
      ⟨Rect.unit (s := S4x512x128) ![0, 0, 0] S1x512x128.size inb_S4x512x128_S1x512x128_0_0_0, w0⟩ :: L)) = sB val := by
  show v.read (Elt Ideal) (v.writes (Elt Ideal) (v.writes (Elt Ideal) f L) [⟨Rect.unit (s := S4x512x128) ![3, 0, 0] S1x512x128.size inb_S4x512x128_S1x512x128_3_0_0, w3⟩,
      ⟨Rect.unit (s := S4x512x128) ![2, 0, 0] S1x512x128.size inb_S4x512x128_S1x512x128_2_0_0, w2⟩,
      ⟨Rect.unit (s := S4x512x128) ![1, 0, 0] S1x512x128.size inb_S4x512x128_S1x512x128_1_0_0, w1⟩,
      ⟨Rect.unit (s := S4x512x128) ![0, 0, 0] S1x512x128.size inb_S4x512x128_S1x512x128_0_0_0, w0⟩]) = _
  funext y
  refine View.read_writes_apply_of_pieces (Val := Elt Ideal) v _ (sB val) _ ?_ y ?_
  · exact List.forall_mem_cons.mpr ⟨scr1 3 (by omega) inb_S4x512x128_S1x512x128_3_0_0 w3 h3, List.forall_mem_cons.mpr ⟨scr1 2 (by omega) inb_S4x512x128_S1x512x128_2_0_0 w2 h2,
      List.forall_mem_cons.mpr ⟨scr1 1 (by omega) inb_S4x512x128_S1x512x128_1_0_0 w1 h1, List.forall_mem_cons.mpr ⟨scr1 0 (by omega) inb_S4x512x128_S1x512x128_0_0_0 w0 h0, fun _ h => absurd h List.not_mem_nil⟩⟩⟩⟩
  · have hy : (y 0).val < 4 := (y 0).isLt
    simp only [List.exists_mem_cons_iff]
    rcases (by omega : (y 0).val = 3 ∨ (y 0).val = 2 ∨ (y 0).val = 1 ∨ (y 0).val = 0) with h | h | h | h
    · exact .inl (mem_scr 3 _ y h)
    · exact .inr (.inl (mem_scr 2 _ y h))
    · exact .inr (.inr (.inl (mem_scr 1 _ y h)))
    · exact .inr (.inr (.inr (.inl (mem_scr 0 _ y h))))

end Store

/-! ## What is stored -/

section Pay
variable (V : FVec Ideal S512x1024 .bf16) (W : Vec Ideal S1024x512 .bf16) (p : Fin 512) (l : Fin 128)

theorem s5 : (k0_pay5 (F := Ideal) V W (ix3 0 p l) : EReal) = sc (mm V W p ⟨128 * 0 + l.val, by omega⟩) := by
  pointwise [k0_pay5, k0_pay4]
  try simp only [Nat.zero_add]
  rfl

theorem s6 : (k0_pay6 (F := Ideal) V W (ix3 0 p l) : EReal) = sc (mm V W p ⟨128 * 1 + l.val, by omega⟩) := by
  pointwise [k0_pay6, k0_pay4]
  rfl

theorem s7 : (k0_pay7 (F := Ideal) V W (ix3 0 p l) : EReal) = sc (mm V W p ⟨128 * 2 + l.val, by omega⟩) := by
  pointwise [k0_pay7, k0_pay4]
  rfl

theorem s8 : (k0_pay8 (F := Ideal) V W (ix3 0 p l) : EReal) = sc (mm V W p ⟨128 * 3 + l.val, by omega⟩) := by
  pointwise [k0_pay8, k0_pay4]
  rfl

theorem s119 : (k0_pay119 (F := Ideal) V W (ix3 0 p l) : EReal) = id (mm V W p ⟨128 * 0 + l.val, by omega⟩) := by
  pointwise [k0_pay119, k0_pay117]
  try simp only [Nat.zero_add]
  rfl

theorem s120 : (k0_pay120 (F := Ideal) V W (ix3 0 p l) : EReal) = id (mm V W p ⟨128 * 1 + l.val, by omega⟩) := by
  pointwise [k0_pay120, k0_pay117]
  rfl

theorem s121 : (k0_pay121 (F := Ideal) V W (ix3 0 p l) : EReal) = id (mm V W p ⟨128 * 2 + l.val, by omega⟩) := by
  pointwise [k0_pay121, k0_pay117]
  rfl

theorem s122 : (k0_pay122 (F := Ideal) V W (ix3 0 p l) : EReal) = id (mm V W p ⟨128 * 3 + l.val, by omega⟩) := by
  pointwise [k0_pay122, k0_pay117]
  rfl

end Pay

section Scratch
variable {arg1 : Memref sig .tc .vmem S512x1024 .f32} (harg1 : arg1.IsWhole) {arg2 : Memref sig .tc .vmem S1x1024 .f32} (harg2 : arg2.IsWhole)
  {arg3 : Memref sig .tc .vmem S1024x7680 .bf16} (harg3 : arg3.IsWhole)
  (x0 : Vec Ideal S512x1024 .f32) (x1 : Vec Ideal S1x1024 .f32) (x2 : Vec Ideal S1024x7680 .bf16)

/-- The scratch array after a group's queries, -/
theorem hsQ (v : View sig .tc .vmem S4x512x128 .f32) (f) (L) (o : Nat) (inb : ∀ a, (![0, o] : Fin 2 → Nat) a + S1024x512.size a ≤ S1024x7680.size a) :
    v.read (Elt Ideal) (v.writes (Elt Ideal) f (⟨Rect.unit (s := S4x512x128) ![3, 0, 0] S1x512x128.size inb_S4x512x128_S1x512x128_3_0_0, k0_pay8 (k0_pay2 (ld0 harg1 x0) (ld1 harg2 x1)) (ld2 harg3 x2 o inb)⟩ ::
      ⟨Rect.unit (s := S4x512x128) ![2, 0, 0] S1x512x128.size inb_S4x512x128_S1x512x128_2_0_0, k0_pay7 (k0_pay2 (ld0 harg1 x0) (ld1 harg2 x1)) (ld2 harg3 x2 o inb)⟩ ::
      ⟨Rect.unit (s := S4x512x128) ![1, 0, 0] S1x512x128.size inb_S4x512x128_S1x512x128_1_0_0, k0_pay6 (k0_pay2 (ld0 harg1 x0) (ld1 harg2 x1)) (ld2 harg3 x2 o inb)⟩ ::
      ⟨Rect.unit (s := S4x512x128) ![0, 0, 0] S1x512x128.size inb_S4x512x128_S1x512x128_0_0_0, k0_pay5 (k0_pay2 (ld0 harg1 x0) (ld1 harg2 x1)) (ld2 harg3 x2 o inb)⟩ :: L)) = sB (fun p n => sc (pr x0 x1 x2 p (o + n.val))) :=
  scr v f L _ _ _ _ (fun p l => by rw [s8, mm_ld]) (fun p l => by rw [s7, mm_ld]) (fun p l => by rw [s6, mm_ld]) (fun p l => by rw [s5, mm_ld])

/-- and after a group's keys or values. -/
theorem hsK (v : View sig .tc .vmem S4x512x128 .f32) (f) (L) (o : Nat) (inb : ∀ a, (![0, o] : Fin 2 → Nat) a + S1024x512.size a ≤ S1024x7680.size a) :
    v.read (Elt Ideal) (v.writes (Elt Ideal) f (⟨Rect.unit (s := S4x512x128) ![3, 0, 0] S1x512x128.size inb_S4x512x128_S1x512x128_3_0_0, k0_pay122 (k0_pay2 (ld0 harg1 x0) (ld1 harg2 x1)) (ld2 harg3 x2 o inb)⟩ ::
      ⟨Rect.unit (s := S4x512x128) ![2, 0, 0] S1x512x128.size inb_S4x512x128_S1x512x128_2_0_0, k0_pay121 (k0_pay2 (ld0 harg1 x0) (ld1 harg2 x1)) (ld2 harg3 x2 o inb)⟩ ::
      ⟨Rect.unit (s := S4x512x128) ![1, 0, 0] S1x512x128.size inb_S4x512x128_S1x512x128_1_0_0, k0_pay120 (k0_pay2 (ld0 harg1 x0) (ld1 harg2 x1)) (ld2 harg3 x2 o inb)⟩ ::
      ⟨Rect.unit (s := S4x512x128) ![0, 0, 0] S1x512x128.size inb_S4x512x128_S1x512x128_0_0_0, k0_pay119 (k0_pay2 (ld0 harg1 x0) (ld1 harg2 x1)) (ld2 harg3 x2 o inb)⟩ :: L)) = sB (fun p n => id (pr x0 x1 x2 p (o + n.val))) :=
  scr v f L _ _ _ _ (fun p l => by rw [s122, mm_ld]) (fun p l => by rw [s121, mm_ld]) (fun p l => by rw [s120, mm_ld]) (fun p l => by rw [s119, mm_ld])

end Scratch

/-! ## What is read back -/

section Class4

/-- The block of 4 classes of the matrix `val`. -/
def gS4 (val : Fin 512 → Fin 512 → EReal) : Vec Ideal S1x4x128x512 .bf16 := fun y =>
  val ⟨4 * (y 2).val + (y 1).val, by have h1 : (y 1).val < 4 := (y 1).isLt; have h2 : (y 2).val < 128 := (y 2).isLt; omega⟩ ⟨(y 3).val, (y 3).isLt⟩

theorem cat4 (v0 v1 v2 v3 : Vec Ideal S1x128x128 .f32) (f : Fin 512 → EReal) (p : Fin 128) (c : Fin 512)
    (h0 : ∀ l : Fin 128, (v0 (ix3 0 p l) : EReal) = f ⟨128 * 0 + l.val, by omega⟩) (h1 : ∀ l : Fin 128, (v1 (ix3 0 p l) : EReal) = f ⟨128 * 1 + l.val, by omega⟩)
    (h2 : ∀ l : Fin 128, (v2 (ix3 0 p l) : EReal) = f ⟨128 * 2 + l.val, by omega⟩) (h3 : ∀ l : Fin 128, (v3 (ix3 0 p l) : EReal) = f ⟨128 * 3 + l.val, by omega⟩) :
    (k0_pay14 (F := Ideal) v0 v1 v2 v3 (ix4 0 0 p c) : EReal) = f c := by
  pointwise [k0_pay14]
  simp only [h0, h1, h2, h3]
  split_ifs <;> exact congrArg f (Fin.ext (by show 128 * _ + _ = _; omega))

variable {val : Fin 512 → Fin 512 → EReal} (v : View sig .tc .vmem S4x512x128 .f32) (L : List (View.Piece (Elt Ideal) S4x512x128 .f32))
  (H : v.read (Elt Ideal) (v.writes (Elt Ideal) v.junk L) = sB val)
include H

theorem ld4 (t r : Nat) (ht : t < 4) (hr : r < 4) (inb) (p : Fin 128) (l : Fin 128) :
    (v.readCov (Val := Elt Ideal) L { off := ![t, r, 0], size := S1x128x128.size, stride := ![1, 4, 1], inb := inb } (ix3 0 p l) : EReal)
      = val ⟨4 * p.val + r, by omega⟩ ⟨128 * t + l.val, by omega⟩ := by
  refine (congrFun H _).trans (congrArg₂ val (Fin.ext ?_) (Fin.ext ?_))
  · show r + 4 * p.val = 4 * p.val + r; omega
  · show 128 * (t + 1 * 0) + (0 + 1 * l.val) = 128 * t + l.val; omega

omit H in
theorem inb_cls4 (r : Nat) (hr : r < 4) : ∀ a, (![0, r, 0, 0] : Fin 4 → Nat) a + S1x1x128x512.size a ≤ S1x4x128x512.size a := by
  intro a
  fin_cases a
  · exact Nat.le_refl _
  · exact hr
  · exact Nat.le_refl _
  · exact Nat.le_refl _

/-- One class. -/
theorem pc4 (r : Nat) (hr : r < 4) (b0) (b1) (b2) (b3) (inb) (x : S1x1x128x512.Idx) :
    (k0_pay14 (F := Ideal) (v.readCov (Val := Elt Ideal) L { off := ![0, r, 0], size := S1x128x128.size, stride := ![1, 4, 1], inb := b0 })
      (v.readCov (Val := Elt Ideal) L { off := ![1, r, 0], size := S1x128x128.size, stride := ![1, 4, 1], inb := b1 })
      (v.readCov (Val := Elt Ideal) L { off := ![2, r, 0], size := S1x128x128.size, stride := ![1, 4, 1], inb := b2 })
      (v.readCov (Val := Elt Ideal) L { off := ![3, r, 0], size := S1x128x128.size, stride := ![1, 4, 1], inb := b3 }) x : EReal)
      = gS4 val ((Rect.unit (s := S1x4x128x512) ![0, r, 0, 0] S1x1x128x512.size inb).emb x) := by
  have e : x = ix4 0 0 (x 2) (x 3) := by
    funext a; fin_cases a
    · exact Fin.ext (Nat.lt_one_iff.mp (x 0).isLt)
    · exact Fin.ext (Nat.lt_one_iff.mp (x 1).isLt)
    · rfl
    · rfl
  have h1 : (x 1).val < 1 := (x 1).isLt
  have h2 : (x 2).val < 128 := (x 2).isLt
  refine ((congrArg _ e).trans (cat4 _ _ _ _ (val ⟨4 * (x 2).val + r, by omega⟩) (x 2) (x 3) (fun l => ld4 v L H 0 r (by omega) hr b0 _ l) (fun l => ld4 v L H 1 r (by omega) hr b1 _ l)
    (fun l => ld4 v L H 2 r (by omega) hr b2 _ l) (fun l => ld4 v L H 3 r (by omega) hr b3 _ l))).trans (congrArg₂ val (Fin.ext ?_) (Fin.ext ?_))
  · show 4 * (x 2).val + r = 4 * (0 + 1 * (x 2).val) + (r + 1 * (x 1).val); omega
  · show (x 3).val = 0 + 1 * (x 3).val; omega

omit H in
theorem mem4 (r : Nat) (inb : ∀ a, (![0, r, 0, 0] : Fin 4 → Nat) a + (![1, 1, 128, 512] : Fin 4 → Nat) a ≤ S1x4x128x512.size a) (y : S1x4x128x512.Idx) :
    y ∈ (Rect.unit (s := S1x4x128x512) ![0, r, 0, 0] ![1, 1, 128, 512] inb).set ↔ (y 1).val = r := by
  rw [Rect.mem_set_unit]
  have h0 : (y 0).val < 1 := (y 0).isLt
  have h2 : (y 2).val < 128 := (y 2).isLt
  have h3 : (y 3).val < 512 := (y 3).isLt
  constructor
  · intro h
    have := h 1
    have a : r ≤ (y 1).val := this.1
    have b : (y 1).val < r + 1 := this.2
    omega
  · intro h a
    fin_cases a
    · exact ⟨Nat.zero_le _, by show (y 0).val < 0 + 1; omega⟩
    · exact ⟨by show r ≤ (y 1).val; omega, by show (y 1).val < r + 1; omega⟩
    · exact ⟨Nat.zero_le _, by show (y 2).val < 0 + 128; omega⟩
    · exact ⟨Nat.zero_le _, by show (y 3).val < 0 + 512; omega⟩

end Class4

section Class16

/-- The block of 16 classes of the matrix `val`. -/
def gS16 (val : Fin 512 → Fin 512 → EReal) : Vec Ideal S1x16x32x512 .bf16 := fun y =>
  val ⟨16 * (y 2).val + (y 1).val, by have h1 : (y 1).val < 16 := (y 1).isLt; have h2 : (y 2).val < 32 := (y 2).isLt; omega⟩ ⟨(y 3).val, (y 3).isLt⟩

theorem cat16 (v0 v1 v2 v3 : Vec Ideal S1x32x128 .f32) (f : Fin 512 → EReal) (p : Fin 32) (c : Fin 512)
    (h0 : ∀ l : Fin 128, (v0 (ix3 0 p l) : EReal) = f ⟨128 * 0 + l.val, by omega⟩) (h1 : ∀ l : Fin 128, (v1 (ix3 0 p l) : EReal) = f ⟨128 * 1 + l.val, by omega⟩)
    (h2 : ∀ l : Fin 128, (v2 (ix3 0 p l) : EReal) = f ⟨128 * 2 + l.val, by omega⟩) (h3 : ∀ l : Fin 128, (v3 (ix3 0 p l) : EReal) = f ⟨128 * 3 + l.val, by omega⟩) :
    (k0_pay21 (F := Ideal) v0 v1 v2 v3 (ix4 0 0 p c) : EReal) = f c := by
  pointwise [k0_pay21]
  simp only [h0, h1, h2, h3]
  split_ifs <;> exact congrArg f (Fin.ext (by show 128 * _ + _ = _; omega))

variable {val : Fin 512 → Fin 512 → EReal} (v : View sig .tc .vmem S4x512x128 .f32) (L : List (View.Piece (Elt Ideal) S4x512x128 .f32))
  (H : v.read (Elt Ideal) (v.writes (Elt Ideal) v.junk L) = sB val)
include H

theorem ld16 (t r : Nat) (ht : t < 4) (hr : r < 16) (inb) (p : Fin 32) (l : Fin 128) :
    (v.readCov (Val := Elt Ideal) L { off := ![t, r, 0], size := S1x32x128.size, stride := ![1, 16, 1], inb := inb } (ix3 0 p l) : EReal)
      = val ⟨16 * p.val + r, by omega⟩ ⟨128 * t + l.val, by omega⟩ := by
  refine (congrFun H _).trans (congrArg₂ val (Fin.ext ?_) (Fin.ext ?_))
  · show r + 16 * p.val = 16 * p.val + r; omega
  · show 128 * (t + 1 * 0) + (0 + 1 * l.val) = 128 * t + l.val; omega

omit H in
theorem inb_cls16 (r : Nat) (hr : r < 16) : ∀ a, (![0, r, 0, 0] : Fin 4 → Nat) a + S1x1x32x512.size a ≤ S1x16x32x512.size a := by
  intro a
  fin_cases a
  · exact Nat.le_refl _
  · exact hr
  · exact Nat.le_refl _
  · exact Nat.le_refl _

/-- One class. -/
theorem pc16 (r : Nat) (hr : r < 16) (b0) (b1) (b2) (b3) (inb) (x : S1x1x32x512.Idx) :
    (k0_pay21 (F := Ideal) (v.readCov (Val := Elt Ideal) L { off := ![0, r, 0], size := S1x32x128.size, stride := ![1, 16, 1], inb := b0 })
      (v.readCov (Val := Elt Ideal) L { off := ![1, r, 0], size := S1x32x128.size, stride := ![1, 16, 1], inb := b1 })
      (v.readCov (Val := Elt Ideal) L { off := ![2, r, 0], size := S1x32x128.size, stride := ![1, 16, 1], inb := b2 })
      (v.readCov (Val := Elt Ideal) L { off := ![3, r, 0], size := S1x32x128.size, stride := ![1, 16, 1], inb := b3 }) x : EReal)
      = gS16 val ((Rect.unit (s := S1x16x32x512) ![0, r, 0, 0] S1x1x32x512.size inb).emb x) := by
  have e : x = ix4 0 0 (x 2) (x 3) := by
    funext a; fin_cases a
    · exact Fin.ext (Nat.lt_one_iff.mp (x 0).isLt)
    · exact Fin.ext (Nat.lt_one_iff.mp (x 1).isLt)
    · rfl
    · rfl
  have h1 : (x 1).val < 1 := (x 1).isLt
  have h2 : (x 2).val < 32 := (x 2).isLt
  refine ((congrArg _ e).trans (cat16 _ _ _ _ (val ⟨16 * (x 2).val + r, by omega⟩) (x 2) (x 3) (fun l => ld16 v L H 0 r (by omega) hr b0 _ l) (fun l => ld16 v L H 1 r (by omega) hr b1 _ l)
    (fun l => ld16 v L H 2 r (by omega) hr b2 _ l) (fun l => ld16 v L H 3 r (by omega) hr b3 _ l))).trans (congrArg₂ val (Fin.ext ?_) (Fin.ext ?_))
  · show 16 * (x 2).val + r = 16 * (0 + 1 * (x 2).val) + (r + 1 * (x 1).val); omega
  · show (x 3).val = 0 + 1 * (x 3).val; omega

omit H in
theorem mem16 (r : Nat) (inb : ∀ a, (![0, r, 0, 0] : Fin 4 → Nat) a + (![1, 1, 32, 512] : Fin 4 → Nat) a ≤ S1x16x32x512.size a) (y : S1x16x32x512.Idx) :
    y ∈ (Rect.unit (s := S1x16x32x512) ![0, r, 0, 0] ![1, 1, 32, 512] inb).set ↔ (y 1).val = r := by
  rw [Rect.mem_set_unit]
  have h0 : (y 0).val < 1 := (y 0).isLt
  have h2 : (y 2).val < 32 := (y 2).isLt
  have h3 : (y 3).val < 512 := (y 3).isLt
  constructor
  · intro h
    have := h 1
    have a : r ≤ (y 1).val := this.1
    have b : (y 1).val < r + 1 := this.2
    omega
  · intro h a
    fin_cases a
    · exact ⟨Nat.zero_le _, by show (y 0).val < 0 + 1; omega⟩
    · exact ⟨by show r ≤ (y 1).val; omega, by show (y 1).val < r + 1; omega⟩
    · exact ⟨Nat.zero_le _, by show (y 2).val < 0 + 32; omega⟩
    · exact ⟨Nat.zero_le _, by show (y 3).val < 0 + 512; omega⟩

end Class16

/-! ## What each case of the body leaves -/

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7680 .bf16) (harg3 : arg3.IsWhole) (arg7 : Memref sig .tc .vmem S512x512 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1x512x512 .bf16) (harg10 : arg10.IsWhole) (arg11 : Memref sig .tc .vmem S1x4x128x512 .bf16) (harg11 : arg11.IsWhole) (arg12 : Memref sig .tc .vmem S1x16x32x512 .bf16) (harg12 : arg12.IsWhole) (arg13 : Memref sig .tc .vmem S1x1x512x512 .bf16) (harg13 : arg13.IsWhole) (arg14 : Memref sig .tc .vmem S1x4x128x512 .bf16) (harg14 : arg14.IsWhole) (arg15 : Memref sig .tc .vmem S1x16x32x512 .bf16) (harg15 : arg15.IsWhole) (arg16 : Memref sig .tc .vmem S1x1x512x512 .bf16) (harg16 : arg16.IsWhole) (arg17 : Memref sig .tc .vmem S1x4x128x512 .bf16) (harg17 : arg17.IsWhole) (arg18 : Memref sig .tc .vmem S1x16x32x512 .bf16) (harg18 : arg18.IsWhole) (arg19 : Memref sig .tc .vmem S1x1x2x512x128 .f32) (harg19 : arg19.IsWhole) (arg20 : Memref sig .tc .vmem S1x1x2x512x512 .f32) (harg20 : arg20.IsWhole) (arg21 : Memref sig .tc .vmem S1x1x2x512x512 .f32) (harg21 : arg21.IsWhole) (arg22 : Memref sig .tc .vmem S4x512x128 .f32) (harg22 : arg22.IsWhole)
  (x0 : Vec Ideal S512x1024 .f32) (x1 : Vec Ideal S1x1024 .f32) (x2 : Vec Ideal S1024x7680 .bf16)

theorem scr_A_7 : arg22.view.read (Elt Ideal) (arg22.view.writes (Elt Ideal) arg22.view.junk (kernelRun0_A.sl.HS0_4 (F := Ideal) c arg1 harg1 arg2 harg2 arg3 harg3 x0 x1 x2))
    = sB (fun p n => sc (pr x0 x1 x2 p (512 + n.val))) :=
  hsQ harg1 harg2 harg3 x0 x1 x2 arg22.view _ _ 512 inb_S1024x7680_S1024x512_0_512

theorem scr_A_8 : arg22.view.read (Elt Ideal) (arg22.view.writes (Elt Ideal) arg22.view.junk (kernelRun0_A.sl.HS0_8 (F := Ideal) c arg1 harg1 arg2 harg2 arg3 harg3 x0 x1 x2))
    = sB (fun p n => sc (pr x0 x1 x2 p (1024 + n.val))) :=
  hsQ harg1 harg2 harg3 x0 x1 x2 arg22.view _ _ 1024 inb_S1024x7680_S1024x512_0_1024

theorem scr_A_10 : arg22.view.read (Elt Ideal) (arg22.view.writes (Elt Ideal) arg22.view.junk (kernelRun0_A.sl.HS0_12 (F := Ideal) c arg1 harg1 arg2 harg2 arg3 harg3 x0 x1 x2))
    = sB (fun p n => id (pr x0 x1 x2 p (2048 + n.val))) :=
  hsK harg1 harg2 harg3 x0 x1 x2 arg22.view _ _ 2048 inb_S1024x7680_S1024x512_0_2048

theorem scr_A_11 : arg22.view.read (Elt Ideal) (arg22.view.writes (Elt Ideal) arg22.view.junk (kernelRun0_A.sl.HS0_16 (F := Ideal) c arg1 harg1 arg2 harg2 arg3 harg3 x0 x1 x2))
    = sB (fun p n => id (pr x0 x1 x2 p (2560 + n.val))) :=
  hsK harg1 harg2 harg3 x0 x1 x2 arg22.view _ _ 2560 inb_S1024x7680_S1024x512_0_2560

theorem scr_A_13 : arg22.view.read (Elt Ideal) (arg22.view.writes (Elt Ideal) arg22.view.junk (kernelRun0_A.sl.HS0_20 (F := Ideal) c arg1 harg1 arg2 harg2 arg3 harg3 x0 x1 x2))
    = sB (fun p n => id (pr x0 x1 x2 p (3584 + n.val))) :=
  hsK harg1 harg2 harg3 x0 x1 x2 arg22.view _ _ 3584 inb_S1024x7680_S1024x512_0_3584

theorem scr_A_14 : arg22.view.read (Elt Ideal) (arg22.view.writes (Elt Ideal) arg22.view.junk (kernelRun0_A.sl.HS0_24 (F := Ideal) c arg1 harg1 arg2 harg2 arg3 harg3 x0 x1 x2))
    = sB (fun p n => id (pr x0 x1 x2 p (4096 + n.val))) :=
  hsK harg1 harg2 harg3 x0 x1 x2 arg22.view _ _ 4096 inb_S1024x7680_S1024x512_0_4096

theorem scr_B_7 : arg22.view.read (Elt Ideal) (arg22.view.writes (Elt Ideal) arg22.view.junk (kernelRun0_B.sl.HS0_4 (F := Ideal) c arg1 harg1 arg2 harg2 arg3 harg3 x0 x1 x2))
    = sB (fun p n => sc (pr x0 x1 x2 p (512 + n.val))) :=
  hsQ harg1 harg2 harg3 x0 x1 x2 arg22.view _ _ 512 inb_S1024x7680_S1024x512_0_512

theorem scr_B_8 : arg22.view.read (Elt Ideal) (arg22.view.writes (Elt Ideal) arg22.view.junk (kernelRun0_B.sl.HS0_8 (F := Ideal) c arg1 harg1 arg2 harg2 arg3 harg3 x0 x1 x2))
    = sB (fun p n => sc (pr x0 x1 x2 p (1024 + n.val))) :=
  hsQ harg1 harg2 harg3 x0 x1 x2 arg22.view _ _ 1024 inb_S1024x7680_S1024x512_0_1024

theorem scr_B_10 : arg22.view.read (Elt Ideal) (arg22.view.writes (Elt Ideal) arg22.view.junk (kernelRun0_B.sl.HS0_12 (F := Ideal) c arg1 harg1 arg2 harg2 arg3 harg3 x0 x1 x2))
    = sB (fun p n => id (pr x0 x1 x2 p (2048 + n.val))) :=
  hsK harg1 harg2 harg3 x0 x1 x2 arg22.view _ _ 2048 inb_S1024x7680_S1024x512_0_2048

theorem scr_B_11 : arg22.view.read (Elt Ideal) (arg22.view.writes (Elt Ideal) arg22.view.junk (kernelRun0_B.sl.HS0_16 (F := Ideal) c arg1 harg1 arg2 harg2 arg3 harg3 x0 x1 x2))
    = sB (fun p n => id (pr x0 x1 x2 p (2560 + n.val))) :=
  hsK harg1 harg2 harg3 x0 x1 x2 arg22.view _ _ 2560 inb_S1024x7680_S1024x512_0_2560

theorem scr_B_13 : arg22.view.read (Elt Ideal) (arg22.view.writes (Elt Ideal) arg22.view.junk (kernelRun0_B.sl.HS0_20 (F := Ideal) c arg1 harg1 arg2 harg2 arg3 harg3 x0 x1 x2))
    = sB (fun p n => id (pr x0 x1 x2 p (3584 + n.val))) :=
  hsK harg1 harg2 harg3 x0 x1 x2 arg22.view _ _ 3584 inb_S1024x7680_S1024x512_0_3584

theorem scr_B_14 : arg22.view.read (Elt Ideal) (arg22.view.writes (Elt Ideal) arg22.view.junk (kernelRun0_B.sl.HS0_24 (F := Ideal) c arg1 harg1 arg2 harg2 arg3 harg3 x0 x1 x2))
    = sB (fun p n => id (pr x0 x1 x2 p (4096 + n.val))) :=
  hsK harg1 harg2 harg3 x0 x1 x2 arg22.view _ _ 4096 inb_S1024x7680_S1024x512_0_4096

theorem out_A_7 (hc0 : ¬cond0_0 i) (hc1 : ¬cond0_1 i) (hc2 : ¬cond0_2 i) (hc3 : ¬cond0_3 i) :
    out0_A_7 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gS4 (fun p n => sc (pr x0 x1 x2 p (512 + n.val))) := by
  have H := scr_A_7 c arg1 harg1 arg2 harg2 arg3 harg3 arg22 x0 x1 x2
  unfold out0_A_7 kernelRun0_A
  dsimp only
  funext y
  have hy : (y 1).val < 4 := (y 1).isLt
  refine View.read_writes_apply_of_pieces (Val := Elt Ideal) _ _ (gS4 _) _ ?_ y ?_
  · iterate 4 refine List.forall_mem_cons.mpr ⟨fun x => pc4 _ _ H _ (by omega) _ _ _ _ (inb_cls4 _ (by omega)) x, ?_⟩
    exact fun _ h => absurd h List.not_mem_nil
  · simp only [List.exists_mem_cons_iff, mem4]
    omega

theorem out_A_8 (hc0 : ¬cond0_0 i) (hc1 : ¬cond0_1 i) (hc2 : ¬cond0_2 i) (hc3 : ¬cond0_3 i) :
    out0_A_8 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gS16 (fun p n => sc (pr x0 x1 x2 p (1024 + n.val))) := by
  have H := scr_A_8 c arg1 harg1 arg2 harg2 arg3 harg3 arg22 x0 x1 x2
  unfold out0_A_8 kernelRun0_A
  dsimp only
  funext y
  have hy : (y 1).val < 16 := (y 1).isLt
  refine View.read_writes_apply_of_pieces (Val := Elt Ideal) _ _ (gS16 _) _ ?_ y ?_
  · iterate 16 refine List.forall_mem_cons.mpr ⟨fun x => pc16 _ _ H _ (by omega) _ _ _ _ (inb_cls16 _ (by omega)) x, ?_⟩
    exact fun _ h => absurd h List.not_mem_nil
  · simp only [List.exists_mem_cons_iff, mem16]
    omega

theorem out_A_10 (hc0 : ¬cond0_0 i) (hc1 : ¬cond0_1 i) (hc2 : ¬cond0_2 i) (hc3 : ¬cond0_3 i) :
    out0_A_10 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gS4 (fun p n => id (pr x0 x1 x2 p (2048 + n.val))) := by
  have H := scr_A_10 c arg1 harg1 arg2 harg2 arg3 harg3 arg22 x0 x1 x2
  unfold out0_A_10 kernelRun0_A
  dsimp only
  funext y
  have hy : (y 1).val < 4 := (y 1).isLt
  refine View.read_writes_apply_of_pieces (Val := Elt Ideal) _ _ (gS4 _) _ ?_ y ?_
  · iterate 4 refine List.forall_mem_cons.mpr ⟨fun x => pc4 _ _ H _ (by omega) _ _ _ _ (inb_cls4 _ (by omega)) x, ?_⟩
    exact fun _ h => absurd h List.not_mem_nil
  · simp only [List.exists_mem_cons_iff, mem4]
    omega

theorem out_A_11 (hc0 : ¬cond0_0 i) (hc1 : ¬cond0_1 i) (hc2 : ¬cond0_2 i) (hc3 : ¬cond0_3 i) :
    out0_A_11 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gS16 (fun p n => id (pr x0 x1 x2 p (2560 + n.val))) := by
  have H := scr_A_11 c arg1 harg1 arg2 harg2 arg3 harg3 arg22 x0 x1 x2
  unfold out0_A_11 kernelRun0_A
  dsimp only
  funext y
  have hy : (y 1).val < 16 := (y 1).isLt
  refine View.read_writes_apply_of_pieces (Val := Elt Ideal) _ _ (gS16 _) _ ?_ y ?_
  · iterate 16 refine List.forall_mem_cons.mpr ⟨fun x => pc16 _ _ H _ (by omega) _ _ _ _ (inb_cls16 _ (by omega)) x, ?_⟩
    exact fun _ h => absurd h List.not_mem_nil
  · simp only [List.exists_mem_cons_iff, mem16]
    omega

theorem out_A_13 (hc0 : ¬cond0_0 i) (hc1 : ¬cond0_1 i) (hc2 : ¬cond0_2 i) (hc3 : ¬cond0_3 i) :
    out0_A_13 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gS4 (fun p n => id (pr x0 x1 x2 p (3584 + n.val))) := by
  have H := scr_A_13 c arg1 harg1 arg2 harg2 arg3 harg3 arg22 x0 x1 x2
  unfold out0_A_13 kernelRun0_A
  dsimp only
  funext y
  have hy : (y 1).val < 4 := (y 1).isLt
  refine View.read_writes_apply_of_pieces (Val := Elt Ideal) _ _ (gS4 _) _ ?_ y ?_
  · iterate 4 refine List.forall_mem_cons.mpr ⟨fun x => pc4 _ _ H _ (by omega) _ _ _ _ (inb_cls4 _ (by omega)) x, ?_⟩
    exact fun _ h => absurd h List.not_mem_nil
  · simp only [List.exists_mem_cons_iff, mem4]
    omega

theorem out_A_14 (hc0 : ¬cond0_0 i) (hc1 : ¬cond0_1 i) (hc2 : ¬cond0_2 i) (hc3 : ¬cond0_3 i) :
    out0_A_14 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gS16 (fun p n => id (pr x0 x1 x2 p (4096 + n.val))) := by
  have H := scr_A_14 c arg1 harg1 arg2 harg2 arg3 harg3 arg22 x0 x1 x2
  unfold out0_A_14 kernelRun0_A
  dsimp only
  funext y
  have hy : (y 1).val < 16 := (y 1).isLt
  refine View.read_writes_apply_of_pieces (Val := Elt Ideal) _ _ (gS16 _) _ ?_ y ?_
  · iterate 16 refine List.forall_mem_cons.mpr ⟨fun x => pc16 _ _ H _ (by omega) _ _ _ _ (inb_cls16 _ (by omega)) x, ?_⟩
    exact fun _ h => absurd h List.not_mem_nil
  · simp only [List.exists_mem_cons_iff, mem16]
    omega

theorem out_B_7 (hc0 : cond0_0 i) (hc1 : cond0_1 i) (hc2 : cond0_2 i) (hc3 : cond0_3 i) :
    out0_B_7 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gS4 (fun p n => sc (pr x0 x1 x2 p (512 + n.val))) := by
  have H := scr_B_7 c arg1 harg1 arg2 harg2 arg3 harg3 arg22 x0 x1 x2
  unfold out0_B_7 kernelRun0_B
  dsimp only
  funext y
  have hy : (y 1).val < 4 := (y 1).isLt
  refine View.read_writes_apply_of_pieces (Val := Elt Ideal) _ _ (gS4 _) _ ?_ y ?_
  · iterate 4 refine List.forall_mem_cons.mpr ⟨fun x => pc4 _ _ H _ (by omega) _ _ _ _ (inb_cls4 _ (by omega)) x, ?_⟩
    exact fun _ h => absurd h List.not_mem_nil
  · simp only [List.exists_mem_cons_iff, mem4]
    omega

theorem out_B_8 (hc0 : cond0_0 i) (hc1 : cond0_1 i) (hc2 : cond0_2 i) (hc3 : cond0_3 i) :
    out0_B_8 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gS16 (fun p n => sc (pr x0 x1 x2 p (1024 + n.val))) := by
  have H := scr_B_8 c arg1 harg1 arg2 harg2 arg3 harg3 arg22 x0 x1 x2
  unfold out0_B_8 kernelRun0_B
  dsimp only
  funext y
  have hy : (y 1).val < 16 := (y 1).isLt
  refine View.read_writes_apply_of_pieces (Val := Elt Ideal) _ _ (gS16 _) _ ?_ y ?_
  · iterate 16 refine List.forall_mem_cons.mpr ⟨fun x => pc16 _ _ H _ (by omega) _ _ _ _ (inb_cls16 _ (by omega)) x, ?_⟩
    exact fun _ h => absurd h List.not_mem_nil
  · simp only [List.exists_mem_cons_iff, mem16]
    omega

theorem out_B_10 (hc0 : cond0_0 i) (hc1 : cond0_1 i) (hc2 : cond0_2 i) (hc3 : cond0_3 i) :
    out0_B_10 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gS4 (fun p n => id (pr x0 x1 x2 p (2048 + n.val))) := by
  have H := scr_B_10 c arg1 harg1 arg2 harg2 arg3 harg3 arg22 x0 x1 x2
  unfold out0_B_10 kernelRun0_B
  dsimp only
  funext y
  have hy : (y 1).val < 4 := (y 1).isLt
  refine View.read_writes_apply_of_pieces (Val := Elt Ideal) _ _ (gS4 _) _ ?_ y ?_
  · iterate 4 refine List.forall_mem_cons.mpr ⟨fun x => pc4 _ _ H _ (by omega) _ _ _ _ (inb_cls4 _ (by omega)) x, ?_⟩
    exact fun _ h => absurd h List.not_mem_nil
  · simp only [List.exists_mem_cons_iff, mem4]
    omega

theorem out_B_11 (hc0 : cond0_0 i) (hc1 : cond0_1 i) (hc2 : cond0_2 i) (hc3 : cond0_3 i) :
    out0_B_11 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gS16 (fun p n => id (pr x0 x1 x2 p (2560 + n.val))) := by
  have H := scr_B_11 c arg1 harg1 arg2 harg2 arg3 harg3 arg22 x0 x1 x2
  unfold out0_B_11 kernelRun0_B
  dsimp only
  funext y
  have hy : (y 1).val < 16 := (y 1).isLt
  refine View.read_writes_apply_of_pieces (Val := Elt Ideal) _ _ (gS16 _) _ ?_ y ?_
  · iterate 16 refine List.forall_mem_cons.mpr ⟨fun x => pc16 _ _ H _ (by omega) _ _ _ _ (inb_cls16 _ (by omega)) x, ?_⟩
    exact fun _ h => absurd h List.not_mem_nil
  · simp only [List.exists_mem_cons_iff, mem16]
    omega

theorem out_B_13 (hc0 : cond0_0 i) (hc1 : cond0_1 i) (hc2 : cond0_2 i) (hc3 : cond0_3 i) :
    out0_B_13 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gS4 (fun p n => id (pr x0 x1 x2 p (3584 + n.val))) := by
  have H := scr_B_13 c arg1 harg1 arg2 harg2 arg3 harg3 arg22 x0 x1 x2
  unfold out0_B_13 kernelRun0_B
  dsimp only
  funext y
  have hy : (y 1).val < 4 := (y 1).isLt
  refine View.read_writes_apply_of_pieces (Val := Elt Ideal) _ _ (gS4 _) _ ?_ y ?_
  · iterate 4 refine List.forall_mem_cons.mpr ⟨fun x => pc4 _ _ H _ (by omega) _ _ _ _ (inb_cls4 _ (by omega)) x, ?_⟩
    exact fun _ h => absurd h List.not_mem_nil
  · simp only [List.exists_mem_cons_iff, mem4]
    omega

theorem out_B_14 (hc0 : cond0_0 i) (hc1 : cond0_1 i) (hc2 : cond0_2 i) (hc3 : cond0_3 i) :
    out0_B_14 (F := Ideal) c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 x0 x1 x2 = gS16 (fun p n => id (pr x0 x1 x2 p (4096 + n.val))) := by
  have H := scr_B_14 c arg1 harg1 arg2 harg2 arg3 harg3 arg22 x0 x1 x2
  unfold out0_B_14 kernelRun0_B
  dsimp only
  funext y
  have hy : (y 1).val < 16 := (y 1).isLt
  refine View.read_writes_apply_of_pieces (Val := Elt Ideal) _ _ (gS16 _) _ ?_ y ?_
  · iterate 16 refine List.forall_mem_cons.mpr ⟨fun x => pc16 _ _ H _ (by omega) _ _ _ _ (inb_cls16 _ (by omega)) x, ?_⟩
    exact fun _ h => absurd h List.not_mem_nil
  · simp only [List.exists_mem_cons_iff, mem16]
    omega

end Cert.Kernel2Ideal.Proj

end
-- ==== Proof.Proj.Array.lean ====
module

public import proofs.«01_k».proof.Proof.Gen.Kernel2Ideal.Value
public import proofs.«01_k».proof.Proof.Proj.Strided
public import Idealize.ShloMosaic.Lib.Pipeline.ValueKit

/-! The projection kernel's result arrays: at each grid point the body's block lands in its place, and the blocks fill the arrays. -/

@[expose] public section

set_option maxRecDepth 16384

noncomputable section

namespace Cert.Kernel2Ideal.Proj

open Cert.Kernel2Ideal Cert.Kernel2Ideal.Gen Cert.Kernel2Ideal.Value Cert.Proj
open Idealize.ShloMosaic Idealize.ShloMosaic.TcCoe Idealize.ShloMosaic.Tactic Idealize.ShloMosaic.Pointwise
open Idealize.SL.Sem
open Idealize.ShloMosaic.Pipeline (Dat)

/-- A row of the input, -/
def row (X : Vec Ideal S32768x1024 .f32) (r : Nat) (k : Fin 1024) : EReal := if h : r < 32768 then X (ix2 ⟨r, h⟩ k) else 0

/-- the product of one row and a column of the weights, -/
def prA (X : Vec Ideal S32768x1024 .f32) (G : Vec Ideal S1x1024 .f32) (W : Vec Ideal S1024x7680 .bf16) (r n : Nat) : EReal :=
  pj (row X r) (fun k => G (ix2 0 k)) (col W n)

/-- the gated convolution input, -/
def wC (X : Vec Ideal S32768x1024 .f32) (G : Vec Ideal S1x1024 .f32) (W : Vec Ideal S1024x7680 .bf16) : Vec Ideal S32768x512 .f32 := fun i =>
  prA X G W (i 0).val (4608 + (i 1).val) * sg (prA X G W (i 0).val (5120 + (i 1).val))

/-- the gate whose columns start at `o`, -/
def wG (o : Nat) (X : Vec Ideal S32768x1024 .f32) (G : Vec Ideal S1x1024 .f32) (W : Vec Ideal S1024x7680 .bf16) : Vec Ideal S32768x1024 .f32 := fun i =>
  sg (prA X G W (i 0).val (o + (i 1).val))

/-- the first group's queries, keys or values, whose columns start at `o`, -/
def wP (o : Nat) (s : EReal → EReal) (X : Vec Ideal S32768x1024 .f32) (G : Vec Ideal S1x1024 .f32) (W : Vec Ideal S1024x7680 .bf16) : Vec Ideal S16x1x2048x512 .bf16 := fun i =>
  s (prA X G W (2048 * (i 0).val + (i 2).val) (o + (i 3).val))

/-- those of the second, whose positions lie in four classes, -/
def wS4 (o : Nat) (s : EReal → EReal) (X : Vec Ideal S32768x1024 .f32) (G : Vec Ideal S1x1024 .f32) (W : Vec Ideal S1024x7680 .bf16) : Vec Ideal S16x4x512x512 .bf16 := fun i =>
  s (prA X G W (2048 * (i 0).val + 4 * (i 2).val + (i 1).val) (o + (i 3).val))

/-- and those of the third, whose positions lie in sixteen. -/
def wS16 (o : Nat) (s : EReal → EReal) (X : Vec Ideal S32768x1024 .f32) (G : Vec Ideal S1x1024 .f32) (W : Vec Ideal S1024x7680 .bf16) : Vec Ideal S16x16x128x512 .bf16 := fun i =>
  s (prA X G W (2048 * (i 0).val + 16 * (i 2).val + (i 1).val) (o + (i 3).val))

variable (m : (ℓ : Loc nD τ sig) → Buf (Elt Ideal) ℓ) (c : Dev nD) (t : Fin cfg0.N)

theorem tN : t.val < 64 := t.isLt

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val / 4, 0, t.val % 4, 0] := (by decide +kernel : ∀ t : Fin grid0.N, _)
theorem e7 : ∀ t : Fin cfg0.N, win0_7.index t = ![t.val / 4, 0, t.val % 4, 0] := (by decide +kernel : ∀ t : Fin grid0.N, _)
theorem e8 : ∀ t : Fin cfg0.N, win0_8.index t = ![t.val / 4, 0, t.val % 4, 0] := (by decide +kernel : ∀ t : Fin grid0.N, _)
theorem e9 : ∀ t : Fin cfg0.N, win0_9.index t = ![t.val / 4, 0, t.val % 4, 0] := (by decide +kernel : ∀ t : Fin grid0.N, _)
theorem e10 : ∀ t : Fin cfg0.N, win0_10.index t = ![t.val / 4, 0, t.val % 4, 0] := (by decide +kernel : ∀ t : Fin grid0.N, _)
theorem e11 : ∀ t : Fin cfg0.N, win0_11.index t = ![t.val / 4, 0, t.val % 4, 0] := (by decide +kernel : ∀ t : Fin grid0.N, _)
theorem e12 : ∀ t : Fin cfg0.N, win0_12.index t = ![t.val / 4, 0, t.val % 4, 0] := (by decide +kernel : ∀ t : Fin grid0.N, _)
theorem e13 : ∀ t : Fin cfg0.N, win0_13.index t = ![t.val / 4, 0, t.val % 4, 0] := (by decide +kernel : ∀ t : Fin grid0.N, _)
theorem e14 : ∀ t : Fin cfg0.N, win0_14.index t = ![t.val / 4, 0, t.val % 4, 0] := (by decide +kernel : ∀ t : Fin grid0.N, _)

/-- The three inputs' arrays. -/
abbrev aX : Vec Ideal S32768x1024 .f32 := m ((c : Thread nD τ).loc main_arg0)
@[inherit_doc aX] abbrev aG : Vec Ideal S1x1024 .f32 := m ((c : Thread nD τ).loc main_arg1)
@[inherit_doc aX] abbrev aW : Vec Ideal S1024x7680 .bf16 := m ((c : Thread nD τ).loc main_arg2)

theorem iblk_0 (p : Fin 512) (k : Fin 1024) : ((iblk m c 0 t : Vec Ideal S512x1024 .f32) (ix2 p k) : EReal) = row (aX m c) (512 * t.val + p.val) k := by
  have ht := tN t
  unfold row aX
  rw [dif_pos (by omega)]
  blk_simp [iblk, e0]
  blk_ext [e0]

theorem iblk_1 : (iblk m c 1 t : Vec Ideal S1x1024 .f32) = aG m c := by
  funext y
  unfold aG
  blk_simp [iblk, e1]
  blk_ext [e1]

theorem iblk_2 : (iblk m c 2 t : Vec Ideal S1024x7680 .bf16) = aW m c := by
  funext y
  unfold aW
  blk_simp [iblk, e2]
  blk_ext [e2]

/-- A block's row is the array's. -/
theorem pr_blk (p : Fin 512) (n : Nat) : pr (iblk m c 0 t) (iblk m c 1 t) (iblk m c 2 t) p n = prA (aX m c) (aG m c) (aW m c) (512 * t.val + p.val) n := by
  unfold pr prA
  rw [iblk_1, iblk_2]
  congr 1
  funext k
  exact iblk_0 m c t p k

theorem after_3 : (dats m 0 c).after 3 t = gC (iblk m c 0 t) (iblk m c 1 t) (iblk m c 2 t) := by
  rw [after0_3]
  by_cases h : t.val % 4 = 3
  · simp only [outsAt0_B m c t h h h h]; exact out_B_3 ..
  · simp only [outsAt0_A m c t h h h h]; exact out_A_3 ..

theorem after_4 : (dats m 0 c).after 4 t = gG 5632 (iblk m c 0 t) (iblk m c 1 t) (iblk m c 2 t) := by
  rw [after0_4]
  by_cases h : t.val % 4 = 3
  · simp only [outsAt0_B m c t h h h h]; exact out_B_4 ..
  · simp only [outsAt0_A m c t h h h h]; exact out_A_4 ..

theorem after_5 : (dats m 0 c).after 5 t = gG 6656 (iblk m c 0 t) (iblk m c 1 t) (iblk m c 2 t) := by
  rw [after0_5]
  by_cases h : t.val % 4 = 3
  · simp only [outsAt0_B m c t h h h h]; exact out_B_5 ..
  · simp only [outsAt0_A m c t h h h h]; exact out_A_5 ..

theorem after_6 : (dats m 0 c).after 6 t = gP 0 sc (iblk m c 0 t) (iblk m c 1 t) (iblk m c 2 t) := by
  rw [after0_6]
  by_cases h : t.val % 4 = 3
  · simp only [outsAt0_B m c t h h h h]; exact out_B_6 ..
  · simp only [outsAt0_A m c t h h h h]; exact out_A_6 ..

theorem after_9 : (dats m 0 c).after 9 t = gP 1536 id (iblk m c 0 t) (iblk m c 1 t) (iblk m c 2 t) := by
  rw [after0_9]
  by_cases h : t.val % 4 = 3
  · simp only [outsAt0_B m c t h h h h]; exact out_B_9 ..
  · simp only [outsAt0_A m c t h h h h]; exact out_A_9 ..

theorem after_12 : (dats m 0 c).after 12 t = gP 3072 id (iblk m c 0 t) (iblk m c 1 t) (iblk m c 2 t) := by
  rw [after0_12]
  by_cases h : t.val % 4 = 3
  · simp only [outsAt0_B m c t h h h h]; exact out_B_12 ..
  · simp only [outsAt0_A m c t h h h h]; exact out_A_12 ..

theorem final_3 : (dats m 0 c).arrAt 3 cfg0.N = wC (aX m c) (aG m c) (aW m c) := by
  refine (dats m 0 c).arrAt_eq_of_covers 3 _ (by decide +kernel) fun t hf y => ?_
  blk_simp
  rw [after_3]
  unfold gC wC
  have k0 : ((win0_3.blk t).view.emb y 0).val = 512 * t.val + (y 0).val := by blk_simp [e3]; try omega
  have k1 : ((win0_3.blk t).view.emb y 1).val = (y 1).val := by blk_simp [e3]; try omega
  simp only [pr_blk]
  rw [k0, k1]

theorem final_4 : (dats m 0 c).arrAt 4 cfg0.N = wG 5632 (aX m c) (aG m c) (aW m c) := by
  refine (dats m 0 c).arrAt_eq_of_covers 4 _ (by decide +kernel) fun t hf y => ?_
  blk_simp
  rw [after_4]
  unfold gG wG
  have k0 : ((win0_4.blk t).view.emb y 0).val = 512 * t.val + (y 0).val := by blk_simp [e4]; try omega
  have k1 : ((win0_4.blk t).view.emb y 1).val = (y 1).val := by blk_simp [e4]; try omega
  simp only [pr_blk]
  rw [k0, k1]

theorem final_5 : (dats m 0 c).arrAt 5 cfg0.N = wG 6656 (aX m c) (aG m c) (aW m c) := by
  refine (dats m 0 c).arrAt_eq_of_covers 5 _ (by decide +kernel) fun t hf y => ?_
  blk_simp
  rw [after_5]
  unfold gG wG
  have k0 : ((win0_5.blk t).view.emb y 0).val = 512 * t.val + (y 0).val := by blk_simp [e5]; try omega
  have k1 : ((win0_5.blk t).view.emb y 1).val = (y 1).val := by blk_simp [e5]; try omega
  simp only [pr_blk]
  rw [k0, k1]

theorem final_6 : (dats m 0 c).arrAt 6 cfg0.N = wP 0 sc (aX m c) (aG m c) (aW m c) := by
  refine (dats m 0 c).arrAt_eq_of_covers 6 _ (by decide +kernel) fun t hf y => ?_
  blk_simp
  rw [after_6]
  unfold gP wP
  have h0 : (y 0).val < 1 := (y 0).isLt
  have k0 : ((win0_6.blk t).view.emb y 0).val = t.val / 4 := by blk_simp [e6]; try omega
  have k2 : ((win0_6.blk t).view.emb y 2).val = 512 * (t.val % 4) + (y 2).val := by blk_simp [e6]; try omega
  have k3 : ((win0_6.blk t).view.emb y 3).val = (y 3).val := by blk_simp [e6]; try omega
  simp only [pr_blk]
  rw [k0, k2, k3]
  congr 2
  omega

theorem final_9 : (dats m 0 c).arrAt 9 cfg0.N = wP 1536 id (aX m c) (aG m c) (aW m c) := by
  refine (dats m 0 c).arrAt_eq_of_covers 9 _ (by decide +kernel) fun t hf y => ?_
  blk_simp
  rw [after_9]
  unfold gP wP
  have h0 : (y 0).val < 1 := (y 0).isLt
  have k0 : ((win0_9.blk t).view.emb y 0).val = t.val / 4 := by blk_simp [e9]; try omega
  have k2 : ((win0_9.blk t).view.emb y 2).val = 512 * (t.val % 4) + (y 2).val := by blk_simp [e9]; try omega
  have k3 : ((win0_9.blk t).view.emb y 3).val = (y 3).val := by blk_simp [e9]; try omega
  simp only [pr_blk]
  rw [k0, k2, k3]
  congr 2
  omega

theorem final_12 : (dats m 0 c).arrAt 12 cfg0.N = wP 3072 id (aX m c) (aG m c) (aW m c) := by
  refine (dats m 0 c).arrAt_eq_of_covers 12 _ (by decide +kernel) fun t hf y => ?_
  blk_simp
  rw [after_12]
  unfold gP wP
  have h0 : (y 0).val < 1 := (y 0).isLt
  have k0 : ((win0_12.blk t).view.emb y 0).val = t.val / 4 := by blk_simp [e12]; try omega
  have k2 : ((win0_12.blk t).view.emb y 2).val = 512 * (t.val % 4) + (y 2).val := by blk_simp [e12]; try omega
  have k3 : ((win0_12.blk t).view.emb y 3).val = (y 3).val := by blk_simp [e12]; try omega
  simp only [pr_blk]
  rw [k0, k2, k3]
  congr 2
  omega

/-- A tile's rows, class by class, are the array's. -/
theorem cls_4 (o : Nat) (s : EReal → EReal) (y : S1x4x128x512.Idx) (j : S16x4x512x512.Idx) (h0 : (j 0).val = t.val / 4)
    (h1 : (j 1).val = (y 1).val) (h2 : (j 2).val = 128 * (t.val % 4) + (y 2).val) (h3 : (j 3).val = (y 3).val) :
    gS4 (fun p n => s (pr (iblk m c 0 t) (iblk m c 1 t) (iblk m c 2 t) p (o + n.val))) y = wS4 o s (aX m c) (aG m c) (aW m c) j := by
  unfold gS4 wS4
  simp only [pr_blk]
  rw [h0, h1, h2, h3]
  congr 2
  omega

/-- A tile's rows, class by class, are the array's. -/
theorem cls_16 (o : Nat) (s : EReal → EReal) (y : S1x16x32x512.Idx) (j : S16x16x128x512.Idx) (h0 : (j 0).val = t.val / 4)
    (h1 : (j 1).val = (y 1).val) (h2 : (j 2).val = 32 * (t.val % 4) + (y 2).val) (h3 : (j 3).val = (y 3).val) :
    gS16 (fun p n => s (pr (iblk m c 0 t) (iblk m c 1 t) (iblk m c 2 t) p (o + n.val))) y = wS16 o s (aX m c) (aG m c) (aW m c) j := by
  unfold gS16 wS16
  simp only [pr_blk]
  rw [h0, h1, h2, h3]
  congr 2
  omega

theorem after_7 : (dats m 0 c).after 7 t = gS4 (fun p n => sc (pr (iblk m c 0 t) (iblk m c 1 t) (iblk m c 2 t) p (512 + n.val))) := by
  rw [after0_7]
  by_cases h : t.val % 4 = 3
  · simp only [outsAt0_B m c t h h h h]; exact out_B_7 ..
  · simp only [outsAt0_A m c t h h h h]; exact out_A_7 ..

theorem final_7 : (dats m 0 c).arrAt 7 cfg0.N = wS4 512 sc (aX m c) (aG m c) (aW m c) := by
  refine (dats m 0 c).arrAt_eq_of_covers 7 _ (by decide +kernel) fun t hf y => ?_
  blk_simp
  rw [after_7]
  have h0 : (y 0).val < 1 := (y 0).isLt
  exact cls_4 m c t 512 sc y _ (by blk_simp [e7]; try omega) (by blk_simp [e7]; try omega) (by blk_simp [e7]; try omega) (by blk_simp [e7]; try omega)

theorem after_8 : (dats m 0 c).after 8 t = gS16 (fun p n => sc (pr (iblk m c 0 t) (iblk m c 1 t) (iblk m c 2 t) p (1024 + n.val))) := by
  rw [after0_8]
  by_cases h : t.val % 4 = 3
  · simp only [outsAt0_B m c t h h h h]; exact out_B_8 ..
  · simp only [outsAt0_A m c t h h h h]; exact out_A_8 ..

theorem final_8 : (dats m 0 c).arrAt 8 cfg0.N = wS16 1024 sc (aX m c) (aG m c) (aW m c) := by
  refine (dats m 0 c).arrAt_eq_of_covers 8 _ (by decide +kernel) fun t hf y => ?_
  blk_simp
  rw [after_8]
  have h0 : (y 0).val < 1 := (y 0).isLt
  exact cls_16 m c t 1024 sc y _ (by blk_simp [e8]; try omega) (by blk_simp [e8]; try omega) (by blk_simp [e8]; try omega) (by blk_simp [e8]; try omega)

theorem after_10 : (dats m 0 c).after 10 t = gS4 (fun p n => id (pr (iblk m c 0 t) (iblk m c 1 t) (iblk m c 2 t) p (2048 + n.val))) := by
  rw [after0_10]
  by_cases h : t.val % 4 = 3
  · simp only [outsAt0_B m c t h h h h]; exact out_B_10 ..
  · simp only [outsAt0_A m c t h h h h]; exact out_A_10 ..

theorem final_10 : (dats m 0 c).arrAt 10 cfg0.N = wS4 2048 id (aX m c) (aG m c) (aW m c) := by
  refine (dats m 0 c).arrAt_eq_of_covers 10 _ (by decide +kernel) fun t hf y => ?_
  blk_simp
  rw [after_10]
  have h0 : (y 0).val < 1 := (y 0).isLt
  exact cls_4 m c t 2048 id y _ (by blk_simp [e10]; try omega) (by blk_simp [e10]; try omega) (by blk_simp [e10]; try omega) (by blk_simp [e10]; try omega)

theorem after_11 : (dats m 0 c).after 11 t = gS16 (fun p n => id (pr (iblk m c 0 t) (iblk m c 1 t) (iblk m c 2 t) p (2560 + n.val))) := by
  rw [after0_11]
  by_cases h : t.val % 4 = 3
  · simp only [outsAt0_B m c t h h h h]; exact out_B_11 ..
  · simp only [outsAt0_A m c t h h h h]; exact out_A_11 ..

theorem final_11 : (dats m 0 c).arrAt 11 cfg0.N = wS16 2560 id (aX m c) (aG m c) (aW m c) := by
  refine (dats m 0 c).arrAt_eq_of_covers 11 _ (by decide +kernel) fun t hf y => ?_
  blk_simp
  rw [after_11]
  have h0 : (y 0).val < 1 := (y 0).isLt
  exact cls_16 m c t 2560 id y _ (by blk_simp [e11]; try omega) (by blk_simp [e11]; try omega) (by blk_simp [e11]; try omega) (by blk_simp [e11]; try omega)

theorem after_13 : (dats m 0 c).after 13 t = gS4 (fun p n => id (pr (iblk m c 0 t) (iblk m c 1 t) (iblk m c 2 t) p (3584 + n.val))) := by
  rw [after0_13]
  by_cases h : t.val % 4 = 3
  · simp only [outsAt0_B m c t h h h h]; exact out_B_13 ..
  · simp only [outsAt0_A m c t h h h h]; exact out_A_13 ..

theorem final_13 : (dats m 0 c).arrAt 13 cfg0.N = wS4 3584 id (aX m c) (aG m c) (aW m c) := by
  refine (dats m 0 c).arrAt_eq_of_covers 13 _ (by decide +kernel) fun t hf y => ?_
  blk_simp
  rw [after_13]
  have h0 : (y 0).val < 1 := (y 0).isLt
  exact cls_4 m c t 3584 id y _ (by blk_simp [e13]; try omega) (by blk_simp [e13]; try omega) (by blk_simp [e13]; try omega) (by blk_simp [e13]; try omega)

theorem after_14 : (dats m 0 c).after 14 t = gS16 (fun p n => id (pr (iblk m c 0 t) (iblk m c 1 t) (iblk m c 2 t) p (4096 + n.val))) := by
  rw [after0_14]
  by_cases h : t.val % 4 = 3
  · simp only [outsAt0_B m c t h h h h]; exact out_B_14 ..
  · simp only [outsAt0_A m c t h h h h]; exact out_A_14 ..

theorem final_14 : (dats m 0 c).arrAt 14 cfg0.N = wS16 4096 id (aX m c) (aG m c) (aW m c) := by
  refine (dats m 0 c).arrAt_eq_of_covers 14 _ (by decide +kernel) fun t hf y => ?_
  blk_simp
  rw [after_14]
  have h0 : (y 0).val < 1 := (y 0).isLt
  exact cls_16 m c t 4096 id y _ (by blk_simp [e14]; try omega) (by blk_simp [e14]; try omega) (by blk_simp [e14]; try omega) (by blk_simp [e14]; try omega)

end Cert.Kernel2Ideal.Proj

end
-- ==== Proof.Proj.Ref.lean ====
module

public import proofs.«01_k».proof.Proof.Gen.Reference2Ideal.Read
public import proofs.«01_k».proof.Proof.Proj.Array

/-! The projection's reference: its twelve results are the arrays the kernel leaves. -/

@[expose] public section

set_option maxRecDepth 16384

noncomputable section

namespace Cert.Reference2Ideal.Proj

open Cert.Reference2Ideal.Read Cert.Proj
open Idealize.ShloMosaic Idealize.ShloMosaic.TcCoe
open Cert.Kernel2Ideal.Proj (row col prA wC wG wP wS4 wS16 sc)

variable (x0 : (⟨S32768x1024, .f32⟩ : BufTy).Contents (Elt Ideal)) (x1 : (⟨S1x1024, .f32⟩ : BufTy).Contents (Elt Ideal)) (x2 : (⟨S1024x7680, .bf16⟩ : BufTy).Contents (Elt Ideal))

theorem row_at (j : S32768x1024.Idx) : (x0 j : EReal) = row x0 (j 0).val ⟨(j 1).val, (j 1).isLt⟩ := by
  unfold row
  rw [dif_pos (show (j 0).val < 32768 from (j 0).isLt)]
  exact congrArg x0 (funext fun a => match a with | ⟨0, _⟩ => rfl | ⟨1, _⟩ => rfl)

theorem col_at (j : S1024x7680.Idx) : (x2 j : EReal) = col x2 (j 1).val ⟨(j 0).val, (j 0).isLt⟩ := by
  unfold col
  rw [dif_pos (show (j 1).val < 7680 from (j 1).isLt)]
  exact congrArg x2 (funext fun a => match a with | ⟨0, _⟩ => rfl | ⟨1, _⟩ => rfl)

theorem bits_zero : (FloatOps.ofBits (F := Ideal) .f32 0x00000000#32 : EReal) = 0 := by
  show Ideal.ofBits .f32 0x00000000#32 = 0
  simp [Ideal.ofBits, Ideal.ieee]

theorem bits_one : (FloatOps.ofBits (F := Ideal) .f32 0x3F800000#32 : EReal) = 1 := by
  show Ideal.ofBits .f32 0x3F800000#32 = 1
  simp [Ideal.ofBits, Ideal.ieee]
  rw [← EReal.coe_mul]
  norm_num

theorem v1_at (i : S32768.Idx) : (val_main_v1 (F := Ideal) x0 i : EReal) = ∑ k, row x0 (i 0).val k * row x0 (i 0).val k := by
  rw [val_main_v1_apply, val_main_cst_apply, bits_zero, zero_add]
  refine Finset.sum_congr rfl fun k _ => ?_
  rw [val_main_v0_apply, row_at x0]
  rfl

theorem v11_at (i : S32768x1024.Idx) : (val_main_v11 (F := Ideal) x0 x1 i : EReal) = nm (row x0 (i 0).val) (fun k => x1 (ValueIdx.ix2 0 k)) ⟨(i 1).val, (i 1).isLt⟩ := by
  rw [val_main_v11_apply, val_main_v9_apply, val_main_v8_apply, val_main_v7_apply, val_main_v6_apply, val_main_v4_apply, val_main_v2_apply, v1_at, val_main_v3_apply, val_main_cst_0_apply, val_main_v5_apply, val_main_cst_1_apply, val_main_v10_apply, row_at x0]
  have hg : (x1 (idx_main_v10 i) : EReal) = x1 (ValueIdx.ix2 0 ⟨(i 1).val, (i 1).isLt⟩) := congrArg x1 (funext fun a => match a with | ⟨0, _⟩ => rfl | ⟨1, _⟩ => rfl)
  rw [hg]
  rfl

/-- The projection at one place, -/
theorem v13_at (i : S32768x7680.Idx) : (val_main_v13 (F := Ideal) x0 x1 x2 i : EReal) = prA x0 x1 x2 (i 0).val (i 1).val := by
  rw [val_main_v13_apply]
  unfold prA pj
  refine Finset.sum_congr rfl fun k _ => ?_
  rw [v11_at, val_main_v12_apply, col_at x2]
  rfl

/-- the gated convolution input, -/
theorem v26_at : val_main_v26 (F := Ideal) x0 x1 x2 = wC x0 x1 x2 := by
  funext i
  rw [val_main_v26_apply, val_main_v18_apply, val_main_v17_apply, v13_at, val_main_v25_apply, val_main_v24_apply, val_main_cst_3_apply, val_main_v23_apply, val_main_v22_apply, val_main_cst_2_apply, val_main_v21_apply, val_main_v20_apply, val_main_v19_apply, val_main_v17_apply, v13_at, bits_one]
  unfold wC sg
  have e : 5120 + (i 1).val = 4608 + (512 + (i 1).val) := by omega
  rw [e]
  rfl

theorem v33_at : val_main_v33 (F := Ideal) x0 x1 x2 = wG 5632 x0 x1 x2 := by
  funext i
  rw [val_main_v33_apply, val_main_v32_apply, val_main_cst_5_apply, val_main_v31_apply, val_main_v30_apply, val_main_cst_4_apply, val_main_v29_apply, val_main_v28_apply, val_main_v27_apply, v13_at, bits_one]
  rfl

theorem v40_at : val_main_v40 (F := Ideal) x0 x1 x2 = wG 6656 x0 x1 x2 := by
  funext i
  rw [val_main_v40_apply, val_main_v39_apply, val_main_cst_7_apply, val_main_v38_apply, val_main_v37_apply, val_main_cst_6_apply, val_main_v36_apply, val_main_v35_apply, val_main_v34_apply, v13_at, bits_one]
  rfl

/-- The place of a class's row in the rows of all batches, and of its column in the projection's. -/
theorem prA_cls (d n o a r m k f R C : Nat) (hd : n * d = 2048) (hk : k < 512) (hf : f = ((a * n + m) * d + r) * 512 + k) (hR : R = f / 512) (hC : C = o + f % 512) :
    prA x0 x1 x2 R C = prA x0 x1 x2 (2048 * a + d * m + r) (o + k) := by
  have e : (a * n + m) * d + r = 2048 * a + d * m + r := by rw [← hd]; ring
  rw [hR, hC, hf, e]
  congr 1 <;> omega

theorem v46_at : val_main_v46 (F := Ideal) x0 x1 x2 = wP 0 sc x0 x1 x2 := by
  funext i
  rw [val_main_v46_apply, val_main_v45_apply, val_main_v44_apply, val_main_v43_apply, val_main_v42_apply, val_main_v14_apply, v13_at, val_main_v41_apply, val_main_cst_8_apply]
  have h1 : (i 1).val < 1 := (i 1).isLt
  have e : 2048 * (i 0).val + 1 * (i 2).val + (i 1).val = 2048 * (i 0).val + (i 2).val := by omega
  unfold wP
  rw [← e]
  exact congrArg sc (prA_cls x0 x1 x2 1 2048 0 (i 0).val (i 1).val (i 2).val (i 3).val _ _ _ rfl (i 3).isLt rfl rfl (Nat.zero_add _).symm)

theorem v50_at : val_main_v50 (F := Ideal) x0 x1 x2 = wS4 512 sc x0 x1 x2 := by
  funext i
  rw [val_main_v50_apply, val_main_v49_apply, val_main_v48_apply, val_main_v47_apply, val_main_v42_apply, val_main_v14_apply, v13_at, val_main_v41_apply, val_main_cst_8_apply]
  exact congrArg sc (prA_cls x0 x1 x2 4 512 512 (i 0).val (i 1).val (i 2).val (i 3).val _ _ _ rfl (i 3).isLt rfl rfl rfl)

theorem v54_at : val_main_v54 (F := Ideal) x0 x1 x2 = wS16 1024 sc x0 x1 x2 := by
  funext i
  rw [val_main_v54_apply, val_main_v53_apply, val_main_v52_apply, val_main_v51_apply, val_main_v42_apply, val_main_v14_apply, v13_at, val_main_v41_apply, val_main_cst_8_apply]
  exact congrArg sc (prA_cls x0 x1 x2 16 128 1024 (i 0).val (i 1).val (i 2).val (i 3).val _ _ _ rfl (i 3).isLt rfl rfl rfl)

theorem v58_at : val_main_v58 (F := Ideal) x0 x1 x2 = wP 1536 id x0 x1 x2 := by
  funext i
  rw [val_main_v58_apply, val_main_v57_apply, val_main_v56_apply, val_main_v55_apply, val_main_v15_apply, v13_at]
  have h1 : (i 1).val < 1 := (i 1).isLt
  have e : 2048 * (i 0).val + 1 * (i 2).val + (i 1).val = 2048 * (i 0).val + (i 2).val := by omega
  unfold wP
  rw [← e]
  exact congrArg id (prA_cls x0 x1 x2 1 2048 1536 (i 0).val (i 1).val (i 2).val (i 3).val _ _ _ rfl (i 3).isLt rfl rfl rfl)

theorem v62_at : val_main_v62 (F := Ideal) x0 x1 x2 = wS4 2048 id x0 x1 x2 := by
  funext i
  rw [val_main_v62_apply, val_main_v61_apply, val_main_v60_apply, val_main_v59_apply, val_main_v15_apply, v13_at]
  exact congrArg id (prA_cls x0 x1 x2 4 512 2048 (i 0).val (i 1).val (i 2).val (i 3).val _ _ _ rfl (i 3).isLt rfl rfl (Nat.add_assoc 1536 512 _).symm)

theorem v66_at : val_main_v66 (F := Ideal) x0 x1 x2 = wS16 2560 id x0 x1 x2 := by
  funext i
  rw [val_main_v66_apply, val_main_v65_apply, val_main_v64_apply, val_main_v63_apply, val_main_v15_apply, v13_at]
  exact congrArg id (prA_cls x0 x1 x2 16 128 2560 (i 0).val (i 1).val (i 2).val (i 3).val _ _ _ rfl (i 3).isLt rfl rfl (Nat.add_assoc 1536 1024 _).symm)

theorem v70_at : val_main_v70 (F := Ideal) x0 x1 x2 = wP 3072 id x0 x1 x2 := by
  funext i
  rw [val_main_v70_apply, val_main_v69_apply, val_main_v68_apply, val_main_v67_apply, val_main_v16_apply, v13_at]
  have h1 : (i 1).val < 1 := (i 1).isLt
  have e : 2048 * (i 0).val + 1 * (i 2).val + (i 1).val = 2048 * (i 0).val + (i 2).val := by omega
  unfold wP
  rw [← e]
  exact congrArg id (prA_cls x0 x1 x2 1 2048 3072 (i 0).val (i 1).val (i 2).val (i 3).val _ _ _ rfl (i 3).isLt rfl rfl rfl)

theorem v74_at : val_main_v74 (F := Ideal) x0 x1 x2 = wS4 3584 id x0 x1 x2 := by
  funext i
  rw [val_main_v74_apply, val_main_v73_apply, val_main_v72_apply, val_main_v71_apply, val_main_v16_apply, v13_at]
  exact congrArg id (prA_cls x0 x1 x2 4 512 3584 (i 0).val (i 1).val (i 2).val (i 3).val _ _ _ rfl (i 3).isLt rfl rfl (Nat.add_assoc 3072 512 _).symm)

theorem v78_at : val_main_v78 (F := Ideal) x0 x1 x2 = wS16 4096 id x0 x1 x2 := by
  funext i
  rw [val_main_v78_apply, val_main_v77_apply, val_main_v76_apply, val_main_v75_apply, val_main_v16_apply, v13_at]
  exact congrArg id (prA_cls x0 x1 x2 16 128 4096 (i 0).val (i 1).val (i 2).val (i 3).val _ _ _ rfl (i 3).isLt rfl rfl (Nat.add_assoc 3072 1024 _).symm)

end Cert.Reference2Ideal.Proj

end
-- ==== Proof.Mix.Array.lean ====
module

public import proofs.«01_k».proof.Proof.Gen.Kernel3Ideal.Value
public import Idealize.ShloMosaic.Lib.Pointwise
public import Idealize.ShloMosaic.PureOps.Ideal
public import Idealize.ShloMosaic.Lib.Pipeline.ValueKit

/-! The merge kernel's result array: each tile's block is one formula of its rows, and the blocks fill the array. -/

@[expose] public section

set_option maxRecDepth 16384

noncomputable section

namespace Cert.Kernel3Ideal.Mix

open Cert.Kernel3Ideal Cert.Kernel3Ideal.Gen Cert.Kernel3Ideal.Value
open Idealize.ShloMosaic Idealize.ShloMosaic.TcCoe Idealize.ShloMosaic.Tactic Idealize.ShloMosaic.Pointwise
open Idealize.SL.Sem
open Idealize.ShloMosaic.Pipeline (Dat)

/-- One entry of the merge: of its row, the input's entry `x`, the attention `a`, the convolution `u` and the gates `p` and `q`; of the
    weights, `wa` and `wc` with the bias `b`, and a column `w` of the last projection. -/
def mg (x : EReal) (a u : Fin 512 → EReal) (p q : Fin 1024 → EReal) (wa wc : Fin 512 → Fin 1024 → EReal) (b w : Fin 1024 → EReal) : EReal :=
  x + ∑ k, (p k * (∑ j, a j * wa j k) + q k * ((∑ j, u j * wc j k) + b k)) * w k

theorem pay (x0 : Vec Ideal S512x1024 .f32) (x1 : Vec Ideal S512x512 .bf16) (x2 : Vec Ideal S512x512 .f32) (x3 x4 : Vec Ideal S512x1024 .f32)
    (x5 x6 : Vec Ideal S512x1024 .bf16) (x7 : Vec Ideal S1x1024 .f32) (x8 : Vec Ideal S1024x1024 .bf16) (r : Fin 512) (n : Fin 1024) :
    (k0_pay1 (F := Ideal) x1 x5 x2 x6 x7 x3 x4 x0 x8 (ix2 r n) : EReal) = mg (x0 (ix2 r n)) (fun j => x1 (ix2 r j)) (fun j => x2 (ix2 r j))
      (fun k => x3 (ix2 r k)) (fun k => x4 (ix2 r k)) (fun j k => x5 (ix2 j k)) (fun j k => x6 (ix2 j k)) (fun k => x7 (ix2 0 k)) (fun k => x8 (ix2 k n)) := by
  pointwise [k0_pay1]
  rfl

theorem out (x0 : Vec Ideal S512x1024 .f32) (x1 : Vec Ideal S512x512 .bf16) (x2 : Vec Ideal S512x512 .f32) (x3 x4 : Vec Ideal S512x1024 .f32)
    (x5 x6 : Vec Ideal S512x1024 .bf16) (x7 : Vec Ideal S1x1024 .f32) (x8 : Vec Ideal S1024x1024 .bf16) :
    out0_9 (F := Ideal) x0 x1 x2 x3 x4 x5 x6 x7 x8 = k0_pay1 (F := Ideal) x1 x5 x2 x6 x7 x3 x4 x0 x8 := by
  unfold out0_9
  rw [View.canon_cons_unit_lit _ _ _ (by decide)]
  congr 1 <;> exact View.ld_unit_lit _ _ (by decide)

/-- The whole array. -/
def wM (X : Vec Ideal S32768x1024 .f32) (A : Vec Ideal S32768x512 .bf16) (U : Vec Ideal S32768x512 .f32) (P Q : Vec Ideal S32768x1024 .f32)
    (WA WC : Vec Ideal S512x1024 .bf16) (B : Vec Ideal S1x1024 .f32) (W : Vec Ideal S1024x1024 .bf16) : Vec Ideal S32768x1024 .f32 := fun i =>
  mg (X i) (fun j => A (ix2 ⟨(i 0).val, (i 0).isLt⟩ j)) (fun j => U (ix2 ⟨(i 0).val, (i 0).isLt⟩ j)) (fun k => P (ix2 ⟨(i 0).val, (i 0).isLt⟩ k))
    (fun k => Q (ix2 ⟨(i 0).val, (i 0).isLt⟩ k)) (fun j k => WA (ix2 j k)) (fun j k => WC (ix2 j k)) (fun k => B (ix2 0 k)) (fun k => W (ix2 k ⟨(i 1).val, (i 1).isLt⟩))

variable (m : (ℓ : Loc nD τ sig) → Buf (Elt Ideal) ℓ) (c : Dev nD) (t : Fin cfg0.N)

theorem tN : t.val < 64 := t.isLt

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![t.val, 0] := (by decide +kernel : ∀ t : Fin grid0.N, _)

/-- The nine inputs' arrays. -/
abbrev a0 : Vec Ideal S32768x1024 .f32 := m ((c : Thread nD τ).loc main_arg0)
@[inherit_doc a0] abbrev a1 : Vec Ideal S32768x512 .bf16 := m ((c : Thread nD τ).loc main_arg1)
@[inherit_doc a0] abbrev a2 : Vec Ideal S32768x512 .f32 := m ((c : Thread nD τ).loc main_arg2)
@[inherit_doc a0] abbrev a3 : Vec Ideal S32768x1024 .f32 := m ((c : Thread nD τ).loc main_arg3)
@[inherit_doc a0] abbrev a4 : Vec Ideal S32768x1024 .f32 := m ((c : Thread nD τ).loc main_arg4)
@[inherit_doc a0] abbrev a5 : Vec Ideal S512x1024 .bf16 := m ((c : Thread nD τ).loc main_arg5)
@[inherit_doc a0] abbrev a6 : Vec Ideal S512x1024 .bf16 := m ((c : Thread nD τ).loc main_arg6)
@[inherit_doc a0] abbrev a7 : Vec Ideal S1x1024 .f32 := m ((c : Thread nD τ).loc main_arg7)
@[inherit_doc a0] abbrev a8 : Vec Ideal S1024x1024 .bf16 := m ((c : Thread nD τ).loc main_arg8)

theorem lt (p : Fin 512) : 512 * t.val + p.val < 32768 := by have := tN t; omega

theorem b0 (p : Fin 512) (k : Fin 1024) : ((iblk m c 0 t : Vec Ideal S512x1024 .f32) (ix2 p k) : EReal) = a0 m c (ix2 ⟨_, lt t p⟩ k) := by
  unfold a0; blk_simp [iblk, e0]; blk_ext [e0]
theorem b1 (p : Fin 512) (k : Fin 512) : ((iblk m c 1 t : Vec Ideal S512x512 .bf16) (ix2 p k) : EReal) = a1 m c (ix2 ⟨_, lt t p⟩ k) := by
  unfold a1; blk_simp [iblk, e1]; blk_ext [e1]
theorem b2 (p : Fin 512) (k : Fin 512) : ((iblk m c 2 t : Vec Ideal S512x512 .f32) (ix2 p k) : EReal) = a2 m c (ix2 ⟨_, lt t p⟩ k) := by
  unfold a2; blk_simp [iblk, e2]; blk_ext [e2]
theorem b3 (p : Fin 512) (k : Fin 1024) : ((iblk m c 3 t : Vec Ideal S512x1024 .f32) (ix2 p k) : EReal) = a3 m c (ix2 ⟨_, lt t p⟩ k) := by
  unfold a3; blk_simp [iblk, e3]; blk_ext [e3]
theorem b4 (p : Fin 512) (k : Fin 1024) : ((iblk m c 4 t : Vec Ideal S512x1024 .f32) (ix2 p k) : EReal) = a4 m c (ix2 ⟨_, lt t p⟩ k) := by
  unfold a4; blk_simp [iblk, e4]; blk_ext [e4]
theorem b5 : (iblk m c 5 t : Vec Ideal S512x1024 .bf16) = a5 m c := by
  funext y; unfold a5; blk_simp [iblk, e5]; blk_ext [e5]
theorem b6 : (iblk m c 6 t : Vec Ideal S512x1024 .bf16) = a6 m c := by
  funext y; unfold a6; blk_simp [iblk, e6]; blk_ext [e6]
theorem b7 : (iblk m c 7 t : Vec Ideal S1x1024 .f32) = a7 m c := by
  funext y; unfold a7; blk_simp [iblk, e7]; blk_ext [e7]
theorem b8 : (iblk m c 8 t : Vec Ideal S1024x1024 .bf16) = a8 m c := by
  funext y; unfold a8; blk_simp [iblk, e8]; blk_ext [e8]

/-- What a tile leaves at one place of its block is the array's entry there. -/
theorem tile (p : Fin 512) (n : Fin 1024) (j : S32768x1024.Idx) (h0 : (j 0).val = 512 * t.val + p.val) (h1 : (j 1).val = n.val) :
    (out0_9 (F := Ideal) (iblk m c 0 t) (iblk m c 1 t) (iblk m c 2 t) (iblk m c 3 t) (iblk m c 4 t) (iblk m c 5 t) (iblk m c 6 t) (iblk m c 7 t) (iblk m c 8 t) (ix2 p n) : EReal)
      = wM (a0 m c) (a1 m c) (a2 m c) (a3 m c) (a4 m c) (a5 m c) (a6 m c) (a7 m c) (a8 m c) j := by
  have e : j = ix2 ⟨512 * t.val + p.val, lt t p⟩ n := by
    funext a; apply Fin.ext; fin_cases a
    · exact h0
    · exact h1
  subst e
  rw [out, pay, b5, b6, b7, b8]
  simp only [b0, b1, b2, b3, b4]
  rfl

/-- The blocks fill the array. -/
theorem final : (dats m 0 c).arrAt 9 cfg0.N = wM (a0 m c) (a1 m c) (a2 m c) (a3 m c) (a4 m c) (a5 m c) (a6 m c) (a7 m c) (a8 m c) := by
  refine (dats m 0 c).arrAt_eq_of_covers 9 _ (by decide +kernel) fun t hf y => ?_
  blk_simp
  rw [after0_9]
  have ey : (y : S512x1024.Idx) = ix2 (y 0) (y 1) := by funext a; fin_cases a <;> rfl
  refine (congrArg (out0_9 (F := Ideal) (iblk m c 0 t) (iblk m c 1 t) (iblk m c 2 t) (iblk m c 3 t) (iblk m c 4 t) (iblk m c 5 t) (iblk m c 6 t) (iblk m c 7 t) (iblk m c 8 t)) ey).trans ?_
  exact tile m c t (y 0) (y 1) _ (by blk_simp [e9]; try omega) (by blk_simp [e9]; try omega)

end Cert.Kernel3Ideal.Mix

end
-- ==== Proof.Mix.Ref.lean ====
module

public import proofs.«01_k».proof.Proof.Gen.Reference3Ideal.Read
public import proofs.«01_k».proof.Proof.Mix.Array

/-! The merge's reference is the array the kernel leaves. -/

@[expose] public section

set_option maxRecDepth 16384

noncomputable section

namespace Cert.Reference3Ideal.Mix

open Cert.Reference3Ideal.Read
open Idealize.ShloMosaic Idealize.ShloMosaic.TcCoe
open Cert.Kernel3Ideal.Mix (wM mg)

variable (x0 : (⟨S32768x1024, .f32⟩ : BufTy).Contents (Elt Ideal)) (x1 : (⟨S32768x512, .bf16⟩ : BufTy).Contents (Elt Ideal))
  (x2 : (⟨S32768x512, .f32⟩ : BufTy).Contents (Elt Ideal)) (x3 x4 : (⟨S32768x1024, .f32⟩ : BufTy).Contents (Elt Ideal))
  (x5 x6 : (⟨S512x1024, .bf16⟩ : BufTy).Contents (Elt Ideal))
  (x7 : (⟨S1x1024, .f32⟩ : BufTy).Contents (Elt Ideal)) (x8 : (⟨S1024x1024, .bf16⟩ : BufTy).Contents (Elt Ideal))

theorem ext2 {A B : Nat} (i j : (⟨2, ![A, B]⟩ : Shape).Idx) (h0 : (i 0).val = (j 0).val) (h1 : (i 1).val = (j 1).val) : i = j :=
  funext fun a => match a with | ⟨0, _⟩ => Fin.ext h0 | ⟨1, _⟩ => Fin.ext h1

theorem v12_at : val_main_v12 (F := Ideal) x0 x1 x2 x3 x4 x5 x6 x7 x8 = wM x0 x1 x2 x3 x4 x5 x6 x7 x8 := by
  funext i
  rw [val_main_v12_apply, val_main_v11_apply]
  unfold wM mg
  refine congrArg (x0 i + · : EReal → EReal) (Finset.sum_congr rfl fun k _ => congrArg₂ (· * · : EReal → EReal → EReal) ?_ ?_)
  · rw [val_main_v9_apply, val_main_v7_apply, val_main_v8_apply, val_main_v6_apply, val_main_v2_apply, val_main_v4_apply, val_main_v5_apply]
    refine congrArg₂ (· + · : EReal → EReal → EReal) (congrArg₂ (· * · : EReal → EReal → EReal) ?_ (Finset.sum_congr rfl fun j _ => congrArg₂ (· * · : EReal → EReal → EReal) ?_ ?_))
      (congrArg₂ (· * · : EReal → EReal → EReal) ?_ (congrArg₂ (· + · : EReal → EReal → EReal) (Finset.sum_congr rfl fun j _ => congrArg₂ (· * · : EReal → EReal → EReal) ?_ ?_) ?_))
    · exact congrArg x3 (ext2 _ _ rfl rfl)
    · exact congrArg x1 (ext2 _ _ rfl rfl)
    · exact congrArg x5 (ext2 _ _ rfl rfl)
    · exact congrArg x4 (ext2 _ _ rfl rfl)
    · exact congrArg x2 (ext2 _ _ rfl rfl)
    · exact congrArg x6 (ext2 _ _ rfl rfl)
    · exact congrArg x7 (ext2 _ _ rfl rfl)
  · exact congrArg x8 (ext2 _ _ rfl rfl)

end Cert.Reference3Ideal.Mix

end
-- ==== Proof.Attn.KernelRun.lean ====
module

public import proofs.«01_k».proof.Proof.Gen.Kernel.Frame
public import proofs.«01_k».proof.Proof.Gen.Kernel.Skeleton
public import proofs.«01_k».proof.Proof.Gen.Kernel.Loops

/-! One run of the kernel's body at any element types: it ends, its inputs kept. -/

@[expose] public section

set_option maxRecDepth 16384

noncomputable section

namespace Cert.Kernel.Attn

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

set_option maxHeartbeats 4000000 in
/-- The body over whole staging buffers: the inputs come back as they were, the output and the scratch buffers at some contents. -/
theorem run (c : Dev nD) (i : grid0.Coords) (arg2 : Memref sig .tc .vmem S1x1x2048x256 .bf16) (harg2 : arg2.IsWhole) (arg3 : Memref sig .tc .vmem S1x4x512x256 .bf16) (harg3 : arg3.IsWhole) (arg4 : Memref sig .tc .vmem S1x16x128x256 .bf16) (harg4 : arg4.IsWhole) (arg5 : Memref sig .tc .vmem S1x1x2048x256 .bf16) (harg5 : arg5.IsWhole) (arg6 : Memref sig .tc .vmem S1x4x512x256 .bf16) (harg6 : arg6.IsWhole) (arg7 : Memref sig .tc .vmem S1x16x128x256 .bf16) (harg7 : arg7.IsWhole) (arg8 : Memref sig .tc .vmem S1x1x2048x256 .bf16) (harg8 : arg8.IsWhole) (arg9 : Memref sig .tc .vmem S1x4x512x256 .bf16) (harg9 : arg9.IsWhole) (arg10 : Memref sig .tc .vmem S1x16x128x256 .bf16) (harg10 : arg10.IsWhole) (arg11 : Memref sig .tc .vmem S1x2048x256 .bf16) (harg11 : arg11.IsWhole) (arg12 : Memref sig .tc .vmem S2x2048x128 .f32) (harg12 : arg12.IsWhole) (arg13 : Memref sig .tc .vmem S2x2048x128 .f32) (harg13 : arg13.IsWhole) (arg14 : Memref sig .tc .vmem S2x2048x128 .f32) (harg14 : arg14.IsWhole) (arg15 : Memref sig .tc .vmem S2x2048x128 .f32) (harg15 : arg15.IsWhole) (arg16 : Memref sig .tc .vmem S2x2048x128 .f32) (harg16 : arg16.IsWhole)
    (x0 : Vec F S1x1x2048x256 .bf16) (x1 : Vec F S1x4x512x256 .bf16) (x2 : Vec F S1x16x128x256 .bf16) (x3 : Vec F S1x1x2048x256 .bf16) (x4 : Vec F S1x4x512x256 .bf16) (x5 : Vec F S1x16x128x256 .bf16) (x6 : Vec F S1x1x2048x256 .bf16) (x7 : Vec F S1x4x512x256 .bf16) (x8 : Vec F S1x16x128x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attn_prompt_eq_skeleton]; unfold cc0_attn_prompt_skel
    simp only [k0_part82_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Attn

end
-- ==== Proof.Attn.KernelFrame.lean ====
module

public import proofs.«01_k».proof.Proof.Attn.KernelRun
public import Idealize.ShloMosaic.Lib.Claim

/-! The kernel at any element types: it ends, its arguments unchanged and every semaphore at zero. -/

@[expose] public section

set_option maxRecDepth 16384

noncomputable section

namespace Cert.Kernel.Attn

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1x1x2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x512x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x128x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4x512x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x16x128x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x256 .bf16 := win0_9.stage (cfg0.slots t 9)
abbrev hs0_9 (t : Fin cfg0.N) : (ms0_9 t).IsWhole := hstage0_9 ((cfg0.slots t 9).cast nbuf0_9)
abbrev scM0_0 : Memref sig .tc .vmem S2x2048x128 .f32 := Memref.whole cc0_scratch0
abbrev scM0_1 : Memref sig .tc .vmem S2x2048x128 .f32 := Memref.whole cc0_scratch1
abbrev scM0_2 : Memref sig .tc .vmem S2x2048x128 .f32 := Memref.whole cc0_scratch2
abbrev scM0_3 : Memref sig .tc .vmem S2x2048x128 .f32 := Memref.whole cc0_scratch3
abbrev scM0_4 : Memref sig .tc .vmem S2x2048x128 .f32 := Memref.whole cc0_scratch4

/-- The invariant between points: the scratch buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- Arguments kept, from a run of which the output is not stated. -/
theorem frame_of_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c))⟩) h

/-- The output window, of which nothing is stated. -/
def forgets0 : Fin 10 → Bool := fun w => w.val == 9

/-- The arrays as launched; each input buffer keeps its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_kept m ρ (fun c => (dats m 0 c).toRForget forgets0) (A_eq m) (run_main m ρ)

/-- The argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Attn

end
-- ==== Proof.lean ====
/- The proof of the certificate's claim. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Attn.Join
public import proofs.«01_k».proof.Proof.Gen.Kernel2.Frame
public import proofs.«01_k».proof.Proof.Gen.Reference2Ideal.Run
public import proofs.«01_k».proof.Proof.Proj.Ref
public import proofs.«01_k».proof.Proof.Gen.Kernel3.Frame
public import proofs.«01_k».proof.Proof.Gen.Reference3Ideal.Run
public import proofs.«01_k».proof.Proof.Gen.Reference3Ideal.Read
public import proofs.«01_k».proof.Proof.Gen.Kernel3Ideal.Value
public import proofs.«01_k».proof.Proof.Mix.Ref
public import proofs.«01_k».proof.Proof.Attn.KernelFrame

@[expose] public section

noncomputable section

namespace Cert.Proof

open Idealize.ShloMosaic Idealize.ShloMosaic.TcCoe Idealize.SL.Sem
open Cert.KernelIdeal.Attn (Fin')

/-- The precondition's shape conditions. -/
theorem pre_facts : Cert.Pre_finite_qk.Facts where
  bitsLt_bf16_f32 := by decide
  bcast_S_S16x1x2048x512 := by decide
  bcast_S_S16x4x512x512 := by decide
  bcast_S_S16x16x128x512 := by decide

/-- A value less than infinity in absolute value is a real. -/
theorem real_of_lt {x : EReal} (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

theorem fin_of {s : Shape} {A : Vec Ideal s .bf16} {v : IVec s 1}
    (hv : ∀ i, v i = Ideal.cmp .olt (max (A i : EReal) (-(A i : EReal))) (Ideal.ofBits .f32 0x7F800000#32)) (h : v = fun _ => 1#1) : Fin' A :=
  fun i => real_of_lt ((hv i).symm.trans (congrFun h i))

theorem frame_r : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal_pre_finite_qk (hKernelIdeal := Cert.KernelIdeal.Gen.facts)
    (hReferenceIdeal := Cert.ReferenceIdeal.Gen.facts) (hPre_finite_qk := pre_facts) := by
  intro m g m' g' hpre hargs
  refine ⟨fun c => Cert.KernelIdeal.Attn.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Attn.run_main m g)
    exact ⟨((h c).1 9).trans (Cert.KernelIdeal.Attn.final_o m c),
      ((h c).1 0).trans (((Cert.KernelIdeal.Attn.dats m 0 c).arrAt_in 0 rfl _).trans ((Cert.KernelIdeal.Attn.A_eq m c 0).trans (Cert.KernelIdeal.Gen.V_main_arg0 m c))),
      ((h c).1 1).trans (((Cert.KernelIdeal.Attn.dats m 0 c).arrAt_in 1 rfl _).trans ((Cert.KernelIdeal.Attn.A_eq m c 1).trans (Cert.KernelIdeal.Gen.V_main_arg1 m c))),
      ((h c).1 2).trans (((Cert.KernelIdeal.Attn.dats m 0 c).arrAt_in 2 rfl _).trans ((Cert.KernelIdeal.Attn.A_eq m c 2).trans (Cert.KernelIdeal.Gen.V_main_arg2 m c))),
      ((h c).1 3).trans (((Cert.KernelIdeal.Attn.dats m 0 c).arrAt_in 3 rfl _).trans ((Cert.KernelIdeal.Attn.A_eq m c 3).trans (Cert.KernelIdeal.Gen.V_main_arg3 m c))),
      ((h c).1 4).trans (((Cert.KernelIdeal.Attn.dats m 0 c).arrAt_in 4 rfl _).trans ((Cert.KernelIdeal.Attn.A_eq m c 4).trans (Cert.KernelIdeal.Gen.V_main_arg4 m c))),
      ((h c).1 5).trans (((Cert.KernelIdeal.Attn.dats m 0 c).arrAt_in 5 rfl _).trans ((Cert.KernelIdeal.Attn.A_eq m c 5).trans (Cert.KernelIdeal.Gen.V_main_arg5 m c))),
      ((h c).1 6).trans (((Cert.KernelIdeal.Attn.dats m 0 c).arrAt_in 6 rfl _).trans ((Cert.KernelIdeal.Attn.A_eq m c 6).trans (Cert.KernelIdeal.Gen.V_main_arg6 m c))),
      ((h c).1 7).trans (((Cert.KernelIdeal.Attn.dats m 0 c).arrAt_in 7 rfl _).trans ((Cert.KernelIdeal.Attn.A_eq m c 7).trans (Cert.KernelIdeal.Gen.V_main_arg7 m c))),
      ((h c).1 8).trans (((Cert.KernelIdeal.Attn.dats m 0 c).arrAt_in 8 rfl _).trans ((Cert.KernelIdeal.Attn.A_eq m c 8).trans (Cert.KernelIdeal.Gen.V_main_arg8 m c)))⟩
  · refine (θ_run Cert.ReferenceIdeal.defs _ _).mono (fun r h c => ⟨((h c).1.trans (Cert.ReferenceIdeal.Read.val_main_v163_eq _)).trans ?_, (h c).2⟩)
      (Cert.ReferenceIdeal.Value.run (F := Ideal) m' g')
    obtain ⟨a0, a1, a2, a3, a4, a5, a6, a7, a8⟩ := hargs c
    obtain ⟨p0, p1, p2, p3, p4, p5⟩ := hpre c
    refine Eq.trans ?_ (Cert.KernelIdeal.Attn.whole_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (fin_of (fun _ => rfl) p0) (fin_of (fun _ => rfl) p1) (fin_of (fun _ => rfl) p2) (fin_of (fun _ => rfl) p3) (fin_of (fun _ => rfl) p4) (fin_of (fun _ => rfl) p5)).symm
    show Cert.ReferenceIdeal.Read.val_main_v163 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [a0, a1, a2, a3, a4, a5, a6, a7, a8]

theorem frame_r2 : Cert.quiescent_Reference2Ideal (hReference2Ideal := Cert.Reference2Ideal.Gen.facts) := fun m ρ _ =>
  (θ_run Cert.Reference2Ideal.defs _ _).mono (fun r h => ⟨fun c => (h c).2.2.2.2.2.2.2.2.2.2.2.2, Idealize.ShloMosaic.sem_eq_zero_of_no_sems (by decide) r.2⟩)
    (Cert.Reference2Ideal.Value.run (F := Ideal) m ρ)

set_option maxHeartbeats 2000000 in
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Proj.wC (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Kernel2Ideal.Proj.wG 5632 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Kernel2Ideal.Proj.wG 6656 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Kernel2Ideal.Proj.wP 0 Cert.Kernel2Ideal.Proj.sc (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Kernel2Ideal.Proj.wS4 512 Cert.Kernel2Ideal.Proj.sc (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Kernel2Ideal.Proj.wS16 1024 Cert.Kernel2Ideal.Proj.sc (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Kernel2Ideal.Proj.wP 1536 id (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Kernel2Ideal.Proj.wS4 2048 id (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Kernel2Ideal.Proj.wS16 2560 id (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Kernel2Ideal.Proj.wP 3072 id (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Kernel2Ideal.Proj.wS4 3584 id (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Kernel2Ideal.Proj.wS16 4096 id (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · refine (θ_run Cert.Kernel2Ideal.defs _ _).mono (fun r h c => ?_) (Cert.Kernel2Ideal.Value.run_blocks m g)
    obtain ⟨h0, h1, h2, h3, h4, h5, h6, h7, h8, h9, h10, h11, h12, h13, h14, hb⟩ := h c
    exact ⟨h0.trans (Cert.Kernel2Ideal.Proj.final_3 m c), h1.trans (Cert.Kernel2Ideal.Proj.final_4 m c), h2.trans (Cert.Kernel2Ideal.Proj.final_5 m c), h3.trans (Cert.Kernel2Ideal.Proj.final_6 m c), h4.trans (Cert.Kernel2Ideal.Proj.final_7 m c), h5.trans (Cert.Kernel2Ideal.Proj.final_8 m c), h6.trans (Cert.Kernel2Ideal.Proj.final_9 m c), h7.trans (Cert.Kernel2Ideal.Proj.final_10 m c), h8.trans (Cert.Kernel2Ideal.Proj.final_11 m c), h9.trans (Cert.Kernel2Ideal.Proj.final_12 m c), h10.trans (Cert.Kernel2Ideal.Proj.final_13 m c), h11.trans (Cert.Kernel2Ideal.Proj.final_14 m c), hb⟩
  · refine (θ_run Cert.Reference2Ideal.defs _ _).mono (fun r h c => ?_) (Cert.Reference2Ideal.Value.run (F := Ideal) m' g')
    obtain ⟨h0, h1, h2, h3, h4, h5, h6, h7, h8, h9, h10, h11, hb⟩ := h c
    obtain ⟨a0, a1, a2, _⟩ := hargs c
    refine ⟨(h0.trans (Cert.Reference2Ideal.Read.val_main_v26_eq _ _ _)).trans ?_, (h1.trans (Cert.Reference2Ideal.Read.val_main_v33_eq _ _ _)).trans ?_, (h2.trans (Cert.Reference2Ideal.Read.val_main_v40_eq _ _ _)).trans ?_, (h3.trans (Cert.Reference2Ideal.Read.val_main_v46_eq _ _ _)).trans ?_, (h4.trans (Cert.Reference2Ideal.Read.val_main_v50_eq _ _ _)).trans ?_, (h5.trans (Cert.Reference2Ideal.Read.val_main_v54_eq _ _ _)).trans ?_, (h6.trans (Cert.Reference2Ideal.Read.val_main_v58_eq _ _ _)).trans ?_, (h7.trans (Cert.Reference2Ideal.Read.val_main_v62_eq _ _ _)).trans ?_, (h8.trans (Cert.Reference2Ideal.Read.val_main_v66_eq _ _ _)).trans ?_, (h9.trans (Cert.Reference2Ideal.Read.val_main_v70_eq _ _ _)).trans ?_, (h10.trans (Cert.Reference2Ideal.Read.val_main_v74_eq _ _ _)).trans ?_, (h11.trans (Cert.Reference2Ideal.Read.val_main_v78_eq _ _ _)).trans ?_, hb⟩
    · refine Eq.trans ?_ (Cert.Reference2Ideal.Proj.v26_at (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)))
      show Cert.Reference2Ideal.Read.val_main_v26 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [a0, a1, a2]
    · refine Eq.trans ?_ (Cert.Reference2Ideal.Proj.v33_at (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)))
      show Cert.Reference2Ideal.Read.val_main_v33 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [a0, a1, a2]
    · refine Eq.trans ?_ (Cert.Reference2Ideal.Proj.v40_at (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)))
      show Cert.Reference2Ideal.Read.val_main_v40 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [a0, a1, a2]
    · refine Eq.trans ?_ (Cert.Reference2Ideal.Proj.v46_at (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)))
      show Cert.Reference2Ideal.Read.val_main_v46 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [a0, a1, a2]
    · refine Eq.trans ?_ (Cert.Reference2Ideal.Proj.v50_at (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)))
      show Cert.Reference2Ideal.Read.val_main_v50 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [a0, a1, a2]
    · refine Eq.trans ?_ (Cert.Reference2Ideal.Proj.v54_at (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)))
      show Cert.Reference2Ideal.Read.val_main_v54 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [a0, a1, a2]
    · refine Eq.trans ?_ (Cert.Reference2Ideal.Proj.v58_at (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)))
      show Cert.Reference2Ideal.Read.val_main_v58 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [a0, a1, a2]
    · refine Eq.trans ?_ (Cert.Reference2Ideal.Proj.v62_at (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)))
      show Cert.Reference2Ideal.Read.val_main_v62 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [a0, a1, a2]
    · refine Eq.trans ?_ (Cert.Reference2Ideal.Proj.v66_at (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)))
      show Cert.Reference2Ideal.Read.val_main_v66 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [a0, a1, a2]
    · refine Eq.trans ?_ (Cert.Reference2Ideal.Proj.v70_at (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)))
      show Cert.Reference2Ideal.Read.val_main_v70 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [a0, a1, a2]
    · refine Eq.trans ?_ (Cert.Reference2Ideal.Proj.v74_at (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)))
      show Cert.Reference2Ideal.Read.val_main_v74 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [a0, a1, a2]
    · refine Eq.trans ?_ (Cert.Reference2Ideal.Proj.v78_at (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)))
      show Cert.Reference2Ideal.Read.val_main_v78 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [a0, a1, a2]

theorem frame_r3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic3 : Cert.algebraic_Kernel3Ideal_Reference3Ideal (hKernel3Ideal := Cert.Kernel3Ideal.Gen.facts) (hReference3Ideal := Cert.Reference3Ideal.Gen.facts) := by
  intro m g m' g' _ hargs
  refine ⟨fun c => Cert.Kernel3Ideal.Mix.wM (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)), ?_, ?_⟩
  · refine (θ_run Cert.Kernel3Ideal.defs _ _).mono (fun r h c => ?_) (Cert.Kernel3Ideal.Value.run_blocks m g)
    obtain ⟨h0, hb⟩ := h c
    exact ⟨h0.trans (Cert.Kernel3Ideal.Mix.final m c), hb⟩
  · refine (θ_run Cert.Reference3Ideal.defs _ _).mono (fun r h c => ?_) (Cert.Reference3Ideal.Value.run (F := Ideal) m' g')
    obtain ⟨h0, hb⟩ := h c
    obtain ⟨a0, a1, a2, a3, a4, a5, a6, a7, a8⟩ := hargs c
    refine ⟨(h0.trans (Cert.Reference3Ideal.Read.val_main_v12_eq _ _ _ _ _ _ _ _ _)).trans ?_, hb⟩
    refine Eq.trans ?_ (Cert.Reference3Ideal.Mix.v12_at (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)))
    show Cert.Reference3Ideal.Read.val_main_v12 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) = _
    rw [a0, a1, a2, a3, a4, a5, a6, a7, a8]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, pre_facts,
  fun m g _ => Cert.Kernel.Attn.frame m g,
  fun m g _ => Cert.KernelIdeal.Attn.frame m g,
  fun m g _ => Cert.KernelIdeal.Attn.frame m g,
  frame_r,
  fun m g _ => frame_r m g trivial,
  fun m g _ => Cert.Kernel2.Gen.frame m g,
  fun m g _ => Cert.Kernel2Ideal.Gen.frame m g,
  frame_r2,
  fun m g _ => Cert.Kernel3.Gen.frame m g,
  fun m g _ => Cert.Kernel3Ideal.Gen.frame m g,
  frame_r3,
  IdealRules.named_const.statement Cert.KernelIdeal.κ "mask" .f32 0xF149F2CA#32 ⊥ rfl,
  algebraic,
  trivial,
  algebraic2,
  trivial,
  algebraic3⟩

end Cert.Proof

end
